-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2048, 8, 128]⟩ ⟨3, ![8192, 8, 128]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2048, 8, 128]⟩ ⟨3, ![8192, 8, 128]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v61) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2048x1024 : Shape := ⟨2, ![2048, 1024]⟩
abbrev S1024x1024 : Shape := ⟨2, ![1024, 1024]⟩
abbrev S2048x8x128 : Shape := ⟨3, ![2048, 8, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x8x128 : S_.BroadcastsInDim S2048x8x128 (![] : Fin 0 → Fin S2048x8x128.rank)
  reducesTo_S2048x8x128_S_d0_1_2 : S2048x8x128.ReducesTo [0, 1, 2] S_

variable [Facts]

def fn {F : FTy → Type} [FloatOps F] (main_arg0 : FVec F S2048x1024 .f32) (main_arg1 : FVec F S1024x1024 .f32) (main_arg2 : FVec F S2048x8x128 .f32) (main_arg3 : FVec F S2048x8x128 .f32) (main_arg4 : FVec F S1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S2048x8x128 .f32 := Host.absf main_arg2
  let main_cst_2 : FVec F S_ .f32 := constant S_ .f32 0x7F800000#32
  let main_v9 : FVec F S2048x8x128 .f32 := broadcastInDim S2048x8x128 ![] bcast_S_S2048x8x128 main_cst_2
  let main_v10 : IVec S2048x8x128 1 := cmpf .olt main_v8 main_v9
  let main_c_3 : IVec S_ 1 := constantI S_ 1 1#1
  let main_v11 : IVec S_ 1 := (fun x v => Host.reduce IntOp.andi x v reducesTo_S2048x8x128_S_d0_1_2 h_S_) main_v10 main_c_3
  let main_v12 : IVec S_ 1 := andi main_v3 main_v7
  let main_v13 : IVec S_ 1 := andi main_v12 main_v11
  main_v13
-- ==== Pre_finite_scores_ReferenceIdeal.lean ====
abbrev S2048x1024 : Shape := ⟨2, ![2048, 1024]⟩
abbrev S1024x1024 : Shape := ⟨2, ![1024, 1024]⟩
abbrev S8192x8x128 : Shape := ⟨3, ![8192, 8, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8192x8x128 : S_.BroadcastsInDim S8192x8x128 (![] : Fin 0 → Fin S8192x8x128.rank)
  reducesTo_S8192x8x128_S_d0_1_2 : S8192x8x128.ReducesTo [0, 1, 2] S_

variable [Facts]

def fn {F : FTy → Type} [FloatOps F] (main_arg0 : FVec F S2048x1024 .f32) (main_arg1 : FVec F S1024x1024 .f32) (main_arg2 : FVec F S8192x8x128 .f32) (main_arg3 : FVec F S8192x8x128 .f32) (main_arg4 : FVec F S1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S8192x8x128 .f32 := Host.absf main_arg2
  let main_cst_2 : FVec F S_ .f32 := constant S_ .f32 0x7F800000#32
  let main_v9 : FVec F S8192x8x128 .f32 := broadcastInDim S8192x8x128 ![] bcast_S_S8192x8x128 main_cst_2
  let main_v10 : IVec S8192x8x128 1 := cmpf .olt main_v8 main_v9
  let main_c_3 : IVec S_ 1 := constantI S_ 1 1#1
  let main_v11 : IVec S_ 1 := (fun x v => Host.reduce IntOp.andi x v reducesTo_S8192x8x128_S_d0_1_2 h_S_) main_v10 main_c_3
  let main_v12 : IVec S_ 1 := andi main_v3 main_v7
  let main_v13 : IVec S_ 1 := andi main_v12 main_v11
  main_v13
-- ==== Kernel.lean ====
abbrev S2048x1024 : Shape := ⟨2, ![2048, 1024]⟩
abbrev S1024x1024 : Shape := ⟨2, ![1024, 1024]⟩
abbrev S2048x8x128 : Shape := ⟨3, ![2048, 8, 128]⟩
abbrev S512x8x128 : Shape := ⟨3, ![512, 8, 128]⟩
abbrev S2048x1152 : Shape := ⟨2, ![2048, 1152]⟩
abbrev S2x256x1152 : Shape := ⟨3, ![2, 256, 1152]⟩
abbrev S2x256x1024 : Shape := ⟨3, ![2, 256, 1024]⟩
abbrev S4 : Shape := ⟨1, ![4]⟩
abbrev S8 : Shape := ⟨1, ![8]⟩
abbrev S1 : Shape := ⟨1, ![1]⟩
abbrev S_ : Shape := ⟨0, ![]⟩
abbrev S64x1024 : Shape := ⟨2, ![64, 1024]⟩
abbrev S64x8x128 : Shape := ⟨3, ![64, 8, 128]⟩
abbrev S256x128 : Shape := ⟨2, ![256, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S256x1152 : Shape := ⟨2, ![256, 1152]⟩
abbrev S1x256x1152 : Shape := ⟨3, ![1, 256, 1152]⟩
abbrev S512x512 : Shape := ⟨2, ![512, 512]⟩
abbrev S512 : Shape := ⟨1, ![512]⟩
abbrev S512x1 : Shape := ⟨2, ![512, 1]⟩
abbrev S256x1024 : Shape := ⟨2, ![256, 1024]⟩
abbrev S1x256x1024 : Shape := ⟨3, ![1, 256, 1024]⟩

abbrev nBuf : Space → Nat
  | .hbm => 6
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x8x128, .f32⟩
  | .hbm, ⟨3, _⟩ => ⟨S2048x8x128, .f32⟩
  | .hbm, ⟨4, _⟩ => ⟨S1024x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S512x8x128, .f32⟩
  | .local _ .vmem, ⟨4, _⟩ => ⟨S512x8x128, .f32⟩
  | .local _ .vmem, ⟨5, _⟩ => ⟨S1024x1024, .bf16⟩
  | .local _ .vmem, ⟨6, _⟩ => ⟨S1024x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1152, .f32⟩
  | .local _ .vmem, ⟨12, _⟩ => ⟨S2x256x1152, .bf16⟩
  | .local _ .vmem, ⟨13, _⟩ => ⟨S2x256x1152, .bf16⟩
  | .local _ .vmem, ⟨14, _⟩ => ⟨S2x256x1152, .bf16⟩
  | .local _ .vmem, ⟨15, _⟩ => ⟨S2x256x1152, .bf16⟩
  | .local _ .vmem, ⟨16, _⟩ => ⟨S2x256x1024, .bf16⟩
  | .local _ .vmem, ⟨17, _⟩ => ⟨S2x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_scratch16 : Ref sig .tc := ⟨.vmem, 17, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_15 : BitVec 32 := 1#32
  let v21 : BitVec 32 := Scalar.muli v5 c1_i32_15
  let v22 : BitVec 32 := Scalar.addi c0_i32_16 v21
  v22.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_18 : BitVec 32 := 1#32
  let v23 : BitVec 32 := Scalar.muli v7 c1_i32_18
  let v24 : BitVec 32 := Scalar.addi c0_i32_19 v23
  v24.toNat
def k0_off1 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v647 : Index := Scalar.indexCast v645
  let c0_520 : Index := 0#32
  ![v647.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_519 : BitVec 32 := 512#32
  let v646 : BitVec 32 := Scalar.muli v2 c512_i32_519
  let v649 : Index := Scalar.indexCast v646
  let c0_521 : Index := 0#32
  ![v649.toNat, 0]
def k0_off3 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v654 : Index := Scalar.indexCast v645
  let c1024_524 : Index := 1024#32
  ![v654.toNat, 1024]
def k0_off4 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v662 : Index := Scalar.indexCast v645
  let c0_527 : Index := 0#32
  ![v662.toNat, 0]
def k0_off5 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v666 : Index := Scalar.indexCast v645
  let c128_528 : Index := 128#32
  ![v666.toNat, 128]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_519 : BitVec 32 := 512#32
  let v646 : BitVec 32 := Scalar.muli v2 c512_i32_519
  let v668 : Index := Scalar.indexCast v646
  let c128_529 : Index := 128#32
  ![v668.toNat, 128]
def k0_off7 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v673 : Index := Scalar.indexCast v645
  let c1025 : Index := 1025#32
  ![v673.toNat, 1025]
def k0_off8 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v681 : Index := Scalar.indexCast v645
  let c128_534 : Index := 128#32
  ![v681.toNat, 128]
def k0_off9 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v685 : Index := Scalar.indexCast v645
  let c256_535 : Index := 256#32
  ![v685.toNat, 256]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_519 : BitVec 32 := 512#32
  let v646 : BitVec 32 := Scalar.muli v2 c512_i32_519
  let v687 : Index := Scalar.indexCast v646
  let c256_536 : Index := 256#32
  ![v687.toNat, 256]
def k0_off11 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v692 : Index := Scalar.indexCast v645
  let c1026 : Index := 1026#32
  ![v692.toNat, 1026]
def k0_off12 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v700 : Index := Scalar.indexCast v645
  let c256_541 : Index := 256#32
  ![v700.toNat, 256]
def k0_off13 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v704 : Index := Scalar.indexCast v645
  let c384_542 : Index := 384#32
  ![v704.toNat, 384]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_519 : BitVec 32 := 512#32
  let v646 : BitVec 32 := Scalar.muli v2 c512_i32_519
  let v706 : Index := Scalar.indexCast v646
  let c384_543 : Index := 384#32
  ![v706.toNat, 384]
def k0_off15 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v711 : Index := Scalar.indexCast v645
  let c1027 : Index := 1027#32
  ![v711.toNat, 1027]
def k0_off16 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v719 : Index := Scalar.indexCast v645
  let c384_548 : Index := 384#32
  ![v719.toNat, 384]
def k0_off17 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v723 : Index := Scalar.indexCast v645
  let c512_549 : Index := 512#32
  ![v723.toNat, 512]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_519 : BitVec 32 := 512#32
  let v646 : BitVec 32 := Scalar.muli v2 c512_i32_519
  let v725 : Index := Scalar.indexCast v646
  let c512_550 : Index := 512#32
  ![v725.toNat, 512]
def k0_off19 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v730 : Index := Scalar.indexCast v645
  let c1028 : Index := 1028#32
  ![v730.toNat, 1028]
def k0_off20 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v738 : Index := Scalar.indexCast v645
  let c512_555 : Index := 512#32
  ![v738.toNat, 512]
def k0_off21 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v742 : Index := Scalar.indexCast v645
  let c640_556 : Index := 640#32
  ![v742.toNat, 640]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_519 : BitVec 32 := 512#32
  let v646 : BitVec 32 := Scalar.muli v2 c512_i32_519
  let v744 : Index := Scalar.indexCast v646
  let c640_557 : Index := 640#32
  ![v744.toNat, 640]
def k0_off23 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v749 : Index := Scalar.indexCast v645
  let c1029 : Index := 1029#32
  ![v749.toNat, 1029]
def k0_off24 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v757 : Index := Scalar.indexCast v645
  let c640_562 : Index := 640#32
  ![v757.toNat, 640]
def k0_off25 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v761 : Index := Scalar.indexCast v645
  let c768_563 : Index := 768#32
  ![v761.toNat, 768]
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_519 : BitVec 32 := 512#32
  let v646 : BitVec 32 := Scalar.muli v2 c512_i32_519
  let v763 : Index := Scalar.indexCast v646
  let c768_564 : Index := 768#32
  ![v763.toNat, 768]
def k0_off27 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v768 : Index := Scalar.indexCast v645
  let c1030 : Index := 1030#32
  ![v768.toNat, 1030]
def k0_off28 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v776 : Index := Scalar.indexCast v645
  let c768_569 : Index := 768#32
  ![v776.toNat, 768]
def k0_off29 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v780 : Index := Scalar.indexCast v645
  let c896_570 : Index := 896#32
  ![v780.toNat, 896]
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_519 : BitVec 32 := 512#32
  let v646 : BitVec 32 := Scalar.muli v2 c512_i32_519
  let v782 : Index := Scalar.indexCast v646
  let c896_571 : Index := 896#32
  ![v782.toNat, 896]
def k0_off31 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v787 : Index := Scalar.indexCast v645
  let c1031 : Index := 1031#32
  ![v787.toNat, 1031]
def k0_off32 (d0 : Dev nD) (c0_i32_518 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_517 : BitVec 32 := 512#32
  let v644 : BitVec 32 := Scalar.muli v2 c512_i32_517
  let v645 : BitVec 32 := Scalar.addi v644 c0_i32_518
  let v795 : Index := Scalar.indexCast v645
  let c896_576 : Index := 896#32
  ![v795.toNat, 896]
def k0_off33 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v804 : Index := Scalar.indexCast v802
  let c0_581 : Index := 0#32
  ![v804.toNat, 0]
def k0_off34 (d0 : Dev nD) (c2_i32_577 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v799 : BitVec 32 := Scalar.addi v2 c2_i32_577
  let c4_i32_578 : BitVec 32 := 4#32
  let v800 : BitVec 32 := Scalar.remsi v799 c4_i32_578
  let c512_i32_580 : BitVec 32 := 512#32
  let v803 : BitVec 32 := Scalar.muli v800 c512_i32_580
  let v806 : Index := Scalar.indexCast v803
  let c0_582 : Index := 0#32
  ![v806.toNat, 0]
def k0_off35 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v811 : Index := Scalar.indexCast v802
  let c1024_585 : Index := 1024#32
  ![v811.toNat, 1024]
def k0_off36 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v819 : Index := Scalar.indexCast v802
  let c0_588 : Index := 0#32
  ![v819.toNat, 0]
def k0_off37 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v823 : Index := Scalar.indexCast v802
  let c128_589 : Index := 128#32
  ![v823.toNat, 128]
def k0_off38 (d0 : Dev nD) (c2_i32_577 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v799 : BitVec 32 := Scalar.addi v2 c2_i32_577
  let c4_i32_578 : BitVec 32 := 4#32
  let v800 : BitVec 32 := Scalar.remsi v799 c4_i32_578
  let c512_i32_580 : BitVec 32 := 512#32
  let v803 : BitVec 32 := Scalar.muli v800 c512_i32_580
  let v825 : Index := Scalar.indexCast v803
  let c128_590 : Index := 128#32
  ![v825.toNat, 128]
def k0_off39 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v830 : Index := Scalar.indexCast v802
  let c1025_593 : Index := 1025#32
  ![v830.toNat, 1025]
def k0_off40 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v838 : Index := Scalar.indexCast v802
  let c128_596 : Index := 128#32
  ![v838.toNat, 128]
def k0_off41 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v842 : Index := Scalar.indexCast v802
  let c256_597 : Index := 256#32
  ![v842.toNat, 256]
def k0_off42 (d0 : Dev nD) (c2_i32_577 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v799 : BitVec 32 := Scalar.addi v2 c2_i32_577
  let c4_i32_578 : BitVec 32 := 4#32
  let v800 : BitVec 32 := Scalar.remsi v799 c4_i32_578
  let c512_i32_580 : BitVec 32 := 512#32
  let v803 : BitVec 32 := Scalar.muli v800 c512_i32_580
  let v844 : Index := Scalar.indexCast v803
  let c256_598 : Index := 256#32
  ![v844.toNat, 256]
def k0_off43 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v849 : Index := Scalar.indexCast v802
  let c1026_601 : Index := 1026#32
  ![v849.toNat, 1026]
def k0_off44 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v857 : Index := Scalar.indexCast v802
  let c256_604 : Index := 256#32
  ![v857.toNat, 256]
def k0_off45 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v861 : Index := Scalar.indexCast v802
  let c384_605 : Index := 384#32
  ![v861.toNat, 384]
def k0_off46 (d0 : Dev nD) (c2_i32_577 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v799 : BitVec 32 := Scalar.addi v2 c2_i32_577
  let c4_i32_578 : BitVec 32 := 4#32
  let v800 : BitVec 32 := Scalar.remsi v799 c4_i32_578
  let c512_i32_580 : BitVec 32 := 512#32
  let v803 : BitVec 32 := Scalar.muli v800 c512_i32_580
  let v863 : Index := Scalar.indexCast v803
  let c384_606 : Index := 384#32
  ![v863.toNat, 384]
def k0_off47 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v868 : Index := Scalar.indexCast v802
  let c1027_609 : Index := 1027#32
  ![v868.toNat, 1027]
def k0_off48 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v876 : Index := Scalar.indexCast v802
  let c384_612 : Index := 384#32
  ![v876.toNat, 384]
def k0_off49 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v880 : Index := Scalar.indexCast v802
  let c512_613 : Index := 512#32
  ![v880.toNat, 512]
def k0_off50 (d0 : Dev nD) (c2_i32_577 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v799 : BitVec 32 := Scalar.addi v2 c2_i32_577
  let c4_i32_578 : BitVec 32 := 4#32
  let v800 : BitVec 32 := Scalar.remsi v799 c4_i32_578
  let c512_i32_580 : BitVec 32 := 512#32
  let v803 : BitVec 32 := Scalar.muli v800 c512_i32_580
  let v882 : Index := Scalar.indexCast v803
  let c512_614 : Index := 512#32
  ![v882.toNat, 512]
def k0_off51 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v887 : Index := Scalar.indexCast v802
  let c1028_617 : Index := 1028#32
  ![v887.toNat, 1028]
def k0_off52 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v895 : Index := Scalar.indexCast v802
  let c512_620 : Index := 512#32
  ![v895.toNat, 512]
def k0_off53 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v899 : Index := Scalar.indexCast v802
  let c640_621 : Index := 640#32
  ![v899.toNat, 640]
def k0_off54 (d0 : Dev nD) (c2_i32_577 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v799 : BitVec 32 := Scalar.addi v2 c2_i32_577
  let c4_i32_578 : BitVec 32 := 4#32
  let v800 : BitVec 32 := Scalar.remsi v799 c4_i32_578
  let c512_i32_580 : BitVec 32 := 512#32
  let v803 : BitVec 32 := Scalar.muli v800 c512_i32_580
  let v901 : Index := Scalar.indexCast v803
  let c640_622 : Index := 640#32
  ![v901.toNat, 640]
def k0_off55 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v906 : Index := Scalar.indexCast v802
  let c1029_625 : Index := 1029#32
  ![v906.toNat, 1029]
def k0_off56 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v914 : Index := Scalar.indexCast v802
  let c640_628 : Index := 640#32
  ![v914.toNat, 640]
def k0_off57 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v918 : Index := Scalar.indexCast v802
  let c768_629 : Index := 768#32
  ![v918.toNat, 768]
def k0_off58 (d0 : Dev nD) (c2_i32_577 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v799 : BitVec 32 := Scalar.addi v2 c2_i32_577
  let c4_i32_578 : BitVec 32 := 4#32
  let v800 : BitVec 32 := Scalar.remsi v799 c4_i32_578
  let c512_i32_580 : BitVec 32 := 512#32
  let v803 : BitVec 32 := Scalar.muli v800 c512_i32_580
  let v920 : Index := Scalar.indexCast v803
  let c768_630 : Index := 768#32
  ![v920.toNat, 768]
def k0_off59 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v925 : Index := Scalar.indexCast v802
  let c1030_633 : Index := 1030#32
  ![v925.toNat, 1030]
def k0_off60 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v933 : Index := Scalar.indexCast v802
  let c768_636 : Index := 768#32
  ![v933.toNat, 768]
def k0_off61 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v937 : Index := Scalar.indexCast v802
  let c896_637 : Index := 896#32
  ![v937.toNat, 896]
def k0_off62 (d0 : Dev nD) (c2_i32_577 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v799 : BitVec 32 := Scalar.addi v2 c2_i32_577
  let c4_i32_578 : BitVec 32 := 4#32
  let v800 : BitVec 32 := Scalar.remsi v799 c4_i32_578
  let c512_i32_580 : BitVec 32 := 512#32
  let v803 : BitVec 32 := Scalar.muli v800 c512_i32_580
  let v939 : Index := Scalar.indexCast v803
  let c896_638 : Index := 896#32
  ![v939.toNat, 896]
def k0_off63 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v944 : Index := Scalar.indexCast v802
  let c1031_641 : Index := 1031#32
  ![v944.toNat, 1031]
def k0_off64 (d0 : Dev nD) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v799 : BitVec 32 := Scalar.addi v2 c2_i32_577
  let c4_i32_578 : BitVec 32 := 4#32
  let v800 : BitVec 32 := Scalar.remsi v799 c4_i32_578
  let c512_i32_579 : BitVec 32 := 512#32
  let v801 : BitVec 32 := Scalar.muli v800 c512_i32_579
  let v802 : BitVec 32 := Scalar.addi v801 c256_i32
  let v952 : Index := Scalar.indexCast v802
  let c896_644 : Index := 896#32
  ![v952.toNat, 896]
def k0_off65 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_645 : BitVec 32 := 512#32
  let v956 : BitVec 32 := Scalar.muli v2 c512_i32_645
  let v957 : Index := Scalar.indexCast v956
  let c0_646 : Index := 0#32
  ![v957.toNat, 0]
def k0_off66 (d0 : Dev nD) (c2_i32_650 : BitVec 32) (c256_i32_653 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v963 : BitVec 32 := Scalar.addi v2 c2_i32_650
  let c4_i32_651 : BitVec 32 := 4#32
  let v964 : BitVec 32 := Scalar.remsi v963 c4_i32_651
  let c512_i32_652 : BitVec 32 := 512#32
  let v965 : BitVec 32 := Scalar.muli v964 c512_i32_652
  let v966 : BitVec 32 := Scalar.addi v965 c256_i32_653
  let v967 : Index := Scalar.indexCast v966
  let c0_654 : Index := 0#32
  ![v967.toNat, 0]
def k0_off66_at (r : Fin 4) : BitVec 32 × BitVec 32 :=
  if r.val < 2 then
    if r.val < 1 then
      (2#32, 256#32)
    else
      (3#32, 256#32)
  else
    if r.val < 3 then
      (1#32, 0#32)
    else
      (1#32, 256#32)
def k0_dev3 (d0 : Dev nD) : Nat :=
  let c0_i32_663 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_662 : BitVec 32 := 1#32
  let v973 : BitVec 32 := Scalar.muli v7 c1_i32_662
  let v974 : BitVec 32 := Scalar.addi c0_i32_663 v973
  v974.toNat
def k0_dev4 (d0 : Dev nD) : Nat :=
  let c0_i32_673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_672 : BitVec 32 := 1#32
  let v983 : BitVec 32 := Scalar.muli v5 c1_i32_672
  let v984 : BitVec 32 := Scalar.addi c0_i32_673 v983
  v984.toNat
def k0_off67 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1310 : Index := Scalar.indexCast v1308
  let c0_819 : Index := 0#32
  ![v1310.toNat, 0]
def k0_off68 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1317 : Index := Scalar.indexCast v1308
  let c1024_823 : Index := 1024#32
  ![v1317.toNat, 1024]
def k0_off69 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1325 : Index := Scalar.indexCast v1308
  let c0_826 : Index := 0#32
  ![v1325.toNat, 0]
def k0_off70 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1329 : Index := Scalar.indexCast v1308
  let c128_827 : Index := 128#32
  ![v1329.toNat, 128]
def k0_off71 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1336 : Index := Scalar.indexCast v1308
  let c1025_831 : Index := 1025#32
  ![v1336.toNat, 1025]
def k0_off72 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1344 : Index := Scalar.indexCast v1308
  let c128_834 : Index := 128#32
  ![v1344.toNat, 128]
def k0_off73 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1348 : Index := Scalar.indexCast v1308
  let c256_835 : Index := 256#32
  ![v1348.toNat, 256]
def k0_off74 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1355 : Index := Scalar.indexCast v1308
  let c1026_839 : Index := 1026#32
  ![v1355.toNat, 1026]
def k0_off75 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1363 : Index := Scalar.indexCast v1308
  let c256_842 : Index := 256#32
  ![v1363.toNat, 256]
def k0_off76 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1367 : Index := Scalar.indexCast v1308
  let c384_843 : Index := 384#32
  ![v1367.toNat, 384]
def k0_off77 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1374 : Index := Scalar.indexCast v1308
  let c1027_847 : Index := 1027#32
  ![v1374.toNat, 1027]
def k0_off78 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1382 : Index := Scalar.indexCast v1308
  let c384_850 : Index := 384#32
  ![v1382.toNat, 384]
def k0_off79 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1386 : Index := Scalar.indexCast v1308
  let c512_851 : Index := 512#32
  ![v1386.toNat, 512]
def k0_off80 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1393 : Index := Scalar.indexCast v1308
  let c1028_855 : Index := 1028#32
  ![v1393.toNat, 1028]
def k0_off81 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1401 : Index := Scalar.indexCast v1308
  let c512_858 : Index := 512#32
  ![v1401.toNat, 512]
def k0_off82 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1405 : Index := Scalar.indexCast v1308
  let c640_859 : Index := 640#32
  ![v1405.toNat, 640]
def k0_off83 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1412 : Index := Scalar.indexCast v1308
  let c1029_863 : Index := 1029#32
  ![v1412.toNat, 1029]
def k0_off84 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1420 : Index := Scalar.indexCast v1308
  let c640_866 : Index := 640#32
  ![v1420.toNat, 640]
def k0_off85 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1424 : Index := Scalar.indexCast v1308
  let c768_867 : Index := 768#32
  ![v1424.toNat, 768]
def k0_off86 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1431 : Index := Scalar.indexCast v1308
  let c1030_871 : Index := 1030#32
  ![v1431.toNat, 1030]
def k0_off87 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1439 : Index := Scalar.indexCast v1308
  let c768_874 : Index := 768#32
  ![v1439.toNat, 768]
def k0_off88 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1443 : Index := Scalar.indexCast v1308
  let c896_875 : Index := 896#32
  ![v1443.toNat, 896]
def k0_off89 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1450 : Index := Scalar.indexCast v1308
  let c1031_879 : Index := 1031#32
  ![v1450.toNat, 1031]
def k0_off90 (d0 : Dev nD) (c3_i32_814 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1305 : BitVec 32 := Scalar.addi v2 c3_i32_814
  let c4_i32_815 : BitVec 32 := 4#32
  let v1306 : BitVec 32 := Scalar.remsi v1305 c4_i32_815
  let c512_i32_816 : BitVec 32 := 512#32
  let v1307 : BitVec 32 := Scalar.muli v1306 c512_i32_816
  let c0_i32_817 : BitVec 32 := 0#32
  let v1308 : BitVec 32 := Scalar.addi v1307 c0_i32_817
  let v1458 : Index := Scalar.indexCast v1308
  let c896_882 : Index := 896#32
  ![v1458.toNat, 896]
def k0_off91 (d0 : Dev nD) (c3_i32_921 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1490 : BitVec 32 := Scalar.addi v2 c3_i32_921
  let c4_i32_922 : BitVec 32 := 4#32
  let v1491 : BitVec 32 := Scalar.remsi v1490 c4_i32_922
  let c512_i32_926 : BitVec 32 := 512#32
  let v1495 : BitVec 32 := Scalar.muli v1491 c512_i32_926
  let v1496 : Index := Scalar.indexCast v1495
  let c0_927 : Index := 0#32
  ![v1496.toNat, 0]
def k0_dev5 (d0 : Dev nD) : Nat :=
  let c0_i32_944 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_943 : BitVec 32 := 1#32
  let v1515 : BitVec 32 := Scalar.muli v7 c1_i32_943
  let v1516 : BitVec 32 := Scalar.addi c0_i32_944 v1515
  v1516.toNat
def k0_dev6 (d0 : Dev nD) : Nat :=
  let c0_i32_954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_953 : BitVec 32 := 1#32
  let v1525 : BitVec 32 := Scalar.muli v5 c1_i32_953
  let v1526 : BitVec 32 := Scalar.addi c0_i32_954 v1525
  v1526.toNat
def k0_off92 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1079 : BitVec 32 := 512#32
  let v1736 : BitVec 32 := Scalar.muli v2 c512_i32_1079
  let c256_i32_1080 : BitVec 32 := 256#32
  let v1737 : BitVec 32 := Scalar.addi v1736 c256_i32_1080
  let v1738 : Index := Scalar.indexCast v1737
  let c0_1081 : Index := 0#32
  ![v1738.toNat, 0]
def k0_dev7 (d0 : Dev nD) : Nat :=
  let c0_i32_1090 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1089 : BitVec 32 := 1#32
  let v1745 : BitVec 32 := Scalar.muli v7 c1_i32_1089
  let v1746 : BitVec 32 := Scalar.addi c0_i32_1090 v1745
  v1746.toNat
def k0_dev8 (d0 : Dev nD) : Nat :=
  let c0_i32_1100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1099 : BitVec 32 := 1#32
  let v1755 : BitVec 32 := Scalar.muli v5 c1_i32_1099
  let v1756 : BitVec 32 := Scalar.addi c0_i32_1100 v1755
  v1756.toNat
def k0_dev9 (d0 : Dev nD) : Nat :=
  let c0_i32_1169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1168 : BitVec 32 := 1#32
  let v1882 : BitVec 32 := Scalar.muli v7 c1_i32_1168
  let v1883 : BitVec 32 := Scalar.addi c0_i32_1169 v1882
  v1883.toNat
def k0_dev10 (d0 : Dev nD) : Nat :=
  let c0_i32_1197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1196 : BitVec 32 := 1#32
  let v1979 : BitVec 32 := Scalar.muli v5 c1_i32_1196
  let v1980 : BitVec 32 := Scalar.addi c0_i32_1197 v1979
  v1980.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x1024 : Shape := ⟨2, ![2048, 1024]⟩
abbrev S1024x1024 : Shape := ⟨2, ![1024, 1024]⟩
abbrev S8192x8x128 : Shape := ⟨3, ![8192, 8, 128]⟩
abbrev S2048x8x128 : Shape := ⟨3, ![2048, 8, 128]⟩
abbrev S2048 : Shape := ⟨1, ![2048]⟩
abbrev S_ : Shape := ⟨0, ![]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S8x2048x8192 : Shape := ⟨3, ![8, 2048, 8192]⟩
abbrev S1x2048x8192 : Shape := ⟨3, ![1, 2048, 8192]⟩
abbrev S8x2048 : Shape := ⟨2, ![8, 2048]⟩
abbrev S8x2048x1 : Shape := ⟨3, ![8, 2048, 1]⟩
abbrev S1x2048x1 : Shape := ⟨3, ![1, 2048, 1]⟩
abbrev S8x128x2048 : Shape := ⟨3, ![8, 128, 2048]⟩
abbrev S2x4x4x64x1024 : Shape := ⟨5, ![2, 4, 4, 64, 1024]⟩
abbrev S2x4x256x1024 : Shape := ⟨4, ![2, 4, 256, 1024]⟩
abbrev S1x4x256x1024 : Shape := ⟨4, ![1, 4, 256, 1024]⟩
abbrev S4x256x1024 : Shape := ⟨3, ![4, 256, 1024]⟩
abbrev S3x256x1024 : Shape := ⟨3, ![3, 256, 1024]⟩
abbrev S1x256x1024 : Shape := ⟨3, ![1, 256, 1024]⟩
abbrev S2x256x1024 : Shape := ⟨3, ![2, 256, 1024]⟩
abbrev S4x1x256x1024 : Shape := ⟨4, ![4, 1, 256, 1024]⟩
abbrev S4x4x256x1024 : Shape := ⟨4, ![4, 4, 256, 1024]⟩
abbrev S4096x1024 : Shape := ⟨2, ![4096, 1024]⟩

abbrev nBuf : Space → Nat
  | .hbm => 159
  | .vmem => 0
  | .smem => 0
  | _ => 0

abbrev hbmTy0_0 (i : Nat) : BufTy := match i % 128 with
  | 0 => ⟨S2048x1024, .f32⟩
  | 1 => ⟨S1024x1024, .f32⟩
  | 2 => ⟨S8192x8x128, .f32⟩
  | 3 => ⟨S8192x8x128, .f32⟩
  | 4 => ⟨S1024x1024, .f32⟩
  | 5 => ⟨S2048x1024, .f32⟩
  | 6 => ⟨S2048x8x128, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S8192, .i32⟩
  | 28 => ⟨S_, .i32⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i1⟩
  | 36 => ⟨S8192, .i32⟩
  | 37 => ⟨S8192, .i32⟩
  | 38 => ⟨S_, .i32⟩
  | 39 => ⟨S8192, .i32⟩
  | 40 => ⟨S8192, .i1⟩
  | 41 => ⟨S8192, .i1⟩
  | 42 => ⟨S_, .i32⟩
  | 43 => ⟨S8192, .i32⟩
  | 44 => ⟨S8192, .i32⟩
  | 45 => ⟨S8192, .i32⟩
  | 46 => ⟨S1x8192, .i32⟩
  | 47 => ⟨S2048x8192, .i32⟩
  | 48 => ⟨S2048x8192, .i32⟩
  | 49 => ⟨S2048x8192, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x8192, .i32⟩
  | 57 => ⟨S1x8192, .i32⟩
  | 58 => ⟨S_, .i32⟩
  | 59 => ⟨S1x8192, .i32⟩
  | 60 => ⟨S1x8192, .i1⟩
  | 61 => ⟨S_, .i32⟩
  | 62 => ⟨S1x8192, .i32⟩
  | 63 => ⟨S1x8192, .i1⟩
  | 64 => ⟨S_, .i32⟩
  | 65 => ⟨S_, .i1⟩
  | 66 => ⟨S1x8192, .i1⟩
  | 67 => ⟨S1x8192, .i1⟩
  | 68 => ⟨S1x8192, .i1⟩
  | 69 => ⟨S1x8192, .i32⟩
  | 70 => ⟨S1x8192, .i32⟩
  | 71 => ⟨S1x8192, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x8192, .i32⟩
  | 95 => ⟨S2048x8192, .i32⟩
  | 96 => ⟨S2048x8192, .i1⟩
  | 97 => ⟨S2048x8192, .i1⟩
  | 98 => ⟨S8x2048x8192, .f32⟩
  | 99 => ⟨S_, .f32⟩
  | 100 => ⟨S8x2048x8192, .f32⟩
  | 101 => ⟨S8x2048x8192, .f32⟩
  | 102 => ⟨S1x2048x8192, .i1⟩
  | 103 => ⟨S_, .f32⟩
  | 104 => ⟨S_, .f32⟩
  | 105 => ⟨S8x2048x8192, .i1⟩
  | 106 => ⟨S8x2048x8192, .f32⟩
  | 107 => ⟨S8x2048x8192, .f32⟩
  | 108 => ⟨S_, .f32⟩
  | 109 => ⟨S8x2048, .f32⟩
  | 110 => ⟨S8x2048x1, .f32⟩
  | 111 => ⟨S8x2048x8192, .f32⟩
  | 112 => ⟨S8x2048x8192, .f32⟩
  | 113 => ⟨S8x2048x8192, .f32⟩
  | 114 => ⟨S_, .i1⟩
  | 115 => ⟨S2048, .i1⟩
  | 116 => ⟨S1x2048x1, .i1⟩
  | 117 => ⟨S_, .f32⟩
  | 118 => ⟨S8x2048, .f32⟩
  | 119 => ⟨S8x2048x1, .f32⟩
  | 120 => ⟨S_, .f32⟩
  | 121 => ⟨S_, .f32⟩
  | 122 => ⟨S8x2048x1, .i1⟩
  | 123 => ⟨S8x2048x1, .f32⟩
  | 124 => ⟨S8x2048x1, .f32⟩
  | 125 => ⟨S8x2048x8192, .f32⟩
  | 126 => ⟨S8x2048x8192, .f32⟩
  | 127 => ⟨S1x2048x1, .i1⟩
  | _ => ⟨S2048x1024, .f32⟩

abbrev hbmTy0_1 (i : Nat) : BufTy := match i % 128 with
  | 0 => ⟨S_, .f32⟩
  | 1 => ⟨S_, .f32⟩
  | 2 => ⟨S8x2048x8192, .i1⟩
  | 3 => ⟨S8x2048x8192, .f32⟩
  | 4 => ⟨S8x2048x8192, .f32⟩
  | 5 => ⟨S8x128x2048, .f32⟩
  | 6 => ⟨S2048x8x128, .f32⟩
  | 7 => ⟨S2048x1024, .f32⟩
  | 8 => ⟨S2048x1024, .f32⟩
  | 9 => ⟨S2x4x4x64x1024, .f32⟩
  | 10 => ⟨S2x4x4x64x1024, .f32⟩
  | 11 => ⟨S2x4x256x1024, .f32⟩
  | 12 => ⟨S1x4x256x1024, .f32⟩
  | 13 => ⟨S4x256x1024, .f32⟩
  | 14 => ⟨S1x4x256x1024, .f32⟩
  | 15 => ⟨S4x256x1024, .f32⟩
  | 16 => ⟨S3x256x1024, .f32⟩
  | 17 => ⟨S1x256x1024, .f32⟩
  | 18 => ⟨S4x256x1024, .f32⟩
  | 19 => ⟨S3x256x1024, .f32⟩
  | 20 => ⟨S1x256x1024, .f32⟩
  | 21 => ⟨S4x256x1024, .f32⟩
  | 22 => ⟨S2x256x1024, .f32⟩
  | 23 => ⟨S2x256x1024, .f32⟩
  | 24 => ⟨S4x256x1024, .f32⟩
  | 25 => ⟨S4x1x256x1024, .f32⟩
  | 26 => ⟨S4x1x256x1024, .f32⟩
  | 27 => ⟨S4x1x256x1024, .f32⟩
  | 28 => ⟨S4x1x256x1024, .f32⟩
  | 29 => ⟨S4x4x256x1024, .f32⟩
  | 30 => ⟨S4096x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩

abbrev nD : Nat := 1
abbrev τ : Topo := Topo.v7x

variable {F : FTy → Type} [FloatOps F]
-- ==== Proof.Run.Text.lean ====
module

public import proofs.«01_k».proof.Proof.Gen.KernelIdeal
public import proofs.«01_k».proof.Proof.Gen.KernelIdeal.Skeleton
public import proofs.«01_k».proof.Proof.Gen.KernelIdeal.Points

@[expose] public section

/-! The kernel's body as a sequence of named steps, each over the program that follows it: casting one block of 64
    rows, one head of one chunk, one phase of the exchange. `Whole.lean` shows that the printed body is this program. -/

namespace Cert.KernelIdeal.Run

open Idealize.ShloMosaic Idealize.SL.Sem
open Cert.KernelIdeal Cert.KernelIdeal.Gen

variable {F : FTy → Type} [FloatOps F]

abbrev xA : Memref sig .tc .hbm S2048x1024 .f32 := Memref.whole main_arg0
abbrev wqA : Memref sig .tc .hbm S1024x1024 .f32 := Memref.whole main_arg1
abbrev kA : Memref sig .tc .hbm S2048x8x128 .f32 := Memref.whole main_arg2
abbrev vA : Memref sig .tc .hbm S2048x8x128 .f32 := Memref.whole main_arg3
abbrev woA : Memref sig .tc .hbm S1024x1024 .f32 := Memref.whole main_arg4
abbrev outB : Memref sig .tc .vmem S1024x1024 .f32 := Memref.whole cc0_stg0_0
abbrev stA : Memref sig .tc .vmem S1024x1024 .f32 := Memref.whole cc0_scratch0
abbrev stB : Memref sig .tc .vmem S1024x1024 .f32 := Memref.whole cc0_scratch1
abbrev st3A : Memref sig .tc .vmem S512x8x128 .f32 := Memref.whole cc0_scratch2
abbrev st3B : Memref sig .tc .vmem S512x8x128 .f32 := Memref.whole cc0_scratch3
abbrev wqB : Memref sig .tc .vmem S1024x1024 .bf16 := Memref.whole cc0_scratch4
abbrev woB : Memref sig .tc .vmem S1024x1024 .bf16 := Memref.whole cc0_scratch5
abbrev xgB : Memref sig .tc .vmem S2048x1024 .bf16 := Memref.whole cc0_scratch6
abbrev qgB : Memref sig .tc .vmem S2048x1024 .bf16 := Memref.whole cc0_scratch7
abbrev kgB : Memref sig .tc .vmem S2048x1024 .bf16 := Memref.whole cc0_scratch8
abbrev vgB : Memref sig .tc .vmem S2048x1024 .bf16 := Memref.whole cc0_scratch9
abbrev accB : Memref sig .tc .vmem S2048x1152 .f32 := Memref.whole cc0_scratch10
abbrev sbrB : Memref sig .tc .vmem S2x256x1152 .bf16 := Memref.whole cc0_scratch11
abbrev rbrB : Memref sig .tc .vmem S2x256x1152 .bf16 := Memref.whole cc0_scratch12
abbrev sblB : Memref sig .tc .vmem S2x256x1152 .bf16 := Memref.whole cc0_scratch13
abbrev rblB : Memref sig .tc .vmem S2x256x1152 .bf16 := Memref.whole cc0_scratch14
abbrev agrB : Memref sig .tc .vmem S2x256x1024 .bf16 := Memref.whole cc0_scratch15
abbrev aglB : Memref sig .tc .vmem S2x256x1024 .bf16 := Memref.whole cc0_scratch16

/-- Slot 0 of `sbrB`. -/
abbrev sbr0 : Memref sig .tc .vmem S256x1152 .bf16 := (sbrB.slice (Rect.unit (s := S2x256x1152) ![0, 0, 0] S1x256x1152.size inb_S2x256x1152_S1x256x1152_0_0_0) (fun _ => rfl)).squeeze S256x1152 squeezes_S1x256x1152_S256x1152
/-- Slot 1 of `sbrB`. -/
abbrev sbr1 : Memref sig .tc .vmem S256x1152 .bf16 := (sbrB.slice (Rect.unit (s := S2x256x1152) ![1, 0, 0] S1x256x1152.size inb_S2x256x1152_S1x256x1152_1_0_0) (fun _ => rfl)).squeeze S256x1152 squeezes_S1x256x1152_S256x1152
/-- Slot 0 of `rbrB`. -/
abbrev rbr0 : Memref sig .tc .vmem S256x1152 .bf16 := (rbrB.slice (Rect.unit (s := S2x256x1152) ![0, 0, 0] S1x256x1152.size inb_S2x256x1152_S1x256x1152_0_0_0) (fun _ => rfl)).squeeze S256x1152 squeezes_S1x256x1152_S256x1152
/-- Slot 1 of `rbrB`. -/
abbrev rbr1 : Memref sig .tc .vmem S256x1152 .bf16 := (rbrB.slice (Rect.unit (s := S2x256x1152) ![1, 0, 0] S1x256x1152.size inb_S2x256x1152_S1x256x1152_1_0_0) (fun _ => rfl)).squeeze S256x1152 squeezes_S1x256x1152_S256x1152
/-- Slot 0 of `sblB`. -/
abbrev sbl0 : Memref sig .tc .vmem S256x1152 .bf16 := (sblB.slice (Rect.unit (s := S2x256x1152) ![0, 0, 0] S1x256x1152.size inb_S2x256x1152_S1x256x1152_0_0_0) (fun _ => rfl)).squeeze S256x1152 squeezes_S1x256x1152_S256x1152
/-- Slot 1 of `sblB`. -/
abbrev sbl1 : Memref sig .tc .vmem S256x1152 .bf16 := (sblB.slice (Rect.unit (s := S2x256x1152) ![1, 0, 0] S1x256x1152.size inb_S2x256x1152_S1x256x1152_1_0_0) (fun _ => rfl)).squeeze S256x1152 squeezes_S1x256x1152_S256x1152
/-- Slot 0 of `rblB`. -/
abbrev rbl0 : Memref sig .tc .vmem S256x1152 .bf16 := (rblB.slice (Rect.unit (s := S2x256x1152) ![0, 0, 0] S1x256x1152.size inb_S2x256x1152_S1x256x1152_0_0_0) (fun _ => rfl)).squeeze S256x1152 squeezes_S1x256x1152_S256x1152
/-- Slot 1 of `rblB`. -/
abbrev rbl1 : Memref sig .tc .vmem S256x1152 .bf16 := (rblB.slice (Rect.unit (s := S2x256x1152) ![1, 0, 0] S1x256x1152.size inb_S2x256x1152_S1x256x1152_1_0_0) (fun _ => rfl)).squeeze S256x1152 squeezes_S1x256x1152_S256x1152
/-- Slot 0 of `agrB`. -/
abbrev agr0 : Memref sig .tc .vmem S256x1024 .bf16 := (agrB.slice (Rect.unit (s := S2x256x1024) ![0, 0, 0] S1x256x1024.size inb_S2x256x1024_S1x256x1024_0_0_0) (fun _ => rfl)).squeeze S256x1024 squeezes_S1x256x1024_S256x1024
/-- Slot 1 of `agrB`. -/
abbrev agr1 : Memref sig .tc .vmem S256x1024 .bf16 := (agrB.slice (Rect.unit (s := S2x256x1024) ![1, 0, 0] S1x256x1024.size inb_S2x256x1024_S1x256x1024_1_0_0) (fun _ => rfl)).squeeze S256x1024 squeezes_S1x256x1024_S256x1024
/-- Slot 0 of `aglB`. -/
abbrev agl0 : Memref sig .tc .vmem S256x1024 .bf16 := (aglB.slice (Rect.unit (s := S2x256x1024) ![0, 0, 0] S1x256x1024.size inb_S2x256x1024_S1x256x1024_0_0_0) (fun _ => rfl)).squeeze S256x1024 squeezes_S1x256x1024_S256x1024
/-- Slot 1 of `aglB`. -/
abbrev agl1 : Memref sig .tc .vmem S256x1024 .bf16 := (aglB.slice (Rect.unit (s := S2x256x1024) ![1, 0, 0] S1x256x1024.size inb_S2x256x1024_S1x256x1024_1_0_0) (fun _ => rfl)).squeeze S256x1024 squeezes_S1x256x1024_S256x1024

abbrev xA0 : Memref sig .tc .hbm S1024x1024 .f32 := xA.slice (Rect.unit (s := S2048x1024) ![0, 0] S1024x1024.size inb_S2048x1024_S1024x1024_0_0) (fun _ => rfl)
abbrev xA1024 : Memref sig .tc .hbm S1024x1024 .f32 := xA.slice (Rect.unit (s := S2048x1024) ![1024, 0] S1024x1024.size inb_S2048x1024_S1024x1024_1024_0) (fun _ => rfl)
abbrev kA0 : Memref sig .tc .hbm S512x8x128 .f32 := kA.slice (Rect.unit (s := S2048x8x128) ![0, 0, 0] S512x8x128.size inb_S2048x8x128_S512x8x128_0_0_0) (fun _ => rfl)
abbrev kA512 : Memref sig .tc .hbm S512x8x128 .f32 := kA.slice (Rect.unit (s := S2048x8x128) ![512, 0, 0] S512x8x128.size inb_S2048x8x128_S512x8x128_512_0_0) (fun _ => rfl)
abbrev kA1024 : Memref sig .tc .hbm S512x8x128 .f32 := kA.slice (Rect.unit (s := S2048x8x128) ![1024, 0, 0] S512x8x128.size inb_S2048x8x128_S512x8x128_1024_0_0) (fun _ => rfl)
abbrev kA1536 : Memref sig .tc .hbm S512x8x128 .f32 := kA.slice (Rect.unit (s := S2048x8x128) ![1536, 0, 0] S512x8x128.size inb_S2048x8x128_S512x8x128_1536_0_0) (fun _ => rfl)
abbrev vA0 : Memref sig .tc .hbm S512x8x128 .f32 := vA.slice (Rect.unit (s := S2048x8x128) ![0, 0, 0] S512x8x128.size inb_S2048x8x128_S512x8x128_0_0_0) (fun _ => rfl)
abbrev vA512 : Memref sig .tc .hbm S512x8x128 .f32 := vA.slice (Rect.unit (s := S2048x8x128) ![512, 0, 0] S512x8x128.size inb_S2048x8x128_S512x8x128_512_0_0) (fun _ => rfl)
abbrev vA1024 : Memref sig .tc .hbm S512x8x128 .f32 := vA.slice (Rect.unit (s := S2048x8x128) ![1024, 0, 0] S512x8x128.size inb_S2048x8x128_S512x8x128_1024_0_0) (fun _ => rfl)
abbrev vA1536 : Memref sig .tc .hbm S512x8x128 .f32 := vA.slice (Rect.unit (s := S2048x8x128) ![1536, 0, 0] S512x8x128.size inb_S2048x8x128_S512x8x128_1536_0_0) (fun _ => rfl)
abbrev ls0 : DmaSem sig := ((cc0_scratch17.slice (Rect.unit (s := S4) ![0] S1.size inb_S4_S1_0)).squeeze S_ squeezes_S1_S_).sem
abbrev ls1 : DmaSem sig := ((cc0_scratch17.slice (Rect.unit (s := S4) ![1] S1.size inb_S4_S1_1)).squeeze S_ squeezes_S1_S_).sem
abbrev ls2 : DmaSem sig := ((cc0_scratch17.slice (Rect.unit (s := S4) ![2] S1.size inb_S4_S1_2)).squeeze S_ squeezes_S1_S_).sem
abbrev ls3 : DmaSem sig := ((cc0_scratch17.slice (Rect.unit (s := S4) ![3] S1.size inb_S4_S1_3)).squeeze S_ squeezes_S1_S_).sem
abbrev ss0 : DmaSem sig := ((cc0_scratch18.slice (Rect.unit (s := S8) ![0] S1.size inb_S8_S1_0)).squeeze S_ squeezes_S1_S_).sem
abbrev ss1 : DmaSem sig := ((cc0_scratch18.slice (Rect.unit (s := S8) ![1] S1.size inb_S8_S1_1)).squeeze S_ squeezes_S1_S_).sem
abbrev ss2 : DmaSem sig := ((cc0_scratch18.slice (Rect.unit (s := S8) ![2] S1.size inb_S8_S1_2)).squeeze S_ squeezes_S1_S_).sem
abbrev ss3 : DmaSem sig := ((cc0_scratch18.slice (Rect.unit (s := S8) ![3] S1.size inb_S8_S1_3)).squeeze S_ squeezes_S1_S_).sem
abbrev ss4 : DmaSem sig := ((cc0_scratch18.slice (Rect.unit (s := S8) ![4] S1.size inb_S8_S1_4)).squeeze S_ squeezes_S1_S_).sem
abbrev ss6 : DmaSem sig := ((cc0_scratch18.slice (Rect.unit (s := S8) ![6] S1.size inb_S8_S1_6)).squeeze S_ squeezes_S1_S_).sem
abbrev rs0 : DmaSem sig := ((cc0_scratch19.slice (Rect.unit (s := S8) ![0] S1.size inb_S8_S1_0)).squeeze S_ squeezes_S1_S_).sem
abbrev rs1 : DmaSem sig := ((cc0_scratch19.slice (Rect.unit (s := S8) ![1] S1.size inb_S8_S1_1)).squeeze S_ squeezes_S1_S_).sem
abbrev rs2 : DmaSem sig := ((cc0_scratch19.slice (Rect.unit (s := S8) ![2] S1.size inb_S8_S1_2)).squeeze S_ squeezes_S1_S_).sem
abbrev rs3 : DmaSem sig := ((cc0_scratch19.slice (Rect.unit (s := S8) ![3] S1.size inb_S8_S1_3)).squeeze S_ squeezes_S1_S_).sem
abbrev rs5 : DmaSem sig := ((cc0_scratch19.slice (Rect.unit (s := S8) ![5] S1.size inb_S8_S1_5)).squeeze S_ squeezes_S1_S_).sem
abbrev rs7 : DmaSem sig := ((cc0_scratch19.slice (Rect.unit (s := S8) ![7] S1.size inb_S8_S1_7)).squeeze S_ squeezes_S1_S_).sem
abbrev bar : Sem sig := (SemArray.scalar (sig.barrier 0 rfl) : Sems sig S_).sem

/-- A program of the kernel's body. -/
abbrev BProg (F : FTy → Type) [FloatOps F] : Type 1 := Prog (TpuEff nD τ sig (Elt F) Λ₀ .tc) PUnit

/-- Cast one block of 64 rows of a staged half of `x` into the grouped rows of `xgB`. -/
noncomputable def castX (st : Memref sig .tc .vmem S1024x1024 .f32) (dst : Memref sig .tc .vmem S2048x1024 .bf16) (hd : dst.IsWhole)
    (so : Fin 2 → ℕ) (hs : ∀ a, so a + S64x1024.size a ≤ S1024x1024.size a)
    (xo : Fin 2 → ℕ) (hx : ∀ a, xo a + S64x1024.size a ≤ S2048x1024.size a)
    (hp : (Rect.unit (s := S2048x1024) xo S64x1024.size hx).PackedRows (EltTy.packing .bf16)) (k : BProg F) : BProg F :=
  .op (.load st (Rect.unit (s := S1024x1024) so S64x1024.size hs).toLoadRect (View.loadsAt_vmem h_S64x1024)) fun v =>
  .op (.load dst (Rect.unit (s := S2048x1024) xo S64x1024.size hx).toLoadRect (View.loadsAt_vmem h_S64x1024)) fun _ =>
  .op (.store dst (Rect.unit (s := S2048x1024) xo S64x1024.size hx) (k0_pay3 v) Finset.univ (View.stores_vmem h_S64x1024 (hd.storeExact_slice rfl _ hp) (fun _ => rfl)) (.inl rfl)) fun _ => k

/-- A staged block of `K` or `V`, cast, its heads side by side. -/
noncomputable abbrev kvPay (v : Vec F S64x8x128 .f32) : FVec F S64x1024 .bf16 := k0_pay36 (k0_pay35 v)
/-- The sums of one head's weights, 256 query rows. -/
noncomputable abbrev sumPay256 (q : Vec F S256x128 .bf16) (k : Vec F S512x128 .bf16) : FVec F S256x1 .f32 := k0_pay109 q k
/-- One head's weighted values, 256 query rows. -/
noncomputable abbrev numPay256 (q : Vec F S256x128 .bf16) (k v : Vec F S512x128 .bf16) : FVec F S256x128 .f32 := k0_pay110 q k v
/-- The sums of one head's weights, 512 query rows. -/
noncomputable abbrev sumPay512 (q k : Vec F S512x128 .bf16) : FVec F S512x1 .f32 := k0_pay213 q k
/-- One head's weighted values, 512 query rows. -/
noncomputable abbrev numPay512 (q k v : Vec F S512x128 .bf16) : FVec F S512x128 .f32 := k0_pay218 q k v
/-- What the first hop sends: half a chunk's partial sums, rounded. -/
noncomputable abbrev sendPay (a : Vec F S256x1152 .f32) : FVec F S1x256x1152 .bf16 := k0_pay162 a
/-- What a later hop sends: what came in plus the device's own partial sums, rounded. -/
noncomputable abbrev rsPay (r : Vec F S1x256x1152 .bf16) (a : Vec F S256x1152 .f32) : FVec F S1x256x1152 .bf16 := k0_pay237 r a
/-- Half the device's own chunk, normalised and projected. -/
noncomputable def outPay (r : Vec F S1x256x1152 .bf16) (a : Vec F S256x1152 .f32) (w : Vec F S1024x1024 .bf16) : FVec F S256x1024 .f32 :=
  k0_pay276 (k0_pay269 r a) (k0_pay270 r a) (k0_pay271 r a) (k0_pay272 r a) (k0_pay273 r a) (k0_pay274 r a) (k0_pay275 r a) w
/-- The same, rounded: what is sent on. -/
noncomputable def agPay (r : Vec F S1x256x1152 .bf16) (a : Vec F S256x1152 .f32) (w : Vec F S1024x1024 .bf16) : FVec F S1x256x1024 .bf16 :=
  k0_pay277 (k0_pay269 r a) (k0_pay270 r a) (k0_pay271 r a) (k0_pay272 r a) (k0_pay273 r a) (k0_pay274 r a) (k0_pay275 r a) w

/-- Cast one block of 64 rows of a staged quarter of `K` or `V`, eight heads side by side. -/
noncomputable def castKV (st : Memref sig .tc .vmem S512x8x128 .f32) (dst : Memref sig .tc .vmem S2048x1024 .bf16) (hd : dst.IsWhole)
    (so : Fin 3 → ℕ) (hs : ∀ a, so a + S64x8x128.size a ≤ S512x8x128.size a)
    (xo : Fin 2 → ℕ) (hx : ∀ a, xo a + S64x1024.size a ≤ S2048x1024.size a)
    (hp : (Rect.unit (s := S2048x1024) xo S64x1024.size hx).PackedRows (EltTy.packing .bf16)) (k : BProg F) : BProg F :=
  .op (.load st (Rect.unit (s := S512x8x128) so S64x8x128.size hs).toLoadRect (View.loadsAt_vmem h_S64x8x128)) fun v =>
  .op (.load dst (Rect.unit (s := S2048x1024) xo S64x1024.size hx).toLoadRect (View.loadsAt_vmem h_S64x1024)) fun _ =>
  .op (.store dst (Rect.unit (s := S2048x1024) xo S64x1024.size hx) (kvPay v) Finset.univ (View.stores_vmem h_S64x1024 (hd.storeExact_slice rfl _ hp) (fun _ => rfl)) (.inl rfl)) fun _ => k

/-- One head of 256 query rows: the sums of the weights, then the weighted values. -/
noncomputable def head256
    (oq : Fin 2 → ℕ) (hq : ∀ a, oq a + S256x128.size a ≤ S2048x1024.size a)
    (ok : Fin 2 → ℕ) (hk : ∀ a, ok a + S512x128.size a ≤ S2048x1024.size a)
    (os : Fin 2 → ℕ) (hs : ∀ a, os a + S256x1.size a ≤ S2048x1152.size a)
    (on : Fin 2 → ℕ) (hn : ∀ a, on a + S256x128.size a ≤ S2048x1152.size a) (k : BProg F) : BProg F :=
  .op (.load qgB (Rect.unit (s := S2048x1024) oq S256x128.size hq).toLoadRect (View.loadsAt_vmem h_S256x128)) fun q =>
  .op (.load kgB (Rect.unit (s := S2048x1024) ok S512x128.size hk).toLoadRect (View.loadsAt_vmem h_S512x128)) fun kk =>
  .op (.load accB (Rect.unit (s := S2048x1152) os S256x1.size hs).toLoadRect (View.loadsAt_vmem h_S256x1)) fun _ =>
  .op (.store accB (Rect.unit (s := S2048x1152) os S256x1.size hs) (sumPay256 q kk) Finset.univ (View.stores_vmem_bits_univ h_S256x1 rfl) (.inl rfl)) fun _ =>
  .op (.load vgB (Rect.unit (s := S2048x1024) ok S512x128.size hk).toLoadRect (View.loadsAt_vmem h_S512x128)) fun vv =>
  .op (.load accB (Rect.unit (s := S2048x1152) on S256x128.size hn).toLoadRect (View.loadsAt_vmem h_S256x128)) fun _ =>
  .op (.store accB (Rect.unit (s := S2048x1152) on S256x128.size hn) (numPay256 q kk vv) Finset.univ (View.stores_vmem_bits_univ h_S256x128 rfl) (.inl rfl)) fun _ => k

/-- One head of 512 query rows: the sums of the weights, then the weighted values. -/
noncomputable def head512
    (oq : Fin 2 → ℕ) (hq : ∀ a, oq a + S512x128.size a ≤ S2048x1024.size a)
    (ok : Fin 2 → ℕ) (hk : ∀ a, ok a + S512x128.size a ≤ S2048x1024.size a)
    (os : Fin 2 → ℕ) (hs : ∀ a, os a + S512x1.size a ≤ S2048x1152.size a)
    (on : Fin 2 → ℕ) (hn : ∀ a, on a + S512x128.size a ≤ S2048x1152.size a) (k : BProg F) : BProg F :=
  .op (.load qgB (Rect.unit (s := S2048x1024) oq S512x128.size hq).toLoadRect (View.loadsAt_vmem h_S512x128)) fun q =>
  .op (.load kgB (Rect.unit (s := S2048x1024) ok S512x128.size hk).toLoadRect (View.loadsAt_vmem h_S512x128)) fun kk =>
  .op (.load accB (Rect.unit (s := S2048x1152) os S512x1.size hs).toLoadRect (View.loadsAt_vmem h_S512x1)) fun _ =>
  .op (.store accB (Rect.unit (s := S2048x1152) os S512x1.size hs) (sumPay512 q kk) Finset.univ (View.stores_vmem_bits_univ h_S512x1 rfl) (.inl rfl)) fun _ =>
  .op (.load vgB (Rect.unit (s := S2048x1024) ok S512x128.size hk).toLoadRect (View.loadsAt_vmem h_S512x128)) fun vv =>
  .op (.load accB (Rect.unit (s := S2048x1152) on S512x128.size hn).toLoadRect (View.loadsAt_vmem h_S512x128)) fun _ =>
  .op (.store accB (Rect.unit (s := S2048x1152) on S512x128.size hn) (numPay512 q kk vv) Finset.univ (View.stores_vmem_bits_univ h_S512x128 rfl) (.inl rfl)) fun _ => k

/-- The first four copies, the two signals and the wait on the barrier. -/
noncomputable def startUp (d0 : Dev nD) (k : BProg F) : BProg F :=
  .op (.enqueueDma xA0 (.here stA) (.dma ls0) (View.wordExact_bits rfl) (Memref.isWhole_whole _).wordExact ⟨Or.inl rfl, trivial⟩) fun _ =>
  .op (.enqueueDma xA1024 (.here stB) (.dma ls1) (View.wordExact_bits rfl) (Memref.isWhole_whole _).wordExact ⟨Or.inl rfl, trivial⟩) fun _ =>
  .op (.enqueueDma kA0 (.here st3A) (.dma ls2) (View.wordExact_bits rfl) (Memref.isWhole_whole _).wordExact ⟨Or.inl rfl, trivial⟩) fun _ =>
  .op (.enqueueDma kA512 (.here st3B) (.dma ls3) (View.wordExact_bits rfl) (Memref.isWhole_whole _).wordExact ⟨Or.inl rfl, trivial⟩) fun _ =>
  .op (.semSignal ((⟨k0_dev1 d0, k0_dev1_lt d0⟩ : Dev nD), .tc) bar (1#32 : BitVec 32).toInt) fun _ =>
  .op (.semSignal ((⟨k0_dev2 d0, k0_dev2_lt d0⟩ : Dev nD), .tc) bar (1#32 : BitVec 32).toInt) fun _ =>
  .op (.semWait bar (2#32 : BitVec 32).toInt) fun _ =>
  k

/-- The projections and the grouped blocks: `x`, `Wq`, `K`, `V` and `Wo` staged and cast. -/
noncomputable def stageIn (d0 : Dev nD) (k : BProg F) : BProg F :=
  .op (.waitDma2 ls0 xA0 stA (View.wordExact_bits rfl) (Memref.isWhole_whole _).wordExact) fun _ =>
  castX stA xgB (Memref.isWhole_whole _) ![0, 0] inb_S1024x1024_S64x1024_0_0 ![0, 0] inb_S2048x1024_S64x1024_0_0 packedbf16_S2048x1024_S64x1024_0_0 <|
  castX stA xgB (Memref.isWhole_whole _) ![64, 0] inb_S1024x1024_S64x1024_64_0 ![512, 0] inb_S2048x1024_S64x1024_512_0 packedbf16_S2048x1024_S64x1024_512_0 <|
  castX stA xgB (Memref.isWhole_whole _) ![128, 0] inb_S1024x1024_S64x1024_128_0 ![1024, 0] inb_S2048x1024_S64x1024_1024_0 packedbf16_S2048x1024_S64x1024_1024_0 <|
  castX stA xgB (Memref.isWhole_whole _) ![192, 0] inb_S1024x1024_S64x1024_192_0 ![1536, 0] inb_S2048x1024_S64x1024_1536_0 packedbf16_S2048x1024_S64x1024_1536_0 <|
  castX stA xgB (Memref.isWhole_whole _) ![256, 0] inb_S1024x1024_S64x1024_256_0 ![64, 0] inb_S2048x1024_S64x1024_64_0 packedbf16_S2048x1024_S64x1024_64_0 <|
  castX stA xgB (Memref.isWhole_whole _) ![320, 0] inb_S1024x1024_S64x1024_320_0 ![576, 0] inb_S2048x1024_S64x1024_576_0 packedbf16_S2048x1024_S64x1024_576_0 <|
  castX stA xgB (Memref.isWhole_whole _) ![384, 0] inb_S1024x1024_S64x1024_384_0 ![1088, 0] inb_S2048x1024_S64x1024_1088_0 packedbf16_S2048x1024_S64x1024_1088_0 <|
  castX stA xgB (Memref.isWhole_whole _) ![448, 0] inb_S1024x1024_S64x1024_448_0 ![1600, 0] inb_S2048x1024_S64x1024_1600_0 packedbf16_S2048x1024_S64x1024_1600_0 <|
  castX stA xgB (Memref.isWhole_whole _) ![512, 0] inb_S1024x1024_S64x1024_512_0 ![128, 0] inb_S2048x1024_S64x1024_128_0 packedbf16_S2048x1024_S64x1024_128_0 <|
  castX stA xgB (Memref.isWhole_whole _) ![576, 0] inb_S1024x1024_S64x1024_576_0 ![640, 0] inb_S2048x1024_S64x1024_640_0 packedbf16_S2048x1024_S64x1024_640_0 <|
  castX stA xgB (Memref.isWhole_whole _) ![640, 0] inb_S1024x1024_S64x1024_640_0 ![1152, 0] inb_S2048x1024_S64x1024_1152_0 packedbf16_S2048x1024_S64x1024_1152_0 <|
  castX stA xgB (Memref.isWhole_whole _) ![704, 0] inb_S1024x1024_S64x1024_704_0 ![1664, 0] inb_S2048x1024_S64x1024_1664_0 packedbf16_S2048x1024_S64x1024_1664_0 <|
  castX stA xgB (Memref.isWhole_whole _) ![768, 0] inb_S1024x1024_S64x1024_768_0 ![192, 0] inb_S2048x1024_S64x1024_192_0 packedbf16_S2048x1024_S64x1024_192_0 <|
  castX stA xgB (Memref.isWhole_whole _) ![832, 0] inb_S1024x1024_S64x1024_832_0 ![704, 0] inb_S2048x1024_S64x1024_704_0 packedbf16_S2048x1024_S64x1024_704_0 <|
  castX stA xgB (Memref.isWhole_whole _) ![896, 0] inb_S1024x1024_S64x1024_896_0 ![1216, 0] inb_S2048x1024_S64x1024_1216_0 packedbf16_S2048x1024_S64x1024_1216_0 <|
  castX stA xgB (Memref.isWhole_whole _) ![960, 0] inb_S1024x1024_S64x1024_960_0 ![1728, 0] inb_S2048x1024_S64x1024_1728_0 packedbf16_S2048x1024_S64x1024_1728_0 <|
  .op (.enqueueDma wqA (.here stA) (.dma ls0) (Memref.isWhole_whole _).wordExact (Memref.isWhole_whole _).wordExact ⟨Or.inl rfl, trivial⟩) fun _ =>
  .op (.waitDma2 ls1 xA1024 stB (View.wordExact_bits rfl) (Memref.isWhole_whole _).wordExact) fun _ =>
  castX stB xgB (Memref.isWhole_whole _) ![0, 0] inb_S1024x1024_S64x1024_0_0 ![256, 0] inb_S2048x1024_S64x1024_256_0 packedbf16_S2048x1024_S64x1024_256_0 <|
  castX stB xgB (Memref.isWhole_whole _) ![64, 0] inb_S1024x1024_S64x1024_64_0 ![768, 0] inb_S2048x1024_S64x1024_768_0 packedbf16_S2048x1024_S64x1024_768_0 <|
  castX stB xgB (Memref.isWhole_whole _) ![128, 0] inb_S1024x1024_S64x1024_128_0 ![1280, 0] inb_S2048x1024_S64x1024_1280_0 packedbf16_S2048x1024_S64x1024_1280_0 <|
  castX stB xgB (Memref.isWhole_whole _) ![192, 0] inb_S1024x1024_S64x1024_192_0 ![1792, 0] inb_S2048x1024_S64x1024_1792_0 packedbf16_S2048x1024_S64x1024_1792_0 <|
  castX stB xgB (Memref.isWhole_whole _) ![256, 0] inb_S1024x1024_S64x1024_256_0 ![320, 0] inb_S2048x1024_S64x1024_320_0 packedbf16_S2048x1024_S64x1024_320_0 <|
  castX stB xgB (Memref.isWhole_whole _) ![320, 0] inb_S1024x1024_S64x1024_320_0 ![832, 0] inb_S2048x1024_S64x1024_832_0 packedbf16_S2048x1024_S64x1024_832_0 <|
  castX stB xgB (Memref.isWhole_whole _) ![384, 0] inb_S1024x1024_S64x1024_384_0 ![1344, 0] inb_S2048x1024_S64x1024_1344_0 packedbf16_S2048x1024_S64x1024_1344_0 <|
  castX stB xgB (Memref.isWhole_whole _) ![448, 0] inb_S1024x1024_S64x1024_448_0 ![1856, 0] inb_S2048x1024_S64x1024_1856_0 packedbf16_S2048x1024_S64x1024_1856_0 <|
  castX stB xgB (Memref.isWhole_whole _) ![512, 0] inb_S1024x1024_S64x1024_512_0 ![384, 0] inb_S2048x1024_S64x1024_384_0 packedbf16_S2048x1024_S64x1024_384_0 <|
  castX stB xgB (Memref.isWhole_whole _) ![576, 0] inb_S1024x1024_S64x1024_576_0 ![896, 0] inb_S2048x1024_S64x1024_896_0 packedbf16_S2048x1024_S64x1024_896_0 <|
  castX stB xgB (Memref.isWhole_whole _) ![640, 0] inb_S1024x1024_S64x1024_640_0 ![1408, 0] inb_S2048x1024_S64x1024_1408_0 packedbf16_S2048x1024_S64x1024_1408_0 <|
  castX stB xgB (Memref.isWhole_whole _) ![704, 0] inb_S1024x1024_S64x1024_704_0 ![1920, 0] inb_S2048x1024_S64x1024_1920_0 packedbf16_S2048x1024_S64x1024_1920_0 <|
  castX stB xgB (Memref.isWhole_whole _) ![768, 0] inb_S1024x1024_S64x1024_768_0 ![448, 0] inb_S2048x1024_S64x1024_448_0 packedbf16_S2048x1024_S64x1024_448_0 <|
  castX stB xgB (Memref.isWhole_whole _) ![832, 0] inb_S1024x1024_S64x1024_832_0 ![960, 0] inb_S2048x1024_S64x1024_960_0 packedbf16_S2048x1024_S64x1024_960_0 <|
  castX stB xgB (Memref.isWhole_whole _) ![896, 0] inb_S1024x1024_S64x1024_896_0 ![1472, 0] inb_S2048x1024_S64x1024_1472_0 packedbf16_S2048x1024_S64x1024_1472_0 <|
  castX stB xgB (Memref.isWhole_whole _) ![960, 0] inb_S1024x1024_S64x1024_960_0 ![1984, 0] inb_S2048x1024_S64x1024_1984_0 packedbf16_S2048x1024_S64x1024_1984_0 <|
  .op (.enqueueDma woA (.here stB) (.dma ls1) (Memref.isWhole_whole _).wordExact (Memref.isWhole_whole _).wordExact ⟨Or.inl rfl, trivial⟩) fun _ =>
  .op (.waitDma2 ls2 kA0 st3A (View.wordExact_bits rfl) (Memref.isWhole_whole _).wordExact) fun _ =>
  castKV st3A kgB (Memref.isWhole_whole _) ![0, 0, 0] inb_S512x8x128_S64x8x128_0_0_0 ![0, 0] inb_S2048x1024_S64x1024_0_0 packedbf16_S2048x1024_S64x1024_0_0 <|
  castKV st3A kgB (Memref.isWhole_whole _) ![64, 0, 0] inb_S512x8x128_S64x8x128_64_0_0 ![512, 0] inb_S2048x1024_S64x1024_512_0 packedbf16_S2048x1024_S64x1024_512_0 <|
  castKV st3A kgB (Memref.isWhole_whole _) ![128, 0, 0] inb_S512x8x128_S64x8x128_128_0_0 ![1024, 0] inb_S2048x1024_S64x1024_1024_0 packedbf16_S2048x1024_S64x1024_1024_0 <|
  castKV st3A kgB (Memref.isWhole_whole _) ![192, 0, 0] inb_S512x8x128_S64x8x128_192_0_0 ![1536, 0] inb_S2048x1024_S64x1024_1536_0 packedbf16_S2048x1024_S64x1024_1536_0 <|
  castKV st3A kgB (Memref.isWhole_whole _) ![256, 0, 0] inb_S512x8x128_S64x8x128_256_0_0 ![64, 0] inb_S2048x1024_S64x1024_64_0 packedbf16_S2048x1024_S64x1024_64_0 <|
  castKV st3A kgB (Memref.isWhole_whole _) ![320, 0, 0] inb_S512x8x128_S64x8x128_320_0_0 ![576, 0] inb_S2048x1024_S64x1024_576_0 packedbf16_S2048x1024_S64x1024_576_0 <|
  castKV st3A kgB (Memref.isWhole_whole _) ![384, 0, 0] inb_S512x8x128_S64x8x128_384_0_0 ![1088, 0] inb_S2048x1024_S64x1024_1088_0 packedbf16_S2048x1024_S64x1024_1088_0 <|
  castKV st3A kgB (Memref.isWhole_whole _) ![448, 0, 0] inb_S512x8x128_S64x8x128_448_0_0 ![1600, 0] inb_S2048x1024_S64x1024_1600_0 packedbf16_S2048x1024_S64x1024_1600_0 <|
  .op (.enqueueDma kA1024 (.here st3A) (.dma ls2) (View.wordExact_bits rfl) (Memref.isWhole_whole _).wordExact ⟨Or.inl rfl, trivial⟩) fun _ =>
  .op (.waitDma2 ls3 kA512 st3B (View.wordExact_bits rfl) (Memref.isWhole_whole _).wordExact) fun _ =>
  castKV st3B kgB (Memref.isWhole_whole _) ![0, 0, 0] inb_S512x8x128_S64x8x128_0_0_0 ![128, 0] inb_S2048x1024_S64x1024_128_0 packedbf16_S2048x1024_S64x1024_128_0 <|
  castKV st3B kgB (Memref.isWhole_whole _) ![64, 0, 0] inb_S512x8x128_S64x8x128_64_0_0 ![640, 0] inb_S2048x1024_S64x1024_640_0 packedbf16_S2048x1024_S64x1024_640_0 <|
  castKV st3B kgB (Memref.isWhole_whole _) ![128, 0, 0] inb_S512x8x128_S64x8x128_128_0_0 ![1152, 0] inb_S2048x1024_S64x1024_1152_0 packedbf16_S2048x1024_S64x1024_1152_0 <|
  castKV st3B kgB (Memref.isWhole_whole _) ![192, 0, 0] inb_S512x8x128_S64x8x128_192_0_0 ![1664, 0] inb_S2048x1024_S64x1024_1664_0 packedbf16_S2048x1024_S64x1024_1664_0 <|
  castKV st3B kgB (Memref.isWhole_whole _) ![256, 0, 0] inb_S512x8x128_S64x8x128_256_0_0 ![192, 0] inb_S2048x1024_S64x1024_192_0 packedbf16_S2048x1024_S64x1024_192_0 <|
  castKV st3B kgB (Memref.isWhole_whole _) ![320, 0, 0] inb_S512x8x128_S64x8x128_320_0_0 ![704, 0] inb_S2048x1024_S64x1024_704_0 packedbf16_S2048x1024_S64x1024_704_0 <|
  castKV st3B kgB (Memref.isWhole_whole _) ![384, 0, 0] inb_S512x8x128_S64x8x128_384_0_0 ![1216, 0] inb_S2048x1024_S64x1024_1216_0 packedbf16_S2048x1024_S64x1024_1216_0 <|
  castKV st3B kgB (Memref.isWhole_whole _) ![448, 0, 0] inb_S512x8x128_S64x8x128_448_0_0 ![1728, 0] inb_S2048x1024_S64x1024_1728_0 packedbf16_S2048x1024_S64x1024_1728_0 <|
  .op (.enqueueDma kA1536 (.here st3B) (.dma ls3) (View.wordExact_bits rfl) (Memref.isWhole_whole _).wordExact ⟨Or.inl rfl, trivial⟩) fun _ =>
  .op (.waitDma2 ls0 wqA stA (Memref.isWhole_whole _).wordExact (Memref.isWhole_whole _).wordExact) fun _ =>
  .op (.load stA (Rect.unit (s := S1024x1024) ![0, 0] S1024x1024.size inb_S1024x1024_S1024x1024_0_0).toLoadRect (View.loadsAt_vmem h_S1024x1024)) fun v305 =>
  .op (.load wqB (Rect.unit (s := S1024x1024) ![0, 0] S1024x1024.size inb_S1024x1024_S1024x1024_0_0).toLoadRect (View.loadsAt_vmem h_S1024x1024)) fun v309 =>
  .op (.store wqB (Rect.unit (s := S1024x1024) ![0, 0] S1024x1024.size inb_S1024x1024_S1024x1024_0_0) (k0_pay53 v305) Finset.univ (View.stores_vmem h_S1024x1024 ((Memref.isWhole_whole _).storeExact_slice rfl _ packedbf16_S1024x1024_S1024x1024_0_0) (fun _ => rfl)) (.inl rfl)) fun _ =>
  .op (.load xgB (Rect.unit (s := S2048x1024) ![0, 0] S2048x1024.size inb_S2048x1024_S2048x1024_0_0).toLoadRect (View.loadsAt_vmem h_S2048x1024)) fun v312 =>
  .op (.load wqB (Rect.unit (s := S1024x1024) ![0, 0] S1024x1024.size inb_S1024x1024_S1024x1024_0_0).toLoadRect (View.loadsAt_vmem h_S1024x1024)) fun v313 =>
  .op (.load qgB (Rect.unit (s := S2048x1024) ![0, 0] S2048x1024.size inb_S2048x1024_S2048x1024_0_0).toLoadRect (View.loadsAt_vmem h_S2048x1024)) fun v316 =>
  .op (.store qgB (Rect.unit (s := S2048x1024) ![0, 0] S2048x1024.size inb_S2048x1024_S2048x1024_0_0) (k0_pay54 v312 v313) Finset.univ (View.stores_vmem h_S2048x1024 ((Memref.isWhole_whole _).storeExact_slice rfl _ packedbf16_S2048x1024_S2048x1024_0_0) (fun _ => rfl)) (.inl rfl)) fun _ =>
  .op (.waitDma2 ls2 kA1024 st3A (View.wordExact_bits rfl) (Memref.isWhole_whole _).wordExact) fun _ =>
  castKV st3A kgB (Memref.isWhole_whole _) ![0, 0, 0] inb_S512x8x128_S64x8x128_0_0_0 ![256, 0] inb_S2048x1024_S64x1024_256_0 packedbf16_S2048x1024_S64x1024_256_0 <|
  castKV st3A kgB (Memref.isWhole_whole _) ![64, 0, 0] inb_S512x8x128_S64x8x128_64_0_0 ![768, 0] inb_S2048x1024_S64x1024_768_0 packedbf16_S2048x1024_S64x1024_768_0 <|
  castKV st3A kgB (Memref.isWhole_whole _) ![128, 0, 0] inb_S512x8x128_S64x8x128_128_0_0 ![1280, 0] inb_S2048x1024_S64x1024_1280_0 packedbf16_S2048x1024_S64x1024_1280_0 <|
  castKV st3A kgB (Memref.isWhole_whole _) ![192, 0, 0] inb_S512x8x128_S64x8x128_192_0_0 ![1792, 0] inb_S2048x1024_S64x1024_1792_0 packedbf16_S2048x1024_S64x1024_1792_0 <|
  castKV st3A kgB (Memref.isWhole_whole _) ![256, 0, 0] inb_S512x8x128_S64x8x128_256_0_0 ![320, 0] inb_S2048x1024_S64x1024_320_0 packedbf16_S2048x1024_S64x1024_320_0 <|
  castKV st3A kgB (Memref.isWhole_whole _) ![320, 0, 0] inb_S512x8x128_S64x8x128_320_0_0 ![832, 0] inb_S2048x1024_S64x1024_832_0 packedbf16_S2048x1024_S64x1024_832_0 <|
  castKV st3A kgB (Memref.isWhole_whole _) ![384, 0, 0] inb_S512x8x128_S64x8x128_384_0_0 ![1344, 0] inb_S2048x1024_S64x1024_1344_0 packedbf16_S2048x1024_S64x1024_1344_0 <|
  castKV st3A kgB (Memref.isWhole_whole _) ![448, 0, 0] inb_S512x8x128_S64x8x128_448_0_0 ![1856, 0] inb_S2048x1024_S64x1024_1856_0 packedbf16_S2048x1024_S64x1024_1856_0 <|
  .op (.enqueueDma vA0 (.here st3A) (.dma ls2) (View.wordExact_bits rfl) (Memref.isWhole_whole _).wordExact ⟨Or.inl rfl, trivial⟩) fun _ =>
  .op (.waitDma2 ls3 kA1536 st3B (View.wordExact_bits rfl) (Memref.isWhole_whole _).wordExact) fun _ =>
  castKV st3B kgB (Memref.isWhole_whole _) ![0, 0, 0] inb_S512x8x128_S64x8x128_0_0_0 ![384, 0] inb_S2048x1024_S64x1024_384_0 packedbf16_S2048x1024_S64x1024_384_0 <|
  castKV st3B kgB (Memref.isWhole_whole _) ![64, 0, 0] inb_S512x8x128_S64x8x128_64_0_0 ![896, 0] inb_S2048x1024_S64x1024_896_0 packedbf16_S2048x1024_S64x1024_896_0 <|
  castKV st3B kgB (Memref.isWhole_whole _) ![128, 0, 0] inb_S512x8x128_S64x8x128_128_0_0 ![1408, 0] inb_S2048x1024_S64x1024_1408_0 packedbf16_S2048x1024_S64x1024_1408_0 <|
  castKV st3B kgB (Memref.isWhole_whole _) ![192, 0, 0] inb_S512x8x128_S64x8x128_192_0_0 ![1920, 0] inb_S2048x1024_S64x1024_1920_0 packedbf16_S2048x1024_S64x1024_1920_0 <|
  castKV st3B kgB (Memref.isWhole_whole _) ![256, 0, 0] inb_S512x8x128_S64x8x128_256_0_0 ![448, 0] inb_S2048x1024_S64x1024_448_0 packedbf16_S2048x1024_S64x1024_448_0 <|
  castKV st3B kgB (Memref.isWhole_whole _) ![320, 0, 0] inb_S512x8x128_S64x8x128_320_0_0 ![960, 0] inb_S2048x1024_S64x1024_960_0 packedbf16_S2048x1024_S64x1024_960_0 <|
  castKV st3B kgB (Memref.isWhole_whole _) ![384, 0, 0] inb_S512x8x128_S64x8x128_384_0_0 ![1472, 0] inb_S2048x1024_S64x1024_1472_0 packedbf16_S2048x1024_S64x1024_1472_0 <|
  castKV st3B kgB (Memref.isWhole_whole _) ![448, 0, 0] inb_S512x8x128_S64x8x128_448_0_0 ![1984, 0] inb_S2048x1024_S64x1024_1984_0 packedbf16_S2048x1024_S64x1024_1984_0 <|
  .op (.enqueueDma vA512 (.here st3B) (.dma ls3) (View.wordExact_bits rfl) (Memref.isWhole_whole _).wordExact ⟨Or.inl rfl, trivial⟩) fun _ =>
  .op (.waitDma2 ls2 vA0 st3A (View.wordExact_bits rfl) (Memref.isWhole_whole _).wordExact) fun _ =>
  castKV st3A vgB (Memref.isWhole_whole _) ![0, 0, 0] inb_S512x8x128_S64x8x128_0_0_0 ![0, 0] inb_S2048x1024_S64x1024_0_0 packedbf16_S2048x1024_S64x1024_0_0 <|
  castKV st3A vgB (Memref.isWhole_whole _) ![64, 0, 0] inb_S512x8x128_S64x8x128_64_0_0 ![512, 0] inb_S2048x1024_S64x1024_512_0 packedbf16_S2048x1024_S64x1024_512_0 <|
  castKV st3A vgB (Memref.isWhole_whole _) ![128, 0, 0] inb_S512x8x128_S64x8x128_128_0_0 ![1024, 0] inb_S2048x1024_S64x1024_1024_0 packedbf16_S2048x1024_S64x1024_1024_0 <|
  castKV st3A vgB (Memref.isWhole_whole _) ![192, 0, 0] inb_S512x8x128_S64x8x128_192_0_0 ![1536, 0] inb_S2048x1024_S64x1024_1536_0 packedbf16_S2048x1024_S64x1024_1536_0 <|
  castKV st3A vgB (Memref.isWhole_whole _) ![256, 0, 0] inb_S512x8x128_S64x8x128_256_0_0 ![64, 0] inb_S2048x1024_S64x1024_64_0 packedbf16_S2048x1024_S64x1024_64_0 <|
  castKV st3A vgB (Memref.isWhole_whole _) ![320, 0, 0] inb_S512x8x128_S64x8x128_320_0_0 ![576, 0] inb_S2048x1024_S64x1024_576_0 packedbf16_S2048x1024_S64x1024_576_0 <|
  castKV st3A vgB (Memref.isWhole_whole _) ![384, 0, 0] inb_S512x8x128_S64x8x128_384_0_0 ![1088, 0] inb_S2048x1024_S64x1024_1088_0 packedbf16_S2048x1024_S64x1024_1088_0 <|
  castKV st3A vgB (Memref.isWhole_whole _) ![448, 0, 0] inb_S512x8x128_S64x8x128_448_0_0 ![1600, 0] inb_S2048x1024_S64x1024_1600_0 packedbf16_S2048x1024_S64x1024_1600_0 <|
  .op (.enqueueDma vA1024 (.here st3A) (.dma ls2) (View.wordExact_bits rfl) (Memref.isWhole_whole _).wordExact ⟨Or.inl rfl, trivial⟩) fun _ =>
  .op (.waitDma2 ls3 vA512 st3B (View.wordExact_bits rfl) (Memref.isWhole_whole _).wordExact) fun _ =>
  castKV st3B vgB (Memref.isWhole_whole _) ![0, 0, 0] inb_S512x8x128_S64x8x128_0_0_0 ![128, 0] inb_S2048x1024_S64x1024_128_0 packedbf16_S2048x1024_S64x1024_128_0 <|
  castKV st3B vgB (Memref.isWhole_whole _) ![64, 0, 0] inb_S512x8x128_S64x8x128_64_0_0 ![640, 0] inb_S2048x1024_S64x1024_640_0 packedbf16_S2048x1024_S64x1024_640_0 <|
  castKV st3B vgB (Memref.isWhole_whole _) ![128, 0, 0] inb_S512x8x128_S64x8x128_128_0_0 ![1152, 0] inb_S2048x1024_S64x1024_1152_0 packedbf16_S2048x1024_S64x1024_1152_0 <|
  castKV st3B vgB (Memref.isWhole_whole _) ![192, 0, 0] inb_S512x8x128_S64x8x128_192_0_0 ![1664, 0] inb_S2048x1024_S64x1024_1664_0 packedbf16_S2048x1024_S64x1024_1664_0 <|
  castKV st3B vgB (Memref.isWhole_whole _) ![256, 0, 0] inb_S512x8x128_S64x8x128_256_0_0 ![192, 0] inb_S2048x1024_S64x1024_192_0 packedbf16_S2048x1024_S64x1024_192_0 <|
  castKV st3B vgB (Memref.isWhole_whole _) ![320, 0, 0] inb_S512x8x128_S64x8x128_320_0_0 ![704, 0] inb_S2048x1024_S64x1024_704_0 packedbf16_S2048x1024_S64x1024_704_0 <|
  castKV st3B vgB (Memref.isWhole_whole _) ![384, 0, 0] inb_S512x8x128_S64x8x128_384_0_0 ![1216, 0] inb_S2048x1024_S64x1024_1216_0 packedbf16_S2048x1024_S64x1024_1216_0 <|
  castKV st3B vgB (Memref.isWhole_whole _) ![448, 0, 0] inb_S512x8x128_S64x8x128_448_0_0 ![1728, 0] inb_S2048x1024_S64x1024_1728_0 packedbf16_S2048x1024_S64x1024_1728_0 <|
  .op (.enqueueDma vA1536 (.here st3B) (.dma ls3) (View.wordExact_bits rfl) (Memref.isWhole_whole _).wordExact ⟨Or.inl rfl, trivial⟩) fun _ =>
  .op (.waitDma2 ls1 woA stB (Memref.isWhole_whole _).wordExact (Memref.isWhole_whole _).wordExact) fun _ =>
  .op (.load stB (Rect.unit (s := S1024x1024) ![0, 0] S1024x1024.size inb_S1024x1024_S1024x1024_0_0).toLoadRect (View.loadsAt_vmem h_S1024x1024)) fun v537 =>
  .op (.load woB (Rect.unit (s := S1024x1024) ![0, 0] S1024x1024.size inb_S1024x1024_S1024x1024_0_0).toLoadRect (View.loadsAt_vmem h_S1024x1024)) fun v539 =>
  .op (.store woB (Rect.unit (s := S1024x1024) ![0, 0] S1024x1024.size inb_S1024x1024_S1024x1024_0_0) (k0_pay89 v537) Finset.univ (View.stores_vmem h_S1024x1024 ((Memref.isWhole_whole _).storeExact_slice rfl _ packedbf16_S1024x1024_S1024x1024_0_0) (fun _ => rfl)) (.inl rfl)) fun _ =>
  .op (.waitDma2 ls2 vA1024 st3A (View.wordExact_bits rfl) (Memref.isWhole_whole _).wordExact) fun _ =>
  castKV st3A vgB (Memref.isWhole_whole _) ![0, 0, 0] inb_S512x8x128_S64x8x128_0_0_0 ![256, 0] inb_S2048x1024_S64x1024_256_0 packedbf16_S2048x1024_S64x1024_256_0 <|
  castKV st3A vgB (Memref.isWhole_whole _) ![64, 0, 0] inb_S512x8x128_S64x8x128_64_0_0 ![768, 0] inb_S2048x1024_S64x1024_768_0 packedbf16_S2048x1024_S64x1024_768_0 <|
  castKV st3A vgB (Memref.isWhole_whole _) ![128, 0, 0] inb_S512x8x128_S64x8x128_128_0_0 ![1280, 0] inb_S2048x1024_S64x1024_1280_0 packedbf16_S2048x1024_S64x1024_1280_0 <|
  castKV st3A vgB (Memref.isWhole_whole _) ![192, 0, 0] inb_S512x8x128_S64x8x128_192_0_0 ![1792, 0] inb_S2048x1024_S64x1024_1792_0 packedbf16_S2048x1024_S64x1024_1792_0 <|
  castKV st3A vgB (Memref.isWhole_whole _) ![256, 0, 0] inb_S512x8x128_S64x8x128_256_0_0 ![320, 0] inb_S2048x1024_S64x1024_320_0 packedbf16_S2048x1024_S64x1024_320_0 <|
  castKV st3A vgB (Memref.isWhole_whole _) ![320, 0, 0] inb_S512x8x128_S64x8x128_320_0_0 ![832, 0] inb_S2048x1024_S64x1024_832_0 packedbf16_S2048x1024_S64x1024_832_0 <|
  castKV st3A vgB (Memref.isWhole_whole _) ![384, 0, 0] inb_S512x8x128_S64x8x128_384_0_0 ![1344, 0] inb_S2048x1024_S64x1024_1344_0 packedbf16_S2048x1024_S64x1024_1344_0 <|
  castKV st3A vgB (Memref.isWhole_whole _) ![448, 0, 0] inb_S512x8x128_S64x8x128_448_0_0 ![1856, 0] inb_S2048x1024_S64x1024_1856_0 packedbf16_S2048x1024_S64x1024_1856_0 <|
  .op (.waitDma2 ls3 vA1536 st3B (View.wordExact_bits rfl) (Memref.isWhole_whole _).wordExact) fun _ =>
  castKV st3B vgB (Memref.isWhole_whole _) ![0, 0, 0] inb_S512x8x128_S64x8x128_0_0_0 ![384, 0] inb_S2048x1024_S64x1024_384_0 packedbf16_S2048x1024_S64x1024_384_0 <|
  castKV st3B vgB (Memref.isWhole_whole _) ![64, 0, 0] inb_S512x8x128_S64x8x128_64_0_0 ![896, 0] inb_S2048x1024_S64x1024_896_0 packedbf16_S2048x1024_S64x1024_896_0 <|
  castKV st3B vgB (Memref.isWhole_whole _) ![128, 0, 0] inb_S512x8x128_S64x8x128_128_0_0 ![1408, 0] inb_S2048x1024_S64x1024_1408_0 packedbf16_S2048x1024_S64x1024_1408_0 <|
  castKV st3B vgB (Memref.isWhole_whole _) ![192, 0, 0] inb_S512x8x128_S64x8x128_192_0_0 ![1920, 0] inb_S2048x1024_S64x1024_1920_0 packedbf16_S2048x1024_S64x1024_1920_0 <|
  castKV st3B vgB (Memref.isWhole_whole _) ![256, 0, 0] inb_S512x8x128_S64x8x128_256_0_0 ![448, 0] inb_S2048x1024_S64x1024_448_0 packedbf16_S2048x1024_S64x1024_448_0 <|
  castKV st3B vgB (Memref.isWhole_whole _) ![320, 0, 0] inb_S512x8x128_S64x8x128_320_0_0 ![960, 0] inb_S2048x1024_S64x1024_960_0 packedbf16_S2048x1024_S64x1024_960_0 <|
  castKV st3B vgB (Memref.isWhole_whole _) ![384, 0, 0] inb_S512x8x128_S64x8x128_384_0_0 ![1472, 0] inb_S2048x1024_S64x1024_1472_0 packedbf16_S2048x1024_S64x1024_1472_0 <|
  castKV st3B vgB (Memref.isWhole_whole _) ![448, 0, 0] inb_S512x8x128_S64x8x128_448_0_0 ![1984, 0] inb_S2048x1024_S64x1024_1984_0 packedbf16_S2048x1024_S64x1024_1984_0 <|
  k

/-- Eight heads of one chunk. -/
noncomputable def attn0 (d0 : Dev nD) (k : BProg F) : BProg F :=
  head256 (k0_off1 d0 0#32) (k0_off1_inb d0 0) (k0_off2 d0) (k0_off2_inb d0) (k0_off3 d0 0#32) (k0_off3_inb d0 0) (k0_off4 d0 0#32) (k0_off4_inb d0 0) <|
  head256 (k0_off5 d0 0#32) (k0_off5_inb d0 0) (k0_off6 d0) (k0_off6_inb d0) (k0_off7 d0 0#32) (k0_off7_inb d0 0) (k0_off8 d0 0#32) (k0_off8_inb d0 0) <|
  head256 (k0_off9 d0 0#32) (k0_off9_inb d0 0) (k0_off10 d0) (k0_off10_inb d0) (k0_off11 d0 0#32) (k0_off11_inb d0 0) (k0_off12 d0 0#32) (k0_off12_inb d0 0) <|
  head256 (k0_off13 d0 0#32) (k0_off13_inb d0 0) (k0_off14 d0) (k0_off14_inb d0) (k0_off15 d0 0#32) (k0_off15_inb d0 0) (k0_off16 d0 0#32) (k0_off16_inb d0 0) <|
  head256 (k0_off17 d0 0#32) (k0_off17_inb d0 0) (k0_off18 d0) (k0_off18_inb d0) (k0_off19 d0 0#32) (k0_off19_inb d0 0) (k0_off20 d0 0#32) (k0_off20_inb d0 0) <|
  head256 (k0_off21 d0 0#32) (k0_off21_inb d0 0) (k0_off22 d0) (k0_off22_inb d0) (k0_off23 d0 0#32) (k0_off23_inb d0 0) (k0_off24 d0 0#32) (k0_off24_inb d0 0) <|
  head256 (k0_off25 d0 0#32) (k0_off25_inb d0 0) (k0_off26 d0) (k0_off26_inb d0) (k0_off27 d0 0#32) (k0_off27_inb d0 0) (k0_off28 d0 0#32) (k0_off28_inb d0 0) <|
  head256 (k0_off29 d0 0#32) (k0_off29_inb d0 0) (k0_off30 d0) (k0_off30_inb d0) (k0_off31 d0 0#32) (k0_off31_inb d0 0) (k0_off32 d0 0#32) (k0_off32_inb d0 0) <|
  k

/-- Eight heads of one chunk. -/
noncomputable def attn1 (d0 : Dev nD) (k : BProg F) : BProg F :=
  head256 (k0_off33 d0 256#32) (k0_off33_inb d0 1) (k0_off34 d0 2#32) (k0_off34_inb d0 1) (k0_off35 d0 256#32) (k0_off35_inb d0 1) (k0_off36 d0 256#32) (k0_off36_inb d0 1) <|
  head256 (k0_off37 d0 256#32) (k0_off37_inb d0 1) (k0_off38 d0 2#32) (k0_off38_inb d0 1) (k0_off39 d0 256#32) (k0_off39_inb d0 1) (k0_off40 d0 256#32) (k0_off40_inb d0 1) <|
  head256 (k0_off41 d0 256#32) (k0_off41_inb d0 1) (k0_off42 d0 2#32) (k0_off42_inb d0 1) (k0_off43 d0 256#32) (k0_off43_inb d0 1) (k0_off44 d0 256#32) (k0_off44_inb d0 1) <|
  head256 (k0_off45 d0 256#32) (k0_off45_inb d0 1) (k0_off46 d0 2#32) (k0_off46_inb d0 1) (k0_off47 d0 256#32) (k0_off47_inb d0 1) (k0_off48 d0 256#32) (k0_off48_inb d0 1) <|
  head256 (k0_off49 d0 256#32) (k0_off49_inb d0 1) (k0_off50 d0 2#32) (k0_off50_inb d0 1) (k0_off51 d0 256#32) (k0_off51_inb d0 1) (k0_off52 d0 256#32) (k0_off52_inb d0 1) <|
  head256 (k0_off53 d0 256#32) (k0_off53_inb d0 1) (k0_off54 d0 2#32) (k0_off54_inb d0 1) (k0_off55 d0 256#32) (k0_off55_inb d0 1) (k0_off56 d0 256#32) (k0_off56_inb d0 1) <|
  head256 (k0_off57 d0 256#32) (k0_off57_inb d0 1) (k0_off58 d0 2#32) (k0_off58_inb d0 1) (k0_off59 d0 256#32) (k0_off59_inb d0 1) (k0_off60 d0 256#32) (k0_off60_inb d0 1) <|
  head256 (k0_off61 d0 256#32) (k0_off61_inb d0 1) (k0_off62 d0 2#32) (k0_off62_inb d0 1) (k0_off63 d0 256#32) (k0_off63_inb d0 1) (k0_off64 d0 256#32) (k0_off64_inb d0 1) <|
  k

/-- The first hop of both rings starts. -/
noncomputable def send0 (d0 : Dev nD) (k : BProg F) : BProg F :=
  .op (.load accB (Rect.unit (s := S2048x1152) (k0_off65 d0) S256x1152.size (k0_off65_inb d0)).toLoadRect (View.loadsAt_vmem h_S256x1152)) fun v958 =>
  .op (.load sbrB (Rect.unit (s := S2x256x1152) ![0, 0, 0] S1x256x1152.size inb_S2x256x1152_S1x256x1152_0_0_0).toLoadRect (View.loadsAt_vmem h_S1x256x1152)) fun v960 =>
  .op (.store sbrB (Rect.unit (s := S2x256x1152) ![0, 0, 0] S1x256x1152.size inb_S2x256x1152_S1x256x1152_0_0_0) (sendPay v958) Finset.univ (View.stores_vmem h_S1x256x1152 ((Memref.isWhole_whole _).storeExact_slice rfl _ packedbf16_S2x256x1152_S1x256x1152_0_0_0) (fun _ => rfl)) (.inl rfl)) fun _ =>
  .op (.load accB (Rect.unit (s := S2048x1152) (k0_off66 d0 2#32 256#32) S256x1152.size (k0_off66_inb d0 0)).toLoadRect (View.loadsAt_vmem h_S256x1152)) fun v968 =>
  .op (.load sblB (Rect.unit (s := S2x256x1152) ![0, 0, 0] S1x256x1152.size inb_S2x256x1152_S1x256x1152_0_0_0).toLoadRect (View.loadsAt_vmem h_S1x256x1152)) fun v970 =>
  .op (.store sblB (Rect.unit (s := S2x256x1152) ![0, 0, 0] S1x256x1152.size inb_S2x256x1152_S1x256x1152_0_0_0) (sendPay v968) Finset.univ (View.stores_vmem h_S1x256x1152 ((Memref.isWhole_whole _).storeExact_slice rfl _ packedbf16_S2x256x1152_S1x256x1152_0_0_0) (fun _ => rfl)) (.inl rfl)) fun _ =>
  .op (.enqueueDma sbr0 (.remote (Dev.tc (⟨k0_dev3 d0, k0_dev3_lt d0⟩ : Dev nD)) rbr0 (.dma ss0)) (.dma rs0) (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _) ⟨⟨rfl, Or.inl rfl⟩, trivial⟩) fun _ =>
  .op (.enqueueDma sbl0 (.remote (Dev.tc (⟨k0_dev4 d0, k0_dev4_lt d0⟩ : Dev nD)) rbl0 (.dma ss2)) (.dma rs2) (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _) ⟨⟨rfl, Or.inl rfl⟩, trivial⟩) fun _ =>
  k

/-- Eight heads of one chunk. -/
noncomputable def attn2 (d0 : Dev nD) (k : BProg F) : BProg F :=
  head256 (k0_off1 d0 256#32) (k0_off1_inb d0 1) (k0_off2 d0) (k0_off2_inb d0) (k0_off3 d0 256#32) (k0_off3_inb d0 1) (k0_off4 d0 256#32) (k0_off4_inb d0 1) <|
  head256 (k0_off5 d0 256#32) (k0_off5_inb d0 1) (k0_off6 d0) (k0_off6_inb d0) (k0_off7 d0 256#32) (k0_off7_inb d0 1) (k0_off8 d0 256#32) (k0_off8_inb d0 1) <|
  head256 (k0_off9 d0 256#32) (k0_off9_inb d0 1) (k0_off10 d0) (k0_off10_inb d0) (k0_off11 d0 256#32) (k0_off11_inb d0 1) (k0_off12 d0 256#32) (k0_off12_inb d0 1) <|
  head256 (k0_off13 d0 256#32) (k0_off13_inb d0 1) (k0_off14 d0) (k0_off14_inb d0) (k0_off15 d0 256#32) (k0_off15_inb d0 1) (k0_off16 d0 256#32) (k0_off16_inb d0 1) <|
  head256 (k0_off17 d0 256#32) (k0_off17_inb d0 1) (k0_off18 d0) (k0_off18_inb d0) (k0_off19 d0 256#32) (k0_off19_inb d0 1) (k0_off20 d0 256#32) (k0_off20_inb d0 1) <|
  head256 (k0_off21 d0 256#32) (k0_off21_inb d0 1) (k0_off22 d0) (k0_off22_inb d0) (k0_off23 d0 256#32) (k0_off23_inb d0 1) (k0_off24 d0 256#32) (k0_off24_inb d0 1) <|
  head256 (k0_off25 d0 256#32) (k0_off25_inb d0 1) (k0_off26 d0) (k0_off26_inb d0) (k0_off27 d0 256#32) (k0_off27_inb d0 1) (k0_off28 d0 256#32) (k0_off28_inb d0 1) <|
  head256 (k0_off29 d0 256#32) (k0_off29_inb d0 1) (k0_off30 d0) (k0_off30_inb d0) (k0_off31 d0 256#32) (k0_off31_inb d0 1) (k0_off32 d0 256#32) (k0_off32_inb d0 1) <|
  k

/-- Eight heads of one chunk. -/
noncomputable def attn3 (d0 : Dev nD) (k : BProg F) : BProg F :=
  head256 (k0_off33 d0 0#32) (k0_off33_inb d0 0) (k0_off34 d0 2#32) (k0_off34_inb d0 1) (k0_off35 d0 0#32) (k0_off35_inb d0 0) (k0_off36 d0 0#32) (k0_off36_inb d0 0) <|
  head256 (k0_off37 d0 0#32) (k0_off37_inb d0 0) (k0_off38 d0 2#32) (k0_off38_inb d0 1) (k0_off39 d0 0#32) (k0_off39_inb d0 0) (k0_off40 d0 0#32) (k0_off40_inb d0 0) <|
  head256 (k0_off41 d0 0#32) (k0_off41_inb d0 0) (k0_off42 d0 2#32) (k0_off42_inb d0 1) (k0_off43 d0 0#32) (k0_off43_inb d0 0) (k0_off44 d0 0#32) (k0_off44_inb d0 0) <|
  head256 (k0_off45 d0 0#32) (k0_off45_inb d0 0) (k0_off46 d0 2#32) (k0_off46_inb d0 1) (k0_off47 d0 0#32) (k0_off47_inb d0 0) (k0_off48 d0 0#32) (k0_off48_inb d0 0) <|
  head256 (k0_off49 d0 0#32) (k0_off49_inb d0 0) (k0_off50 d0 2#32) (k0_off50_inb d0 1) (k0_off51 d0 0#32) (k0_off51_inb d0 0) (k0_off52 d0 0#32) (k0_off52_inb d0 0) <|
  head256 (k0_off53 d0 0#32) (k0_off53_inb d0 0) (k0_off54 d0 2#32) (k0_off54_inb d0 1) (k0_off55 d0 0#32) (k0_off55_inb d0 0) (k0_off56 d0 0#32) (k0_off56_inb d0 0) <|
  head256 (k0_off57 d0 0#32) (k0_off57_inb d0 0) (k0_off58 d0 2#32) (k0_off58_inb d0 1) (k0_off59 d0 0#32) (k0_off59_inb d0 0) (k0_off60 d0 0#32) (k0_off60_inb d0 0) <|
  head256 (k0_off61 d0 0#32) (k0_off61_inb d0 0) (k0_off62 d0 2#32) (k0_off62_inb d0 1) (k0_off63 d0 0#32) (k0_off63_inb d0 0) (k0_off64 d0 0#32) (k0_off64_inb d0 0) <|
  k

/-- Eight heads of one chunk. -/
noncomputable def attn4 (d0 : Dev nD) (k : BProg F) : BProg F :=
  head512 (k0_off67 d0 3#32) (k0_off67_inb d0 1) (k0_off34 d0 3#32) (k0_off34_inb d0 2) (k0_off68 d0 3#32) (k0_off68_inb d0 1) (k0_off69 d0 3#32) (k0_off69_inb d0 1) <|
  head512 (k0_off70 d0 3#32) (k0_off70_inb d0 1) (k0_off38 d0 3#32) (k0_off38_inb d0 2) (k0_off71 d0 3#32) (k0_off71_inb d0 1) (k0_off72 d0 3#32) (k0_off72_inb d0 1) <|
  head512 (k0_off73 d0 3#32) (k0_off73_inb d0 1) (k0_off42 d0 3#32) (k0_off42_inb d0 2) (k0_off74 d0 3#32) (k0_off74_inb d0 1) (k0_off75 d0 3#32) (k0_off75_inb d0 1) <|
  head512 (k0_off76 d0 3#32) (k0_off76_inb d0 1) (k0_off46 d0 3#32) (k0_off46_inb d0 2) (k0_off77 d0 3#32) (k0_off77_inb d0 1) (k0_off78 d0 3#32) (k0_off78_inb d0 1) <|
  head512 (k0_off79 d0 3#32) (k0_off79_inb d0 1) (k0_off50 d0 3#32) (k0_off50_inb d0 2) (k0_off80 d0 3#32) (k0_off80_inb d0 1) (k0_off81 d0 3#32) (k0_off81_inb d0 1) <|
  head512 (k0_off82 d0 3#32) (k0_off82_inb d0 1) (k0_off54 d0 3#32) (k0_off54_inb d0 2) (k0_off83 d0 3#32) (k0_off83_inb d0 1) (k0_off84 d0 3#32) (k0_off84_inb d0 1) <|
  head512 (k0_off85 d0 3#32) (k0_off85_inb d0 1) (k0_off58 d0 3#32) (k0_off58_inb d0 2) (k0_off86 d0 3#32) (k0_off86_inb d0 1) (k0_off87 d0 3#32) (k0_off87_inb d0 1) <|
  head512 (k0_off88 d0 3#32) (k0_off88_inb d0 1) (k0_off62 d0 3#32) (k0_off62_inb d0 2) (k0_off89 d0 3#32) (k0_off89_inb d0 1) (k0_off90 d0 3#32) (k0_off90_inb d0 1) <|
  k

/-- The first hop lands, the partial sums are added, the second hop starts. -/
noncomputable def hop1 (d0 : Dev nD) (k : BProg F) : BProg F :=
  .op (.waitDma2 ss0 rbr0 sbr0 (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _)) fun _ =>
  .op (.waitDma2 rs0 sbr0 rbr0 (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _)) fun _ =>
  .op (.waitDma2 ss2 rbl0 sbl0 (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _)) fun _ =>
  .op (.waitDma2 rs2 sbl0 rbl0 (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _)) fun _ =>
  .op (.load rbrB (Rect.unit (s := S2x256x1152) ![0, 0, 0] S1x256x1152.size inb_S2x256x1152_S1x256x1152_0_0_0).toLoadRect (View.loadsAt_vmem h_S1x256x1152)) fun v1492 =>
  .op (.load accB (Rect.unit (s := S2048x1152) (k0_off91 d0 3#32) S256x1152.size (k0_off91_inb d0 1)).toLoadRect (View.loadsAt_vmem h_S256x1152)) fun v1497 =>
  .op (.load sbrB (Rect.unit (s := S2x256x1152) ![1, 0, 0] S1x256x1152.size inb_S2x256x1152_S1x256x1152_1_0_0).toLoadRect (View.loadsAt_vmem h_S1x256x1152)) fun v1500 =>
  .op (.store sbrB (Rect.unit (s := S2x256x1152) ![1, 0, 0] S1x256x1152.size inb_S2x256x1152_S1x256x1152_1_0_0) (rsPay v1492 v1497) Finset.univ (View.stores_vmem h_S1x256x1152 ((Memref.isWhole_whole _).storeExact_slice rfl _ packedbf16_S2x256x1152_S1x256x1152_1_0_0) (fun _ => rfl)) (.inl rfl)) fun _ =>
  .op (.load rblB (Rect.unit (s := S2x256x1152) ![0, 0, 0] S1x256x1152.size inb_S2x256x1152_S1x256x1152_0_0_0).toLoadRect (View.loadsAt_vmem h_S1x256x1152)) fun v1503 =>
  .op (.load accB (Rect.unit (s := S2048x1152) (k0_off66 d0 3#32 256#32) S256x1152.size (k0_off66_inb d0 1)).toLoadRect (View.loadsAt_vmem h_S256x1152)) fun v1509 =>
  .op (.load sblB (Rect.unit (s := S2x256x1152) ![1, 0, 0] S1x256x1152.size inb_S2x256x1152_S1x256x1152_1_0_0).toLoadRect (View.loadsAt_vmem h_S1x256x1152)) fun v1512 =>
  .op (.store sblB (Rect.unit (s := S2x256x1152) ![1, 0, 0] S1x256x1152.size inb_S2x256x1152_S1x256x1152_1_0_0) (rsPay v1503 v1509) Finset.univ (View.stores_vmem h_S1x256x1152 ((Memref.isWhole_whole _).storeExact_slice rfl _ packedbf16_S2x256x1152_S1x256x1152_1_0_0) (fun _ => rfl)) (.inl rfl)) fun _ =>
  .op (.enqueueDma sbr1 (.remote (Dev.tc (⟨k0_dev5 d0, k0_dev5_lt d0⟩ : Dev nD)) rbr1 (.dma ss1)) (.dma rs1) (((Memref.isWhole_whole _).wordExact_slice rfl _ wordsbf16_S2x256x1152_S1x256x1152_1_0_0).reshape _ _) (((Memref.isWhole_whole _).wordExact_slice rfl _ wordsbf16_S2x256x1152_S1x256x1152_1_0_0).reshape _ _) ⟨⟨rfl, Or.inl rfl⟩, trivial⟩) fun _ =>
  .op (.enqueueDma sbl1 (.remote (Dev.tc (⟨k0_dev6 d0, k0_dev6_lt d0⟩ : Dev nD)) rbl1 (.dma ss3)) (.dma rs3) (((Memref.isWhole_whole _).wordExact_slice rfl _ wordsbf16_S2x256x1152_S1x256x1152_1_0_0).reshape _ _) (((Memref.isWhole_whole _).wordExact_slice rfl _ wordsbf16_S2x256x1152_S1x256x1152_1_0_0).reshape _ _) ⟨⟨rfl, Or.inl rfl⟩, trivial⟩) fun _ =>
  k

/-- Eight heads of one chunk. -/
noncomputable def attn5 (d0 : Dev nD) (k : BProg F) : BProg F :=
  head512 (k0_off67 d0 1#32) (k0_off67_inb d0 0) (k0_off34 d0 1#32) (k0_off34_inb d0 0) (k0_off68 d0 1#32) (k0_off68_inb d0 0) (k0_off69 d0 1#32) (k0_off69_inb d0 0) <|
  head512 (k0_off70 d0 1#32) (k0_off70_inb d0 0) (k0_off38 d0 1#32) (k0_off38_inb d0 0) (k0_off71 d0 1#32) (k0_off71_inb d0 0) (k0_off72 d0 1#32) (k0_off72_inb d0 0) <|
  head512 (k0_off73 d0 1#32) (k0_off73_inb d0 0) (k0_off42 d0 1#32) (k0_off42_inb d0 0) (k0_off74 d0 1#32) (k0_off74_inb d0 0) (k0_off75 d0 1#32) (k0_off75_inb d0 0) <|
  head512 (k0_off76 d0 1#32) (k0_off76_inb d0 0) (k0_off46 d0 1#32) (k0_off46_inb d0 0) (k0_off77 d0 1#32) (k0_off77_inb d0 0) (k0_off78 d0 1#32) (k0_off78_inb d0 0) <|
  head512 (k0_off79 d0 1#32) (k0_off79_inb d0 0) (k0_off50 d0 1#32) (k0_off50_inb d0 0) (k0_off80 d0 1#32) (k0_off80_inb d0 0) (k0_off81 d0 1#32) (k0_off81_inb d0 0) <|
  head512 (k0_off82 d0 1#32) (k0_off82_inb d0 0) (k0_off54 d0 1#32) (k0_off54_inb d0 0) (k0_off83 d0 1#32) (k0_off83_inb d0 0) (k0_off84 d0 1#32) (k0_off84_inb d0 0) <|
  head512 (k0_off85 d0 1#32) (k0_off85_inb d0 0) (k0_off58 d0 1#32) (k0_off58_inb d0 0) (k0_off86 d0 1#32) (k0_off86_inb d0 0) (k0_off87 d0 1#32) (k0_off87_inb d0 0) <|
  head512 (k0_off88 d0 1#32) (k0_off88_inb d0 0) (k0_off62 d0 1#32) (k0_off62_inb d0 0) (k0_off89 d0 1#32) (k0_off89_inb d0 0) (k0_off90 d0 1#32) (k0_off90_inb d0 0) <|
  k

/-- The second hop lands, the partial sums are added, the third hop runs. -/
noncomputable def hop2 (d0 : Dev nD) (k : BProg F) : BProg F :=
  .op (.waitDma2 ss1 rbr1 sbr1 (((Memref.isWhole_whole _).wordExact_slice rfl _ wordsbf16_S2x256x1152_S1x256x1152_1_0_0).reshape _ _) (((Memref.isWhole_whole _).wordExact_slice rfl _ wordsbf16_S2x256x1152_S1x256x1152_1_0_0).reshape _ _)) fun _ =>
  .op (.waitDma2 rs1 sbr1 rbr1 (((Memref.isWhole_whole _).wordExact_slice rfl _ wordsbf16_S2x256x1152_S1x256x1152_1_0_0).reshape _ _) (((Memref.isWhole_whole _).wordExact_slice rfl _ wordsbf16_S2x256x1152_S1x256x1152_1_0_0).reshape _ _)) fun _ =>
  .op (.waitDma2 ss3 rbl1 sbl1 (((Memref.isWhole_whole _).wordExact_slice rfl _ wordsbf16_S2x256x1152_S1x256x1152_1_0_0).reshape _ _) (((Memref.isWhole_whole _).wordExact_slice rfl _ wordsbf16_S2x256x1152_S1x256x1152_1_0_0).reshape _ _)) fun _ =>
  .op (.waitDma2 rs3 sbl1 rbl1 (((Memref.isWhole_whole _).wordExact_slice rfl _ wordsbf16_S2x256x1152_S1x256x1152_1_0_0).reshape _ _) (((Memref.isWhole_whole _).wordExact_slice rfl _ wordsbf16_S2x256x1152_S1x256x1152_1_0_0).reshape _ _)) fun _ =>
  .op (.load rbrB (Rect.unit (s := S2x256x1152) ![1, 0, 0] S1x256x1152.size inb_S2x256x1152_S1x256x1152_1_0_0).toLoadRect (View.loadsAt_vmem h_S1x256x1152)) fun v1720 =>
  .op (.load accB (Rect.unit (s := S2048x1152) (k0_off91 d0 2#32) S256x1152.size (k0_off91_inb d0 0)).toLoadRect (View.loadsAt_vmem h_S256x1152)) fun v1727 =>
  .op (.load sbrB (Rect.unit (s := S2x256x1152) ![0, 0, 0] S1x256x1152.size inb_S2x256x1152_S1x256x1152_0_0_0).toLoadRect (View.loadsAt_vmem h_S1x256x1152)) fun v1730 =>
  .op (.store sbrB (Rect.unit (s := S2x256x1152) ![0, 0, 0] S1x256x1152.size inb_S2x256x1152_S1x256x1152_0_0_0) (rsPay v1720 v1727) Finset.univ (View.stores_vmem h_S1x256x1152 ((Memref.isWhole_whole _).storeExact_slice rfl _ packedbf16_S2x256x1152_S1x256x1152_0_0_0) (fun _ => rfl)) (.inl rfl)) fun _ =>
  .op (.load rblB (Rect.unit (s := S2x256x1152) ![1, 0, 0] S1x256x1152.size inb_S2x256x1152_S1x256x1152_1_0_0).toLoadRect (View.loadsAt_vmem h_S1x256x1152)) fun v1733 =>
  .op (.load accB (Rect.unit (s := S2048x1152) (k0_off92 d0) S256x1152.size (k0_off92_inb d0)).toLoadRect (View.loadsAt_vmem h_S256x1152)) fun v1739 =>
  .op (.load sblB (Rect.unit (s := S2x256x1152) ![0, 0, 0] S1x256x1152.size inb_S2x256x1152_S1x256x1152_0_0_0).toLoadRect (View.loadsAt_vmem h_S1x256x1152)) fun v1742 =>
  .op (.store sblB (Rect.unit (s := S2x256x1152) ![0, 0, 0] S1x256x1152.size inb_S2x256x1152_S1x256x1152_0_0_0) (rsPay v1733 v1739) Finset.univ (View.stores_vmem h_S1x256x1152 ((Memref.isWhole_whole _).storeExact_slice rfl _ packedbf16_S2x256x1152_S1x256x1152_0_0_0) (fun _ => rfl)) (.inl rfl)) fun _ =>
  .op (.enqueueDma sbr0 (.remote (Dev.tc (⟨k0_dev7 d0, k0_dev7_lt d0⟩ : Dev nD)) rbr0 (.dma ss0)) (.dma rs0) (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _) ⟨⟨rfl, Or.inl rfl⟩, trivial⟩) fun _ =>
  .op (.enqueueDma sbl0 (.remote (Dev.tc (⟨k0_dev8 d0, k0_dev8_lt d0⟩ : Dev nD)) rbl0 (.dma ss2)) (.dma rs2) (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _) ⟨⟨rfl, Or.inl rfl⟩, trivial⟩) fun _ =>
  .op (.waitDma2 ss0 rbr0 sbr0 (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _)) fun _ =>
  .op (.waitDma2 rs0 sbr0 rbr0 (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _)) fun _ =>
  .op (.waitDma2 ss2 rbl0 sbl0 (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _)) fun _ =>
  .op (.waitDma2 rs2 sbl0 rbl0 (((Memref.isWhole_whole _).wordExact_slice rfl _ wordsbf16_S2x256x1152_S1x256x1152_0_0_0).reshape _ _) (((Memref.isWhole_whole _).wordExact_slice rfl _ wordsbf16_S2x256x1152_S1x256x1152_0_0_0).reshape _ _)) fun _ =>
  k

/-- The two own results are normalised, projected, sent on and stored with what the neighbours sent. -/
noncomputable def finish (d0 : Dev nD) : BProg F :=
  .op (.load rbrB (Rect.unit (s := S2x256x1152) ![0, 0, 0] S1x256x1152.size inb_S2x256x1152_S1x256x1152_0_0_0).toLoadRect (View.loadsAt_vmem h_S1x256x1152)) fun v1795 =>
  .op (.load accB (Rect.unit (s := S2048x1152) (k0_off66 d0 1#32 0#32) S256x1152.size (k0_off66_inb d0 2)).toLoadRect (View.loadsAt_vmem h_S256x1152)) fun v1801 =>
  .op (.load woB (Rect.unit (s := S1024x1024) ![0, 0] S1024x1024.size inb_S1024x1024_S1024x1024_0_0).toLoadRect (View.loadsAt_vmem h_S1024x1024)) fun v1876 =>
  .op (.load agrB (Rect.unit (s := S2x256x1024) ![0, 0, 0] S1x256x1024.size inb_S2x256x1024_S1x256x1024_0_0_0).toLoadRect (View.loadsAt_vmem h_S1x256x1024)) fun v1879 =>
  .op (.store agrB (Rect.unit (s := S2x256x1024) ![0, 0, 0] S1x256x1024.size inb_S2x256x1024_S1x256x1024_0_0_0) (agPay v1795 v1801 v1876) Finset.univ (View.stores_vmem h_S1x256x1024 ((Memref.isWhole_whole _).storeExact_slice rfl _ packedbf16_S2x256x1024_S1x256x1024_0_0_0) (fun _ => rfl)) (.inl rfl)) fun _ =>
  .op (.enqueueDma agr0 (.remote (Dev.tc (⟨k0_dev9 d0, k0_dev9_lt d0⟩ : Dev nD)) agr1 (.dma ss4)) (.dma rs5) (((Memref.isWhole_whole _).wordExact_slice rfl _ wordsbf16_S2x256x1024_S1x256x1024_0_0_0).reshape _ _) (((Memref.isWhole_whole _).wordExact_slice rfl _ wordsbf16_S2x256x1024_S1x256x1024_1_0_0).reshape _ _) ⟨⟨rfl, Or.inl rfl⟩, trivial⟩) fun _ =>
  .op (.load rblB (Rect.unit (s := S2x256x1152) ![0, 0, 0] S1x256x1152.size inb_S2x256x1152_S1x256x1152_0_0_0).toLoadRect (View.loadsAt_vmem h_S1x256x1152)) fun v1892 =>
  .op (.load accB (Rect.unit (s := S2048x1152) (k0_off66 d0 1#32 256#32) S256x1152.size (k0_off66_inb d0 3)).toLoadRect (View.loadsAt_vmem h_S256x1152)) fun v1898 =>
  .op (.load woB (Rect.unit (s := S1024x1024) ![0, 0] S1024x1024.size inb_S1024x1024_S1024x1024_0_0).toLoadRect (View.loadsAt_vmem h_S1024x1024)) fun v1973 =>
  .op (.load aglB (Rect.unit (s := S2x256x1024) ![0, 0, 0] S1x256x1024.size inb_S2x256x1024_S1x256x1024_0_0_0).toLoadRect (View.loadsAt_vmem h_S1x256x1024)) fun v1976 =>
  .op (.store aglB (Rect.unit (s := S2x256x1024) ![0, 0, 0] S1x256x1024.size inb_S2x256x1024_S1x256x1024_0_0_0) (agPay v1892 v1898 v1973) Finset.univ (View.stores_vmem h_S1x256x1024 ((Memref.isWhole_whole _).storeExact_slice rfl _ packedbf16_S2x256x1024_S1x256x1024_0_0_0) (fun _ => rfl)) (.inl rfl)) fun _ =>
  .op (.enqueueDma agl0 (.remote (Dev.tc (⟨k0_dev10 d0, k0_dev10_lt d0⟩ : Dev nD)) agl1 (.dma ss6)) (.dma rs7) (((Memref.isWhole_whole _).wordExact_slice rfl _ wordsbf16_S2x256x1024_S1x256x1024_0_0_0).reshape _ _) (((Memref.isWhole_whole _).wordExact_slice rfl _ wordsbf16_S2x256x1024_S1x256x1024_1_0_0).reshape _ _) ⟨⟨rfl, Or.inl rfl⟩, trivial⟩) fun _ =>
  .op (.load outB (Rect.unit (s := S1024x1024) ![0, 0] S256x1024.size inb_S1024x1024_S256x1024_0_0).toLoadRect (View.loadsAt_vmem h_S256x1024)) fun v1989 =>
  .op (.store outB (Rect.unit (s := S1024x1024) ![0, 0] S256x1024.size inb_S1024x1024_S256x1024_0_0) (outPay v1795 v1801 v1876) Finset.univ (View.stores_vmem_bits_univ h_S256x1024 rfl) (.inl rfl)) fun _ =>
  .op (.load outB (Rect.unit (s := S1024x1024) ![256, 0] S256x1024.size inb_S1024x1024_S256x1024_256_0).toLoadRect (View.loadsAt_vmem h_S256x1024)) fun v1990 =>
  .op (.store outB (Rect.unit (s := S1024x1024) ![256, 0] S256x1024.size inb_S1024x1024_S256x1024_256_0) (outPay v1892 v1898 v1973) Finset.univ (View.stores_vmem_bits_univ h_S256x1024 rfl) (.inl rfl)) fun _ =>
  .op (.waitDma2 ss4 agr1 agr0 (((Memref.isWhole_whole _).wordExact_slice rfl _ wordsbf16_S2x256x1024_S1x256x1024_1_0_0).reshape _ _) (((Memref.isWhole_whole _).wordExact_slice rfl _ wordsbf16_S2x256x1024_S1x256x1024_0_0_0).reshape _ _)) fun _ =>
  .op (.waitDma2 rs5 agr0 agr1 (((Memref.isWhole_whole _).wordExact_slice rfl _ wordsbf16_S2x256x1024_S1x256x1024_0_0_0).reshape _ _) (((Memref.isWhole_whole _).wordExact_slice rfl _ wordsbf16_S2x256x1024_S1x256x1024_1_0_0).reshape _ _)) fun _ =>
  .op (.waitDma2 ss6 agl1 agl0 (((Memref.isWhole_whole _).wordExact_slice rfl _ wordsbf16_S2x256x1024_S1x256x1024_1_0_0).reshape _ _) (((Memref.isWhole_whole _).wordExact_slice rfl _ wordsbf16_S2x256x1024_S1x256x1024_0_0_0).reshape _ _)) fun _ =>
  .op (.waitDma2 rs7 agl0 agl1 (((Memref.isWhole_whole _).wordExact_slice rfl _ wordsbf16_S2x256x1024_S1x256x1024_0_0_0).reshape _ _) (((Memref.isWhole_whole _).wordExact_slice rfl _ wordsbf16_S2x256x1024_S1x256x1024_1_0_0).reshape _ _)) fun _ =>
  .op (.load agrB (Rect.unit (s := S2x256x1024) ![1, 0, 0] S1x256x1024.size inb_S2x256x1024_S1x256x1024_1_0_0).toLoadRect (View.loadsAt_vmem h_S1x256x1024)) fun v2019 =>
  .op (.load outB (Rect.unit (s := S1024x1024) ![512, 0] S256x1024.size inb_S1024x1024_S256x1024_512_0).toLoadRect (View.loadsAt_vmem h_S256x1024)) fun v2022 =>
  .op (.store outB (Rect.unit (s := S1024x1024) ![512, 0] S256x1024.size inb_S1024x1024_S256x1024_512_0) (k0_pay1 v2019) Finset.univ (View.stores_vmem_bits_univ h_S256x1024 rfl) (.inl rfl)) fun _ =>
  .op (.load aglB (Rect.unit (s := S2x256x1024) ![1, 0, 0] S1x256x1024.size inb_S2x256x1024_S1x256x1024_1_0_0).toLoadRect (View.loadsAt_vmem h_S1x256x1024)) fun v2023 =>
  .op (.load outB (Rect.unit (s := S1024x1024) ![768, 0] S256x1024.size inb_S1024x1024_S256x1024_768_0).toLoadRect (View.loadsAt_vmem h_S256x1024)) fun v2026 =>
  .op (.store outB (Rect.unit (s := S1024x1024) ![768, 0] S256x1024.size inb_S1024x1024_S256x1024_768_0) (k0_pay2 v2023) Finset.univ (View.stores_vmem_bits_univ h_S256x1024 rfl) (.inl rfl)) fun _ =>
  .ret ⟨⟩

/-- The body after the device has read its place. -/
noncomputable def bodyOf (d0 : Dev nD) : BProg F :=
  startUp d0 <|
  stageIn d0 <|
  attn0 d0 <|
  attn1 d0 <|
  send0 d0 <|
  attn2 d0 <|
  attn3 d0 <|
  attn4 d0 <|
  hop1 d0 <|
  attn5 d0 <|
  hop2 d0 <|
  finish d0

/-- The whole body. -/
noncomputable def bodyProg : BProg F :=
  .op .deviceId fun d0 => bodyOf d0

end Cert.KernelIdeal.Run

end
-- ==== Proof.Run.Base.lean ====
module

public import proofs.«01_k».proof.Proof.Run.Text
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Tactic

@[expose] public section

/-! The algebra the run's resources live in, and the plain readings of a load and of a store of a buffer held whole. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's rounds: one duty per round of a copy's cell, two per round of the barrier's. -/
abbrev UB : Type := URounds (GSem nD τ sig) Bool
/-- The pipeline's rounds, the exchange's, and the counters of the local copies. -/
abbrev UU : Type := UR sig nD τ × (UB × Counters)

/-- The machine's algebra; a tally is indexed by the round of its cell (`false` for the first). -/
abbrev MM (F : FTy → Type) : Type := MT nD τ sig Bool (Elt F) ℕ UU ℕ

abbrev EP : Emb (UR sig nD τ) (MM F) := embL
/-- The exchange's rounds: the left half of the right factor. -/
def ER : Emb UB (MM F) :=
  ((Emb.inl : Emb UB (UB × Counters)).trans (Emb.inr : Emb (UB × Counters) UU)).trans
    (uEmb (nD := nD) (sig := sig) (Ix := Bool) (Val := Elt F) (Name := ℕ) (U := UU) (Lvl := ℕ)).toEmb
instance ER_landsIn : (ER : Emb UB (MM F)).LandsIn (upEmb : UEmb _ (MM F)) := by unfold ER; infer_instance

/-- The local copies' counters. -/
abbrev EC : UEmb Counters (MM F) := countersEmb

abbrev 𝒱₀ : Variants := Variants.none

/-- The weakest precondition of a program of the body on device `c`. -/
abbrev wpB (c : Dev nD) (p : BProg F) (Q : PUnit → sProp (MM F)) : sProp (MM F) :=
  wp frame (wpE (defs₀ (F := F)) 𝒱₀ (c : Thread nD τ) none) Set.univ p Q

/-- Device `c`'s buffer `b` held whole. -/
abbrev pts (c : Dev nD) (b : Ref sig .tc) (f : Buf (Elt F) ((c : Thread nD τ).loc b)) : sProp (MM F) :=
  ((c : Thread nD τ).loc b) ↦{fullShare} f

end Cert.KernelIdeal.Run

end
-- ==== Proof.Run.Vals.lean ====
module

public import proofs.«01_k».proof.Proof.Run.Base
public import Idealize.ShloMosaic.Lib.Pointwise.Index
public import Idealize.ShloMosaic.Lib.ValueIdx

@[expose] public section

/-! What each buffer of the kernel holds once it is filled, written in closed form from the device's arguments, and how
    far a buffer is filled while the body fills it. -/

noncomputable section

namespace Cert.KernelIdeal.Run

open Cert.KernelIdeal Cert.KernelIdeal.Gen
open Idealize.ShloMosaic

variable {F : FTy → Type} [FloatOps F]

/-- The rank-2 index at row `a` and column `b`, each reduced modulo its extent. -/
def i2 {n m : ℕ} [NeZero n] [NeZero m] (a b : ℕ) : (⟨2, ![n, m]⟩ : Shape).Idx :=
  ix2 ⟨a % n, Nat.mod_lt _ (Nat.pos_of_neZero n)⟩ ⟨b % m, Nat.mod_lt _ (Nat.pos_of_neZero m)⟩

theorem i2_eq {n m : ℕ} [NeZero n] [NeZero m] {a b : ℕ} (p : (⟨2, ![n, m]⟩ : Shape).Idx)
    (h0 : a % n = (p 0).val) (h1 : b % m = (p 1).val) : i2 a b = p := by
  rw [eq_ix2 p]; unfold i2
  exact congrArg₂ ix2 (Fin.ext h0) (Fin.ext h1)

/-- The rank-3 index with the given coordinates, each reduced modulo its extent. -/
def i3 {n m l : ℕ} [NeZero n] [NeZero m] [NeZero l] (a b c : ℕ) : (⟨3, ![n, m, l]⟩ : Shape).Idx :=
  ix3 ⟨a % n, Nat.mod_lt _ (Nat.pos_of_neZero n)⟩ ⟨b % m, Nat.mod_lt _ (Nat.pos_of_neZero m)⟩
    ⟨c % l, Nat.mod_lt _ (Nat.pos_of_neZero l)⟩

theorem i3_eq {n m l : ℕ} [NeZero n] [NeZero m] [NeZero l] {a b c : ℕ} (p : (⟨3, ![n, m, l]⟩ : Shape).Idx)
    (h0 : a % n = (p 0).val) (h1 : b % m = (p 1).val) (h2 : c % l = (p 2).val) : i3 a b c = p := by
  rw [eq_ix3 p]; unfold i3
  rw [show (⟨a % n, Nat.mod_lt _ (Nat.pos_of_neZero n)⟩ : Fin n) = p 0 from Fin.ext h0,
    show (⟨b % m, Nat.mod_lt _ (Nat.pos_of_neZero m)⟩ : Fin m) = p 1 from Fin.ext h1,
    show (⟨c % l, Nat.mod_lt _ (Nat.pos_of_neZero l)⟩ : Fin l) = p 2 from Fin.ext h2]

/-- The block of 64 rows that the grouped row `r` comes from: its residue counts the chunk. -/
def blkOf (r : ℕ) : ℕ := r % 512 / 64 * 4 + r / 512
/-- The row of the argument that the grouped row `r` comes from. -/
def srcRow (r : ℕ) : ℕ := 64 * blkOf r + r % 64

theorem srcRow_eq {b t : ℕ} (hb : b < 32) (ht : t < 64) : srcRow (b % 4 * 512 + b / 4 * 64 + t) = 64 * b + t := by
  have e1 : (b % 4 * 512 + b / 4 * 64 + t) % 512 = b / 4 * 64 + t := by omega
  have e2 : (b % 4 * 512 + b / 4 * 64 + t) / 512 = b % 4 := by omega
  have e3 : (b % 4 * 512 + b / 4 * 64 + t) % 64 = t := by omega
  have e4 : (b / 4 * 64 + t) / 64 = b / 4 := by omega
  unfold srcRow blkOf
  rw [e1, e2, e3, e4]; omega

/-- One f32 element rounded. -/
abbrev tr (x : F .f32) : F .bf16 := FloatOps.truncf .bf16 bitsLt_bf16_f32 x
/-- One bf16 element widened. -/
abbrev ex (x : F .bf16) : F .f32 := FloatOps.extf .f32 bitsLt_bf16_f32 x

/-- `x`, its blocks of rows grouped by residue, rounded. -/
def xgv (X : FVec F S2048x1024 .f32) : FVec F S2048x1024 .bf16 := fun p => tr (X (i2 (srcRow (p 0).val) (p 1).val))
/-- `K` or `V`, its blocks of rows grouped by residue, the heads side by side, rounded. -/
def kgv (K : FVec F S2048x8x128 .f32) : FVec F S2048x1024 .bf16 :=
  fun p => tr (K (i3 (srcRow (p 0).val) ((p 1).val / 128) (p 1).val))
/-- The scaled projection of the grouped `x`. -/
def qgv (X : FVec F S2048x1024 .f32) (W : FVec F S1024x1024 .f32) : FVec F S2048x1024 .bf16 := k0_pay54 (xgv X) (k0_pay53 W)

/-- How much of a grouped buffer is filled: the rows of the first `b` blocks. -/
def XInv (t g : FVec F S2048x1024 .bf16) (b : ℕ) : Prop := ∀ p : S2048x1024.Idx, blkOf (p 0).val < b → g p = t p

theorem XInv.zero (t g : FVec F S2048x1024 .bf16) : XInv t g 0 := fun _ h => absurd h (Nat.not_lt_zero _)

theorem XInv.all {t g : FVec F S2048x1024 .bf16} (h : XInv t g 32) : g = t := funext fun p => h p (by
  have : (p 0).val < 2048 := (p 0).isLt
  unfold blkOf; omega)

theorem pay3_apply (v : FVec F S64x1024 .f32) (i : S64x1024.Idx) : k0_pay3 v i = tr (v i) := by
  unfold k0_pay3; simp only [shapeCast_self]; rfl

theorem kvPay_apply (v : FVec F S64x8x128 .f32) (i : S64x1024.Idx) :
    kvPay v i = tr (v (i3 (i 0).val ((i 1).val / 128) (i 1).val)) := by
  unfold kvPay k0_pay36 k0_pay35
  simp only [shapeCast_self]
  show FloatOps.truncf _ _ (shapeCast S64x1024 v _ i) = _
  rw [shapeCast_apply v _ i (i3 (i 0).val ((i 1).val / 128) (i 1).val)]
  rw [Shape.rowMajor_val_three, Shape.rowMajor_val_two]
  have h0 : (i 0).val < 64 := (i 0).isLt
  have h1 : (i 1).val < 1024 := (i 1).isLt
  show ((i 0).val % 64 * 8 + (i 1).val / 128 % 8) * 128 + (i 1).val % 128 = (i 0).val * 1024 + (i 1).val
  omega

/-- One more block of `x` cast. -/
theorem xStep {X : FVec F S2048x1024 .f32} {f : FVec F S1024x1024 .f32} {g : FVec F S2048x1024 .bf16} {b : ℕ} (hb : b < 32)
    (hf : ∀ q : S1024x1024.Idx, f q = X (i2 (1024 * (b / 16) + (q 0).val) (q 1).val)) (hg : XInv (xgv X) g b)
    {v : FVec F S64x1024 .f32} (hv : ∀ i : S64x1024.Idx, v i = f (i2 (64 * (b % 16) + (i 0).val) (i 1).val))
    (hs : S2048x1024.Slices ![b % 4 * 512 + b / 4 * 64, 0] S64x1024) :
    XInv (xgv X) (updateSlice g (k0_pay3 v) ![b % 4 * 512 + b / 4 * 64, 0] hs) (b + 1) := by
  intro p hp
  have hp0 : (p 0).val < 2048 := (p 0).isLt
  have hp1 : (p 1).val < 1024 := (p 1).isLt
  unfold updateSlice
  split
  · rename_i hin
    have h0 : b % 4 * 512 + b / 4 * 64 ≤ (p 0).val ∧ (p 0).val < b % 4 * 512 + b / 4 * 64 + 64 := hin 0
    rw [pay3_apply, hv, hf]
    unfold xgv
    congr 2
    refine congrArg₂ i2 ?_ ?_
    · show 1024 * (b / 16) + (64 * (b % 16) + ((p 0).val - (b % 4 * 512 + b / 4 * 64))) % 1024 = srcRow (p 0).val
      obtain ⟨t, ht⟩ := Nat.exists_eq_add_of_le h0.1
      have ht64 : t < 64 := by omega
      rw [ht, srcRow_eq hb ht64, Nat.add_sub_cancel_left]; omega
    · show ((p 1).val - 0) % 1024 = (p 1).val
      omega
  · rename_i hin
    refine hg p ?_
    by_contra hlt
    refine hin fun a => ?_
    unfold blkOf at hp hlt
    match a with
    | ⟨0, _⟩ => show b % 4 * 512 + b / 4 * 64 ≤ (p 0).val ∧ (p 0).val < b % 4 * 512 + b / 4 * 64 + 64; omega
    | ⟨1, _⟩ => show 0 ≤ (p 1).val ∧ (p 1).val < 0 + 1024; omega

/-- One more block of `K` or `V` cast. -/
theorem kStep {X : FVec F S2048x8x128 .f32} {f : FVec F S512x8x128 .f32} {g : FVec F S2048x1024 .bf16} {b : ℕ} (hb : b < 32)
    (hf : ∀ q : S512x8x128.Idx, f q = X (i3 (512 * (b / 8) + (q 0).val) (q 1).val (q 2).val)) (hg : XInv (kgv X) g b)
    {v : FVec F S64x8x128 .f32} (hv : ∀ i : S64x8x128.Idx, v i = f (i3 (64 * (b % 8) + (i 0).val) (i 1).val (i 2).val))
    (hs : S2048x1024.Slices ![b % 4 * 512 + b / 4 * 64, 0] S64x1024) :
    XInv (kgv X) (updateSlice g (kvPay v) ![b % 4 * 512 + b / 4 * 64, 0] hs) (b + 1) := by
  intro p hp
  have hp0 : (p 0).val < 2048 := (p 0).isLt
  have hp1 : (p 1).val < 1024 := (p 1).isLt
  unfold updateSlice
  split
  · rename_i hin
    have h0 : b % 4 * 512 + b / 4 * 64 ≤ (p 0).val ∧ (p 0).val < b % 4 * 512 + b / 4 * 64 + 64 := hin 0
    rw [kvPay_apply, hv, hf]
    unfold kgv
    congr 2
    refine i3_eq _ ?_ ?_ ?_
    · show (512 * (b / 8) + (64 * (b % 8) + ((p 0).val - (b % 4 * 512 + b / 4 * 64)) % 64) % 512) % 2048 = srcRow (p 0).val % 2048
      obtain ⟨t, ht⟩ := Nat.exists_eq_add_of_le h0.1
      have ht64 : t < 64 := by omega
      rw [ht, srcRow_eq hb ht64, Nat.add_sub_cancel_left, Nat.mod_eq_of_lt ht64,
        Nat.mod_eq_of_lt (show 64 * (b % 8) + t < 512 by omega), show 512 * (b / 8) + (64 * (b % 8) + t) = 64 * b + t by omega]
    · show (((p 1).val - 0) / 128 % 8) % 8 % 8 = ((p 1).val / 128) % 8
      omega
    · show (((p 1).val - 0) % 128) % 128 % 128 = (p 1).val % 128
      omega
  · rename_i hin
    refine hg p ?_
    by_contra hlt
    refine hin fun a => ?_
    unfold blkOf at hp hlt
    match a with
    | ⟨0, _⟩ => show b % 4 * 512 + b / 4 * 64 ≤ (p 0).val ∧ (p 0).val < b % 4 * 512 + b / 4 * 64 + 64; omega
    | ⟨1, _⟩ => show 0 ≤ (p 1).val ∧ (p 1).val < 0 + 1024; omega

/-- Rows `r0 …` and columns `c0 …` of a grouped buffer. -/
def win256 (G : FVec F S2048x1024 .bf16) (r0 c0 : ℕ) : FVec F S256x128 .bf16 := fun x => G (i2 (r0 + (x 0).val) (c0 + (x 1).val))
def win512 (G : FVec F S2048x1024 .bf16) (r0 c0 : ℕ) : FVec F S512x128 .bf16 := fun x => G (i2 (r0 + (x 0).val) (c0 + (x 1).val))

/-- The head that a column of the partial sums belongs to: 128 columns each, then one column of sums each. -/
def headOf (j : ℕ) : ℕ := if j < 1024 then j / 128 else j - 1024

/-- Device `c`'s partial sums: each head's weighted values and, from column 1024 on, the sums of its weights. -/
def accv (c : ℕ) (Q K V : FVec F S2048x1024 .bf16) : FVec F S2048x1152 .f32 := fun p =>
  if ((p 0).val / 512 + c) % 2 = 0 then
    if (p 1).val < 1024 then
      numPay256 (win256 Q (256 * ((p 0).val / 256)) (128 * headOf (p 1).val)) (win512 K (512 * ((p 0).val / 512)) (128 * headOf (p 1).val))
        (win512 V (512 * ((p 0).val / 512)) (128 * headOf (p 1).val)) (i2 (p 0).val (p 1).val)
    else
      sumPay256 (win256 Q (256 * ((p 0).val / 256)) (128 * headOf (p 1).val)) (win512 K (512 * ((p 0).val / 512)) (128 * headOf (p 1).val))
        (i2 (p 0).val 0)
  else
    if (p 1).val < 1024 then
      numPay512 (win512 Q (512 * ((p 0).val / 512)) (128 * headOf (p 1).val)) (win512 K (512 * ((p 0).val / 512)) (128 * headOf (p 1).val))
        (win512 V (512 * ((p 0).val / 512)) (128 * headOf (p 1).val)) (i2 (p 0).val (p 1).val)
    else
      sumPay512 (win512 Q (512 * ((p 0).val / 512)) (128 * headOf (p 1).val)) (win512 K (512 * ((p 0).val / 512)) (128 * headOf (p 1).val))
        (i2 (p 0).val 0)

/-- How much of the partial sums is filled: the heads and half chunks `S` tells. -/
def AInv (t g : FVec F S2048x1152 .f32) (S : ℕ → ℕ → Prop) : Prop :=
  ∀ p : S2048x1152.Idx, (p 1).val < 1032 → S ((p 0).val / 256) (headOf (p 1).val) → g p = t p

theorem AInv.mono {t g : FVec F S2048x1152 .f32} {S T : ℕ → ℕ → Prop} (h : AInv t g S)
    (hST : ∀ a b, a < 8 → b < 8 → T a b → S a b) : AInv t g T := fun p hp hT =>
  h p hp (hST _ _ (by have : (p 0).val < 2048 := (p 0).isLt; omega) (by unfold headOf; split <;> omega) hT)

/-- One head of half a chunk. -/
theorem aStep256 {c : ℕ} {Q K V : FVec F S2048x1024 .bf16} {g : FVec F S2048x1152 .f32} {S : ℕ → ℕ → Prop} {a h : ℕ} (ha : a < 8) (hh : h < 8)
    (hpar : (a / 2 + c) % 2 = 0) (hg : AInv (accv c Q K V) g S)
    {q : FVec F S256x128 .bf16} {k v : FVec F S512x128 .bf16} (hq : q = win256 Q (256 * a) (128 * h))
    (hk : k = win512 K (512 * (a / 2)) (128 * h)) (hv : v = win512 V (512 * (a / 2)) (128 * h))
    (h1 : S2048x1152.Slices ![256 * a, 1024 + h] S256x1) (h2 : S2048x1152.Slices ![256 * a, 128 * h] S256x128) :
    AInv (accv c Q K V) (updateSlice (updateSlice g (sumPay256 q k) ![256 * a, 1024 + h] h1) (numPay256 q k v) ![256 * a, 128 * h] h2)
      (fun x y => (x = a ∧ y = h) ∨ S x y) := by
  subst hq hk hv
  intro p hp hS
  have hp0 : (p 0).val < 2048 := (p 0).isLt
  unfold updateSlice
  split
  · rename_i hin
    have e0 : 256 * a ≤ (p 0).val ∧ (p 0).val < 256 * a + 256 := hin 0
    have e1 : 128 * h ≤ (p 1).val ∧ (p 1).val < 128 * h + 128 := hin 1
    unfold accv
    have hd : (p 0).val / 512 = a / 2 := by omega
    have hd2 : (p 0).val / 256 = a := by omega
    have hlt : (p 1).val < 1024 := by omega
    have hho : headOf (p 1).val = h := by unfold headOf; rw [if_pos hlt]; omega
    rw [hd, hd2, hho, if_pos hpar, if_pos hlt]
    refine congrArg _ (i2_eq _ ?_ ?_).symm
    · show (p 0).val % 256 = (p 0).val - 256 * a; omega
    · show (p 1).val % 128 = (p 1).val - 128 * h; omega
  · rename_i hin
    split
    · rename_i hin1
      have e0 : 256 * a ≤ (p 0).val ∧ (p 0).val < 256 * a + 256 := hin1 0
      have e1 : 1024 + h ≤ (p 1).val ∧ (p 1).val < 1024 + h + 1 := hin1 1
      unfold accv
      have hd : (p 0).val / 512 = a / 2 := by omega
      have hd2 : (p 0).val / 256 = a := by omega
      have hlt : ¬ (p 1).val < 1024 := by omega
      have hho : headOf (p 1).val = h := by unfold headOf; rw [if_neg hlt]; omega
      rw [hd, hd2, hho, if_pos hpar, if_neg hlt]
      refine congrArg _ (i2_eq _ ?_ ?_).symm
      · show (p 0).val % 256 = (p 0).val - 256 * a; omega
      · show 0 % 1 = (p 1).val - (1024 + h); omega
    · rename_i hin1
      refine hg p hp (hS.resolve_left fun ⟨hx, hy⟩ => ?_)
      by_cases hlt : (p 1).val < 1024
      · unfold headOf at hy; rw [if_pos hlt] at hy
        refine hin fun i => ?_
        match i with
        | ⟨0, _⟩ => show 256 * a ≤ (p 0).val ∧ (p 0).val < 256 * a + 256; omega
        | ⟨1, _⟩ => show 128 * h ≤ (p 1).val ∧ (p 1).val < 128 * h + 128; omega
      · unfold headOf at hy; rw [if_neg hlt] at hy
        refine hin1 fun i => ?_
        match i with
        | ⟨0, _⟩ => show 256 * a ≤ (p 0).val ∧ (p 0).val < 256 * a + 256; omega
        | ⟨1, _⟩ => show 1024 + h ≤ (p 1).val ∧ (p 1).val < 1024 + h + 1; omega

/-- One head of a whole chunk. -/
theorem aStep512 {c : ℕ} {Q K V : FVec F S2048x1024 .bf16} {g : FVec F S2048x1152 .f32} {S : ℕ → ℕ → Prop} {r h : ℕ} (hr : r < 4) (hh : h < 8)
    (hpar : (r + c) % 2 ≠ 0) (hg : AInv (accv c Q K V) g S)
    {q k v : FVec F S512x128 .bf16} (hq : q = win512 Q (512 * r) (128 * h))
    (hk : k = win512 K (512 * r) (128 * h)) (hv : v = win512 V (512 * r) (128 * h))
    (h1 : S2048x1152.Slices ![512 * r, 1024 + h] S512x1) (h2 : S2048x1152.Slices ![512 * r, 128 * h] S512x128) :
    AInv (accv c Q K V) (updateSlice (updateSlice g (sumPay512 q k) ![512 * r, 1024 + h] h1) (numPay512 q k v) ![512 * r, 128 * h] h2)
      (fun x y => (x / 2 = r ∧ y = h) ∨ S x y) := by
  subst hq hk hv
  intro p hp hS
  have hp0 : (p 0).val < 2048 := (p 0).isLt
  unfold updateSlice
  split
  · rename_i hin
    have e0 : 512 * r ≤ (p 0).val ∧ (p 0).val < 512 * r + 512 := hin 0
    have e1 : 128 * h ≤ (p 1).val ∧ (p 1).val < 128 * h + 128 := hin 1
    unfold accv
    have hd : (p 0).val / 512 = r := by omega
    have hlt : (p 1).val < 1024 := by omega
    have hho : headOf (p 1).val = h := by unfold headOf; rw [if_pos hlt]; omega
    rw [hd, hho, if_neg hpar, if_pos hlt]
    refine congrArg _ (i2_eq _ ?_ ?_).symm
    · show (p 0).val % 512 = (p 0).val - 512 * r; omega
    · show (p 1).val % 128 = (p 1).val - 128 * h; omega
  · rename_i hin
    split
    · rename_i hin1
      have e0 : 512 * r ≤ (p 0).val ∧ (p 0).val < 512 * r + 512 := hin1 0
      have e1 : 1024 + h ≤ (p 1).val ∧ (p 1).val < 1024 + h + 1 := hin1 1
      unfold accv
      have hd : (p 0).val / 512 = r := by omega
      have hlt : ¬ (p 1).val < 1024 := by omega
      have hho : headOf (p 1).val = h := by unfold headOf; rw [if_neg hlt]; omega
      rw [hd, hho, if_neg hpar, if_neg hlt]
      refine congrArg _ (i2_eq _ ?_ ?_).symm
      · show (p 0).val % 512 = (p 0).val - 512 * r; omega
      · show 0 % 1 = (p 1).val - (1024 + h); omega
    · rename_i hin1
      refine hg p hp (hS.resolve_left fun ⟨hx, hy⟩ => ?_)
      by_cases hlt : (p 1).val < 1024
      · unfold headOf at hy; rw [if_pos hlt] at hy
        refine hin fun i => ?_
        match i with
        | ⟨0, _⟩ => show 512 * r ≤ (p 0).val ∧ (p 0).val < 512 * r + 512; omega
        | ⟨1, _⟩ => show 128 * h ≤ (p 1).val ∧ (p 1).val < 128 * h + 128; omega
      · unfold headOf at hy; rw [if_neg hlt] at hy
        refine hin1 fun i => ?_
        match i with
        | ⟨0, _⟩ => show 512 * r ≤ (p 0).val ∧ (p 0).val < 512 * r + 512; omega
        | ⟨1, _⟩ => show 1024 + h ≤ (p 1).val ∧ (p 1).val < 1024 + h + 1; omega

end Cert.KernelIdeal.Run

end
-- ==== Proof.Run.Steps.lean ====
module

public import proofs.«01_k».proof.Proof.Run.Vals

@[expose] public section

/-! One lemma for each step of the body that a device takes alone: a block cast, a head of the attention. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Staging buffer A holds half `h` of `x`. -/
def stXA (c : Dev nD) (X : FVec F S2048x1024 .f32) (h : ℕ) : sProp (MM F) :=
  iprop(∃ f : FVec F S1024x1024 .f32, pts c cc0_scratch0 f ∗ ⌜∀ q : S1024x1024.Idx, f q = X (i2 (1024 * h + (q 0).val) (q 1).val)⌝)

/-- Staging buffer B holds half `h` of `x`. -/
def stXB (c : Dev nD) (X : FVec F S2048x1024 .f32) (h : ℕ) : sProp (MM F) :=
  iprop(∃ f : FVec F S1024x1024 .f32, pts c cc0_scratch1 f ∗ ⌜∀ q : S1024x1024.Idx, f q = X (i2 (1024 * h + (q 0).val) (q 1).val)⌝)

/-- Staging buffer 3A holds quarter `h` of `K` or `V`. -/
def stKA (c : Dev nD) (X : FVec F S2048x8x128 .f32) (h : ℕ) : sProp (MM F) :=
  iprop(∃ f : FVec F S512x8x128 .f32, pts c cc0_scratch2 f ∗ ⌜∀ q : S512x8x128.Idx, f q = X (i3 (512 * h + (q 0).val) (q 1).val (q 2).val)⌝)

/-- Staging buffer 3B holds quarter `h` of `K` or `V`. -/
def stKB (c : Dev nD) (X : FVec F S2048x8x128 .f32) (h : ℕ) : sProp (MM F) :=
  iprop(∃ f : FVec F S512x8x128 .f32, pts c cc0_scratch3 f ∗ ⌜∀ q : S512x8x128.Idx, f q = X (i3 (512 * h + (q 0).val) (q 1).val (q 2).val)⌝)

/-- The grouped `x` buffer, filled with `t` up to block `b`. -/
def xgAt (c : Dev nD) (t : FVec F S2048x1024 .bf16) (b : ℕ) : sProp (MM F) :=
  iprop(∃ g : FVec F S2048x1024 .bf16, pts c cc0_scratch6 g ∗ ⌜XInv t g b⌝)

/-- The grouped `K` buffer, filled with `t` up to block `b`. -/
def kgAt (c : Dev nD) (t : FVec F S2048x1024 .bf16) (b : ℕ) : sProp (MM F) :=
  iprop(∃ g : FVec F S2048x1024 .bf16, pts c cc0_scratch8 g ∗ ⌜XInv t g b⌝)

/-- The grouped `V` buffer, filled with `t` up to block `b`. -/
def vgAt (c : Dev nD) (t : FVec F S2048x1024 .bf16) (b : ℕ) : sProp (MM F) :=
  iprop(∃ g : FVec F S2048x1024 .bf16, pts c cc0_scratch9 g ∗ ⌜XInv t g b⌝)

theorem castX_A (c : Dev nD) (X : FVec F S2048x1024 .f32) (b h : ℕ) (hb : b < 32) (hh : b / 16 = h) {hd : xgB.IsWhole}
    {so : Fin 2 → ℕ} {hs : ∀ a, so a + S64x1024.size a ≤ S1024x1024.size a}
    {xo : Fin 2 → ℕ} {hx : ∀ a, xo a + S64x1024.size a ≤ S2048x1024.size a}
    {hp : (Rect.unit (s := S2048x1024) xo S64x1024.size hx).PackedRows (EltTy.packing .bf16)} {k : BProg F} {Q : PUnit → sProp (MM F)}
    (hso : so = ![64 * (b % 16), 0]) (hxo : xo = ![b % 4 * 512 + b / 4 * 64, 0]) :
    iprop(stXA c X h ∗ xgAt c (xgv X) b)
      ⊢ iprop(((stXA c X h ∗ xgAt c (xgv X) (b + 1)) -∗ wpB c k Q)
          -∗ wpB c (castX stA xgB hd so hs xo hx hp k) Q) := by
  subst hso hxo hh
  unfold castX stXA xgAt
  iintro ⟨⟨%f, Hf, %hf⟩, ⟨%g, Hg, %hg⟩⟩ Hk
  iapply (wp_load 𝒱₀ (c : Thread nD τ) none Set.univ (m := stA) (Finset.subset_univ _)) $$ Hf; iintro Hf
  iapply (wp_load 𝒱₀ (c : Thread nD τ) none Set.univ (m := xgB) (Finset.subset_univ _)) $$ Hg; iintro Hg
  iapply (wp_store 𝒱₀ (c : Thread nD τ) none Set.univ (m := xgB) (r := Rect.unit (s := S2048x1024) _ S64x1024.size hx) (Mk := Finset.univ) (Finset.subset_univ _)) $$ Hg; iintro Hg
  ihave H := (Entails.of_eq (congrArg (pts c cc0_scratch6) (View.write_whole_slice_unit cc0_scratch6 _ S64x1024.size hx g _))) $$ Hg
  iapply Hk
  isplitl [Hf]
  · iexists f; isplitl [Hf]; · iexact Hf
    · ipureintro; exact hf
  · iexists _; isplitl [H]; · iexact H
    · ipureintro
      refine xStep hb hf hg (fun i => ?_) _
      rw [View.readAt_apply]
      refine congrArg f (i2_eq _ ?_ ?_).symm
      · have h0 : (i 0).val < 64 := (i 0).isLt
        show (64 * (b % 16) + (i 0).val) % 1024 = 64 * (b % 16) + 1 * (i 0).val; omega
      · have h1 : (i 1).val < 1024 := (i 1).isLt
        show (i 1).val % 1024 = 0 + 1 * (i 1).val; omega

theorem castX_B (c : Dev nD) (X : FVec F S2048x1024 .f32) (b h : ℕ) (hb : b < 32) (hh : b / 16 = h) {hd : xgB.IsWhole}
    {so : Fin 2 → ℕ} {hs : ∀ a, so a + S64x1024.size a ≤ S1024x1024.size a}
    {xo : Fin 2 → ℕ} {hx : ∀ a, xo a + S64x1024.size a ≤ S2048x1024.size a}
    {hp : (Rect.unit (s := S2048x1024) xo S64x1024.size hx).PackedRows (EltTy.packing .bf16)} {k : BProg F} {Q : PUnit → sProp (MM F)}
    (hso : so = ![64 * (b % 16), 0]) (hxo : xo = ![b % 4 * 512 + b / 4 * 64, 0]) :
    iprop(stXB c X h ∗ xgAt c (xgv X) b)
      ⊢ iprop(((stXB c X h ∗ xgAt c (xgv X) (b + 1)) -∗ wpB c k Q)
          -∗ wpB c (castX stB xgB hd so hs xo hx hp k) Q) := by
  subst hso hxo hh
  unfold castX stXB xgAt
  iintro ⟨⟨%f, Hf, %hf⟩, ⟨%g, Hg, %hg⟩⟩ Hk
  iapply (wp_load 𝒱₀ (c : Thread nD τ) none Set.univ (m := stB) (Finset.subset_univ _)) $$ Hf; iintro Hf
  iapply (wp_load 𝒱₀ (c : Thread nD τ) none Set.univ (m := xgB) (Finset.subset_univ _)) $$ Hg; iintro Hg
  iapply (wp_store 𝒱₀ (c : Thread nD τ) none Set.univ (m := xgB) (r := Rect.unit (s := S2048x1024) _ S64x1024.size hx) (Mk := Finset.univ) (Finset.subset_univ _)) $$ Hg; iintro Hg
  ihave H := (Entails.of_eq (congrArg (pts c cc0_scratch6) (View.write_whole_slice_unit cc0_scratch6 _ S64x1024.size hx g _))) $$ Hg
  iapply Hk
  isplitl [Hf]
  · iexists f; isplitl [Hf]; · iexact Hf
    · ipureintro; exact hf
  · iexists _; isplitl [H]; · iexact H
    · ipureintro
      refine xStep hb hf hg (fun i => ?_) _
      rw [View.readAt_apply]
      refine congrArg f (i2_eq _ ?_ ?_).symm
      · have h0 : (i 0).val < 64 := (i 0).isLt
        show (64 * (b % 16) + (i 0).val) % 1024 = 64 * (b % 16) + 1 * (i 0).val; omega
      · have h1 : (i 1).val < 1024 := (i 1).isLt
        show (i 1).val % 1024 = 0 + 1 * (i 1).val; omega

theorem castKV_A_kg (c : Dev nD) (X : FVec F S2048x8x128 .f32) (b h : ℕ) (hb : b < 32) (hh : b / 8 = h) {hd : kgB.IsWhole}
    {so : Fin 3 → ℕ} {hs : ∀ a, so a + S64x8x128.size a ≤ S512x8x128.size a}
    {xo : Fin 2 → ℕ} {hx : ∀ a, xo a + S64x1024.size a ≤ S2048x1024.size a}
    {hp : (Rect.unit (s := S2048x1024) xo S64x1024.size hx).PackedRows (EltTy.packing .bf16)} {k : BProg F} {Q : PUnit → sProp (MM F)}
    (hso : so = ![64 * (b % 8), 0, 0]) (hxo : xo = ![b % 4 * 512 + b / 4 * 64, 0]) :
    iprop(stKA c X h ∗ kgAt c (kgv X) b)
      ⊢ iprop(((stKA c X h ∗ kgAt c (kgv X) (b + 1)) -∗ wpB c k Q)
          -∗ wpB c (castKV st3A kgB hd so hs xo hx hp k) Q) := by
  subst hso hxo hh
  unfold castKV stKA kgAt
  iintro ⟨⟨%f, Hf, %hf⟩, ⟨%g, Hg, %hg⟩⟩ Hk
  iapply (wp_load 𝒱₀ (c : Thread nD τ) none Set.univ (m := st3A) (Finset.subset_univ _)) $$ Hf; iintro Hf
  iapply (wp_load 𝒱₀ (c : Thread nD τ) none Set.univ (m := kgB) (Finset.subset_univ _)) $$ Hg; iintro Hg
  iapply (wp_store 𝒱₀ (c : Thread nD τ) none Set.univ (m := kgB) (r := Rect.unit (s := S2048x1024) _ S64x1024.size hx) (Mk := Finset.univ) (Finset.subset_univ _)) $$ Hg; iintro Hg
  ihave H := (Entails.of_eq (congrArg (pts c cc0_scratch8) (View.write_whole_slice_unit cc0_scratch8 _ S64x1024.size hx g _))) $$ Hg
  iapply Hk
  isplitl [Hf]
  · iexists f; isplitl [Hf]; · iexact Hf
    · ipureintro; exact hf
  · iexists _; isplitl [H]; · iexact H
    · ipureintro
      refine kStep hb hf hg (fun i => ?_) _
      rw [View.readAt_apply]
      refine congrArg f (i3_eq _ ?_ ?_ ?_).symm
      · have h0 : (i 0).val < 64 := (i 0).isLt
        show (64 * (b % 8) + (i 0).val) % 512 = 64 * (b % 8) + 1 * (i 0).val; omega
      · have h1 : (i 1).val < 8 := (i 1).isLt
        show (i 1).val % 8 = 0 + 1 * (i 1).val; omega
      · have h1 : (i 2).val < 128 := (i 2).isLt
        show (i 2).val % 128 = 0 + 1 * (i 2).val; omega

theorem castKV_A_vg (c : Dev nD) (X : FVec F S2048x8x128 .f32) (b h : ℕ) (hb : b < 32) (hh : b / 8 = h) {hd : vgB.IsWhole}
    {so : Fin 3 → ℕ} {hs : ∀ a, so a + S64x8x128.size a ≤ S512x8x128.size a}
    {xo : Fin 2 → ℕ} {hx : ∀ a, xo a + S64x1024.size a ≤ S2048x1024.size a}
    {hp : (Rect.unit (s := S2048x1024) xo S64x1024.size hx).PackedRows (EltTy.packing .bf16)} {k : BProg F} {Q : PUnit → sProp (MM F)}
    (hso : so = ![64 * (b % 8), 0, 0]) (hxo : xo = ![b % 4 * 512 + b / 4 * 64, 0]) :
    iprop(stKA c X h ∗ vgAt c (kgv X) b)
      ⊢ iprop(((stKA c X h ∗ vgAt c (kgv X) (b + 1)) -∗ wpB c k Q)
          -∗ wpB c (castKV st3A vgB hd so hs xo hx hp k) Q) := by
  subst hso hxo hh
  unfold castKV stKA vgAt
  iintro ⟨⟨%f, Hf, %hf⟩, ⟨%g, Hg, %hg⟩⟩ Hk
  iapply (wp_load 𝒱₀ (c : Thread nD τ) none Set.univ (m := st3A) (Finset.subset_univ _)) $$ Hf; iintro Hf
  iapply (wp_load 𝒱₀ (c : Thread nD τ) none Set.univ (m := vgB) (Finset.subset_univ _)) $$ Hg; iintro Hg
  iapply (wp_store 𝒱₀ (c : Thread nD τ) none Set.univ (m := vgB) (r := Rect.unit (s := S2048x1024) _ S64x1024.size hx) (Mk := Finset.univ) (Finset.subset_univ _)) $$ Hg; iintro Hg
  ihave H := (Entails.of_eq (congrArg (pts c cc0_scratch9) (View.write_whole_slice_unit cc0_scratch9 _ S64x1024.size hx g _))) $$ Hg
  iapply Hk
  isplitl [Hf]
  · iexists f; isplitl [Hf]; · iexact Hf
    · ipureintro; exact hf
  · iexists _; isplitl [H]; · iexact H
    · ipureintro
      refine kStep hb hf hg (fun i => ?_) _
      rw [View.readAt_apply]
      refine congrArg f (i3_eq _ ?_ ?_ ?_).symm
      · have h0 : (i 0).val < 64 := (i 0).isLt
        show (64 * (b % 8) + (i 0).val) % 512 = 64 * (b % 8) + 1 * (i 0).val; omega
      · have h1 : (i 1).val < 8 := (i 1).isLt
        show (i 1).val % 8 = 0 + 1 * (i 1).val; omega
      · have h1 : (i 2).val < 128 := (i 2).isLt
        show (i 2).val % 128 = 0 + 1 * (i 2).val; omega

theorem castKV_B_kg (c : Dev nD) (X : FVec F S2048x8x128 .f32) (b h : ℕ) (hb : b < 32) (hh : b / 8 = h) {hd : kgB.IsWhole}
    {so : Fin 3 → ℕ} {hs : ∀ a, so a + S64x8x128.size a ≤ S512x8x128.size a}
    {xo : Fin 2 → ℕ} {hx : ∀ a, xo a + S64x1024.size a ≤ S2048x1024.size a}
    {hp : (Rect.unit (s := S2048x1024) xo S64x1024.size hx).PackedRows (EltTy.packing .bf16)} {k : BProg F} {Q : PUnit → sProp (MM F)}
    (hso : so = ![64 * (b % 8), 0, 0]) (hxo : xo = ![b % 4 * 512 + b / 4 * 64, 0]) :
    iprop(stKB c X h ∗ kgAt c (kgv X) b)
      ⊢ iprop(((stKB c X h ∗ kgAt c (kgv X) (b + 1)) -∗ wpB c k Q)
          -∗ wpB c (castKV st3B kgB hd so hs xo hx hp k) Q) := by
  subst hso hxo hh
  unfold castKV stKB kgAt
  iintro ⟨⟨%f, Hf, %hf⟩, ⟨%g, Hg, %hg⟩⟩ Hk
  iapply (wp_load 𝒱₀ (c : Thread nD τ) none Set.univ (m := st3B) (Finset.subset_univ _)) $$ Hf; iintro Hf
  iapply (wp_load 𝒱₀ (c : Thread nD τ) none Set.univ (m := kgB) (Finset.subset_univ _)) $$ Hg; iintro Hg
  iapply (wp_store 𝒱₀ (c : Thread nD τ) none Set.univ (m := kgB) (r := Rect.unit (s := S2048x1024) _ S64x1024.size hx) (Mk := Finset.univ) (Finset.subset_univ _)) $$ Hg; iintro Hg
  ihave H := (Entails.of_eq (congrArg (pts c cc0_scratch8) (View.write_whole_slice_unit cc0_scratch8 _ S64x1024.size hx g _))) $$ Hg
  iapply Hk
  isplitl [Hf]
  · iexists f; isplitl [Hf]; · iexact Hf
    · ipureintro; exact hf
  · iexists _; isplitl [H]; · iexact H
    · ipureintro
      refine kStep hb hf hg (fun i => ?_) _
      rw [View.readAt_apply]
      refine congrArg f (i3_eq _ ?_ ?_ ?_).symm
      · have h0 : (i 0).val < 64 := (i 0).isLt
        show (64 * (b % 8) + (i 0).val) % 512 = 64 * (b % 8) + 1 * (i 0).val; omega
      · have h1 : (i 1).val < 8 := (i 1).isLt
        show (i 1).val % 8 = 0 + 1 * (i 1).val; omega
      · have h1 : (i 2).val < 128 := (i 2).isLt
        show (i 2).val % 128 = 0 + 1 * (i 2).val; omega

theorem castKV_B_vg (c : Dev nD) (X : FVec F S2048x8x128 .f32) (b h : ℕ) (hb : b < 32) (hh : b / 8 = h) {hd : vgB.IsWhole}
    {so : Fin 3 → ℕ} {hs : ∀ a, so a + S64x8x128.size a ≤ S512x8x128.size a}
    {xo : Fin 2 → ℕ} {hx : ∀ a, xo a + S64x1024.size a ≤ S2048x1024.size a}
    {hp : (Rect.unit (s := S2048x1024) xo S64x1024.size hx).PackedRows (EltTy.packing .bf16)} {k : BProg F} {Q : PUnit → sProp (MM F)}
    (hso : so = ![64 * (b % 8), 0, 0]) (hxo : xo = ![b % 4 * 512 + b / 4 * 64, 0]) :
    iprop(stKB c X h ∗ vgAt c (kgv X) b)
      ⊢ iprop(((stKB c X h ∗ vgAt c (kgv X) (b + 1)) -∗ wpB c k Q)
          -∗ wpB c (castKV st3B vgB hd so hs xo hx hp k) Q) := by
  subst hso hxo hh
  unfold castKV stKB vgAt
  iintro ⟨⟨%f, Hf, %hf⟩, ⟨%g, Hg, %hg⟩⟩ Hk
  iapply (wp_load 𝒱₀ (c : Thread nD τ) none Set.univ (m := st3B) (Finset.subset_univ _)) $$ Hf; iintro Hf
  iapply (wp_load 𝒱₀ (c : Thread nD τ) none Set.univ (m := vgB) (Finset.subset_univ _)) $$ Hg; iintro Hg
  iapply (wp_store 𝒱₀ (c : Thread nD τ) none Set.univ (m := vgB) (r := Rect.unit (s := S2048x1024) _ S64x1024.size hx) (Mk := Finset.univ) (Finset.subset_univ _)) $$ Hg; iintro Hg
  ihave H := (Entails.of_eq (congrArg (pts c cc0_scratch9) (View.write_whole_slice_unit cc0_scratch9 _ S64x1024.size hx g _))) $$ Hg
  iapply Hk
  isplitl [Hf]
  · iexists f; isplitl [Hf]; · iexact Hf
    · ipureintro; exact hf
  · iexists _; isplitl [H]; · iexact H
    · ipureintro
      refine kStep hb hf hg (fun i => ?_) _
      rw [View.readAt_apply]
      refine congrArg f (i3_eq _ ?_ ?_ ?_).symm
      · have h0 : (i 0).val < 64 := (i 0).isLt
        show (64 * (b % 8) + (i 0).val) % 512 = 64 * (b % 8) + 1 * (i 0).val; omega
      · have h1 : (i 1).val < 8 := (i 1).isLt
        show (i 1).val % 8 = 0 + 1 * (i 1).val; omega
      · have h1 : (i 2).val < 128 := (i 2).isLt
        show (i 2).val % 128 = 0 + 1 * (i 2).val; omega

/-- The partial sums, filled where `S` tells. -/
def accAt (c : Dev nD) (t : FVec F S2048x1152 .f32) (S : ℕ → ℕ → Prop) : sProp (MM F) :=
  iprop(∃ g : FVec F S2048x1152 .f32, pts c cc0_scratch10 g ∗ ⌜AInv t g S⌝)

theorem accAt_mono {c : Dev nD} {t : FVec F S2048x1152 .f32} {S T : ℕ → ℕ → Prop} (h : ∀ a b, a < 8 → b < 8 → T a b → S a b) :
    accAt c t S ⊢ accAt c t T := by
  unfold accAt
  iintro ⟨%g, Hg, %hg⟩
  iexists g; isplitl [Hg]; · iexact Hg
  · ipureintro; exact hg.mono h

theorem head256_step (c : Dev nD) (Q K V : FVec F S2048x1024 .bf16) (S : ℕ → ℕ → Prop) (a h : ℕ) (ha : a < 8) (hh : h < 8) (hpar : (a / 2 + c.val) % 2 = 0)
    {oq : Fin 2 → ℕ} {hq : ∀ a, oq a + S256x128.size a ≤ S2048x1024.size a}
    {ok : Fin 2 → ℕ} {hk : ∀ a, ok a + S512x128.size a ≤ S2048x1024.size a}
    {os : Fin 2 → ℕ} {hs : ∀ a, os a + S256x1.size a ≤ S2048x1152.size a}
    {on : Fin 2 → ℕ} {hn : ∀ a, on a + S256x128.size a ≤ S2048x1152.size a} {k : BProg F} {P : PUnit → sProp (MM F)}
    (eq : oq = ![256 * a, 128 * h]) (ek : ok = ![512 * (a / 2), 128 * h]) (es : os = ![256 * a, 1024 + h]) (en : on = ![256 * a, 128 * h]) :
    iprop(pts c cc0_scratch7 Q ∗ pts c cc0_scratch8 K ∗ pts c cc0_scratch9 V ∗ accAt c (accv c.val Q K V) S)
      ⊢ iprop(((pts c cc0_scratch7 Q ∗ pts c cc0_scratch8 K ∗ pts c cc0_scratch9 V ∗ accAt c (accv c.val Q K V) (fun x y => (x = a ∧ y = h) ∨ S x y)) -∗ wpB c k P)
          -∗ wpB c (head256 oq hq ok hk os hs on hn k) P) := by
  subst eq ek es en
  unfold head256 accAt
  iintro ⟨HQ, HK, HV, ⟨%g, Hg, %hg⟩⟩ Hk
  iapply (wp_load 𝒱₀ (c : Thread nD τ) none Set.univ (m := qgB) (Finset.subset_univ _)) $$ HQ; iintro HQ
  iapply (wp_load 𝒱₀ (c : Thread nD τ) none Set.univ (m := kgB) (Finset.subset_univ _)) $$ HK; iintro HK
  iapply (wp_load 𝒱₀ (c : Thread nD τ) none Set.univ (m := accB) (Finset.subset_univ _)) $$ Hg; iintro Hg
  iapply (wp_store 𝒱₀ (c : Thread nD τ) none Set.univ (m := accB) (r := Rect.unit (s := S2048x1152) _ S256x1.size hs) (Mk := Finset.univ) (Finset.subset_univ _)) $$ Hg; iintro Hg
  ihave Hg := (Entails.of_eq (congrArg (pts c cc0_scratch10) (View.write_whole_slice_unit cc0_scratch10 _ S256x1.size hs g _))) $$ Hg
  iapply (wp_load 𝒱₀ (c : Thread nD τ) none Set.univ (m := vgB) (Finset.subset_univ _)) $$ HV; iintro HV
  iapply (wp_load 𝒱₀ (c : Thread nD τ) none Set.univ (m := accB) (Finset.subset_univ _)) $$ Hg; iintro Hg
  iapply (wp_store 𝒱₀ (c : Thread nD τ) none Set.univ (m := accB) (r := Rect.unit (s := S2048x1152) _ S256x128.size hn) (Mk := Finset.univ) (Finset.subset_univ _)) $$ Hg; iintro Hg
  ihave Hg := (Entails.of_eq (congrArg (pts c cc0_scratch10) (View.write_whole_slice_unit cc0_scratch10 _ S256x128.size hn _ _))) $$ Hg
  iapply Hk
  isplitl [HQ]; · iexact HQ
  isplitl [HK]; · iexact HK
  isplitl [HV]; · iexact HV
  iexists _; isplitl [Hg]; · iexact Hg
  · ipureintro
    refine aStep256 ha hh hpar hg ?_ ?_ ?_ _ _
    · funext i
      rw [View.readAt_apply]
      refine congrArg Q (i2_eq _ ?_ ?_).symm
      · have h0 : (i 0).val < 256 := (i 0).isLt
        show (256 * a + (i 0).val) % 2048 = 256 * a + 1 * (i 0).val; omega
      · have h1 : (i 1).val < 128 := (i 1).isLt
        show (128 * h + (i 1).val) % 1024 = 128 * h + 1 * (i 1).val; omega
    · funext i
      rw [View.readAt_apply]
      refine congrArg K (i2_eq _ ?_ ?_).symm
      · have h0 : (i 0).val < 512 := (i 0).isLt
        show (512 * (a / 2) + (i 0).val) % 2048 = 512 * (a / 2) + 1 * (i 0).val; omega
      · have h1 : (i 1).val < 128 := (i 1).isLt
        show (128 * h + (i 1).val) % 1024 = 128 * h + 1 * (i 1).val; omega
    · funext i
      rw [View.readAt_apply]
      refine congrArg V (i2_eq _ ?_ ?_).symm
      · have h0 : (i 0).val < 512 := (i 0).isLt
        show (512 * (a / 2) + (i 0).val) % 2048 = 512 * (a / 2) + 1 * (i 0).val; omega
      · have h1 : (i 1).val < 128 := (i 1).isLt
        show (128 * h + (i 1).val) % 1024 = 128 * h + 1 * (i 1).val; omega

theorem head512_step (c : Dev nD) (Q K V : FVec F S2048x1024 .bf16) (S : ℕ → ℕ → Prop) (a h : ℕ) (ha : a < 4) (hh : h < 8) (hpar : (a + c.val) % 2 ≠ 0)
    {oq : Fin 2 → ℕ} {hq : ∀ a, oq a + S512x128.size a ≤ S2048x1024.size a}
    {ok : Fin 2 → ℕ} {hk : ∀ a, ok a + S512x128.size a ≤ S2048x1024.size a}
    {os : Fin 2 → ℕ} {hs : ∀ a, os a + S512x1.size a ≤ S2048x1152.size a}
    {on : Fin 2 → ℕ} {hn : ∀ a, on a + S512x128.size a ≤ S2048x1152.size a} {k : BProg F} {P : PUnit → sProp (MM F)}
    (eq : oq = ![512 * a, 128 * h]) (ek : ok = ![512 * a, 128 * h]) (es : os = ![512 * a, 1024 + h]) (en : on = ![512 * a, 128 * h]) :
    iprop(pts c cc0_scratch7 Q ∗ pts c cc0_scratch8 K ∗ pts c cc0_scratch9 V ∗ accAt c (accv c.val Q K V) S)
      ⊢ iprop(((pts c cc0_scratch7 Q ∗ pts c cc0_scratch8 K ∗ pts c cc0_scratch9 V ∗ accAt c (accv c.val Q K V) (fun x y => (x / 2 = a ∧ y = h) ∨ S x y)) -∗ wpB c k P)
          -∗ wpB c (head512 oq hq ok hk os hs on hn k) P) := by
  subst eq ek es en
  unfold head512 accAt
  iintro ⟨HQ, HK, HV, ⟨%g, Hg, %hg⟩⟩ Hk
  iapply (wp_load 𝒱₀ (c : Thread nD τ) none Set.univ (m := qgB) (Finset.subset_univ _)) $$ HQ; iintro HQ
  iapply (wp_load 𝒱₀ (c : Thread nD τ) none Set.univ (m := kgB) (Finset.subset_univ _)) $$ HK; iintro HK
  iapply (wp_load 𝒱₀ (c : Thread nD τ) none Set.univ (m := accB) (Finset.subset_univ _)) $$ Hg; iintro Hg
  iapply (wp_store 𝒱₀ (c : Thread nD τ) none Set.univ (m := accB) (r := Rect.unit (s := S2048x1152) _ S512x1.size hs) (Mk := Finset.univ) (Finset.subset_univ _)) $$ Hg; iintro Hg
  ihave Hg := (Entails.of_eq (congrArg (pts c cc0_scratch10) (View.write_whole_slice_unit cc0_scratch10 _ S512x1.size hs g _))) $$ Hg
  iapply (wp_load 𝒱₀ (c : Thread nD τ) none Set.univ (m := vgB) (Finset.subset_univ _)) $$ HV; iintro HV
  iapply (wp_load 𝒱₀ (c : Thread nD τ) none Set.univ (m := accB) (Finset.subset_univ _)) $$ Hg; iintro Hg
  iapply (wp_store 𝒱₀ (c : Thread nD τ) none Set.univ (m := accB) (r := Rect.unit (s := S2048x1152) _ S512x128.size hn) (Mk := Finset.univ) (Finset.subset_univ _)) $$ Hg; iintro Hg
  ihave Hg := (Entails.of_eq (congrArg (pts c cc0_scratch10) (View.write_whole_slice_unit cc0_scratch10 _ S512x128.size hn _ _))) $$ Hg
  iapply Hk
  isplitl [HQ]; · iexact HQ
  isplitl [HK]; · iexact HK
  isplitl [HV]; · iexact HV
  iexists _; isplitl [Hg]; · iexact Hg
  · ipureintro
    refine aStep512 ha hh hpar hg ?_ ?_ ?_ _ _
    · funext i
      rw [View.readAt_apply]
      refine congrArg Q (i2_eq _ ?_ ?_).symm
      · have h0 : (i 0).val < 512 := (i 0).isLt
        show (512 * a + (i 0).val) % 2048 = 512 * a + 1 * (i 0).val; omega
      · have h1 : (i 1).val < 128 := (i 1).isLt
        show (128 * h + (i 1).val) % 1024 = 128 * h + 1 * (i 1).val; omega
    · funext i
      rw [View.readAt_apply]
      refine congrArg K (i2_eq _ ?_ ?_).symm
      · have h0 : (i 0).val < 512 := (i 0).isLt
        show (512 * a + (i 0).val) % 2048 = 512 * a + 1 * (i 0).val; omega
      · have h1 : (i 1).val < 128 := (i 1).isLt
        show (128 * h + (i 1).val) % 1024 = 128 * h + 1 * (i 1).val; omega
    · funext i
      rw [View.readAt_apply]
      refine congrArg V (i2_eq _ ?_ ?_).symm
      · have h0 : (i 0).val < 512 := (i 0).isLt
        show (512 * a + (i 0).val) % 2048 = 512 * a + 1 * (i 0).val; omega
      · have h1 : (i 1).val < 128 := (i 1).isLt
        show (128 * h + (i 1).val) % 1024 = 128 * h + 1 * (i 1).val; omega

end Cert.KernelIdeal.Run

end
-- ==== Proof.Run.Local.lean ====
module

public import proofs.«01_k».proof.Proof.Run.Steps

@[expose] public section

/-! The device's own copies out of its arguments: issuing one, waiting for it, and what the staging buffer then holds. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Device `c` owes `O`; which waits it has made is not kept. -/
def owesE (c : Dev nD) (O : CellTallies nD τ sig Bool) : sProp (MM F) := iprop(∃ W, owes (c : Thread nD τ) O W)

/-- A copy under way out of an argument of which a share is held: the copy, and the elements it does not read. -/
def inFlight (c : Dev nD) {s : Shape} {e : EltTy} (src : Memref sig .tc .hbm s e) (dst : Memref sig .tc .vmem s e) (sem : DmaSem sig)
    (q : PosShare TreeShare) (A : Buf (Elt F) (src.view.loc (c : Thread nD τ))) (fd : Buf (Elt F) (dst.view.loc (c : Thread nD τ))) : sProp (MM F) :=
  iprop(Transfers.Flight EC (c : Thread nD τ) (.dma sem) false dst.view.dmaCredit
      iprop((dst.view.loc (c : Thread nD τ) ↦{fullShare} (dst.view.write (Elt F) fd (src.view.read (Elt F) A) Finset.univ))
        ∗ (src.view.loc (c : Thread nD τ) ↦[src.view.set]{q} A))
    ∗ (src.view.loc (c : Thread nD τ) ↦[Finset.univ \ src.view.set]{q} A))

theorem enq_in (c : Dev nD) {s : Shape} {e : EltTy} {src : Memref sig .tc .hbm s e} {dst : Memref sig .tc .vmem s e} {sem : DmaSem sig}
    {q : PosShare TreeShare} {A : Buf (Elt F) (src.view.loc (c : Thread nD τ))} {fd : Buf (Elt F) (dst.view.loc (c : Thread nD τ))}
    {hsrc : src.view.WordExact} {hdst : dst.view.WordExact} {hsem : DmaTarget.Typed (nD := nD) (τ := τ) (p := .tc) .hbm (.dma sem) (.here dst)}
    {k : BProg F} {Q : PUnit → sProp (MM F)} (h0 : 0 < s.numel) :
    iprop((src.view.loc (c : Thread nD τ) ↦{q} A) ∗ (dst.view.loc (c : Thread nD τ) ↦{fullShare} fd) ∗ semVal ((c : Thread nD τ), .dma sem) 0)
      ⊢ iprop((inFlight c src dst sem q A fd -∗ wpB c k Q)
          -∗ wpB c (.op (.enqueueDma src (.here dst) (.dma sem) hsrc hdst hsem) fun _ => k) Q) := by
  unfold inFlight
  iintro ⟨Hs, Hd, Hv⟩ Hk
  ihave Hs := (pointsTo_split_subset (ℓ := src.view.loc (c : Thread nD τ)) (I := src.view.set) (S := Finset.univ) (q := q) (f := A) (Finset.subset_univ _)).1 $$ Hs
  icases Hs with ⟨Hs, Hr⟩
  iapply (Transfers.wp_dmaLocal EC 𝒱₀ (c : Thread nD τ) none false dst.view.dmaCredit rfl (View.dmaCredit_pos _ h0) (Finset.subset_univ _)) $$ [Hs Hd Hv]
  · isplitl [Hs]; · iexact Hs
    isplitl [Hd] <;> iassumption
  iintro HF
  iapply Hk
  isplitl [HF] <;> iassumption

theorem wait_in (c : Dev nD) {s : Shape} {e : EltTy} {src : Memref sig .tc .hbm s e} {dst : Memref sig .tc .vmem s e} {sem : DmaSem sig}
    {q : PosShare TreeShare} {A : Buf (Elt F) (src.view.loc (c : Thread nD τ))} {fd : Buf (Elt F) (dst.view.loc (c : Thread nD τ))}
    {hsrc : src.view.WordExact} {hdst : dst.view.WordExact} {O : CellTallies nD τ sig Bool}
    {k : BProg F} {Q : PUnit → sProp (MM F)} :
    iprop(inFlight c src dst sem q A fd ∗ owesE c O ∗ MayWait (c : Thread nD τ) (.dma sem) false O)
      ⊢ iprop((((src.view.loc (c : Thread nD τ) ↦{q} A) ∗ (dst.view.loc (c : Thread nD τ) ↦{fullShare} (dst.view.write (Elt F) fd (src.view.read (Elt F) A) Finset.univ))
            ∗ semVal ((c : Thread nD τ), .dma sem) 0 ∗ owesE c O) -∗ wpB c k Q)
          -∗ wpB c (.op (.waitDma2 sem src dst hsrc hdst) fun _ => k) Q) := by
  unfold inFlight owesE
  iintro ⟨⟨HF, Hr⟩, ⟨%W, HO⟩, HM⟩ Hk
  iapply (Transfers.wp_waitLocalO EC 𝒱₀ (c : Thread nD τ) none false rfl) $$ [HF HO HM]
  · isplitl [HF]; · iexact HF
    isplitl [HO] <;> iassumption
  iintro ⟨⟨Hd, Hs⟩, Hv, HO⟩
  ihave Hs := (pointsTo_split_subset (ℓ := src.view.loc (c : Thread nD τ)) (I := src.view.set) (S := Finset.univ) (q := q) (f := A) (Finset.subset_univ _)).2 $$ [Hs Hr]
  · isplitl [Hs] <;> iassumption
  iapply Hk
  isplitl [Hs]; · iexact Hs
  isplitl [Hd]; · iexact Hd
  isplitl [Hv]; · iexact Hv
  iexists _; iexact HO

theorem landed_xA0 (c : Dev nD) (X : FVec F S2048x1024 .f32) (fd : FVec F S1024x1024 .f32) :
    (pts c cc0_scratch0 (stA.view.write (Elt F) fd (xA0.view.read (Elt F) X) Finset.univ)) ⊢ stXA c X 0 := by
  unfold stXA
  iintro H
  ihave H := (Entails.of_eq (congrArg (pts c cc0_scratch0) (View.write_whole_univ cc0_scratch0 fd (xA0.view.read (Elt F) X)))) $$ H
  iexists _; isplitl [H]; · iexact H
  ipureintro
  intro q
  refine congrArg X (funext fun a => ?_)
  have h0 : (q 0).val < 1024 := (q 0).isLt
  have h1 : (q 1).val < 1024 := (q 1).isLt
  fin_cases a <;> apply Fin.ext
  · show 0 + 1 * (q 0).val = (1024 * 0 + (q 0).val) % 2048
    omega
  · show 0 + 1 * (q 1).val = (q 1).val % 1024
    omega

theorem landed_xA1024 (c : Dev nD) (X : FVec F S2048x1024 .f32) (fd : FVec F S1024x1024 .f32) :
    (pts c cc0_scratch1 (stB.view.write (Elt F) fd (xA1024.view.read (Elt F) X) Finset.univ)) ⊢ stXB c X 1 := by
  unfold stXB
  iintro H
  ihave H := (Entails.of_eq (congrArg (pts c cc0_scratch1) (View.write_whole_univ cc0_scratch1 fd (xA1024.view.read (Elt F) X)))) $$ H
  iexists _; isplitl [H]; · iexact H
  ipureintro
  intro q
  refine congrArg X (funext fun a => ?_)
  have h0 : (q 0).val < 1024 := (q 0).isLt
  have h1 : (q 1).val < 1024 := (q 1).isLt
  fin_cases a <;> apply Fin.ext
  · show 1024 + 1 * (q 0).val = (1024 * 1 + (q 0).val) % 2048
    omega
  · show 0 + 1 * (q 1).val = (q 1).val % 1024
    omega

theorem landed_kA0 (c : Dev nD) (X : FVec F S2048x8x128 .f32) (fd : FVec F S512x8x128 .f32) :
    (pts c cc0_scratch2 (st3A.view.write (Elt F) fd (kA0.view.read (Elt F) X) Finset.univ)) ⊢ stKA c X 0 := by
  unfold stKA
  iintro H
  ihave H := (Entails.of_eq (congrArg (pts c cc0_scratch2) (View.write_whole_univ cc0_scratch2 fd (kA0.view.read (Elt F) X)))) $$ H
  iexists _; isplitl [H]; · iexact H
  ipureintro
  intro q
  refine congrArg X (funext fun a => ?_)
  have h0 : (q 0).val < 512 := (q 0).isLt
  have h1 : (q 1).val < 8 := (q 1).isLt
  have h2 : (q 2).val < 128 := (q 2).isLt
  fin_cases a <;> apply Fin.ext
  · show 0 + 1 * (q 0).val = (512 * 0 + (q 0).val) % 2048
    omega
  · show 0 + 1 * (q 1).val = (q 1).val % 8
    omega
  · show 0 + 1 * (q 2).val = (q 2).val % 128
    omega

theorem landed_kA512 (c : Dev nD) (X : FVec F S2048x8x128 .f32) (fd : FVec F S512x8x128 .f32) :
    (pts c cc0_scratch3 (st3B.view.write (Elt F) fd (kA512.view.read (Elt F) X) Finset.univ)) ⊢ stKB c X 1 := by
  unfold stKB
  iintro H
  ihave H := (Entails.of_eq (congrArg (pts c cc0_scratch3) (View.write_whole_univ cc0_scratch3 fd (kA512.view.read (Elt F) X)))) $$ H
  iexists _; isplitl [H]; · iexact H
  ipureintro
  intro q
  refine congrArg X (funext fun a => ?_)
  have h0 : (q 0).val < 512 := (q 0).isLt
  have h1 : (q 1).val < 8 := (q 1).isLt
  have h2 : (q 2).val < 128 := (q 2).isLt
  fin_cases a <;> apply Fin.ext
  · show 512 + 1 * (q 0).val = (512 * 1 + (q 0).val) % 2048
    omega
  · show 0 + 1 * (q 1).val = (q 1).val % 8
    omega
  · show 0 + 1 * (q 2).val = (q 2).val % 128
    omega

theorem landed_kA1024 (c : Dev nD) (X : FVec F S2048x8x128 .f32) (fd : FVec F S512x8x128 .f32) :
    (pts c cc0_scratch2 (st3A.view.write (Elt F) fd (kA1024.view.read (Elt F) X) Finset.univ)) ⊢ stKA c X 2 := by
  unfold stKA
  iintro H
  ihave H := (Entails.of_eq (congrArg (pts c cc0_scratch2) (View.write_whole_univ cc0_scratch2 fd (kA1024.view.read (Elt F) X)))) $$ H
  iexists _; isplitl [H]; · iexact H
  ipureintro
  intro q
  refine congrArg X (funext fun a => ?_)
  have h0 : (q 0).val < 512 := (q 0).isLt
  have h1 : (q 1).val < 8 := (q 1).isLt
  have h2 : (q 2).val < 128 := (q 2).isLt
  fin_cases a <;> apply Fin.ext
  · show 1024 + 1 * (q 0).val = (512 * 2 + (q 0).val) % 2048
    omega
  · show 0 + 1 * (q 1).val = (q 1).val % 8
    omega
  · show 0 + 1 * (q 2).val = (q 2).val % 128
    omega

theorem landed_kA1536 (c : Dev nD) (X : FVec F S2048x8x128 .f32) (fd : FVec F S512x8x128 .f32) :
    (pts c cc0_scratch3 (st3B.view.write (Elt F) fd (kA1536.view.read (Elt F) X) Finset.univ)) ⊢ stKB c X 3 := by
  unfold stKB
  iintro H
  ihave H := (Entails.of_eq (congrArg (pts c cc0_scratch3) (View.write_whole_univ cc0_scratch3 fd (kA1536.view.read (Elt F) X)))) $$ H
  iexists _; isplitl [H]; · iexact H
  ipureintro
  intro q
  refine congrArg X (funext fun a => ?_)
  have h0 : (q 0).val < 512 := (q 0).isLt
  have h1 : (q 1).val < 8 := (q 1).isLt
  have h2 : (q 2).val < 128 := (q 2).isLt
  fin_cases a <;> apply Fin.ext
  · show 1536 + 1 * (q 0).val = (512 * 3 + (q 0).val) % 2048
    omega
  · show 0 + 1 * (q 1).val = (q 1).val % 8
    omega
  · show 0 + 1 * (q 2).val = (q 2).val % 128
    omega

theorem landed_vA0 (c : Dev nD) (X : FVec F S2048x8x128 .f32) (fd : FVec F S512x8x128 .f32) :
    (pts c cc0_scratch2 (st3A.view.write (Elt F) fd (vA0.view.read (Elt F) X) Finset.univ)) ⊢ stKA c X 0 := by
  unfold stKA
  iintro H
  ihave H := (Entails.of_eq (congrArg (pts c cc0_scratch2) (View.write_whole_univ cc0_scratch2 fd (vA0.view.read (Elt F) X)))) $$ H
  iexists _; isplitl [H]; · iexact H
  ipureintro
  intro q
  refine congrArg X (funext fun a => ?_)
  have h0 : (q 0).val < 512 := (q 0).isLt
  have h1 : (q 1).val < 8 := (q 1).isLt
  have h2 : (q 2).val < 128 := (q 2).isLt
  fin_cases a <;> apply Fin.ext
  · show 0 + 1 * (q 0).val = (512 * 0 + (q 0).val) % 2048
    omega
  · show 0 + 1 * (q 1).val = (q 1).val % 8
    omega
  · show 0 + 1 * (q 2).val = (q 2).val % 128
    omega

theorem landed_vA512 (c : Dev nD) (X : FVec F S2048x8x128 .f32) (fd : FVec F S512x8x128 .f32) :
    (pts c cc0_scratch3 (st3B.view.write (Elt F) fd (vA512.view.read (Elt F) X) Finset.univ)) ⊢ stKB c X 1 := by
  unfold stKB
  iintro H
  ihave H := (Entails.of_eq (congrArg (pts c cc0_scratch3) (View.write_whole_univ cc0_scratch3 fd (vA512.view.read (Elt F) X)))) $$ H
  iexists _; isplitl [H]; · iexact H
  ipureintro
  intro q
  refine congrArg X (funext fun a => ?_)
  have h0 : (q 0).val < 512 := (q 0).isLt
  have h1 : (q 1).val < 8 := (q 1).isLt
  have h2 : (q 2).val < 128 := (q 2).isLt
  fin_cases a <;> apply Fin.ext
  · show 512 + 1 * (q 0).val = (512 * 1 + (q 0).val) % 2048
    omega
  · show 0 + 1 * (q 1).val = (q 1).val % 8
    omega
  · show 0 + 1 * (q 2).val = (q 2).val % 128
    omega

theorem landed_vA1024 (c : Dev nD) (X : FVec F S2048x8x128 .f32) (fd : FVec F S512x8x128 .f32) :
    (pts c cc0_scratch2 (st3A.view.write (Elt F) fd (vA1024.view.read (Elt F) X) Finset.univ)) ⊢ stKA c X 2 := by
  unfold stKA
  iintro H
  ihave H := (Entails.of_eq (congrArg (pts c cc0_scratch2) (View.write_whole_univ cc0_scratch2 fd (vA1024.view.read (Elt F) X)))) $$ H
  iexists _; isplitl [H]; · iexact H
  ipureintro
  intro q
  refine congrArg X (funext fun a => ?_)
  have h0 : (q 0).val < 512 := (q 0).isLt
  have h1 : (q 1).val < 8 := (q 1).isLt
  have h2 : (q 2).val < 128 := (q 2).isLt
  fin_cases a <;> apply Fin.ext
  · show 1024 + 1 * (q 0).val = (512 * 2 + (q 0).val) % 2048
    omega
  · show 0 + 1 * (q 1).val = (q 1).val % 8
    omega
  · show 0 + 1 * (q 2).val = (q 2).val % 128
    omega

theorem landed_vA1536 (c : Dev nD) (X : FVec F S2048x8x128 .f32) (fd : FVec F S512x8x128 .f32) :
    (pts c cc0_scratch3 (st3B.view.write (Elt F) fd (vA1536.view.read (Elt F) X) Finset.univ)) ⊢ stKB c X 3 := by
  unfold stKB
  iintro H
  ihave H := (Entails.of_eq (congrArg (pts c cc0_scratch3) (View.write_whole_univ cc0_scratch3 fd (vA1536.view.read (Elt F) X)))) $$ H
  iexists _; isplitl [H]; · iexact H
  ipureintro
  intro q
  refine congrArg X (funext fun a => ?_)
  have h0 : (q 0).val < 512 := (q 0).isLt
  have h1 : (q 1).val < 8 := (q 1).isLt
  have h2 : (q 2).val < 128 := (q 2).isLt
  fin_cases a <;> apply Fin.ext
  · show 1536 + 1 * (q 0).val = (512 * 3 + (q 0).val) % 2048
    omega
  · show 0 + 1 * (q 1).val = (q 1).val % 8
    omega
  · show 0 + 1 * (q 2).val = (q 2).val % 128
    omega

theorem landed_wqA (c : Dev nD) (X fd : FVec F S1024x1024 .f32) :
    (pts c cc0_scratch0 (stA.view.write (Elt F) fd (wqA.view.read (Elt F) X) Finset.univ)) ⊢ pts c cc0_scratch0 X :=
  Entails.of_eq (congrArg (pts c cc0_scratch0) (View.write_whole_univ cc0_scratch0 fd (wqA.view.read (Elt F) X)))

theorem landed_woA (c : Dev nD) (X fd : FVec F S1024x1024 .f32) :
    (pts c cc0_scratch1 (stB.view.write (Elt F) fd (woA.view.read (Elt F) X) Finset.univ)) ⊢ pts c cc0_scratch1 X :=
  Entails.of_eq (congrArg (pts c cc0_scratch1) (View.write_whole_univ cc0_scratch1 fd (woA.view.read (Elt F) X)))

theorem xgAt_all (c : Dev nD) (t : FVec F S2048x1024 .bf16) : xgAt c t 32 ⊢ pts c cc0_scratch6 t := by
  unfold xgAt
  iintro ⟨%g, H, %hg⟩
  have e : g = t := hg.all
  subst e
  iexact H

theorem xgAt_none (c : Dev nD) (t g : FVec F S2048x1024 .bf16) : pts c cc0_scratch6 g ⊢ xgAt c t 0 := by
  unfold xgAt
  iintro H
  iexists g; isplitl [H]; · iexact H
  ipureintro; exact XInv.zero t g

theorem kgAt_all (c : Dev nD) (t : FVec F S2048x1024 .bf16) : kgAt c t 32 ⊢ pts c cc0_scratch8 t := by
  unfold kgAt
  iintro ⟨%g, H, %hg⟩
  have e : g = t := hg.all
  subst e
  iexact H

theorem kgAt_none (c : Dev nD) (t g : FVec F S2048x1024 .bf16) : pts c cc0_scratch8 g ⊢ kgAt c t 0 := by
  unfold kgAt
  iintro H
  iexists g; isplitl [H]; · iexact H
  ipureintro; exact XInv.zero t g

theorem vgAt_all (c : Dev nD) (t : FVec F S2048x1024 .bf16) : vgAt c t 32 ⊢ pts c cc0_scratch9 t := by
  unfold vgAt
  iintro ⟨%g, H, %hg⟩
  have e : g = t := hg.all
  subst e
  iexact H

theorem vgAt_none (c : Dev nD) (t g : FVec F S2048x1024 .bf16) : pts c cc0_scratch9 g ⊢ vgAt c t 0 := by
  unfold vgAt
  iintro H
  iexists g; isplitl [H]; · iexact H
  ipureintro; exact XInv.zero t g

theorem hz2 : (![0, 0] : Fin 2 → ℕ) = fun _ => 0 := funext fun a => by fin_cases a <;> rfl

/-- The projected query rows, as the stores and loads leave them. -/
theorem proj_eq (W : FVec F S1024x1024 .f32) (wq0 : FVec F S1024x1024 .bf16) (xg q0 : FVec F S2048x1024 .bf16) :
    (qgB.access (Rect.unit (s := S2048x1024) ![0, 0] S2048x1024.size inb_S2048x1024_S2048x1024_0_0)).write (Elt F) q0
      (k0_pay54 (xgB.view.readAt (Elt F) (Rect.unit (s := S2048x1024) ![0, 0] S2048x1024.size inb_S2048x1024_S2048x1024_0_0).toLoadRect xg)
        (wqB.view.readAt (Elt F) (Rect.unit (s := S1024x1024) ![0, 0] S1024x1024.size inb_S1024x1024_S1024x1024_0_0).toLoadRect
          ((wqB.access (Rect.unit (s := S1024x1024) ![0, 0] S1024x1024.size inb_S1024x1024_S1024x1024_0_0)).write (Elt F) wq0
            (k0_pay53 (stA.view.readAt (Elt F) (Rect.unit (s := S1024x1024) ![0, 0] S1024x1024.size inb_S1024x1024_S1024x1024_0_0).toLoadRect W)) Finset.univ)))
      Finset.univ = k0_pay54 xg (k0_pay53 W) := by
  refine (Memref.write_access_unit_zero_univ (Elt F) cc0_scratch7 hz2 _ q0 _).trans (congrArg₂ k0_pay54 ?_ ?_)
  · exact Memref.readAt_unit_zero (Elt F) cc0_scratch6 hz2 _ xg
  · refine (Memref.readAt_unit_zero (Elt F) cc0_scratch4 hz2 _ _).trans ?_
    refine (Memref.write_access_unit_zero_univ (Elt F) cc0_scratch4 hz2 _ wq0 _).trans (congrArg k0_pay53 ?_)
    exact Memref.readAt_unit_zero (Elt F) cc0_scratch0 hz2 _ W

/-- The projection's second matrix, as the load and the store leave it. -/
theorem woCast_eq (W : FVec F S1024x1024 .f32) (w0 : FVec F S1024x1024 .bf16) :
    (woB.access (Rect.unit (s := S1024x1024) ![0, 0] S1024x1024.size inb_S1024x1024_S1024x1024_0_0)).write (Elt F) w0
      (k0_pay89 (stB.view.readAt (Elt F) (Rect.unit (s := S1024x1024) ![0, 0] S1024x1024.size inb_S1024x1024_S1024x1024_0_0).toLoadRect W)) Finset.univ = k0_pay89 W := by
  refine (Memref.write_access_unit_zero_univ (Elt F) cc0_scratch5 hz2 _ w0 _).trans (congrArg k0_pay89 ?_)
  exact Memref.readAt_unit_zero (Elt F) cc0_scratch1 hz2 _ W

end Cert.KernelIdeal.Run

end
-- ==== Proof.Run.StageIn.lean ====
module

public import proofs.«01_k».proof.Proof.Run.Local

@[expose] public section

/-! Staging and casting: from the four copies the start-up issued to the four grouped operands of the attention. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The waits on the local copies' semaphores are allowed of a device that owes `O`. -/
def locWaits (c : Dev nD) (O : CellTallies nD τ sig Bool) : sProp (MM F) :=
  iprop(MayWait (c : Thread nD τ) (.dma ls0) false O ∗ MayWait (c : Thread nD τ) (.dma ls1) false O
    ∗ MayWait (c : Thread nD τ) (.dma ls2) false O ∗ MayWait (c : Thread nD τ) (.dma ls3) false O)

instance locWaits_persistent (c : Dev nD) (O : CellTallies nD τ sig Bool) : BI.Persistent (locWaits (F := F) c O) := by
  unfold locWaits; infer_instance

/-- A share of device `c`'s buffer `b`. -/
abbrev ptq (c : Dev nD) (b : Ref sig .tc) (q : PosShare TreeShare) (f : Buf (Elt F) ((c : Thread nD τ).loc b)) : sProp (MM F) :=
  ((c : Thread nD τ).loc b) ↦{q} f

/-- The four local semaphores at zero. -/
def locSems (c : Dev nD) : sProp (MM F) :=
  iprop(semVal ((c : Thread nD τ), .dma ls0) 0 ∗ semVal ((c : Thread nD τ), .dma ls1) 0
    ∗ semVal ((c : Thread nD τ), .dma ls2) 0 ∗ semVal ((c : Thread nD τ), .dma ls3) 0)

/-- The arguments held: `x`, `K` and `V` in two shares each, the two matrices whole. -/
def argsHeld (c : Dev nD) (q₁ q₂ : PosShare TreeShare) (X : FVec F S2048x1024 .f32) (Wq : FVec F S1024x1024 .f32)
    (K V : FVec F S2048x8x128 .f32) (Wo : FVec F S1024x1024 .f32) : sProp (MM F) :=
  iprop(ptq c main_arg0 q₁ X ∗ ptq c main_arg0 q₂ X ∗ pts c main_arg1 Wq ∗ ptq c main_arg2 q₁ K ∗ ptq c main_arg2 q₂ K
    ∗ ptq c main_arg3 q₁ V ∗ ptq c main_arg3 q₂ V ∗ pts c main_arg4 Wo)

/-- What staging starts from: four copies under way. -/
def stagePre (c : Dev nD) (q₁ q₂ : PosShare TreeShare) (X : FVec F S2048x1024 .f32) (Wq : FVec F S1024x1024 .f32)
    (K V : FVec F S2048x8x128 .f32) (Wo : FVec F S1024x1024 .f32) : sProp (MM F) :=
  iprop((∃ f, inFlight c xA0 stA ls0 q₁ X f) ∗ (∃ f, inFlight c xA1024 stB ls1 q₂ X f)
    ∗ (∃ f, inFlight c kA0 st3A ls2 q₁ K f) ∗ (∃ f, inFlight c kA512 st3B ls3 q₂ K f)
    ∗ pts c main_arg1 Wq ∗ ptq c main_arg3 q₁ V ∗ ptq c main_arg3 q₂ V ∗ pts c main_arg4 Wo
    ∗ (∃ f, pts c cc0_scratch4 f) ∗ (∃ f, pts c cc0_scratch5 f) ∗ (∃ f, pts c cc0_scratch6 f) ∗ (∃ f, pts c cc0_scratch7 f)
    ∗ (∃ f, pts c cc0_scratch8 f) ∗ (∃ f, pts c cc0_scratch9 f))

/-- What staging leaves: the grouped operands, the arguments as they were, the local semaphores at zero. -/
def stagePost (c : Dev nD) (q₁ q₂ : PosShare TreeShare) (X : FVec F S2048x1024 .f32) (Wq : FVec F S1024x1024 .f32)
    (K V : FVec F S2048x8x128 .f32) (Wo : FVec F S1024x1024 .f32) : sProp (MM F) :=
  iprop((argsHeld c q₁ q₂ X Wq K V Wo ∗ locSems c)
    ∗ ((∃ f, pts c cc0_scratch0 f) ∗ (∃ f, pts c cc0_scratch1 f) ∗ (∃ f, pts c cc0_scratch2 f) ∗ (∃ f, pts c cc0_scratch3 f)
      ∗ (∃ f, pts c cc0_scratch4 f) ∗ (∃ f, pts c cc0_scratch6 f))
    ∗ pts c cc0_scratch5 (k0_pay89 Wo) ∗ pts c cc0_scratch7 (qgv X Wq) ∗ pts c cc0_scratch8 (kgv K) ∗ pts c cc0_scratch9 (kgv V))

set_option maxHeartbeats 4000000 in
theorem stageIn_spec (c : Dev nD) (q₁ q₂ : PosShare TreeShare) (X : FVec F S2048x1024 .f32) (Wq : FVec F S1024x1024 .f32)
    (K V : FVec F S2048x8x128 .f32) (Wo : FVec F S1024x1024 .f32) (O : CellTallies nD τ sig Bool) {k : BProg F} {Q : PUnit → sProp (MM F)} :
    iprop(stagePre c q₁ q₂ X Wq K V Wo ∗ owesE c O ∗ locWaits c O)
      ⊢ iprop(((stagePost c q₁ q₂ X Wq K V Wo ∗ owesE c O) -∗ wpB c k Q) -∗ wpB c (stageIn c k) Q) := by
  unfold stagePre stageIn locWaits
  iintro ⟨⟨⟨%fa, Fa⟩, ⟨%fb, Fb⟩, ⟨%fc, Fc⟩, ⟨%fd, Fd⟩, Hwq, Hv1, Hv2, Hwo, ⟨%g4, H4⟩, ⟨%g5, H5⟩, ⟨%g6, H6⟩, ⟨%g7, H7⟩, ⟨%g8, H8⟩, ⟨%g9, H9⟩⟩, HO, #M0, #M1, #M2, #M3⟩ Hk
  ihave Xg := (xgAt_none c (xgv X) g6) $$ H6
  ihave Kg := (kgAt_none c (kgv K) g8) $$ H8
  ihave Vg := (vgAt_none c (kgv V) g9) $$ H9
  iapply (wait_in c (O := O)) $$ [Fa HO]
  · isplitl [Fa]; · iexact Fa
    isplitl [HO]; · iexact HO
    iexact M0
  iintro ⟨Hx1, Sa, Z0, HO⟩
  ihave Sa := (landed_xA0 c _ _) $$ Sa
  iapply (castX_A c X 0 0 (by decide) rfl rfl rfl) $$ [Sa Xg]
  · isplitl [Sa] <;> iassumption
  iintro ⟨Sa, Xg⟩
  iapply (castX_A c X 1 0 (by decide) rfl rfl rfl) $$ [Sa Xg]
  · isplitl [Sa] <;> iassumption
  iintro ⟨Sa, Xg⟩
  iapply (castX_A c X 2 0 (by decide) rfl rfl rfl) $$ [Sa Xg]
  · isplitl [Sa] <;> iassumption
  iintro ⟨Sa, Xg⟩
  iapply (castX_A c X 3 0 (by decide) rfl rfl rfl) $$ [Sa Xg]
  · isplitl [Sa] <;> iassumption
  iintro ⟨Sa, Xg⟩
  iapply (castX_A c X 4 0 (by decide) rfl rfl rfl) $$ [Sa Xg]
  · isplitl [Sa] <;> iassumption
  iintro ⟨Sa, Xg⟩
  iapply (castX_A c X 5 0 (by decide) rfl rfl rfl) $$ [Sa Xg]
  · isplitl [Sa] <;> iassumption
  iintro ⟨Sa, Xg⟩
  iapply (castX_A c X 6 0 (by decide) rfl rfl rfl) $$ [Sa Xg]
  · isplitl [Sa] <;> iassumption
  iintro ⟨Sa, Xg⟩
  iapply (castX_A c X 7 0 (by decide) rfl rfl rfl) $$ [Sa Xg]
  · isplitl [Sa] <;> iassumption
  iintro ⟨Sa, Xg⟩
  iapply (castX_A c X 8 0 (by decide) rfl rfl rfl) $$ [Sa Xg]
  · isplitl [Sa] <;> iassumption
  iintro ⟨Sa, Xg⟩
  iapply (castX_A c X 9 0 (by decide) rfl rfl rfl) $$ [Sa Xg]
  · isplitl [Sa] <;> iassumption
  iintro ⟨Sa, Xg⟩
  iapply (castX_A c X 10 0 (by decide) rfl rfl rfl) $$ [Sa Xg]
  · isplitl [Sa] <;> iassumption
  iintro ⟨Sa, Xg⟩
  iapply (castX_A c X 11 0 (by decide) rfl rfl rfl) $$ [Sa Xg]
  · isplitl [Sa] <;> iassumption
  iintro ⟨Sa, Xg⟩
  iapply (castX_A c X 12 0 (by decide) rfl rfl rfl) $$ [Sa Xg]
  · isplitl [Sa] <;> iassumption
  iintro ⟨Sa, Xg⟩
  iapply (castX_A c X 13 0 (by decide) rfl rfl rfl) $$ [Sa Xg]
  · isplitl [Sa] <;> iassumption
  iintro ⟨Sa, Xg⟩
  iapply (castX_A c X 14 0 (by decide) rfl rfl rfl) $$ [Sa Xg]
  · isplitl [Sa] <;> iassumption
  iintro ⟨Sa, Xg⟩
  iapply (castX_A c X 15 0 (by decide) rfl rfl rfl) $$ [Sa Xg]
  · isplitl [Sa] <;> iassumption
  iintro ⟨Sa, Xg⟩
  unfold stXA
  icases Sa with ⟨%Saf, Sa, -⟩
  iapply (enq_in c (src := wqA) (dst := stA) (by decide)) $$ [Hwq Sa Z0]
  · isplitl [Hwq]; · iexact Hwq
    isplitl [Sa] <;> iassumption
  iintro Fa
  iapply (wait_in c (O := O)) $$ [Fb HO]
  · isplitl [Fb]; · iexact Fb
    isplitl [HO]; · iexact HO
    iexact M1
  iintro ⟨Hx2, Sb, Z1, HO⟩
  ihave Sb := (landed_xA1024 c _ _) $$ Sb
  iapply (castX_B c X 16 1 (by decide) rfl rfl rfl) $$ [Sb Xg]
  · isplitl [Sb] <;> iassumption
  iintro ⟨Sb, Xg⟩
  iapply (castX_B c X 17 1 (by decide) rfl rfl rfl) $$ [Sb Xg]
  · isplitl [Sb] <;> iassumption
  iintro ⟨Sb, Xg⟩
  iapply (castX_B c X 18 1 (by decide) rfl rfl rfl) $$ [Sb Xg]
  · isplitl [Sb] <;> iassumption
  iintro ⟨Sb, Xg⟩
  iapply (castX_B c X 19 1 (by decide) rfl rfl rfl) $$ [Sb Xg]
  · isplitl [Sb] <;> iassumption
  iintro ⟨Sb, Xg⟩
  iapply (castX_B c X 20 1 (by decide) rfl rfl rfl) $$ [Sb Xg]
  · isplitl [Sb] <;> iassumption
  iintro ⟨Sb, Xg⟩
  iapply (castX_B c X 21 1 (by decide) rfl rfl rfl) $$ [Sb Xg]
  · isplitl [Sb] <;> iassumption
  iintro ⟨Sb, Xg⟩
  iapply (castX_B c X 22 1 (by decide) rfl rfl rfl) $$ [Sb Xg]
  · isplitl [Sb] <;> iassumption
  iintro ⟨Sb, Xg⟩
  iapply (castX_B c X 23 1 (by decide) rfl rfl rfl) $$ [Sb Xg]
  · isplitl [Sb] <;> iassumption
  iintro ⟨Sb, Xg⟩
  iapply (castX_B c X 24 1 (by decide) rfl rfl rfl) $$ [Sb Xg]
  · isplitl [Sb] <;> iassumption
  iintro ⟨Sb, Xg⟩
  iapply (castX_B c X 25 1 (by decide) rfl rfl rfl) $$ [Sb Xg]
  · isplitl [Sb] <;> iassumption
  iintro ⟨Sb, Xg⟩
  iapply (castX_B c X 26 1 (by decide) rfl rfl rfl) $$ [Sb Xg]
  · isplitl [Sb] <;> iassumption
  iintro ⟨Sb, Xg⟩
  iapply (castX_B c X 27 1 (by decide) rfl rfl rfl) $$ [Sb Xg]
  · isplitl [Sb] <;> iassumption
  iintro ⟨Sb, Xg⟩
  iapply (castX_B c X 28 1 (by decide) rfl rfl rfl) $$ [Sb Xg]
  · isplitl [Sb] <;> iassumption
  iintro ⟨Sb, Xg⟩
  iapply (castX_B c X 29 1 (by decide) rfl rfl rfl) $$ [Sb Xg]
  · isplitl [Sb] <;> iassumption
  iintro ⟨Sb, Xg⟩
  iapply (castX_B c X 30 1 (by decide) rfl rfl rfl) $$ [Sb Xg]
  · isplitl [Sb] <;> iassumption
  iintro ⟨Sb, Xg⟩
  iapply (castX_B c X 31 1 (by decide) rfl rfl rfl) $$ [Sb Xg]
  · isplitl [Sb] <;> iassumption
  iintro ⟨Sb, Xg⟩
  unfold stXB
  icases Sb with ⟨%Sbf, Sb, -⟩
  iapply (enq_in c (src := woA) (dst := stB) (by decide)) $$ [Hwo Sb Z1]
  · isplitl [Hwo]; · iexact Hwo
    isplitl [Sb] <;> iassumption
  iintro Fb
  iapply (wait_in c (O := O)) $$ [Fc HO]
  · isplitl [Fc]; · iexact Fc
    isplitl [HO]; · iexact HO
    iexact M2
  iintro ⟨Hk1, Sc, Z2, HO⟩
  ihave Sc := (landed_kA0 c _ _) $$ Sc
  iapply (castKV_A_kg c K 0 0 (by decide) rfl rfl rfl) $$ [Sc Kg]
  · isplitl [Sc] <;> iassumption
  iintro ⟨Sc, Kg⟩
  iapply (castKV_A_kg c K 1 0 (by decide) rfl rfl rfl) $$ [Sc Kg]
  · isplitl [Sc] <;> iassumption
  iintro ⟨Sc, Kg⟩
  iapply (castKV_A_kg c K 2 0 (by decide) rfl rfl rfl) $$ [Sc Kg]
  · isplitl [Sc] <;> iassumption
  iintro ⟨Sc, Kg⟩
  iapply (castKV_A_kg c K 3 0 (by decide) rfl rfl rfl) $$ [Sc Kg]
  · isplitl [Sc] <;> iassumption
  iintro ⟨Sc, Kg⟩
  iapply (castKV_A_kg c K 4 0 (by decide) rfl rfl rfl) $$ [Sc Kg]
  · isplitl [Sc] <;> iassumption
  iintro ⟨Sc, Kg⟩
  iapply (castKV_A_kg c K 5 0 (by decide) rfl rfl rfl) $$ [Sc Kg]
  · isplitl [Sc] <;> iassumption
  iintro ⟨Sc, Kg⟩
  iapply (castKV_A_kg c K 6 0 (by decide) rfl rfl rfl) $$ [Sc Kg]
  · isplitl [Sc] <;> iassumption
  iintro ⟨Sc, Kg⟩
  iapply (castKV_A_kg c K 7 0 (by decide) rfl rfl rfl) $$ [Sc Kg]
  · isplitl [Sc] <;> iassumption
  iintro ⟨Sc, Kg⟩
  unfold stKA
  icases Sc with ⟨%Scf, Sc, -⟩
  iapply (enq_in c (src := kA1024) (dst := st3A) (by decide)) $$ [Hk1 Sc Z2]
  · isplitl [Hk1]; · iexact Hk1
    isplitl [Sc] <;> iassumption
  iintro Fc
  iapply (wait_in c (O := O)) $$ [Fd HO]
  · isplitl [Fd]; · iexact Fd
    isplitl [HO]; · iexact HO
    iexact M3
  iintro ⟨Hk2, Sd, Z3, HO⟩
  ihave Sd := (landed_kA512 c _ _) $$ Sd
  iapply (castKV_B_kg c K 8 1 (by decide) rfl rfl rfl) $$ [Sd Kg]
  · isplitl [Sd] <;> iassumption
  iintro ⟨Sd, Kg⟩
  iapply (castKV_B_kg c K 9 1 (by decide) rfl rfl rfl) $$ [Sd Kg]
  · isplitl [Sd] <;> iassumption
  iintro ⟨Sd, Kg⟩
  iapply (castKV_B_kg c K 10 1 (by decide) rfl rfl rfl) $$ [Sd Kg]
  · isplitl [Sd] <;> iassumption
  iintro ⟨Sd, Kg⟩
  iapply (castKV_B_kg c K 11 1 (by decide) rfl rfl rfl) $$ [Sd Kg]
  · isplitl [Sd] <;> iassumption
  iintro ⟨Sd, Kg⟩
  iapply (castKV_B_kg c K 12 1 (by decide) rfl rfl rfl) $$ [Sd Kg]
  · isplitl [Sd] <;> iassumption
  iintro ⟨Sd, Kg⟩
  iapply (castKV_B_kg c K 13 1 (by decide) rfl rfl rfl) $$ [Sd Kg]
  · isplitl [Sd] <;> iassumption
  iintro ⟨Sd, Kg⟩
  iapply (castKV_B_kg c K 14 1 (by decide) rfl rfl rfl) $$ [Sd Kg]
  · isplitl [Sd] <;> iassumption
  iintro ⟨Sd, Kg⟩
  iapply (castKV_B_kg c K 15 1 (by decide) rfl rfl rfl) $$ [Sd Kg]
  · isplitl [Sd] <;> iassumption
  iintro ⟨Sd, Kg⟩
  unfold stKB
  icases Sd with ⟨%Sdf, Sd, -⟩
  iapply (enq_in c (src := kA1536) (dst := st3B) (by decide)) $$ [Hk2 Sd Z3]
  · isplitl [Hk2]; · iexact Hk2
    isplitl [Sd] <;> iassumption
  iintro Fd
  iapply (wait_in c (O := O)) $$ [Fa HO]
  · isplitl [Fa]; · iexact Fa
    isplitl [HO]; · iexact HO
    iexact M0
  iintro ⟨Hwq, Sa, Z0, HO⟩
  ihave Sa := (landed_wqA c _ _) $$ Sa
  iapply (wp_load 𝒱₀ (c : Thread nD τ) none Set.univ (m := stA) (Finset.subset_univ _)) $$ Sa; iintro Sa
  iapply (wp_load 𝒱₀ (c : Thread nD τ) none Set.univ (m := wqB) (Finset.subset_univ _)) $$ H4; iintro H4
  iapply (wp_store 𝒱₀ (c : Thread nD τ) none Set.univ (m := wqB) (r := Rect.unit (s := S1024x1024) ![0, 0] S1024x1024.size inb_S1024x1024_S1024x1024_0_0) (Mk := Finset.univ) (Finset.subset_univ _)) $$ H4; iintro H4
  ihave Hx := (xgAt_all c (xgv X)) $$ Xg
  iapply (wp_load 𝒱₀ (c : Thread nD τ) none Set.univ (m := xgB) (Finset.subset_univ _)) $$ Hx; iintro Hx
  iapply (wp_load 𝒱₀ (c : Thread nD τ) none Set.univ (m := wqB) (Finset.subset_univ _)) $$ H4; iintro H4
  iapply (wp_load 𝒱₀ (c : Thread nD τ) none Set.univ (m := qgB) (Finset.subset_univ _)) $$ H7; iintro H7
  iapply (wp_store 𝒱₀ (c : Thread nD τ) none Set.univ (m := qgB) (r := Rect.unit (s := S2048x1024) ![0, 0] S2048x1024.size inb_S2048x1024_S2048x1024_0_0) (Mk := Finset.univ) (Finset.subset_univ _)) $$ H7; iintro H7
  ihave H7 := (Entails.of_eq (congrArg (pts c cc0_scratch7) (proj_eq Wq g4 (xgv X) g7))) $$ H7
  iapply (wait_in c (O := O)) $$ [Fc HO]
  · isplitl [Fc]; · iexact Fc
    isplitl [HO]; · iexact HO
    iexact M2
  iintro ⟨Hk1, Sc, Z2, HO⟩
  ihave Sc := (landed_kA1024 c _ _) $$ Sc
  iapply (castKV_A_kg c K 16 2 (by decide) rfl rfl rfl) $$ [Sc Kg]
  · isplitl [Sc] <;> iassumption
  iintro ⟨Sc, Kg⟩
  iapply (castKV_A_kg c K 17 2 (by decide) rfl rfl rfl) $$ [Sc Kg]
  · isplitl [Sc] <;> iassumption
  iintro ⟨Sc, Kg⟩
  iapply (castKV_A_kg c K 18 2 (by decide) rfl rfl rfl) $$ [Sc Kg]
  · isplitl [Sc] <;> iassumption
  iintro ⟨Sc, Kg⟩
  iapply (castKV_A_kg c K 19 2 (by decide) rfl rfl rfl) $$ [Sc Kg]
  · isplitl [Sc] <;> iassumption
  iintro ⟨Sc, Kg⟩
  iapply (castKV_A_kg c K 20 2 (by decide) rfl rfl rfl) $$ [Sc Kg]
  · isplitl [Sc] <;> iassumption
  iintro ⟨Sc, Kg⟩
  iapply (castKV_A_kg c K 21 2 (by decide) rfl rfl rfl) $$ [Sc Kg]
  · isplitl [Sc] <;> iassumption
  iintro ⟨Sc, Kg⟩
  iapply (castKV_A_kg c K 22 2 (by decide) rfl rfl rfl) $$ [Sc Kg]
  · isplitl [Sc] <;> iassumption
  iintro ⟨Sc, Kg⟩
  iapply (castKV_A_kg c K 23 2 (by decide) rfl rfl rfl) $$ [Sc Kg]
  · isplitl [Sc] <;> iassumption
  iintro ⟨Sc, Kg⟩
  unfold stKA
  icases Sc with ⟨%Scf, Sc, -⟩
  iapply (enq_in c (src := vA0) (dst := st3A) (by decide)) $$ [Hv1 Sc Z2]
  · isplitl [Hv1]; · iexact Hv1
    isplitl [Sc] <;> iassumption
  iintro Fc
  iapply (wait_in c (O := O)) $$ [Fd HO]
  · isplitl [Fd]; · iexact Fd
    isplitl [HO]; · iexact HO
    iexact M3
  iintro ⟨Hk2, Sd, Z3, HO⟩
  ihave Sd := (landed_kA1536 c _ _) $$ Sd
  iapply (castKV_B_kg c K 24 3 (by decide) rfl rfl rfl) $$ [Sd Kg]
  · isplitl [Sd] <;> iassumption
  iintro ⟨Sd, Kg⟩
  iapply (castKV_B_kg c K 25 3 (by decide) rfl rfl rfl) $$ [Sd Kg]
  · isplitl [Sd] <;> iassumption
  iintro ⟨Sd, Kg⟩
  iapply (castKV_B_kg c K 26 3 (by decide) rfl rfl rfl) $$ [Sd Kg]
  · isplitl [Sd] <;> iassumption
  iintro ⟨Sd, Kg⟩
  iapply (castKV_B_kg c K 27 3 (by decide) rfl rfl rfl) $$ [Sd Kg]
  · isplitl [Sd] <;> iassumption
  iintro ⟨Sd, Kg⟩
  iapply (castKV_B_kg c K 28 3 (by decide) rfl rfl rfl) $$ [Sd Kg]
  · isplitl [Sd] <;> iassumption
  iintro ⟨Sd, Kg⟩
  iapply (castKV_B_kg c K 29 3 (by decide) rfl rfl rfl) $$ [Sd Kg]
  · isplitl [Sd] <;> iassumption
  iintro ⟨Sd, Kg⟩
  iapply (castKV_B_kg c K 30 3 (by decide) rfl rfl rfl) $$ [Sd Kg]
  · isplitl [Sd] <;> iassumption
  iintro ⟨Sd, Kg⟩
  iapply (castKV_B_kg c K 31 3 (by decide) rfl rfl rfl) $$ [Sd Kg]
  · isplitl [Sd] <;> iassumption
  iintro ⟨Sd, Kg⟩
  unfold stKB
  icases Sd with ⟨%Sdf, Sd, -⟩
  iapply (enq_in c (src := vA512) (dst := st3B) (by decide)) $$ [Hv2 Sd Z3]
  · isplitl [Hv2]; · iexact Hv2
    isplitl [Sd] <;> iassumption
  iintro Fd
  iapply (wait_in c (O := O)) $$ [Fc HO]
  · isplitl [Fc]; · iexact Fc
    isplitl [HO]; · iexact HO
    iexact M2
  iintro ⟨Hv1, Sc, Z2, HO⟩
  ihave Sc := (landed_vA0 c _ _) $$ Sc
  iapply (castKV_A_vg c V 0 0 (by decide) rfl rfl rfl) $$ [Sc Vg]
  · isplitl [Sc] <;> iassumption
  iintro ⟨Sc, Vg⟩
  iapply (castKV_A_vg c V 1 0 (by decide) rfl rfl rfl) $$ [Sc Vg]
  · isplitl [Sc] <;> iassumption
  iintro ⟨Sc, Vg⟩
  iapply (castKV_A_vg c V 2 0 (by decide) rfl rfl rfl) $$ [Sc Vg]
  · isplitl [Sc] <;> iassumption
  iintro ⟨Sc, Vg⟩
  iapply (castKV_A_vg c V 3 0 (by decide) rfl rfl rfl) $$ [Sc Vg]
  · isplitl [Sc] <;> iassumption
  iintro ⟨Sc, Vg⟩
  iapply (castKV_A_vg c V 4 0 (by decide) rfl rfl rfl) $$ [Sc Vg]
  · isplitl [Sc] <;> iassumption
  iintro ⟨Sc, Vg⟩
  iapply (castKV_A_vg c V 5 0 (by decide) rfl rfl rfl) $$ [Sc Vg]
  · isplitl [Sc] <;> iassumption
  iintro ⟨Sc, Vg⟩
  iapply (castKV_A_vg c V 6 0 (by decide) rfl rfl rfl) $$ [Sc Vg]
  · isplitl [Sc] <;> iassumption
  iintro ⟨Sc, Vg⟩
  iapply (castKV_A_vg c V 7 0 (by decide) rfl rfl rfl) $$ [Sc Vg]
  · isplitl [Sc] <;> iassumption
  iintro ⟨Sc, Vg⟩
  unfold stKA
  icases Sc with ⟨%Scf, Sc, -⟩
  iapply (enq_in c (src := vA1024) (dst := st3A) (by decide)) $$ [Hv1 Sc Z2]
  · isplitl [Hv1]; · iexact Hv1
    isplitl [Sc] <;> iassumption
  iintro Fc
  iapply (wait_in c (O := O)) $$ [Fd HO]
  · isplitl [Fd]; · iexact Fd
    isplitl [HO]; · iexact HO
    iexact M3
  iintro ⟨Hv2, Sd, Z3, HO⟩
  ihave Sd := (landed_vA512 c _ _) $$ Sd
  iapply (castKV_B_vg c V 8 1 (by decide) rfl rfl rfl) $$ [Sd Vg]
  · isplitl [Sd] <;> iassumption
  iintro ⟨Sd, Vg⟩
  iapply (castKV_B_vg c V 9 1 (by decide) rfl rfl rfl) $$ [Sd Vg]
  · isplitl [Sd] <;> iassumption
  iintro ⟨Sd, Vg⟩
  iapply (castKV_B_vg c V 10 1 (by decide) rfl rfl rfl) $$ [Sd Vg]
  · isplitl [Sd] <;> iassumption
  iintro ⟨Sd, Vg⟩
  iapply (castKV_B_vg c V 11 1 (by decide) rfl rfl rfl) $$ [Sd Vg]
  · isplitl [Sd] <;> iassumption
  iintro ⟨Sd, Vg⟩
  iapply (castKV_B_vg c V 12 1 (by decide) rfl rfl rfl) $$ [Sd Vg]
  · isplitl [Sd] <;> iassumption
  iintro ⟨Sd, Vg⟩
  iapply (castKV_B_vg c V 13 1 (by decide) rfl rfl rfl) $$ [Sd Vg]
  · isplitl [Sd] <;> iassumption
  iintro ⟨Sd, Vg⟩
  iapply (castKV_B_vg c V 14 1 (by decide) rfl rfl rfl) $$ [Sd Vg]
  · isplitl [Sd] <;> iassumption
  iintro ⟨Sd, Vg⟩
  iapply (castKV_B_vg c V 15 1 (by decide) rfl rfl rfl) $$ [Sd Vg]
  · isplitl [Sd] <;> iassumption
  iintro ⟨Sd, Vg⟩
  unfold stKB
  icases Sd with ⟨%Sdf, Sd, -⟩
  iapply (enq_in c (src := vA1536) (dst := st3B) (by decide)) $$ [Hv2 Sd Z3]
  · isplitl [Hv2]; · iexact Hv2
    isplitl [Sd] <;> iassumption
  iintro Fd
  iapply (wait_in c (O := O)) $$ [Fb HO]
  · isplitl [Fb]; · iexact Fb
    isplitl [HO]; · iexact HO
    iexact M1
  iintro ⟨Hwo, Sb, Z1, HO⟩
  ihave Sb := (landed_woA c _ _) $$ Sb
  iapply (wp_load 𝒱₀ (c : Thread nD τ) none Set.univ (m := stB) (Finset.subset_univ _)) $$ Sb; iintro Sb
  iapply (wp_load 𝒱₀ (c : Thread nD τ) none Set.univ (m := woB) (Finset.subset_univ _)) $$ H5; iintro H5
  iapply (wp_store 𝒱₀ (c : Thread nD τ) none Set.univ (m := woB) (r := Rect.unit (s := S1024x1024) ![0, 0] S1024x1024.size inb_S1024x1024_S1024x1024_0_0) (Mk := Finset.univ) (Finset.subset_univ _)) $$ H5; iintro H5
  ihave H5 := (Entails.of_eq (congrArg (pts c cc0_scratch5) (woCast_eq Wo g5))) $$ H5
  iapply (wait_in c (O := O)) $$ [Fc HO]
  · isplitl [Fc]; · iexact Fc
    isplitl [HO]; · iexact HO
    iexact M2
  iintro ⟨Hv1, Sc, Z2, HO⟩
  ihave Sc := (landed_vA1024 c _ _) $$ Sc
  iapply (castKV_A_vg c V 16 2 (by decide) rfl rfl rfl) $$ [Sc Vg]
  · isplitl [Sc] <;> iassumption
  iintro ⟨Sc, Vg⟩
  iapply (castKV_A_vg c V 17 2 (by decide) rfl rfl rfl) $$ [Sc Vg]
  · isplitl [Sc] <;> iassumption
  iintro ⟨Sc, Vg⟩
  iapply (castKV_A_vg c V 18 2 (by decide) rfl rfl rfl) $$ [Sc Vg]
  · isplitl [Sc] <;> iassumption
  iintro ⟨Sc, Vg⟩
  iapply (castKV_A_vg c V 19 2 (by decide) rfl rfl rfl) $$ [Sc Vg]
  · isplitl [Sc] <;> iassumption
  iintro ⟨Sc, Vg⟩
  iapply (castKV_A_vg c V 20 2 (by decide) rfl rfl rfl) $$ [Sc Vg]
  · isplitl [Sc] <;> iassumption
  iintro ⟨Sc, Vg⟩
  iapply (castKV_A_vg c V 21 2 (by decide) rfl rfl rfl) $$ [Sc Vg]
  · isplitl [Sc] <;> iassumption
  iintro ⟨Sc, Vg⟩
  iapply (castKV_A_vg c V 22 2 (by decide) rfl rfl rfl) $$ [Sc Vg]
  · isplitl [Sc] <;> iassumption
  iintro ⟨Sc, Vg⟩
  iapply (castKV_A_vg c V 23 2 (by decide) rfl rfl rfl) $$ [Sc Vg]
  · isplitl [Sc] <;> iassumption
  iintro ⟨Sc, Vg⟩
  iapply (wait_in c (O := O)) $$ [Fd HO]
  · isplitl [Fd]; · iexact Fd
    isplitl [HO]; · iexact HO
    iexact M3
  iintro ⟨Hv2, Sd, Z3, HO⟩
  ihave Sd := (landed_vA1536 c _ _) $$ Sd
  iapply (castKV_B_vg c V 24 3 (by decide) rfl rfl rfl) $$ [Sd Vg]
  · isplitl [Sd] <;> iassumption
  iintro ⟨Sd, Vg⟩
  iapply (castKV_B_vg c V 25 3 (by decide) rfl rfl rfl) $$ [Sd Vg]
  · isplitl [Sd] <;> iassumption
  iintro ⟨Sd, Vg⟩
  iapply (castKV_B_vg c V 26 3 (by decide) rfl rfl rfl) $$ [Sd Vg]
  · isplitl [Sd] <;> iassumption
  iintro ⟨Sd, Vg⟩
  iapply (castKV_B_vg c V 27 3 (by decide) rfl rfl rfl) $$ [Sd Vg]
  · isplitl [Sd] <;> iassumption
  iintro ⟨Sd, Vg⟩
  iapply (castKV_B_vg c V 28 3 (by decide) rfl rfl rfl) $$ [Sd Vg]
  · isplitl [Sd] <;> iassumption
  iintro ⟨Sd, Vg⟩
  iapply (castKV_B_vg c V 29 3 (by decide) rfl rfl rfl) $$ [Sd Vg]
  · isplitl [Sd] <;> iassumption
  iintro ⟨Sd, Vg⟩
  iapply (castKV_B_vg c V 30 3 (by decide) rfl rfl rfl) $$ [Sd Vg]
  · isplitl [Sd] <;> iassumption
  iintro ⟨Sd, Vg⟩
  iapply (castKV_B_vg c V 31 3 (by decide) rfl rfl rfl) $$ [Sd Vg]
  · isplitl [Sd] <;> iassumption
  iintro ⟨Sd, Vg⟩
  ihave Kg := (kgAt_all c (kgv K)) $$ Kg
  ihave Vg := (vgAt_all c (kgv V)) $$ Vg
  unfold stKA stKB
  icases Sc with ⟨%sc, Sc, -⟩
  icases Sd with ⟨%sd, Sd, -⟩
  iapply Hk
  unfold stagePost argsHeld locSems
  isplitr [HO]
  · isplitl [Hx1 Hx2 Hwq Hk1 Hk2 Hv1 Hv2 Hwo Z0 Z1 Z2 Z3]
    · isplitl [Hx1 Hx2 Hwq Hk1 Hk2 Hv1 Hv2 Hwo]
      · isplitl [Hx1]; · iexact Hx1
        isplitl [Hx2]; · iexact Hx2
        isplitl [Hwq]; · iexact Hwq
        isplitl [Hk1]; · iexact Hk1
        isplitl [Hk2]; · iexact Hk2
        isplitl [Hv1]; · iexact Hv1
        isplitl [Hv2]; · iexact Hv2
        iexact Hwo
      isplitl [Z0]; · iexact Z0
      isplitl [Z1]; · iexact Z1
      isplitl [Z2]; · iexact Z2
      iexact Z3
    isplitl [Sa Sb Sc Sd H4 Hx]
    · isplitl [Sa]; · iexists _; iexact Sa
      isplitl [Sb]; · iexists _; iexact Sb
      isplitl [Sc]; · iexists _; iexact Sc
      isplitl [Sd]; · iexists _; iexact Sd
      isplitl [H4]; · iexists _; iexact H4
      iexists _; iexact Hx
    isplitl [H5]; · iexact H5
    isplitl [H7]; · iexact H7
    isplitl [Kg]; · iexact Kg
    iexact Vg
  iexact HO

end Cert.KernelIdeal.Run

end
-- ==== Proof.Run.Slots.lean ====
module

public import proofs.«01_k».proof.Proof.Run.StageIn

@[expose] public section

/-! The exchange's buffers by slots: what a slot holds, and how a store, a load and a copy read and change it. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The slot `m` of device `c`'s buffer, held whole. -/
abbrev slotPts (c : Dev nD) {s : Shape} {e : EltTy} (m : Memref sig .tc .vmem s e) (f : Buf (Elt F) (m.view.loc (c : Thread nD τ))) : sProp (MM F) :=
  m.view.loc (c : Thread nD τ) ↦[m.view.set]{fullShare} f

/-- Rows `r …` of the accumulator. -/
def rowsAt (T : FVec F S2048x1152 .f32) (r : ℕ) : FVec F S256x1152 .f32 := fun p => T (i2 (r + (p 0).val) (p 1).val)

/-- What a load of slot `s` reads. -/
def slotRead (s : ℕ) (f : FVec F S2x256x1152 .bf16) : FVec F S1x256x1152 .bf16 := fun p => f (i3 s (p 1).val (p 2).val)

/-- What a load of slot `s` of a buffer of results reads. -/
def slotReadG (s : ℕ) (f : FVec F S2x256x1024 .bf16) : FVec F S1x256x1024 .bf16 := fun p => f (i3 s (p 1).val (p 2).val)

/-- Slot `s` of a two-slot buffer holds `v` in the columns that mean something. -/
def SlotInv (s : ℕ) (f : FVec F S2x256x1152 .bf16) (v : FVec F S1x256x1152 .bf16) : Prop :=
  ∀ p : S1x256x1152.Idx, (p 2).val < 1032 → f (i3 s (p 1).val (p 2).val) = v p

/-- Slot `s` of a two-slot buffer of results holds `v`. -/
def SlotG (s : ℕ) (f : FVec F S2x256x1024 .bf16) (v : FVec F S1x256x1024 .bf16) : Prop :=
  ∀ p : S1x256x1024.Idx, f (i3 s (p 1).val (p 2).val) = v p

/-- The same in the columns that mean something. -/
def EqTo (v v' : FVec F S1x256x1152 .bf16) : Prop := ∀ p : S1x256x1152.Idx, (p 2).val < 1032 → v p = v' p

/-- The same for accumulator rows. -/
def EqToA (a a' : FVec F S256x1152 .f32) : Prop := ∀ p : S256x1152.Idx, (p 1).val < 1032 → a p = a' p

theorem SlotInv.congr {s : ℕ} {f : FVec F S2x256x1152 .bf16} {v v' : FVec F S1x256x1152 .bf16} (h : SlotInv s f v) (hv : EqTo v v') :
    SlotInv s f v' := fun p hp => (h p hp).trans (hv p hp)

/-- The index a unit-offset window of the first axis gives. -/
theorem emb3 {n m : ℕ} [NeZero n] [NeZero m] (s a b : ℕ) (hs : s < 2) (ha : a < n) (hb : b < m) (q : (⟨3, ![2, n, m]⟩ : Shape).Idx)
    (h0 : (q 0).val = s) (h1 : (q 1).val = a) (h2 : (q 2).val = b) : (i3 s a b : (⟨3, ![2, n, m]⟩ : Shape).Idx) = q :=
  i3_eq q (by rw [h0, Nat.mod_eq_of_lt hs]) (by rw [h1, Nat.mod_eq_of_lt ha]) (by rw [h2, Nat.mod_eq_of_lt hb])

theorem set_sbr0 : sbr0.view.set = (sbrB.access (Rect.unit (s := S2x256x1152) ![0, 0, 0] S1x256x1152.size inb_S2x256x1152_S1x256x1152_0_0_0)).set := View.set_reshape _ _

theorem emb_sbr0 (p : S1x256x1152.Idx) : (sbrB.access (Rect.unit (s := S2x256x1152) ![0, 0, 0] S1x256x1152.size inb_S2x256x1152_S1x256x1152_0_0_0)).emb p = i3 0 (p 1).val (p 2).val := by
  have h0 : (p 0).val < 1 := (p 0).isLt
  refine (emb3 (n := 256) (m := 1152) 0 _ _ (by decide) (p 1).isLt (p 2).isLt _ ?_ ?_ ?_).symm
  · show 0 + 1 * (p 0).val = 0; omega
  · show 0 + 1 * (p 1).val = (p 1).val; omega
  · show 0 + 1 * (p 2).val = (p 2).val; omega

theorem load_sbr0 (c : Dev nD) (f : FVec F S2x256x1152 .bf16) {k : Vec F S1x256x1152 .bf16 → BProg F} {Q : PUnit → sProp (MM F)}
    {hl : sbrB.view.LoadsAt (Rect.unit (s := S2x256x1152) ![0, 0, 0] S1x256x1152.size inb_S2x256x1152_S1x256x1152_0_0_0).toLoadRect} :
    slotPts c sbr0 f ⊢ iprop((slotPts c sbr0 f -∗ wpB c (k (slotRead 0 f)) Q)
      -∗ wpB c (.op (.load sbrB (Rect.unit (s := S2x256x1152) ![0, 0, 0] S1x256x1152.size inb_S2x256x1152_S1x256x1152_0_0_0).toLoadRect hl) k) Q) := by
  have e : (sbrB.access (Rect.unit (s := S2x256x1152) ![0, 0, 0] S1x256x1152.size inb_S2x256x1152_S1x256x1152_0_0_0)).read (Elt F) f = slotRead 0 f := funext fun p => by
    rw [View.read_apply, emb_sbr0]; rfl
  rw [← e]
  unfold slotPts; rw [set_sbr0]
  exact wp_load_rect 𝒱₀ (c : Thread nD τ) none Set.univ (m := sbrB) (Finset.Subset.refl _)

theorem store_sbr0 (c : Dev nD) (f : FVec F S2x256x1152 .bf16) (v : FVec F S1x256x1152 .bf16) {k : BProg F} {Q : PUnit → sProp (MM F)}
    {hx : (sbrB.access (Rect.unit (s := S2x256x1152) ![0, 0, 0] S1x256x1152.size inb_S2x256x1152_S1x256x1152_0_0_0)).Stores Finset.univ} {hm} :
    slotPts c sbr0 f ⊢ iprop(((∃ g : FVec F S2x256x1152 .bf16, slotPts c sbr0 g ∗ ⌜SlotInv 0 g v⌝) -∗ wpB c k Q)
      -∗ wpB c (.op (.store sbrB (Rect.unit (s := S2x256x1152) ![0, 0, 0] S1x256x1152.size inb_S2x256x1152_S1x256x1152_0_0_0) v Finset.univ hx hm) fun _ => k) Q) := by
  unfold slotPts; rw [set_sbr0]
  iintro H Hk
  iapply (wp_store 𝒱₀ (c : Thread nD τ) none Set.univ (m := sbrB) (r := (Rect.unit (s := S2x256x1152) ![0, 0, 0] S1x256x1152.size inb_S2x256x1152_S1x256x1152_0_0_0)) (Mk := Finset.univ)
    (S := (sbrB.access (Rect.unit (s := S2x256x1152) ![0, 0, 0] S1x256x1152.size inb_S2x256x1152_S1x256x1152_0_0_0)).set) (View.setOn_subset_set _ _)) $$ H; iintro H
  iapply Hk
  iexists _; isplitl [H]; · iexact H
  ipureintro
  intro p hp
  rw [← emb_sbr0 p]
  exact View.write_emb_of_mem _ _ (Finset.mem_univ p)

theorem set_sbr1 : sbr1.view.set = (sbrB.access (Rect.unit (s := S2x256x1152) ![1, 0, 0] S1x256x1152.size inb_S2x256x1152_S1x256x1152_1_0_0)).set := View.set_reshape _ _

theorem emb_sbr1 (p : S1x256x1152.Idx) : (sbrB.access (Rect.unit (s := S2x256x1152) ![1, 0, 0] S1x256x1152.size inb_S2x256x1152_S1x256x1152_1_0_0)).emb p = i3 1 (p 1).val (p 2).val := by
  have h0 : (p 0).val < 1 := (p 0).isLt
  refine (emb3 (n := 256) (m := 1152) 1 _ _ (by decide) (p 1).isLt (p 2).isLt _ ?_ ?_ ?_).symm
  · show 1 + 1 * (p 0).val = 1; omega
  · show 0 + 1 * (p 1).val = (p 1).val; omega
  · show 0 + 1 * (p 2).val = (p 2).val; omega

theorem load_sbr1 (c : Dev nD) (f : FVec F S2x256x1152 .bf16) {k : Vec F S1x256x1152 .bf16 → BProg F} {Q : PUnit → sProp (MM F)}
    {hl : sbrB.view.LoadsAt (Rect.unit (s := S2x256x1152) ![1, 0, 0] S1x256x1152.size inb_S2x256x1152_S1x256x1152_1_0_0).toLoadRect} :
    slotPts c sbr1 f ⊢ iprop((slotPts c sbr1 f -∗ wpB c (k (slotRead 1 f)) Q)
      -∗ wpB c (.op (.load sbrB (Rect.unit (s := S2x256x1152) ![1, 0, 0] S1x256x1152.size inb_S2x256x1152_S1x256x1152_1_0_0).toLoadRect hl) k) Q) := by
  have e : (sbrB.access (Rect.unit (s := S2x256x1152) ![1, 0, 0] S1x256x1152.size inb_S2x256x1152_S1x256x1152_1_0_0)).read (Elt F) f = slotRead 1 f := funext fun p => by
    rw [View.read_apply, emb_sbr1]; rfl
  rw [← e]
  unfold slotPts; rw [set_sbr1]
  exact wp_load_rect 𝒱₀ (c : Thread nD τ) none Set.univ (m := sbrB) (Finset.Subset.refl _)

theorem store_sbr1 (c : Dev nD) (f : FVec F S2x256x1152 .bf16) (v : FVec F S1x256x1152 .bf16) {k : BProg F} {Q : PUnit → sProp (MM F)}
    {hx : (sbrB.access (Rect.unit (s := S2x256x1152) ![1, 0, 0] S1x256x1152.size inb_S2x256x1152_S1x256x1152_1_0_0)).Stores Finset.univ} {hm} :
    slotPts c sbr1 f ⊢ iprop(((∃ g : FVec F S2x256x1152 .bf16, slotPts c sbr1 g ∗ ⌜SlotInv 1 g v⌝) -∗ wpB c k Q)
      -∗ wpB c (.op (.store sbrB (Rect.unit (s := S2x256x1152) ![1, 0, 0] S1x256x1152.size inb_S2x256x1152_S1x256x1152_1_0_0) v Finset.univ hx hm) fun _ => k) Q) := by
  unfold slotPts; rw [set_sbr1]
  iintro H Hk
  iapply (wp_store 𝒱₀ (c : Thread nD τ) none Set.univ (m := sbrB) (r := (Rect.unit (s := S2x256x1152) ![1, 0, 0] S1x256x1152.size inb_S2x256x1152_S1x256x1152_1_0_0)) (Mk := Finset.univ)
    (S := (sbrB.access (Rect.unit (s := S2x256x1152) ![1, 0, 0] S1x256x1152.size inb_S2x256x1152_S1x256x1152_1_0_0)).set) (View.setOn_subset_set _ _)) $$ H; iintro H
  iapply Hk
  iexists _; isplitl [H]; · iexact H
  ipureintro
  intro p hp
  rw [← emb_sbr1 p]
  exact View.write_emb_of_mem _ _ (Finset.mem_univ p)

theorem set_rbr0 : rbr0.view.set = (rbrB.access (Rect.unit (s := S2x256x1152) ![0, 0, 0] S1x256x1152.size inb_S2x256x1152_S1x256x1152_0_0_0)).set := View.set_reshape _ _

theorem emb_rbr0 (p : S1x256x1152.Idx) : (rbrB.access (Rect.unit (s := S2x256x1152) ![0, 0, 0] S1x256x1152.size inb_S2x256x1152_S1x256x1152_0_0_0)).emb p = i3 0 (p 1).val (p 2).val := by
  have h0 : (p 0).val < 1 := (p 0).isLt
  refine (emb3 (n := 256) (m := 1152) 0 _ _ (by decide) (p 1).isLt (p 2).isLt _ ?_ ?_ ?_).symm
  · show 0 + 1 * (p 0).val = 0; omega
  · show 0 + 1 * (p 1).val = (p 1).val; omega
  · show 0 + 1 * (p 2).val = (p 2).val; omega

theorem load_rbr0 (c : Dev nD) (f : FVec F S2x256x1152 .bf16) {k : Vec F S1x256x1152 .bf16 → BProg F} {Q : PUnit → sProp (MM F)}
    {hl : rbrB.view.LoadsAt (Rect.unit (s := S2x256x1152) ![0, 0, 0] S1x256x1152.size inb_S2x256x1152_S1x256x1152_0_0_0).toLoadRect} :
    slotPts c rbr0 f ⊢ iprop((slotPts c rbr0 f -∗ wpB c (k (slotRead 0 f)) Q)
      -∗ wpB c (.op (.load rbrB (Rect.unit (s := S2x256x1152) ![0, 0, 0] S1x256x1152.size inb_S2x256x1152_S1x256x1152_0_0_0).toLoadRect hl) k) Q) := by
  have e : (rbrB.access (Rect.unit (s := S2x256x1152) ![0, 0, 0] S1x256x1152.size inb_S2x256x1152_S1x256x1152_0_0_0)).read (Elt F) f = slotRead 0 f := funext fun p => by
    rw [View.read_apply, emb_rbr0]; rfl
  rw [← e]
  unfold slotPts; rw [set_rbr0]
  exact wp_load_rect 𝒱₀ (c : Thread nD τ) none Set.univ (m := rbrB) (Finset.Subset.refl _)

theorem store_rbr0 (c : Dev nD) (f : FVec F S2x256x1152 .bf16) (v : FVec F S1x256x1152 .bf16) {k : BProg F} {Q : PUnit → sProp (MM F)}
    {hx : (rbrB.access (Rect.unit (s := S2x256x1152) ![0, 0, 0] S1x256x1152.size inb_S2x256x1152_S1x256x1152_0_0_0)).Stores Finset.univ} {hm} :
    slotPts c rbr0 f ⊢ iprop(((∃ g : FVec F S2x256x1152 .bf16, slotPts c rbr0 g ∗ ⌜SlotInv 0 g v⌝) -∗ wpB c k Q)
      -∗ wpB c (.op (.store rbrB (Rect.unit (s := S2x256x1152) ![0, 0, 0] S1x256x1152.size inb_S2x256x1152_S1x256x1152_0_0_0) v Finset.univ hx hm) fun _ => k) Q) := by
  unfold slotPts; rw [set_rbr0]
  iintro H Hk
  iapply (wp_store 𝒱₀ (c : Thread nD τ) none Set.univ (m := rbrB) (r := (Rect.unit (s := S2x256x1152) ![0, 0, 0] S1x256x1152.size inb_S2x256x1152_S1x256x1152_0_0_0)) (Mk := Finset.univ)
    (S := (rbrB.access (Rect.unit (s := S2x256x1152) ![0, 0, 0] S1x256x1152.size inb_S2x256x1152_S1x256x1152_0_0_0)).set) (View.setOn_subset_set _ _)) $$ H; iintro H
  iapply Hk
  iexists _; isplitl [H]; · iexact H
  ipureintro
  intro p hp
  rw [← emb_rbr0 p]
  exact View.write_emb_of_mem _ _ (Finset.mem_univ p)

theorem set_rbr1 : rbr1.view.set = (rbrB.access (Rect.unit (s := S2x256x1152) ![1, 0, 0] S1x256x1152.size inb_S2x256x1152_S1x256x1152_1_0_0)).set := View.set_reshape _ _

theorem emb_rbr1 (p : S1x256x1152.Idx) : (rbrB.access (Rect.unit (s := S2x256x1152) ![1, 0, 0] S1x256x1152.size inb_S2x256x1152_S1x256x1152_1_0_0)).emb p = i3 1 (p 1).val (p 2).val := by
  have h0 : (p 0).val < 1 := (p 0).isLt
  refine (emb3 (n := 256) (m := 1152) 1 _ _ (by decide) (p 1).isLt (p 2).isLt _ ?_ ?_ ?_).symm
  · show 1 + 1 * (p 0).val = 1; omega
  · show 0 + 1 * (p 1).val = (p 1).val; omega
  · show 0 + 1 * (p 2).val = (p 2).val; omega

theorem load_rbr1 (c : Dev nD) (f : FVec F S2x256x1152 .bf16) {k : Vec F S1x256x1152 .bf16 → BProg F} {Q : PUnit → sProp (MM F)}
    {hl : rbrB.view.LoadsAt (Rect.unit (s := S2x256x1152) ![1, 0, 0] S1x256x1152.size inb_S2x256x1152_S1x256x1152_1_0_0).toLoadRect} :
    slotPts c rbr1 f ⊢ iprop((slotPts c rbr1 f -∗ wpB c (k (slotRead 1 f)) Q)
      -∗ wpB c (.op (.load rbrB (Rect.unit (s := S2x256x1152) ![1, 0, 0] S1x256x1152.size inb_S2x256x1152_S1x256x1152_1_0_0).toLoadRect hl) k) Q) := by
  have e : (rbrB.access (Rect.unit (s := S2x256x1152) ![1, 0, 0] S1x256x1152.size inb_S2x256x1152_S1x256x1152_1_0_0)).read (Elt F) f = slotRead 1 f := funext fun p => by
    rw [View.read_apply, emb_rbr1]; rfl
  rw [← e]
  unfold slotPts; rw [set_rbr1]
  exact wp_load_rect 𝒱₀ (c : Thread nD τ) none Set.univ (m := rbrB) (Finset.Subset.refl _)

theorem store_rbr1 (c : Dev nD) (f : FVec F S2x256x1152 .bf16) (v : FVec F S1x256x1152 .bf16) {k : BProg F} {Q : PUnit → sProp (MM F)}
    {hx : (rbrB.access (Rect.unit (s := S2x256x1152) ![1, 0, 0] S1x256x1152.size inb_S2x256x1152_S1x256x1152_1_0_0)).Stores Finset.univ} {hm} :
    slotPts c rbr1 f ⊢ iprop(((∃ g : FVec F S2x256x1152 .bf16, slotPts c rbr1 g ∗ ⌜SlotInv 1 g v⌝) -∗ wpB c k Q)
      -∗ wpB c (.op (.store rbrB (Rect.unit (s := S2x256x1152) ![1, 0, 0] S1x256x1152.size inb_S2x256x1152_S1x256x1152_1_0_0) v Finset.univ hx hm) fun _ => k) Q) := by
  unfold slotPts; rw [set_rbr1]
  iintro H Hk
  iapply (wp_store 𝒱₀ (c : Thread nD τ) none Set.univ (m := rbrB) (r := (Rect.unit (s := S2x256x1152) ![1, 0, 0] S1x256x1152.size inb_S2x256x1152_S1x256x1152_1_0_0)) (Mk := Finset.univ)
    (S := (rbrB.access (Rect.unit (s := S2x256x1152) ![1, 0, 0] S1x256x1152.size inb_S2x256x1152_S1x256x1152_1_0_0)).set) (View.setOn_subset_set _ _)) $$ H; iintro H
  iapply Hk
  iexists _; isplitl [H]; · iexact H
  ipureintro
  intro p hp
  rw [← emb_rbr1 p]
  exact View.write_emb_of_mem _ _ (Finset.mem_univ p)

theorem set_sbl0 : sbl0.view.set = (sblB.access (Rect.unit (s := S2x256x1152) ![0, 0, 0] S1x256x1152.size inb_S2x256x1152_S1x256x1152_0_0_0)).set := View.set_reshape _ _

theorem emb_sbl0 (p : S1x256x1152.Idx) : (sblB.access (Rect.unit (s := S2x256x1152) ![0, 0, 0] S1x256x1152.size inb_S2x256x1152_S1x256x1152_0_0_0)).emb p = i3 0 (p 1).val (p 2).val := by
  have h0 : (p 0).val < 1 := (p 0).isLt
  refine (emb3 (n := 256) (m := 1152) 0 _ _ (by decide) (p 1).isLt (p 2).isLt _ ?_ ?_ ?_).symm
  · show 0 + 1 * (p 0).val = 0; omega
  · show 0 + 1 * (p 1).val = (p 1).val; omega
  · show 0 + 1 * (p 2).val = (p 2).val; omega

theorem load_sbl0 (c : Dev nD) (f : FVec F S2x256x1152 .bf16) {k : Vec F S1x256x1152 .bf16 → BProg F} {Q : PUnit → sProp (MM F)}
    {hl : sblB.view.LoadsAt (Rect.unit (s := S2x256x1152) ![0, 0, 0] S1x256x1152.size inb_S2x256x1152_S1x256x1152_0_0_0).toLoadRect} :
    slotPts c sbl0 f ⊢ iprop((slotPts c sbl0 f -∗ wpB c (k (slotRead 0 f)) Q)
      -∗ wpB c (.op (.load sblB (Rect.unit (s := S2x256x1152) ![0, 0, 0] S1x256x1152.size inb_S2x256x1152_S1x256x1152_0_0_0).toLoadRect hl) k) Q) := by
  have e : (sblB.access (Rect.unit (s := S2x256x1152) ![0, 0, 0] S1x256x1152.size inb_S2x256x1152_S1x256x1152_0_0_0)).read (Elt F) f = slotRead 0 f := funext fun p => by
    rw [View.read_apply, emb_sbl0]; rfl
  rw [← e]
  unfold slotPts; rw [set_sbl0]
  exact wp_load_rect 𝒱₀ (c : Thread nD τ) none Set.univ (m := sblB) (Finset.Subset.refl _)

theorem store_sbl0 (c : Dev nD) (f : FVec F S2x256x1152 .bf16) (v : FVec F S1x256x1152 .bf16) {k : BProg F} {Q : PUnit → sProp (MM F)}
    {hx : (sblB.access (Rect.unit (s := S2x256x1152) ![0, 0, 0] S1x256x1152.size inb_S2x256x1152_S1x256x1152_0_0_0)).Stores Finset.univ} {hm} :
    slotPts c sbl0 f ⊢ iprop(((∃ g : FVec F S2x256x1152 .bf16, slotPts c sbl0 g ∗ ⌜SlotInv 0 g v⌝) -∗ wpB c k Q)
      -∗ wpB c (.op (.store sblB (Rect.unit (s := S2x256x1152) ![0, 0, 0] S1x256x1152.size inb_S2x256x1152_S1x256x1152_0_0_0) v Finset.univ hx hm) fun _ => k) Q) := by
  unfold slotPts; rw [set_sbl0]
  iintro H Hk
  iapply (wp_store 𝒱₀ (c : Thread nD τ) none Set.univ (m := sblB) (r := (Rect.unit (s := S2x256x1152) ![0, 0, 0] S1x256x1152.size inb_S2x256x1152_S1x256x1152_0_0_0)) (Mk := Finset.univ)
    (S := (sblB.access (Rect.unit (s := S2x256x1152) ![0, 0, 0] S1x256x1152.size inb_S2x256x1152_S1x256x1152_0_0_0)).set) (View.setOn_subset_set _ _)) $$ H; iintro H
  iapply Hk
  iexists _; isplitl [H]; · iexact H
  ipureintro
  intro p hp
  rw [← emb_sbl0 p]
  exact View.write_emb_of_mem _ _ (Finset.mem_univ p)

theorem set_sbl1 : sbl1.view.set = (sblB.access (Rect.unit (s := S2x256x1152) ![1, 0, 0] S1x256x1152.size inb_S2x256x1152_S1x256x1152_1_0_0)).set := View.set_reshape _ _

theorem emb_sbl1 (p : S1x256x1152.Idx) : (sblB.access (Rect.unit (s := S2x256x1152) ![1, 0, 0] S1x256x1152.size inb_S2x256x1152_S1x256x1152_1_0_0)).emb p = i3 1 (p 1).val (p 2).val := by
  have h0 : (p 0).val < 1 := (p 0).isLt
  refine (emb3 (n := 256) (m := 1152) 1 _ _ (by decide) (p 1).isLt (p 2).isLt _ ?_ ?_ ?_).symm
  · show 1 + 1 * (p 0).val = 1; omega
  · show 0 + 1 * (p 1).val = (p 1).val; omega
  · show 0 + 1 * (p 2).val = (p 2).val; omega

theorem load_sbl1 (c : Dev nD) (f : FVec F S2x256x1152 .bf16) {k : Vec F S1x256x1152 .bf16 → BProg F} {Q : PUnit → sProp (MM F)}
    {hl : sblB.view.LoadsAt (Rect.unit (s := S2x256x1152) ![1, 0, 0] S1x256x1152.size inb_S2x256x1152_S1x256x1152_1_0_0).toLoadRect} :
    slotPts c sbl1 f ⊢ iprop((slotPts c sbl1 f -∗ wpB c (k (slotRead 1 f)) Q)
      -∗ wpB c (.op (.load sblB (Rect.unit (s := S2x256x1152) ![1, 0, 0] S1x256x1152.size inb_S2x256x1152_S1x256x1152_1_0_0).toLoadRect hl) k) Q) := by
  have e : (sblB.access (Rect.unit (s := S2x256x1152) ![1, 0, 0] S1x256x1152.size inb_S2x256x1152_S1x256x1152_1_0_0)).read (Elt F) f = slotRead 1 f := funext fun p => by
    rw [View.read_apply, emb_sbl1]; rfl
  rw [← e]
  unfold slotPts; rw [set_sbl1]
  exact wp_load_rect 𝒱₀ (c : Thread nD τ) none Set.univ (m := sblB) (Finset.Subset.refl _)

theorem store_sbl1 (c : Dev nD) (f : FVec F S2x256x1152 .bf16) (v : FVec F S1x256x1152 .bf16) {k : BProg F} {Q : PUnit → sProp (MM F)}
    {hx : (sblB.access (Rect.unit (s := S2x256x1152) ![1, 0, 0] S1x256x1152.size inb_S2x256x1152_S1x256x1152_1_0_0)).Stores Finset.univ} {hm} :
    slotPts c sbl1 f ⊢ iprop(((∃ g : FVec F S2x256x1152 .bf16, slotPts c sbl1 g ∗ ⌜SlotInv 1 g v⌝) -∗ wpB c k Q)
      -∗ wpB c (.op (.store sblB (Rect.unit (s := S2x256x1152) ![1, 0, 0] S1x256x1152.size inb_S2x256x1152_S1x256x1152_1_0_0) v Finset.univ hx hm) fun _ => k) Q) := by
  unfold slotPts; rw [set_sbl1]
  iintro H Hk
  iapply (wp_store 𝒱₀ (c : Thread nD τ) none Set.univ (m := sblB) (r := (Rect.unit (s := S2x256x1152) ![1, 0, 0] S1x256x1152.size inb_S2x256x1152_S1x256x1152_1_0_0)) (Mk := Finset.univ)
    (S := (sblB.access (Rect.unit (s := S2x256x1152) ![1, 0, 0] S1x256x1152.size inb_S2x256x1152_S1x256x1152_1_0_0)).set) (View.setOn_subset_set _ _)) $$ H; iintro H
  iapply Hk
  iexists _; isplitl [H]; · iexact H
  ipureintro
  intro p hp
  rw [← emb_sbl1 p]
  exact View.write_emb_of_mem _ _ (Finset.mem_univ p)

theorem set_rbl0 : rbl0.view.set = (rblB.access (Rect.unit (s := S2x256x1152) ![0, 0, 0] S1x256x1152.size inb_S2x256x1152_S1x256x1152_0_0_0)).set := View.set_reshape _ _

theorem emb_rbl0 (p : S1x256x1152.Idx) : (rblB.access (Rect.unit (s := S2x256x1152) ![0, 0, 0] S1x256x1152.size inb_S2x256x1152_S1x256x1152_0_0_0)).emb p = i3 0 (p 1).val (p 2).val := by
  have h0 : (p 0).val < 1 := (p 0).isLt
  refine (emb3 (n := 256) (m := 1152) 0 _ _ (by decide) (p 1).isLt (p 2).isLt _ ?_ ?_ ?_).symm
  · show 0 + 1 * (p 0).val = 0; omega
  · show 0 + 1 * (p 1).val = (p 1).val; omega
  · show 0 + 1 * (p 2).val = (p 2).val; omega

theorem load_rbl0 (c : Dev nD) (f : FVec F S2x256x1152 .bf16) {k : Vec F S1x256x1152 .bf16 → BProg F} {Q : PUnit → sProp (MM F)}
    {hl : rblB.view.LoadsAt (Rect.unit (s := S2x256x1152) ![0, 0, 0] S1x256x1152.size inb_S2x256x1152_S1x256x1152_0_0_0).toLoadRect} :
    slotPts c rbl0 f ⊢ iprop((slotPts c rbl0 f -∗ wpB c (k (slotRead 0 f)) Q)
      -∗ wpB c (.op (.load rblB (Rect.unit (s := S2x256x1152) ![0, 0, 0] S1x256x1152.size inb_S2x256x1152_S1x256x1152_0_0_0).toLoadRect hl) k) Q) := by
  have e : (rblB.access (Rect.unit (s := S2x256x1152) ![0, 0, 0] S1x256x1152.size inb_S2x256x1152_S1x256x1152_0_0_0)).read (Elt F) f = slotRead 0 f := funext fun p => by
    rw [View.read_apply, emb_rbl0]; rfl
  rw [← e]
  unfold slotPts; rw [set_rbl0]
  exact wp_load_rect 𝒱₀ (c : Thread nD τ) none Set.univ (m := rblB) (Finset.Subset.refl _)

theorem store_rbl0 (c : Dev nD) (f : FVec F S2x256x1152 .bf16) (v : FVec F S1x256x1152 .bf16) {k : BProg F} {Q : PUnit → sProp (MM F)}
    {hx : (rblB.access (Rect.unit (s := S2x256x1152) ![0, 0, 0] S1x256x1152.size inb_S2x256x1152_S1x256x1152_0_0_0)).Stores Finset.univ} {hm} :
    slotPts c rbl0 f ⊢ iprop(((∃ g : FVec F S2x256x1152 .bf16, slotPts c rbl0 g ∗ ⌜SlotInv 0 g v⌝) -∗ wpB c k Q)
      -∗ wpB c (.op (.store rblB (Rect.unit (s := S2x256x1152) ![0, 0, 0] S1x256x1152.size inb_S2x256x1152_S1x256x1152_0_0_0) v Finset.univ hx hm) fun _ => k) Q) := by
  unfold slotPts; rw [set_rbl0]
  iintro H Hk
  iapply (wp_store 𝒱₀ (c : Thread nD τ) none Set.univ (m := rblB) (r := (Rect.unit (s := S2x256x1152) ![0, 0, 0] S1x256x1152.size inb_S2x256x1152_S1x256x1152_0_0_0)) (Mk := Finset.univ)
    (S := (rblB.access (Rect.unit (s := S2x256x1152) ![0, 0, 0] S1x256x1152.size inb_S2x256x1152_S1x256x1152_0_0_0)).set) (View.setOn_subset_set _ _)) $$ H; iintro H
  iapply Hk
  iexists _; isplitl [H]; · iexact H
  ipureintro
  intro p hp
  rw [← emb_rbl0 p]
  exact View.write_emb_of_mem _ _ (Finset.mem_univ p)

theorem set_rbl1 : rbl1.view.set = (rblB.access (Rect.unit (s := S2x256x1152) ![1, 0, 0] S1x256x1152.size inb_S2x256x1152_S1x256x1152_1_0_0)).set := View.set_reshape _ _

theorem emb_rbl1 (p : S1x256x1152.Idx) : (rblB.access (Rect.unit (s := S2x256x1152) ![1, 0, 0] S1x256x1152.size inb_S2x256x1152_S1x256x1152_1_0_0)).emb p = i3 1 (p 1).val (p 2).val := by
  have h0 : (p 0).val < 1 := (p 0).isLt
  refine (emb3 (n := 256) (m := 1152) 1 _ _ (by decide) (p 1).isLt (p 2).isLt _ ?_ ?_ ?_).symm
  · show 1 + 1 * (p 0).val = 1; omega
  · show 0 + 1 * (p 1).val = (p 1).val; omega
  · show 0 + 1 * (p 2).val = (p 2).val; omega

theorem load_rbl1 (c : Dev nD) (f : FVec F S2x256x1152 .bf16) {k : Vec F S1x256x1152 .bf16 → BProg F} {Q : PUnit → sProp (MM F)}
    {hl : rblB.view.LoadsAt (Rect.unit (s := S2x256x1152) ![1, 0, 0] S1x256x1152.size inb_S2x256x1152_S1x256x1152_1_0_0).toLoadRect} :
    slotPts c rbl1 f ⊢ iprop((slotPts c rbl1 f -∗ wpB c (k (slotRead 1 f)) Q)
      -∗ wpB c (.op (.load rblB (Rect.unit (s := S2x256x1152) ![1, 0, 0] S1x256x1152.size inb_S2x256x1152_S1x256x1152_1_0_0).toLoadRect hl) k) Q) := by
  have e : (rblB.access (Rect.unit (s := S2x256x1152) ![1, 0, 0] S1x256x1152.size inb_S2x256x1152_S1x256x1152_1_0_0)).read (Elt F) f = slotRead 1 f := funext fun p => by
    rw [View.read_apply, emb_rbl1]; rfl
  rw [← e]
  unfold slotPts; rw [set_rbl1]
  exact wp_load_rect 𝒱₀ (c : Thread nD τ) none Set.univ (m := rblB) (Finset.Subset.refl _)

theorem store_rbl1 (c : Dev nD) (f : FVec F S2x256x1152 .bf16) (v : FVec F S1x256x1152 .bf16) {k : BProg F} {Q : PUnit → sProp (MM F)}
    {hx : (rblB.access (Rect.unit (s := S2x256x1152) ![1, 0, 0] S1x256x1152.size inb_S2x256x1152_S1x256x1152_1_0_0)).Stores Finset.univ} {hm} :
    slotPts c rbl1 f ⊢ iprop(((∃ g : FVec F S2x256x1152 .bf16, slotPts c rbl1 g ∗ ⌜SlotInv 1 g v⌝) -∗ wpB c k Q)
      -∗ wpB c (.op (.store rblB (Rect.unit (s := S2x256x1152) ![1, 0, 0] S1x256x1152.size inb_S2x256x1152_S1x256x1152_1_0_0) v Finset.univ hx hm) fun _ => k) Q) := by
  unfold slotPts; rw [set_rbl1]
  iintro H Hk
  iapply (wp_store 𝒱₀ (c : Thread nD τ) none Set.univ (m := rblB) (r := (Rect.unit (s := S2x256x1152) ![1, 0, 0] S1x256x1152.size inb_S2x256x1152_S1x256x1152_1_0_0)) (Mk := Finset.univ)
    (S := (rblB.access (Rect.unit (s := S2x256x1152) ![1, 0, 0] S1x256x1152.size inb_S2x256x1152_S1x256x1152_1_0_0)).set) (View.setOn_subset_set _ _)) $$ H; iintro H
  iapply Hk
  iexists _; isplitl [H]; · iexact H
  ipureintro
  intro p hp
  rw [← emb_rbl1 p]
  exact View.write_emb_of_mem _ _ (Finset.mem_univ p)

theorem set_agr0 : agr0.view.set = (agrB.access (Rect.unit (s := S2x256x1024) ![0, 0, 0] S1x256x1024.size inb_S2x256x1024_S1x256x1024_0_0_0)).set := View.set_reshape _ _

theorem emb_agr0 (p : S1x256x1024.Idx) : (agrB.access (Rect.unit (s := S2x256x1024) ![0, 0, 0] S1x256x1024.size inb_S2x256x1024_S1x256x1024_0_0_0)).emb p = i3 0 (p 1).val (p 2).val := by
  have h0 : (p 0).val < 1 := (p 0).isLt
  refine (emb3 (n := 256) (m := 1024) 0 _ _ (by decide) (p 1).isLt (p 2).isLt _ ?_ ?_ ?_).symm
  · show 0 + 1 * (p 0).val = 0; omega
  · show 0 + 1 * (p 1).val = (p 1).val; omega
  · show 0 + 1 * (p 2).val = (p 2).val; omega

theorem load_agr0 (c : Dev nD) (f : FVec F S2x256x1024 .bf16) {k : Vec F S1x256x1024 .bf16 → BProg F} {Q : PUnit → sProp (MM F)}
    {hl : agrB.view.LoadsAt (Rect.unit (s := S2x256x1024) ![0, 0, 0] S1x256x1024.size inb_S2x256x1024_S1x256x1024_0_0_0).toLoadRect} :
    slotPts c agr0 f ⊢ iprop((slotPts c agr0 f -∗ wpB c (k (slotReadG 0 f)) Q)
      -∗ wpB c (.op (.load agrB (Rect.unit (s := S2x256x1024) ![0, 0, 0] S1x256x1024.size inb_S2x256x1024_S1x256x1024_0_0_0).toLoadRect hl) k) Q) := by
  have e : (agrB.access (Rect.unit (s := S2x256x1024) ![0, 0, 0] S1x256x1024.size inb_S2x256x1024_S1x256x1024_0_0_0)).read (Elt F) f = slotReadG 0 f := funext fun p => by
    rw [View.read_apply, emb_agr0]; rfl
  rw [← e]
  unfold slotPts; rw [set_agr0]
  exact wp_load_rect 𝒱₀ (c : Thread nD τ) none Set.univ (m := agrB) (Finset.Subset.refl _)

theorem store_agr0 (c : Dev nD) (f : FVec F S2x256x1024 .bf16) (v : FVec F S1x256x1024 .bf16) {k : BProg F} {Q : PUnit → sProp (MM F)}
    {hx : (agrB.access (Rect.unit (s := S2x256x1024) ![0, 0, 0] S1x256x1024.size inb_S2x256x1024_S1x256x1024_0_0_0)).Stores Finset.univ} {hm} :
    slotPts c agr0 f ⊢ iprop(((∃ g : FVec F S2x256x1024 .bf16, slotPts c agr0 g ∗ ⌜SlotG 0 g v⌝) -∗ wpB c k Q)
      -∗ wpB c (.op (.store agrB (Rect.unit (s := S2x256x1024) ![0, 0, 0] S1x256x1024.size inb_S2x256x1024_S1x256x1024_0_0_0) v Finset.univ hx hm) fun _ => k) Q) := by
  unfold slotPts; rw [set_agr0]
  iintro H Hk
  iapply (wp_store 𝒱₀ (c : Thread nD τ) none Set.univ (m := agrB) (r := (Rect.unit (s := S2x256x1024) ![0, 0, 0] S1x256x1024.size inb_S2x256x1024_S1x256x1024_0_0_0)) (Mk := Finset.univ)
    (S := (agrB.access (Rect.unit (s := S2x256x1024) ![0, 0, 0] S1x256x1024.size inb_S2x256x1024_S1x256x1024_0_0_0)).set) (View.setOn_subset_set _ _)) $$ H; iintro H
  iapply Hk
  iexists _; isplitl [H]; · iexact H
  ipureintro
  intro p
  rw [← emb_agr0 p]
  exact View.write_emb_of_mem _ _ (Finset.mem_univ p)

theorem set_agr1 : agr1.view.set = (agrB.access (Rect.unit (s := S2x256x1024) ![1, 0, 0] S1x256x1024.size inb_S2x256x1024_S1x256x1024_1_0_0)).set := View.set_reshape _ _

theorem emb_agr1 (p : S1x256x1024.Idx) : (agrB.access (Rect.unit (s := S2x256x1024) ![1, 0, 0] S1x256x1024.size inb_S2x256x1024_S1x256x1024_1_0_0)).emb p = i3 1 (p 1).val (p 2).val := by
  have h0 : (p 0).val < 1 := (p 0).isLt
  refine (emb3 (n := 256) (m := 1024) 1 _ _ (by decide) (p 1).isLt (p 2).isLt _ ?_ ?_ ?_).symm
  · show 1 + 1 * (p 0).val = 1; omega
  · show 0 + 1 * (p 1).val = (p 1).val; omega
  · show 0 + 1 * (p 2).val = (p 2).val; omega

theorem load_agr1 (c : Dev nD) (f : FVec F S2x256x1024 .bf16) {k : Vec F S1x256x1024 .bf16 → BProg F} {Q : PUnit → sProp (MM F)}
    {hl : agrB.view.LoadsAt (Rect.unit (s := S2x256x1024) ![1, 0, 0] S1x256x1024.size inb_S2x256x1024_S1x256x1024_1_0_0).toLoadRect} :
    slotPts c agr1 f ⊢ iprop((slotPts c agr1 f -∗ wpB c (k (slotReadG 1 f)) Q)
      -∗ wpB c (.op (.load agrB (Rect.unit (s := S2x256x1024) ![1, 0, 0] S1x256x1024.size inb_S2x256x1024_S1x256x1024_1_0_0).toLoadRect hl) k) Q) := by
  have e : (agrB.access (Rect.unit (s := S2x256x1024) ![1, 0, 0] S1x256x1024.size inb_S2x256x1024_S1x256x1024_1_0_0)).read (Elt F) f = slotReadG 1 f := funext fun p => by
    rw [View.read_apply, emb_agr1]; rfl
  rw [← e]
  unfold slotPts; rw [set_agr1]
  exact wp_load_rect 𝒱₀ (c : Thread nD τ) none Set.univ (m := agrB) (Finset.Subset.refl _)

theorem store_agr1 (c : Dev nD) (f : FVec F S2x256x1024 .bf16) (v : FVec F S1x256x1024 .bf16) {k : BProg F} {Q : PUnit → sProp (MM F)}
    {hx : (agrB.access (Rect.unit (s := S2x256x1024) ![1, 0, 0] S1x256x1024.size inb_S2x256x1024_S1x256x1024_1_0_0)).Stores Finset.univ} {hm} :
    slotPts c agr1 f ⊢ iprop(((∃ g : FVec F S2x256x1024 .bf16, slotPts c agr1 g ∗ ⌜SlotG 1 g v⌝) -∗ wpB c k Q)
      -∗ wpB c (.op (.store agrB (Rect.unit (s := S2x256x1024) ![1, 0, 0] S1x256x1024.size inb_S2x256x1024_S1x256x1024_1_0_0) v Finset.univ hx hm) fun _ => k) Q) := by
  unfold slotPts; rw [set_agr1]
  iintro H Hk
  iapply (wp_store 𝒱₀ (c : Thread nD τ) none Set.univ (m := agrB) (r := (Rect.unit (s := S2x256x1024) ![1, 0, 0] S1x256x1024.size inb_S2x256x1024_S1x256x1024_1_0_0)) (Mk := Finset.univ)
    (S := (agrB.access (Rect.unit (s := S2x256x1024) ![1, 0, 0] S1x256x1024.size inb_S2x256x1024_S1x256x1024_1_0_0)).set) (View.setOn_subset_set _ _)) $$ H; iintro H
  iapply Hk
  iexists _; isplitl [H]; · iexact H
  ipureintro
  intro p
  rw [← emb_agr1 p]
  exact View.write_emb_of_mem _ _ (Finset.mem_univ p)

theorem set_agl0 : agl0.view.set = (aglB.access (Rect.unit (s := S2x256x1024) ![0, 0, 0] S1x256x1024.size inb_S2x256x1024_S1x256x1024_0_0_0)).set := View.set_reshape _ _

theorem emb_agl0 (p : S1x256x1024.Idx) : (aglB.access (Rect.unit (s := S2x256x1024) ![0, 0, 0] S1x256x1024.size inb_S2x256x1024_S1x256x1024_0_0_0)).emb p = i3 0 (p 1).val (p 2).val := by
  have h0 : (p 0).val < 1 := (p 0).isLt
  refine (emb3 (n := 256) (m := 1024) 0 _ _ (by decide) (p 1).isLt (p 2).isLt _ ?_ ?_ ?_).symm
  · show 0 + 1 * (p 0).val = 0; omega
  · show 0 + 1 * (p 1).val = (p 1).val; omega
  · show 0 + 1 * (p 2).val = (p 2).val; omega

theorem load_agl0 (c : Dev nD) (f : FVec F S2x256x1024 .bf16) {k : Vec F S1x256x1024 .bf16 → BProg F} {Q : PUnit → sProp (MM F)}
    {hl : aglB.view.LoadsAt (Rect.unit (s := S2x256x1024) ![0, 0, 0] S1x256x1024.size inb_S2x256x1024_S1x256x1024_0_0_0).toLoadRect} :
    slotPts c agl0 f ⊢ iprop((slotPts c agl0 f -∗ wpB c (k (slotReadG 0 f)) Q)
      -∗ wpB c (.op (.load aglB (Rect.unit (s := S2x256x1024) ![0, 0, 0] S1x256x1024.size inb_S2x256x1024_S1x256x1024_0_0_0).toLoadRect hl) k) Q) := by
  have e : (aglB.access (Rect.unit (s := S2x256x1024) ![0, 0, 0] S1x256x1024.size inb_S2x256x1024_S1x256x1024_0_0_0)).read (Elt F) f = slotReadG 0 f := funext fun p => by
    rw [View.read_apply, emb_agl0]; rfl
  rw [← e]
  unfold slotPts; rw [set_agl0]
  exact wp_load_rect 𝒱₀ (c : Thread nD τ) none Set.univ (m := aglB) (Finset.Subset.refl _)

theorem store_agl0 (c : Dev nD) (f : FVec F S2x256x1024 .bf16) (v : FVec F S1x256x1024 .bf16) {k : BProg F} {Q : PUnit → sProp (MM F)}
    {hx : (aglB.access (Rect.unit (s := S2x256x1024) ![0, 0, 0] S1x256x1024.size inb_S2x256x1024_S1x256x1024_0_0_0)).Stores Finset.univ} {hm} :
    slotPts c agl0 f ⊢ iprop(((∃ g : FVec F S2x256x1024 .bf16, slotPts c agl0 g ∗ ⌜SlotG 0 g v⌝) -∗ wpB c k Q)
      -∗ wpB c (.op (.store aglB (Rect.unit (s := S2x256x1024) ![0, 0, 0] S1x256x1024.size inb_S2x256x1024_S1x256x1024_0_0_0) v Finset.univ hx hm) fun _ => k) Q) := by
  unfold slotPts; rw [set_agl0]
  iintro H Hk
  iapply (wp_store 𝒱₀ (c : Thread nD τ) none Set.univ (m := aglB) (r := (Rect.unit (s := S2x256x1024) ![0, 0, 0] S1x256x1024.size inb_S2x256x1024_S1x256x1024_0_0_0)) (Mk := Finset.univ)
    (S := (aglB.access (Rect.unit (s := S2x256x1024) ![0, 0, 0] S1x256x1024.size inb_S2x256x1024_S1x256x1024_0_0_0)).set) (View.setOn_subset_set _ _)) $$ H; iintro H
  iapply Hk
  iexists _; isplitl [H]; · iexact H
  ipureintro
  intro p
  rw [← emb_agl0 p]
  exact View.write_emb_of_mem _ _ (Finset.mem_univ p)

theorem set_agl1 : agl1.view.set = (aglB.access (Rect.unit (s := S2x256x1024) ![1, 0, 0] S1x256x1024.size inb_S2x256x1024_S1x256x1024_1_0_0)).set := View.set_reshape _ _

theorem emb_agl1 (p : S1x256x1024.Idx) : (aglB.access (Rect.unit (s := S2x256x1024) ![1, 0, 0] S1x256x1024.size inb_S2x256x1024_S1x256x1024_1_0_0)).emb p = i3 1 (p 1).val (p 2).val := by
  have h0 : (p 0).val < 1 := (p 0).isLt
  refine (emb3 (n := 256) (m := 1024) 1 _ _ (by decide) (p 1).isLt (p 2).isLt _ ?_ ?_ ?_).symm
  · show 1 + 1 * (p 0).val = 1; omega
  · show 0 + 1 * (p 1).val = (p 1).val; omega
  · show 0 + 1 * (p 2).val = (p 2).val; omega

theorem load_agl1 (c : Dev nD) (f : FVec F S2x256x1024 .bf16) {k : Vec F S1x256x1024 .bf16 → BProg F} {Q : PUnit → sProp (MM F)}
    {hl : aglB.view.LoadsAt (Rect.unit (s := S2x256x1024) ![1, 0, 0] S1x256x1024.size inb_S2x256x1024_S1x256x1024_1_0_0).toLoadRect} :
    slotPts c agl1 f ⊢ iprop((slotPts c agl1 f -∗ wpB c (k (slotReadG 1 f)) Q)
      -∗ wpB c (.op (.load aglB (Rect.unit (s := S2x256x1024) ![1, 0, 0] S1x256x1024.size inb_S2x256x1024_S1x256x1024_1_0_0).toLoadRect hl) k) Q) := by
  have e : (aglB.access (Rect.unit (s := S2x256x1024) ![1, 0, 0] S1x256x1024.size inb_S2x256x1024_S1x256x1024_1_0_0)).read (Elt F) f = slotReadG 1 f := funext fun p => by
    rw [View.read_apply, emb_agl1]; rfl
  rw [← e]
  unfold slotPts; rw [set_agl1]
  exact wp_load_rect 𝒱₀ (c : Thread nD τ) none Set.univ (m := aglB) (Finset.Subset.refl _)

theorem store_agl1 (c : Dev nD) (f : FVec F S2x256x1024 .bf16) (v : FVec F S1x256x1024 .bf16) {k : BProg F} {Q : PUnit → sProp (MM F)}
    {hx : (aglB.access (Rect.unit (s := S2x256x1024) ![1, 0, 0] S1x256x1024.size inb_S2x256x1024_S1x256x1024_1_0_0)).Stores Finset.univ} {hm} :
    slotPts c agl1 f ⊢ iprop(((∃ g : FVec F S2x256x1024 .bf16, slotPts c agl1 g ∗ ⌜SlotG 1 g v⌝) -∗ wpB c k Q)
      -∗ wpB c (.op (.store aglB (Rect.unit (s := S2x256x1024) ![1, 0, 0] S1x256x1024.size inb_S2x256x1024_S1x256x1024_1_0_0) v Finset.univ hx hm) fun _ => k) Q) := by
  unfold slotPts; rw [set_agl1]
  iintro H Hk
  iapply (wp_store 𝒱₀ (c : Thread nD τ) none Set.univ (m := aglB) (r := (Rect.unit (s := S2x256x1024) ![1, 0, 0] S1x256x1024.size inb_S2x256x1024_S1x256x1024_1_0_0)) (Mk := Finset.univ)
    (S := (aglB.access (Rect.unit (s := S2x256x1024) ![1, 0, 0] S1x256x1024.size inb_S2x256x1024_S1x256x1024_1_0_0)).set) (View.setOn_subset_set _ _)) $$ H; iintro H
  iapply Hk
  iexists _; isplitl [H]; · iexact H
  ipureintro
  intro p
  rw [← emb_agl1 p]
  exact View.write_emb_of_mem _ _ (Finset.mem_univ p)

theorem copy_sbr0 {fd fs : FVec F S2x256x1152 .bf16} {v : FVec F S1x256x1152 .bf16} (h : SlotInv 0 fs v) :
    SlotInv 0 (rbr0.view.write (Elt F) fd (sbr0.view.read (Elt F) fs) Finset.univ) v := by
  intro p hp
  obtain ⟨x, rfl⟩ := (Shape.reshapeEquiv (squeezes_S1x256x1152_S256x1152).numel_eq).surjective p
  rw [← emb_rbr0]
  refine (View.write_emb_of_mem (v := rbr0.view) _ _ (Finset.mem_univ x)).trans ?_
  refine Eq.trans ?_ (h _ hp)
  rw [← emb_sbr0]
  rfl

theorem copy_sbr1 {fd fs : FVec F S2x256x1152 .bf16} {v : FVec F S1x256x1152 .bf16} (h : SlotInv 1 fs v) :
    SlotInv 1 (rbr1.view.write (Elt F) fd (sbr1.view.read (Elt F) fs) Finset.univ) v := by
  intro p hp
  obtain ⟨x, rfl⟩ := (Shape.reshapeEquiv (squeezes_S1x256x1152_S256x1152).numel_eq).surjective p
  rw [← emb_rbr1]
  refine (View.write_emb_of_mem (v := rbr1.view) _ _ (Finset.mem_univ x)).trans ?_
  refine Eq.trans ?_ (h _ hp)
  rw [← emb_sbr1]
  rfl

theorem copy_sbl0 {fd fs : FVec F S2x256x1152 .bf16} {v : FVec F S1x256x1152 .bf16} (h : SlotInv 0 fs v) :
    SlotInv 0 (rbl0.view.write (Elt F) fd (sbl0.view.read (Elt F) fs) Finset.univ) v := by
  intro p hp
  obtain ⟨x, rfl⟩ := (Shape.reshapeEquiv (squeezes_S1x256x1152_S256x1152).numel_eq).surjective p
  rw [← emb_rbl0]
  refine (View.write_emb_of_mem (v := rbl0.view) _ _ (Finset.mem_univ x)).trans ?_
  refine Eq.trans ?_ (h _ hp)
  rw [← emb_sbl0]
  rfl

theorem copy_sbl1 {fd fs : FVec F S2x256x1152 .bf16} {v : FVec F S1x256x1152 .bf16} (h : SlotInv 1 fs v) :
    SlotInv 1 (rbl1.view.write (Elt F) fd (sbl1.view.read (Elt F) fs) Finset.univ) v := by
  intro p hp
  obtain ⟨x, rfl⟩ := (Shape.reshapeEquiv (squeezes_S1x256x1152_S256x1152).numel_eq).surjective p
  rw [← emb_rbl1]
  refine (View.write_emb_of_mem (v := rbl1.view) _ _ (Finset.mem_univ x)).trans ?_
  refine Eq.trans ?_ (h _ hp)
  rw [← emb_sbl1]
  rfl

theorem copy_agr0 {fd fs : FVec F S2x256x1024 .bf16} {v : FVec F S1x256x1024 .bf16} (h : SlotG 0 fs v) :
    SlotG 1 (agr1.view.write (Elt F) fd (agr0.view.read (Elt F) fs) Finset.univ) v := by
  intro p
  obtain ⟨x, rfl⟩ := (Shape.reshapeEquiv (squeezes_S1x256x1024_S256x1024).numel_eq).surjective p
  rw [← emb_agr1]
  refine (View.write_emb_of_mem (v := agr1.view) _ _ (Finset.mem_univ x)).trans ?_
  refine Eq.trans ?_ (h _)
  rw [← emb_agr0]
  rfl

theorem copy_agl0 {fd fs : FVec F S2x256x1024 .bf16} {v : FVec F S1x256x1024 .bf16} (h : SlotG 0 fs v) :
    SlotG 1 (agl1.view.write (Elt F) fd (agl0.view.read (Elt F) fs) Finset.univ) v := by
  intro p
  obtain ⟨x, rfl⟩ := (Shape.reshapeEquiv (squeezes_S1x256x1024_S256x1024).numel_eq).surjective p
  rw [← emb_agl1]
  refine (View.write_emb_of_mem (v := agl1.view) _ _ (Finset.mem_univ x)).trans ?_
  refine Eq.trans ?_ (h _)
  rw [← emb_agl0]
  rfl

end Cert.KernelIdeal.Run

end
-- ==== Proof.Run.Windows.lean ====
module

public import proofs.«01_k».proof.Proof.Run.Slots

@[expose] public section

/-! What the exchange computes from a slot and a window of the accumulator, in the columns that mean something. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem sendPay_apply (a : FVec F S256x1152 .f32) (p : S1x256x1152.Idx) : sendPay a p = tr (a (i2 (p 1).val (p 2).val)) := by
  have h0 : (p 0).val < 1 := (p 0).isLt
  show k0_pay162 a p = _
  unfold k0_pay162
  dsimp only
  rw [shapeCast_apply _ _ p (i2 (p 1).val (p 2).val : S256x1152.Idx) (by
    rw [Shape.rowMajor_val_three, Shape.rowMajor_val_two]
    show (p 1).val % 256 * 1152 + (p 2).val % 1152 = _
    have h1 : (p 1).val < 256 := (p 1).isLt
    have h2 : (p 2).val < 1152 := (p 2).isLt
    rw [Nat.mod_eq_of_lt h1, Nat.mod_eq_of_lt h2]
    show _ = ((p 0).val * 256 + (p 1).val) * 1152 + (p 2).val
    omega)]
  rfl

theorem sendPay_congr {a a' : FVec F S256x1152 .f32} (h : EqToA a a') : EqTo (sendPay a) (sendPay a') := fun p hp => by
  rw [sendPay_apply, sendPay_apply, h _ (by
    have h2 : (p 2).val < 1152 := (p 2).isLt
    show (p 2).val % 1152 < 1032; omega)]

/-- A received slot plus accumulator rows, before rounding. -/
def plus (r : FVec F S1x256x1152 .bf16) (a : FVec F S256x1152 .f32) : FVec F S256x1152 .f32 := k0_pay269 r a

theorem plus_apply (r : FVec F S1x256x1152 .bf16) (a : FVec F S256x1152 .f32) (p : S256x1152.Idx) :
    plus r a p = FloatOps.addf (ex (r (i3 0 (p 0).val (p 1).val))) (a p) := by
  unfold plus k0_pay269
  dsimp only
  show FloatOps.addf (ex (shapeCast S256x1152 r shapeCasts_S1x256x1152_S256x1152 p)) (a p) = _
  rw [shapeCast_apply _ _ p (i3 0 (p 0).val (p 1).val : S1x256x1152.Idx) (by
    rw [Shape.rowMajor_val_three, Shape.rowMajor_val_two]
    show (0 % 1 * 256 + (p 0).val % 256) * 1152 + (p 1).val % 1152 = (p 0).val * 1152 + (p 1).val
    have h1 : (p 0).val < 256 := (p 0).isLt
    have h2 : (p 1).val < 1152 := (p 1).isLt
    omega)]

theorem plus_congr {r r' : FVec F S1x256x1152 .bf16} {a a' : FVec F S256x1152 .f32} (hr : EqTo r r') (ha : EqToA a a') :
    EqToA (plus r a) (plus r' a') := fun p hp => by
  rw [plus_apply, plus_apply, ha p hp, hr _ (by
    have h2 : (p 1).val < 1152 := (p 1).isLt
    show (p 1).val % 1152 < 1032; omega)]

theorem rsPay_eq (r : FVec F S1x256x1152 .bf16) (a : FVec F S256x1152 .f32) : rsPay r a = sendPay (plus r a) := rfl

theorem rsPay_congr {r r' : FVec F S1x256x1152 .bf16} {a a' : FVec F S256x1152 .f32} (hr : EqTo r r') (ha : EqToA a a') :
    EqTo (rsPay r a) (rsPay r' a') := by
  rw [rsPay_eq, rsPay_eq]; exact sendPay_congr (plus_congr hr ha)

theorem slice128_congr {v v' : FVec F S256x1152 .f32} (h : EqToA v v') (o : ℕ) (hs : S256x1152.Slices ![0, o] S256x128) (ho : o + 128 ≤ 1032) :
    extractStridedSlice S256x128 ![0, o] v hs = extractStridedSlice S256x128 ![0, o] v' hs := funext fun p => h _ (by
  have h1 : (p 1).val < 128 := (p 1).isLt
  show o + (p 1).val < 1032; omega)

theorem slice1_congr {v v' : FVec F S256x1152 .f32} (h : EqToA v v') (o : ℕ) (hs : S256x1152.Slices ![0, o] S256x1) (ho : o + 1 ≤ 1032) :
    extractStridedSlice S256x1 ![0, o] v hs = extractStridedSlice S256x1 ![0, o] v' hs := funext fun p => h _ (by
  have h1 : (p 1).val < 1 := (p 1).isLt
  show o + (p 1).val < 1032; omega)

theorem outPay_congr {r r' : FVec F S1x256x1152 .bf16} {a a' : FVec F S256x1152 .f32} (hr : EqTo r r') (ha : EqToA a a') (w : FVec F S1024x1024 .bf16) :
    outPay r a w = outPay r' a' w := by
  have h : EqToA (k0_pay269 r a) (k0_pay269 r' a') := plus_congr hr ha
  unfold outPay k0_pay276 k0_pay270 k0_pay271 k0_pay272 k0_pay273 k0_pay274 k0_pay275
  dsimp only
  have e0 := slice128_congr h 0 slices_S256x1152_o0_0_S256x128 (by decide)
  have s0 := slice1_congr h 1024 slices_S256x1152_o0_1024_S256x1 (by decide)
  have e1 := slice128_congr h 128 slices_S256x1152_o0_128_S256x128 (by decide)
  have s1 := slice1_congr h 1025 slices_S256x1152_o0_1025_S256x1 (by decide)
  have e2 := slice128_congr h 256 slices_S256x1152_o0_256_S256x128 (by decide)
  have s2 := slice1_congr h 1026 slices_S256x1152_o0_1026_S256x1 (by decide)
  have e3 := slice128_congr h 384 slices_S256x1152_o0_384_S256x128 (by decide)
  have s3 := slice1_congr h 1027 slices_S256x1152_o0_1027_S256x1 (by decide)
  have e4 := slice128_congr h 512 slices_S256x1152_o0_512_S256x128 (by decide)
  have s4 := slice1_congr h 1028 slices_S256x1152_o0_1028_S256x1 (by decide)
  have e5 := slice128_congr h 640 slices_S256x1152_o0_640_S256x128 (by decide)
  have s5 := slice1_congr h 1029 slices_S256x1152_o0_1029_S256x1 (by decide)
  have e6 := slice128_congr h 768 slices_S256x1152_o0_768_S256x128 (by decide)
  have s6 := slice1_congr h 1030 slices_S256x1152_o0_1030_S256x1 (by decide)
  have e7 := slice128_congr h 896 slices_S256x1152_o0_896_S256x128 (by decide)
  have s7 := slice1_congr h 1031 slices_S256x1152_o0_1031_S256x1 (by decide)
  rw [e0, s0, e1, s1, e2, s2, e3, s3, e4, s4, e5, s5, e6, s6, e7, s7]

theorem agPay_eq (r : FVec F S1x256x1152 .bf16) (a : FVec F S256x1152 .f32) (w : FVec F S1024x1024 .bf16) :
    agPay r a w = shapeCast S1x256x1024 (truncf .bf16 (outPay r a w) bitsLt_bf16_f32) shapeCasts_S256x1024_S1x256x1024 := rfl

theorem agPay_congr {r r' : FVec F S1x256x1152 .bf16} {a a' : FVec F S256x1152 .f32} (hr : EqTo r r') (ha : EqToA a a') (w : FVec F S1024x1024 .bf16) :
    agPay r a w = agPay r' a' w := by
  rw [agPay_eq, agPay_eq, outPay_congr hr ha w]

/-- A load of 256 accumulator rows that have been computed. -/
theorem load_acc (c : Dev nD) (T : FVec F S2048x1152 .f32) (S : ℕ → ℕ → Prop) (r : ℕ) (hr : r < 8)
    {off : Fin 2 → ℕ} {hi : ∀ a, off a + S256x1152.size a ≤ S2048x1152.size a} (ho : off = ![256 * r, 0]) (hS : ∀ y, y < 8 → S r y)
    {hl : accB.view.LoadsAt (Rect.unit (s := S2048x1152) off S256x1152.size hi).toLoadRect}
    {k : Vec F S256x1152 .f32 → BProg F} {Q : PUnit → sProp (MM F)} :
    accAt c T S ⊢ iprop((∀ a : FVec F S256x1152 .f32, (accAt c T S ∗ ⌜EqToA a (rowsAt T (256 * r))⌝) -∗ wpB c (k a) Q)
      -∗ wpB c (.op (.load accB (Rect.unit (s := S2048x1152) off S256x1152.size hi).toLoadRect hl) k) Q) := by
  subst ho
  unfold accAt
  iintro ⟨%g, H, %hg⟩ Hk
  iapply (wp_load 𝒱₀ (c : Thread nD τ) none Set.univ (m := accB) (Finset.subset_univ _)) $$ H; iintro H
  iapply Hk
  isplitl [H]
  · iexists g; isplitl [H]; · iexact H
    ipureintro; exact hg
  ipureintro
  intro p hp
  have h0 : (p 0).val < 256 := (p 0).isLt
  have h1 : (p 1).val < 1152 := (p 1).isLt
  rw [View.readAt_apply]
  show g ((Rect.unit (s := S2048x1152) ![256 * r, 0] S256x1152.size hi).toLoadRect.idx p) = _
  have e : (i2 (256 * r + (p 0).val) (p 1).val : S2048x1152.Idx) = (Rect.unit (s := S2048x1152) ![256 * r, 0] S256x1152.size hi).toLoadRect.idx p := by
    refine i2_eq _ ?_ ?_
    · show (256 * r + (p 0).val) % 2048 = 256 * r + 1 * (p 0).val; omega
    · show (p 1).val % 1152 = 0 + 1 * (p 1).val; omega
  rw [← e]
  refine hg _ ?_ ?_
  · show (p 1).val % 1152 < 1032; omega
  · have : ((i2 (256 * r + (p 0).val) (p 1).val : S2048x1152.Idx) 0).val / 256 = r := by
      show (256 * r + (p 0).val) % 2048 / 256 = r; omega
    rw [this]
    refine hS _ ?_
    have : ((i2 (256 * r + (p 0).val) (p 1).val : S2048x1152.Idx) 1).val = (p 1).val := by
      show (p 1).val % 1152 = (p 1).val; omega
    rw [this]
    unfold headOf; split <;> omega

theorem mem_sbr0 (i : S2x256x1152.Idx) : i ∈ sbr0.view.set ↔ (i 0).val = 0 := by
  have h0 : (i 0).val < 2 := (i 0).isLt
  have h1 : (i 1).val < 256 := (i 1).isLt
  have h2 : (i 2).val < 1152 := (i 2).isLt
  rw [set_sbr0]
  unfold View.set
  rw [Finset.mem_map]
  constructor
  · rintro ⟨p, -, rfl⟩
    rw [emb_sbr0]
    show 0 % 2 = 0
    rfl
  · intro h
    refine ⟨i3 0 (i 1).val (i 2).val, Finset.mem_univ _, ?_⟩
    rw [emb_sbr0]
    refine i3_eq i ?_ ?_ ?_
    · show 0 % 2 = _; omega
    · show (i 1).val % 256 % 256 = _; omega
    · show (i 2).val % 1152 % 1152 = _; omega

theorem mem_sbr1 (i : S2x256x1152.Idx) : i ∈ sbr1.view.set ↔ (i 0).val = 1 := by
  have h0 : (i 0).val < 2 := (i 0).isLt
  have h1 : (i 1).val < 256 := (i 1).isLt
  have h2 : (i 2).val < 1152 := (i 2).isLt
  rw [set_sbr1]
  unfold View.set
  rw [Finset.mem_map]
  constructor
  · rintro ⟨p, -, rfl⟩
    rw [emb_sbr1]
    show 1 % 2 = 1
    rfl
  · intro h
    refine ⟨i3 0 (i 1).val (i 2).val, Finset.mem_univ _, ?_⟩
    rw [emb_sbr1]
    refine i3_eq i ?_ ?_ ?_
    · show 1 % 2 = _; omega
    · show (i 1).val % 256 % 256 = _; omega
    · show (i 2).val % 1152 % 1152 = _; omega

theorem compl_sbr (c : Dev nD) : (Finset.univ : Finset (Idx ((c : Thread nD τ).loc cc0_scratch11))) \ sbr0.view.set = sbr1.view.set := Finset.ext fun i => by
  have h0 : (i 0).val < 2 := (i 0).isLt
  rw [Finset.mem_sdiff]
  constructor
  · rintro ⟨-, h⟩
    refine (mem_sbr1 i).mpr ?_
    have h' : ¬ (i 0).val = 0 := fun e => h ((mem_sbr0 i).mpr e)
    omega
  · intro h
    have h' := (mem_sbr1 i).mp h
    refine ⟨Finset.mem_univ _, fun e => ?_⟩
    have := (mem_sbr0 i).mp e
    omega

theorem split_sbr (c : Dev nD) (f : FVec F S2x256x1152 .bf16) : pts c cc0_scratch11 f ⊢ iprop(slotPts c sbr0 f ∗ slotPts c sbr1 f) := by
  have h := (pointsTo_split_subset (Ix := Bool) (Val := Elt F) (Name := ℕ) (U := UU) (Lvl := ℕ) (ℓ := (c : Thread nD τ).loc cc0_scratch11) (I := sbr0.view.set) (S := Finset.univ) (q := fullShare) (f := f) (Finset.subset_univ _)).1
  rw [compl_sbr c] at h
  exact h

theorem join_sbr (c : Dev nD) (f g : FVec F S2x256x1152 .bf16) : iprop(slotPts c sbr0 f ∗ slotPts c sbr1 g) ⊢ iprop(∃ h, pts c cc0_scratch11 h) := by
  have h := pointsTo_join_subset (Ix := Bool) (Val := Elt F) (Name := ℕ) (U := UU) (Lvl := ℕ) (ℓ := (c : Thread nD τ).loc cc0_scratch11) (I := sbr0.view.set) (S := Finset.univ) (q := fullShare) (g := f) (f := g) (Finset.subset_univ _)
  rw [compl_sbr c] at h
  iintro H
  ihave H := h $$ H
  iexists _; iexact H

theorem mem_rbr0 (i : S2x256x1152.Idx) : i ∈ rbr0.view.set ↔ (i 0).val = 0 := by
  have h0 : (i 0).val < 2 := (i 0).isLt
  have h1 : (i 1).val < 256 := (i 1).isLt
  have h2 : (i 2).val < 1152 := (i 2).isLt
  rw [set_rbr0]
  unfold View.set
  rw [Finset.mem_map]
  constructor
  · rintro ⟨p, -, rfl⟩
    rw [emb_rbr0]
    show 0 % 2 = 0
    rfl
  · intro h
    refine ⟨i3 0 (i 1).val (i 2).val, Finset.mem_univ _, ?_⟩
    rw [emb_rbr0]
    refine i3_eq i ?_ ?_ ?_
    · show 0 % 2 = _; omega
    · show (i 1).val % 256 % 256 = _; omega
    · show (i 2).val % 1152 % 1152 = _; omega

theorem mem_rbr1 (i : S2x256x1152.Idx) : i ∈ rbr1.view.set ↔ (i 0).val = 1 := by
  have h0 : (i 0).val < 2 := (i 0).isLt
  have h1 : (i 1).val < 256 := (i 1).isLt
  have h2 : (i 2).val < 1152 := (i 2).isLt
  rw [set_rbr1]
  unfold View.set
  rw [Finset.mem_map]
  constructor
  · rintro ⟨p, -, rfl⟩
    rw [emb_rbr1]
    show 1 % 2 = 1
    rfl
  · intro h
    refine ⟨i3 0 (i 1).val (i 2).val, Finset.mem_univ _, ?_⟩
    rw [emb_rbr1]
    refine i3_eq i ?_ ?_ ?_
    · show 1 % 2 = _; omega
    · show (i 1).val % 256 % 256 = _; omega
    · show (i 2).val % 1152 % 1152 = _; omega

theorem compl_rbr (c : Dev nD) : (Finset.univ : Finset (Idx ((c : Thread nD τ).loc cc0_scratch12))) \ rbr0.view.set = rbr1.view.set := Finset.ext fun i => by
  have h0 : (i 0).val < 2 := (i 0).isLt
  rw [Finset.mem_sdiff]
  constructor
  · rintro ⟨-, h⟩
    refine (mem_rbr1 i).mpr ?_
    have h' : ¬ (i 0).val = 0 := fun e => h ((mem_rbr0 i).mpr e)
    omega
  · intro h
    have h' := (mem_rbr1 i).mp h
    refine ⟨Finset.mem_univ _, fun e => ?_⟩
    have := (mem_rbr0 i).mp e
    omega

theorem split_rbr (c : Dev nD) (f : FVec F S2x256x1152 .bf16) : pts c cc0_scratch12 f ⊢ iprop(slotPts c rbr0 f ∗ slotPts c rbr1 f) := by
  have h := (pointsTo_split_subset (Ix := Bool) (Val := Elt F) (Name := ℕ) (U := UU) (Lvl := ℕ) (ℓ := (c : Thread nD τ).loc cc0_scratch12) (I := rbr0.view.set) (S := Finset.univ) (q := fullShare) (f := f) (Finset.subset_univ _)).1
  rw [compl_rbr c] at h
  exact h

theorem join_rbr (c : Dev nD) (f g : FVec F S2x256x1152 .bf16) : iprop(slotPts c rbr0 f ∗ slotPts c rbr1 g) ⊢ iprop(∃ h, pts c cc0_scratch12 h) := by
  have h := pointsTo_join_subset (Ix := Bool) (Val := Elt F) (Name := ℕ) (U := UU) (Lvl := ℕ) (ℓ := (c : Thread nD τ).loc cc0_scratch12) (I := rbr0.view.set) (S := Finset.univ) (q := fullShare) (g := f) (f := g) (Finset.subset_univ _)
  rw [compl_rbr c] at h
  iintro H
  ihave H := h $$ H
  iexists _; iexact H

theorem mem_sbl0 (i : S2x256x1152.Idx) : i ∈ sbl0.view.set ↔ (i 0).val = 0 := by
  have h0 : (i 0).val < 2 := (i 0).isLt
  have h1 : (i 1).val < 256 := (i 1).isLt
  have h2 : (i 2).val < 1152 := (i 2).isLt
  rw [set_sbl0]
  unfold View.set
  rw [Finset.mem_map]
  constructor
  · rintro ⟨p, -, rfl⟩
    rw [emb_sbl0]
    show 0 % 2 = 0
    rfl
  · intro h
    refine ⟨i3 0 (i 1).val (i 2).val, Finset.mem_univ _, ?_⟩
    rw [emb_sbl0]
    refine i3_eq i ?_ ?_ ?_
    · show 0 % 2 = _; omega
    · show (i 1).val % 256 % 256 = _; omega
    · show (i 2).val % 1152 % 1152 = _; omega

theorem mem_sbl1 (i : S2x256x1152.Idx) : i ∈ sbl1.view.set ↔ (i 0).val = 1 := by
  have h0 : (i 0).val < 2 := (i 0).isLt
  have h1 : (i 1).val < 256 := (i 1).isLt
  have h2 : (i 2).val < 1152 := (i 2).isLt
  rw [set_sbl1]
  unfold View.set
  rw [Finset.mem_map]
  constructor
  · rintro ⟨p, -, rfl⟩
    rw [emb_sbl1]
    show 1 % 2 = 1
    rfl
  · intro h
    refine ⟨i3 0 (i 1).val (i 2).val, Finset.mem_univ _, ?_⟩
    rw [emb_sbl1]
    refine i3_eq i ?_ ?_ ?_
    · show 1 % 2 = _; omega
    · show (i 1).val % 256 % 256 = _; omega
    · show (i 2).val % 1152 % 1152 = _; omega

theorem compl_sbl (c : Dev nD) : (Finset.univ : Finset (Idx ((c : Thread nD τ).loc cc0_scratch13))) \ sbl0.view.set = sbl1.view.set := Finset.ext fun i => by
  have h0 : (i 0).val < 2 := (i 0).isLt
  rw [Finset.mem_sdiff]
  constructor
  · rintro ⟨-, h⟩
    refine (mem_sbl1 i).mpr ?_
    have h' : ¬ (i 0).val = 0 := fun e => h ((mem_sbl0 i).mpr e)
    omega
  · intro h
    have h' := (mem_sbl1 i).mp h
    refine ⟨Finset.mem_univ _, fun e => ?_⟩
    have := (mem_sbl0 i).mp e
    omega

theorem split_sbl (c : Dev nD) (f : FVec F S2x256x1152 .bf16) : pts c cc0_scratch13 f ⊢ iprop(slotPts c sbl0 f ∗ slotPts c sbl1 f) := by
  have h := (pointsTo_split_subset (Ix := Bool) (Val := Elt F) (Name := ℕ) (U := UU) (Lvl := ℕ) (ℓ := (c : Thread nD τ).loc cc0_scratch13) (I := sbl0.view.set) (S := Finset.univ) (q := fullShare) (f := f) (Finset.subset_univ _)).1
  rw [compl_sbl c] at h
  exact h

theorem join_sbl (c : Dev nD) (f g : FVec F S2x256x1152 .bf16) : iprop(slotPts c sbl0 f ∗ slotPts c sbl1 g) ⊢ iprop(∃ h, pts c cc0_scratch13 h) := by
  have h := pointsTo_join_subset (Ix := Bool) (Val := Elt F) (Name := ℕ) (U := UU) (Lvl := ℕ) (ℓ := (c : Thread nD τ).loc cc0_scratch13) (I := sbl0.view.set) (S := Finset.univ) (q := fullShare) (g := f) (f := g) (Finset.subset_univ _)
  rw [compl_sbl c] at h
  iintro H
  ihave H := h $$ H
  iexists _; iexact H

theorem mem_rbl0 (i : S2x256x1152.Idx) : i ∈ rbl0.view.set ↔ (i 0).val = 0 := by
  have h0 : (i 0).val < 2 := (i 0).isLt
  have h1 : (i 1).val < 256 := (i 1).isLt
  have h2 : (i 2).val < 1152 := (i 2).isLt
  rw [set_rbl0]
  unfold View.set
  rw [Finset.mem_map]
  constructor
  · rintro ⟨p, -, rfl⟩
    rw [emb_rbl0]
    show 0 % 2 = 0
    rfl
  · intro h
    refine ⟨i3 0 (i 1).val (i 2).val, Finset.mem_univ _, ?_⟩
    rw [emb_rbl0]
    refine i3_eq i ?_ ?_ ?_
    · show 0 % 2 = _; omega
    · show (i 1).val % 256 % 256 = _; omega
    · show (i 2).val % 1152 % 1152 = _; omega

theorem mem_rbl1 (i : S2x256x1152.Idx) : i ∈ rbl1.view.set ↔ (i 0).val = 1 := by
  have h0 : (i 0).val < 2 := (i 0).isLt
  have h1 : (i 1).val < 256 := (i 1).isLt
  have h2 : (i 2).val < 1152 := (i 2).isLt
  rw [set_rbl1]
  unfold View.set
  rw [Finset.mem_map]
  constructor
  · rintro ⟨p, -, rfl⟩
    rw [emb_rbl1]
    show 1 % 2 = 1
    rfl
  · intro h
    refine ⟨i3 0 (i 1).val (i 2).val, Finset.mem_univ _, ?_⟩
    rw [emb_rbl1]
    refine i3_eq i ?_ ?_ ?_
    · show 1 % 2 = _; omega
    · show (i 1).val % 256 % 256 = _; omega
    · show (i 2).val % 1152 % 1152 = _; omega

theorem compl_rbl (c : Dev nD) : (Finset.univ : Finset (Idx ((c : Thread nD τ).loc cc0_scratch14))) \ rbl0.view.set = rbl1.view.set := Finset.ext fun i => by
  have h0 : (i 0).val < 2 := (i 0).isLt
  rw [Finset.mem_sdiff]
  constructor
  · rintro ⟨-, h⟩
    refine (mem_rbl1 i).mpr ?_
    have h' : ¬ (i 0).val = 0 := fun e => h ((mem_rbl0 i).mpr e)
    omega
  · intro h
    have h' := (mem_rbl1 i).mp h
    refine ⟨Finset.mem_univ _, fun e => ?_⟩
    have := (mem_rbl0 i).mp e
    omega

theorem split_rbl (c : Dev nD) (f : FVec F S2x256x1152 .bf16) : pts c cc0_scratch14 f ⊢ iprop(slotPts c rbl0 f ∗ slotPts c rbl1 f) := by
  have h := (pointsTo_split_subset (Ix := Bool) (Val := Elt F) (Name := ℕ) (U := UU) (Lvl := ℕ) (ℓ := (c : Thread nD τ).loc cc0_scratch14) (I := rbl0.view.set) (S := Finset.univ) (q := fullShare) (f := f) (Finset.subset_univ _)).1
  rw [compl_rbl c] at h
  exact h

theorem join_rbl (c : Dev nD) (f g : FVec F S2x256x1152 .bf16) : iprop(slotPts c rbl0 f ∗ slotPts c rbl1 g) ⊢ iprop(∃ h, pts c cc0_scratch14 h) := by
  have h := pointsTo_join_subset (Ix := Bool) (Val := Elt F) (Name := ℕ) (U := UU) (Lvl := ℕ) (ℓ := (c : Thread nD τ).loc cc0_scratch14) (I := rbl0.view.set) (S := Finset.univ) (q := fullShare) (g := f) (f := g) (Finset.subset_univ _)
  rw [compl_rbl c] at h
  iintro H
  ihave H := h $$ H
  iexists _; iexact H

theorem mem_agr0 (i : S2x256x1024.Idx) : i ∈ agr0.view.set ↔ (i 0).val = 0 := by
  have h0 : (i 0).val < 2 := (i 0).isLt
  have h1 : (i 1).val < 256 := (i 1).isLt
  have h2 : (i 2).val < 1024 := (i 2).isLt
  rw [set_agr0]
  unfold View.set
  rw [Finset.mem_map]
  constructor
  · rintro ⟨p, -, rfl⟩
    rw [emb_agr0]
    show 0 % 2 = 0
    rfl
  · intro h
    refine ⟨i3 0 (i 1).val (i 2).val, Finset.mem_univ _, ?_⟩
    rw [emb_agr0]
    refine i3_eq i ?_ ?_ ?_
    · show 0 % 2 = _; omega
    · show (i 1).val % 256 % 256 = _; omega
    · show (i 2).val % 1024 % 1024 = _; omega

theorem mem_agr1 (i : S2x256x1024.Idx) : i ∈ agr1.view.set ↔ (i 0).val = 1 := by
  have h0 : (i 0).val < 2 := (i 0).isLt
  have h1 : (i 1).val < 256 := (i 1).isLt
  have h2 : (i 2).val < 1024 := (i 2).isLt
  rw [set_agr1]
  unfold View.set
  rw [Finset.mem_map]
  constructor
  · rintro ⟨p, -, rfl⟩
    rw [emb_agr1]
    show 1 % 2 = 1
    rfl
  · intro h
    refine ⟨i3 0 (i 1).val (i 2).val, Finset.mem_univ _, ?_⟩
    rw [emb_agr1]
    refine i3_eq i ?_ ?_ ?_
    · show 1 % 2 = _; omega
    · show (i 1).val % 256 % 256 = _; omega
    · show (i 2).val % 1024 % 1024 = _; omega

theorem compl_agr (c : Dev nD) : (Finset.univ : Finset (Idx ((c : Thread nD τ).loc cc0_scratch15))) \ agr0.view.set = agr1.view.set := Finset.ext fun i => by
  have h0 : (i 0).val < 2 := (i 0).isLt
  rw [Finset.mem_sdiff]
  constructor
  · rintro ⟨-, h⟩
    refine (mem_agr1 i).mpr ?_
    have h' : ¬ (i 0).val = 0 := fun e => h ((mem_agr0 i).mpr e)
    omega
  · intro h
    have h' := (mem_agr1 i).mp h
    refine ⟨Finset.mem_univ _, fun e => ?_⟩
    have := (mem_agr0 i).mp e
    omega

theorem split_agr (c : Dev nD) (f : FVec F S2x256x1024 .bf16) : pts c cc0_scratch15 f ⊢ iprop(slotPts c agr0 f ∗ slotPts c agr1 f) := by
  have h := (pointsTo_split_subset (Ix := Bool) (Val := Elt F) (Name := ℕ) (U := UU) (Lvl := ℕ) (ℓ := (c : Thread nD τ).loc cc0_scratch15) (I := agr0.view.set) (S := Finset.univ) (q := fullShare) (f := f) (Finset.subset_univ _)).1
  rw [compl_agr c] at h
  exact h

theorem join_agr (c : Dev nD) (f g : FVec F S2x256x1024 .bf16) : iprop(slotPts c agr0 f ∗ slotPts c agr1 g) ⊢ iprop(∃ h, pts c cc0_scratch15 h) := by
  have h := pointsTo_join_subset (Ix := Bool) (Val := Elt F) (Name := ℕ) (U := UU) (Lvl := ℕ) (ℓ := (c : Thread nD τ).loc cc0_scratch15) (I := agr0.view.set) (S := Finset.univ) (q := fullShare) (g := f) (f := g) (Finset.subset_univ _)
  rw [compl_agr c] at h
  iintro H
  ihave H := h $$ H
  iexists _; iexact H

theorem mem_agl0 (i : S2x256x1024.Idx) : i ∈ agl0.view.set ↔ (i 0).val = 0 := by
  have h0 : (i 0).val < 2 := (i 0).isLt
  have h1 : (i 1).val < 256 := (i 1).isLt
  have h2 : (i 2).val < 1024 := (i 2).isLt
  rw [set_agl0]
  unfold View.set
  rw [Finset.mem_map]
  constructor
  · rintro ⟨p, -, rfl⟩
    rw [emb_agl0]
    show 0 % 2 = 0
    rfl
  · intro h
    refine ⟨i3 0 (i 1).val (i 2).val, Finset.mem_univ _, ?_⟩
    rw [emb_agl0]
    refine i3_eq i ?_ ?_ ?_
    · show 0 % 2 = _; omega
    · show (i 1).val % 256 % 256 = _; omega
    · show (i 2).val % 1024 % 1024 = _; omega

theorem mem_agl1 (i : S2x256x1024.Idx) : i ∈ agl1.view.set ↔ (i 0).val = 1 := by
  have h0 : (i 0).val < 2 := (i 0).isLt
  have h1 : (i 1).val < 256 := (i 1).isLt
  have h2 : (i 2).val < 1024 := (i 2).isLt
  rw [set_agl1]
  unfold View.set
  rw [Finset.mem_map]
  constructor
  · rintro ⟨p, -, rfl⟩
    rw [emb_agl1]
    show 1 % 2 = 1
    rfl
  · intro h
    refine ⟨i3 0 (i 1).val (i 2).val, Finset.mem_univ _, ?_⟩
    rw [emb_agl1]
    refine i3_eq i ?_ ?_ ?_
    · show 1 % 2 = _; omega
    · show (i 1).val % 256 % 256 = _; omega
    · show (i 2).val % 1024 % 1024 = _; omega

theorem compl_agl (c : Dev nD) : (Finset.univ : Finset (Idx ((c : Thread nD τ).loc cc0_scratch16))) \ agl0.view.set = agl1.view.set := Finset.ext fun i => by
  have h0 : (i 0).val < 2 := (i 0).isLt
  rw [Finset.mem_sdiff]
  constructor
  · rintro ⟨-, h⟩
    refine (mem_agl1 i).mpr ?_
    have h' : ¬ (i 0).val = 0 := fun e => h ((mem_agl0 i).mpr e)
    omega
  · intro h
    have h' := (mem_agl1 i).mp h
    refine ⟨Finset.mem_univ _, fun e => ?_⟩
    have := (mem_agl0 i).mp e
    omega

theorem split_agl (c : Dev nD) (f : FVec F S2x256x1024 .bf16) : pts c cc0_scratch16 f ⊢ iprop(slotPts c agl0 f ∗ slotPts c agl1 f) := by
  have h := (pointsTo_split_subset (Ix := Bool) (Val := Elt F) (Name := ℕ) (U := UU) (Lvl := ℕ) (ℓ := (c : Thread nD τ).loc cc0_scratch16) (I := agl0.view.set) (S := Finset.univ) (q := fullShare) (f := f) (Finset.subset_univ _)).1
  rw [compl_agl c] at h
  exact h

theorem join_agl (c : Dev nD) (f g : FVec F S2x256x1024 .bf16) : iprop(slotPts c agl0 f ∗ slotPts c agl1 g) ⊢ iprop(∃ h, pts c cc0_scratch16 h) := by
  have h := pointsTo_join_subset (Ix := Bool) (Val := Elt F) (Name := ℕ) (U := UU) (Lvl := ℕ) (ℓ := (c : Thread nD τ).loc cc0_scratch16) (I := agl0.view.set) (S := Finset.univ) (q := fullShare) (g := f) (f := g) (Finset.subset_univ _)
  rw [compl_agl c] at h
  iintro H
  ihave H := h $$ H
  iexists _; iexact H

end Cert.KernelIdeal.Run

end
-- ==== Proof.Run.Protocol.lean ====
module

public import proofs.«01_k».proof.Proof.Run.Windows

@[expose] public section

/-! What the four devices agree on: which semaphore hands over which slot, holding what, in which round. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = prv c := Fin.ext (k0_dev10_eq c)

/-! ## The values that travel -/

section Values
variable (T : Dev nD → FVec F S2048x1152 .f32) (Wo : Dev nD → FVec F S1024x1024 .bf16)

/-- What device `c` sends right: in the first hop a half chunk of its own sums, … -/
def SR0 (c : Dev nD) : FVec F S1x256x1152 .bf16 := sendPay (rowsAt (T c) (256 * (2 * c.val)))
/-- … then what came from the left with its own sums added, … -/
def SR1 (c : Dev nD) : FVec F S1x256x1152 .bf16 := rsPay (SR0 T (prv c)) (rowsAt (T c) (256 * (2 * ((c.val + 3) % 4))))
/-- … twice. -/
def SR2 (c : Dev nD) : FVec F S1x256x1152 .bf16 := rsPay (SR1 T (prv c)) (rowsAt (T c) (256 * (2 * ((c.val + 2) % 4))))
/-- What device `c` sends left, in the same way. -/
def SL0 (c : Dev nD) : FVec F S1x256x1152 .bf16 := sendPay (rowsAt (T c) (256 * (2 * ((c.val + 2) % 4) + 1)))
def SL1 (c : Dev nD) : FVec F S1x256x1152 .bf16 := rsPay (SL0 T (nxt c)) (rowsAt (T c) (256 * (2 * ((c.val + 3) % 4) + 1)))
def SL2 (c : Dev nD) : FVec F S1x256x1152 .bf16 := rsPay (SL1 T (nxt c)) (rowsAt (T c) (256 * (2 * c.val + 1)))
/-- The finished halves of device `c`'s chunk, as sent right and left. -/
def AR (c : Dev nD) : FVec F S1x256x1024 .bf16 := agPay (SR2 T (prv c)) (rowsAt (T c) (256 * (2 * ((c.val + 1) % 4)))) (Wo c)
def AL (c : Dev nD) : FVec F S1x256x1024 .bf16 := agPay (SL2 T (nxt c)) (rowsAt (T c) (256 * (2 * ((c.val + 1) % 4) + 1))) (Wo c)
end Values

/-! ## The cells -/

/-- The thirteen semaphores of the exchange: the barrier's, six of departures, six of arrivals. -/
def csem : Fin 13 → SemLoc sig
  | 0 => .reg bar
  | 1 => .dma ss0
  | 2 => .dma ss1
  | 3 => .dma ss2
  | 4 => .dma ss3
  | 5 => .dma ss4
  | 6 => .dma ss6
  | 7 => .dma rs0
  | 8 => .dma rs1
  | 9 => .dma rs2
  | 10 => .dma rs3
  | 11 => .dma rs5
  | 12 => .dma rs7

def kcell (ck : Dev nD × Fin 13) : GSem nD τ sig := ((ck.1 : Thread nD τ), csem ck.2)

/-- Which of the thirteen a semaphore is. -/
def cellIx (sm : SemLoc sig) : Option (Fin 13) := (List.finRange 13).find? fun k => csem k = sm

theorem cellIx_csem : ∀ k : Fin 13, cellIx (csem k) = some k := by decide

theorem csem_injective : Function.Injective csem := fun a b h => by
  have := congrArg cellIx h
  rw [cellIx_csem, cellIx_csem] at this
  exact Option.some.inj this

theorem kcell_injective : Function.Injective kcell := fun a b h => by
  obtain ⟨c, k⟩ := a; obtain ⟨c', k'⟩ := b
  have h1 : c = c' := congrArg (fun g : GSem nD τ sig => g.1.1) h
  have h2 : csem k = csem k' := congrArg (fun g : GSem nD τ sig => g.2) h
  rw [h1, csem_injective h2]

/-- A slot of partial sums, and a slot of results, in a copy's units. -/
def NP : ℕ := rbr0.view.dmaCredit
def NG : ℕ := agr1.view.dmaCredit
theorem NP_pos : 0 < NP := View.dmaCredit_pos _ (by decide)
theorem NG_pos : 0 < NG := View.dmaCredit_pos _ (by decide)

def amt (k : Fin 13) : ℕ := if k = 0 then 1 else if k = 5 ∨ k = 6 ∨ k = 11 ∨ k = 12 then NG else NP
theorem amt_pos (k : Fin 13) : 0 < amt k := by
  unfold amt
  split
  · exact Nat.one_pos
  · split
    · exact NG_pos
    · exact NP_pos

/-- The first slots are used by two copies, the rest by one. -/
def rounds (k : Fin 13) : ℕ := if k = 1 ∨ k = 3 ∨ k = 7 ∨ k = 9 then 2 else 1
theorem rounds_pos (k : Fin 13) : 0 < rounds k := by revert k; decide
theorem rounds_le (k : Fin 13) : rounds k ≤ 2 := by revert k; decide

section Sched
variable (T : Dev nD → FVec F S2048x1152 .f32) (Wo : Dev nD → FVec F S1024x1024 .bf16)

/-- A slot of device `c`, whatever it holds. -/
def slotAny (c : Dev nD) {s : Shape} {e : EltTy} (m : Memref sig .tc .vmem s e) : sProp (MM F) := iprop(∃ f, slotPts c m f)
/-- A slot of partial sums holding `v`, columns in use only. -/
def slotIs (c : Dev nD) (m : Memref sig .tc .vmem S256x1152 .bf16) (s : ℕ) (e : Buf (Elt F) (m.view.loc (c : Thread nD τ)) → FVec F S2x256x1152 .bf16) (v : FVec F S1x256x1152 .bf16) : sProp (MM F) :=
  iprop(∃ f, slotPts c m f ∗ ⌜SlotInv s (e f) v⌝)
def slotIsG (c : Dev nD) (m : Memref sig .tc .vmem S256x1024 .bf16) (s : ℕ) (e : Buf (Elt F) (m.view.loc (c : Thread nD τ)) → FVec F S2x256x1024 .bf16) (v : FVec F S1x256x1024 .bf16) : sProp (MM F) :=
  iprop(∃ f, slotPts c m f ∗ ⌜SlotG s (e f) v⌝)

instance slotAny_storable (c : Dev nD) {s : Shape} {e : EltTy} (m : Memref sig .tc .vmem s e) : BI.Storable (upEmb : UEmb _ (MM F)) (slotAny c m) := by
  unfold slotAny; infer_instance
instance slotIs_storable (c : Dev nD) (m : Memref sig .tc .vmem S256x1152 .bf16) (s : ℕ) (e : Buf (Elt F) (m.view.loc (c : Thread nD τ)) → FVec F S2x256x1152 .bf16) (v : FVec F S1x256x1152 .bf16) :
    BI.Storable (upEmb : UEmb _ (MM F)) (slotIs c m s e v) := by
  unfold slotIs; infer_instance
instance slotIsG_storable (c : Dev nD) (m : Memref sig .tc .vmem S256x1024 .bf16) (s : ℕ) (e : Buf (Elt F) (m.view.loc (c : Thread nD τ)) → FVec F S2x256x1024 .bf16) (v : FVec F S1x256x1024 .bf16) :
    BI.Storable (upEmb : UEmb _ (MM F)) (slotIsG c m s e v) := by
  unfold slotIsG; infer_instance

/-- What the right neighbour's signal hands over: its slots for what comes from the left. -/
def barR (c : Dev nD) : sProp (MM F) := iprop(slotAny (nxt c) rbr0 ∗ slotAny (nxt c) rbr1 ∗ slotAny (nxt c) agr1)
def barL (c : Dev nD) : sProp (MM F) := iprop(slotAny (prv c) rbl0 ∗ slotAny (prv c) rbl1 ∗ slotAny (prv c) agl1)

/-- What each wait hands device `c`. -/
def pay (c : Dev nD) (k : Fin 13) (r : ℕ) (d : Bool) : sProp (MM F) :=
  match k with
  | 0 => if d then barR c else barL c
  | 1 => slotAny c sbr0
  | 2 => slotAny c sbr1
  | 3 => slotAny c sbl0
  | 4 => slotAny c sbl1
  | 5 => slotAny c agr0
  | 6 => slotAny c agl0
  | 7 => slotIs c rbr0 0 id (if r = 0 then SR0 T (prv c) else SR2 T (prv c))
  | 8 => iprop(slotIs c rbr1 1 id (SR1 T (prv c)) ∗ slotAny (prv c) rbl0 ∗ reached ER (kcell (prv c, 9)) 1)
  | 9 => slotIs c rbl0 0 id (if r = 0 then SL0 T (nxt c) else SL2 T (nxt c))
  | 10 => iprop(slotIs c rbl1 1 id (SL1 T (nxt c)) ∗ slotAny (nxt c) rbr0 ∗ reached ER (kcell (nxt c, 7)) 1)
  | 11 => slotIsG c agr1 1 id (AR T Wo (prv c))
  | 12 => slotIsG c agl1 1 id (AL T Wo (nxt c))

instance pay_storable (c : Dev nD) (k : Fin 13) (r : ℕ) (d : Bool) : BI.Storable (upEmb : UEmb _ (MM F)) (pay T Wo c k r d) := by
  unfold pay
  unfold barR barL
  (repeat' split) <;> infer_instance

/-- The schedule: two signals open a device's barrier, each other cell is raised by one copy per round. -/
def Rd : Rounds.Schedule (GSem nD τ sig) Bool (MM F) where
  duties g r := match cellIx g.2 with
    | some k => if g.1.2 = .tc ∧ r < rounds k then (if k = 0 then Finset.univ else {false}) else ∅
    | none => ∅
  unitless _ := False
  amount g _ _ := match cellIx g.2 with
    | some k => amt k
    | none => 1
  payload g r d := match cellIx g.2 with
    | some k => pay T Wo g.1.1 k r d
    | none => iprop(emp)
  amount_pos g _ _ _ := by
    split
    · exact amt_pos _
    · exact Nat.one_pos

instance Rd_storable (g : GSem nD τ sig) (r : ℕ) (d : Bool) : BI.Storable (upEmb : UEmb _ (MM F)) ((Rd T Wo).payload g r d) := by
  dsimp only [Rd]
  split <;> infer_instance

theorem duties_kcell (c : Dev nD) (k : Fin 13) (r : ℕ) (hr : r < rounds k) (hk : k ≠ 0) : (Rd T Wo).duties (kcell (c, k)) r = {false} := by
  dsimp only [Rd, kcell]
  rw [cellIx_csem]
  show (if _ then _ else _) = _
  rw [if_pos ⟨rfl, hr⟩, if_neg hk]

theorem duties_bar (c : Dev nD) : (Rd T Wo).duties (kcell (c, 0)) 0 = Finset.univ := by
  dsimp only [Rd, kcell]
  rw [cellIx_csem]
  show (if _ then _ else _) = _
  rw [if_pos ⟨rfl, rounds_pos 0⟩, if_pos rfl]

theorem duties_later (c : Dev nD) (k : Fin 13) (n : ℕ) (hn : rounds k ≤ n) : ∀ r, n ≤ r → (Rd T Wo).duties (kcell (c, k)) r = ∅ := fun r hr => by
  dsimp only [Rd, kcell]
  rw [cellIx_csem]
  show (if _ then _ else _) = _
  rw [if_neg fun h => by omega]

theorem amount_kcell (c : Dev nD) (k : Fin 13) (r : ℕ) (d : Bool) : (Rd T Wo).amount (kcell (c, k)) r d = amt k := by
  dsimp only [Rd, kcell]
  rw [cellIx_csem]

theorem payload_kcell (c : Dev nD) (k : Fin 13) (r : ℕ) (d : Bool) : (Rd T Wo).payload (kcell (c, k)) r d = pay T Wo c k r d := by
  dsimp only [Rd, kcell]
  rw [cellIx_csem]

theorem expect_kcell (c : Dev nD) (k : Fin 13) (r : ℕ) (hr : r < rounds k) (hk : k ≠ 0) : (Rd T Wo).expect (kcell (c, k)) r = amt k := by
  unfold Schedule.expect Schedule.amountOf
  rw [duties_kcell T Wo c k r hr hk, Finset.sum_singleton, amount_kcell]

theorem expect_bar (c : Dev nD) : (Rd T Wo).expect (kcell (c, 0)) 0 = 2 := by
  unfold Schedule.expect Schedule.amountOf
  rw [duties_bar, Finset.sum_congr rfl fun d _ => amount_kcell T Wo c 0 0 d, Finset.sum_const, Finset.card_univ, Fintype.card_bool, smul_eq_mul]
  rfl

theorem rest_kcell (c : Dev nD) (k : Fin 13) (r : ℕ) (hr : r < rounds k) (hk : k ≠ 0) :
    bigSep ((Rd T Wo).duties (kcell (c, k)) r \ ∅) (fun d => (Rd T Wo).payload (kcell (c, k)) r d) = pay T Wo c k r false := by
  rw [Finset.sdiff_empty, duties_kcell T Wo c k r hr hk, bigSep_singleton, payload_kcell]

theorem rest_bar (c : Dev nD) :
    bigSep ((Rd T Wo).duties (kcell (c, 0)) 0 \ ∅) (fun d => (Rd T Wo).payload (kcell (c, 0)) 0 d) = iprop(barL (F := F) c ∗ barR c) := by
  rw [Finset.sdiff_empty, duties_bar, bigSep_univ_eq_bigSepL [false, true] (by decide) (by decide), bigSepL_cons_cons, bigSepL_singleton,
    payload_kcell, payload_kcell]
  rfl

end Sched

/-! ## What a device owes, and the order of the waits -/

/-- Every tally is in use on the devices' own cells. -/
def Lix (g : GSem nD τ sig) : Finset Bool := if g.1.2 = .tc then Finset.univ else ∅

/-- The height of a wait: departures and local copies lowest, then the barrier, then the arrivals in the order of the hops. -/
def lvk (k : Fin 13) (u : Bool) : ℕ :=
  match k with
  | 0 => 1
  | 7 => if u then 4 else 2
  | 8 => 3
  | 9 => if u then 4 else 2
  | 10 => 3
  | 11 => 5
  | 12 => 5
  | _ => 0

def lv (g : GSem nD τ sig) (u : Bool) : ℕ := match cellIx g.2 with
  | some k => lvk k u
  | none => 0

theorem lv_kcell (c : Dev nD) (k : Fin 13) (u : Bool) : lv (kcell (c, k)) u = lvk k u := by
  dsimp only [lv, kcell]
  rw [cellIx_csem]

/-- All that is owed is owed above the height `n`. -/
def Above (n : ℕ) (O : CellTallies nD τ sig Bool) : Prop := ∀ g u, 0 < O g u → g.1.2 = .tc ∧ n < lv g u

theorem above_zero (n : ℕ) : Above n 0 := fun g u h => absurd h (Nat.lt_irrefl 0)

theorem above_add {n : ℕ} {O O' : CellTallies nD τ sig Bool} (h : Above n O) (h' : Above n O') : Above n (O + O') := fun g u hg => by
  rw [Pi.add_apply, Finsupp.add_apply] at hg
  rcases Nat.eq_zero_or_pos (O g u) with h0 | h0
  · exact h' g u (by omega)
  · exact h g u h0

theorem above_tally {n : ℕ} (c : Dev nD) (k : Fin 13) (u : Bool) (a : ℕ) (hl : n < lvk k u) : Above n (tallyAt (kcell (c, k)) u a) := fun g v hg => by
  rw [tallyAt_apply] at hg
  by_cases h : g = kcell (c, k) ∧ v = u
  · obtain ⟨rfl, rfl⟩ := h
    exact ⟨rfl, by rw [lv_kcell]; exact hl⟩
  · rw [if_neg h] at hg
    exact absurd hg (Nat.lt_irrefl 0)

theorem mayWait_of (c : Dev nD) (sm : SemLoc sig) (u : Bool) (O : CellTallies nD τ sig Bool) (n : ℕ) (hl : lv ((c : Thread nD τ), sm) u ≤ n) (hO : Above n O) :
    (levAts Lix lv : sProp (MM F)) ⊢ MayWait (c : Thread nD τ) sm u O :=
  MayOwe.of_cut (L := Lix) (lev := lv) n
    (fun p hp => by rw [Finset.mem_singleton.mp hp]; unfold Lix; rw [if_pos rfl]; exact Finset.mem_univ _)
    (fun g v hg => by unfold Lix; rw [if_pos (hO g v hg).1]; exact Finset.mem_univ _)
    (fun p hp => by rw [Finset.mem_singleton.mp hp]; exact hl)
    (fun g v hg => (hO g v hg).2)

/-- What device `c` still owes, from the last thing it pays back to the first. -/
def O8 (c : Dev nD) : CellTallies nD τ sig Bool := tallyAt (kcell (prv c, 12)) false (amt 12)
def O7 (c : Dev nD) : CellTallies nD τ sig Bool := O8 c + tallyAt (kcell (nxt c, 11)) false (amt 11)
def O6 (c : Dev nD) : CellTallies nD τ sig Bool := O7 c + tallyAt (kcell (prv c, 9)) true (amt 9)
def O5 (c : Dev nD) : CellTallies nD τ sig Bool := O6 c + tallyAt (kcell (nxt c, 7)) true (amt 7)
def O4 (c : Dev nD) : CellTallies nD τ sig Bool := O5 c + tallyAt (kcell (prv c, 10)) false (amt 10)
def O3 (c : Dev nD) : CellTallies nD τ sig Bool := O4 c + tallyAt (kcell (nxt c, 8)) false (amt 8)
def O2 (c : Dev nD) : CellTallies nD τ sig Bool := O3 c + tallyAt (kcell (prv c, 9)) false (amt 9)
def O1 (c : Dev nD) : CellTallies nD τ sig Bool := O2 c + tallyAt (kcell (nxt c, 7)) false (amt 7)
def OB1 (c : Dev nD) : CellTallies nD τ sig Bool := O1 c + tallyAt (kcell (nxt c, 0)) false (amt 0)
def O₀ (c : Dev nD) : CellTallies nD τ sig Bool := OB1 c + tallyAt (kcell (prv c, 0)) false (amt 0)

theorem above_O7 (c : Dev nD) : Above 4 (O7 c) := above_add (above_tally _ _ _ _ (by decide)) (above_tally _ _ _ _ (by decide))
theorem above_O5 (c : Dev nD) : Above 3 (O5 c) :=
  above_add (above_add (fun g u h => ⟨(above_O7 c g u h).1, Nat.lt_of_succ_lt (above_O7 c g u h).2⟩) (above_tally _ _ _ _ (by decide))) (above_tally _ _ _ _ (by decide))
theorem above_O3 (c : Dev nD) : Above 2 (O3 c) :=
  above_add (above_add (fun g u h => ⟨(above_O5 c g u h).1, Nat.lt_of_succ_lt (above_O5 c g u h).2⟩) (above_tally _ _ _ _ (by decide))) (above_tally _ _ _ _ (by decide))
theorem above_O1 (c : Dev nD) : Above 1 (O1 c) :=
  above_add (above_add (fun g u h => ⟨(above_O3 c g u h).1, Nat.lt_of_succ_lt (above_O3 c g u h).2⟩) (above_tally _ _ _ _ (by decide))) (above_tally _ _ _ _ (by decide))
theorem above_O₀ (c : Dev nD) : Above 0 (O₀ c) :=
  above_add (above_add (fun g u h => ⟨(above_O1 c g u h).1, Nat.lt_of_succ_lt (above_O1 c g u h).2⟩) (above_tally _ _ _ _ (by decide))) (above_tally _ _ _ _ (by decide))

theorem Above.lower {n m : ℕ} {O : CellTallies nD τ sig Bool} (h : Above n O) (hm : m ≤ n) : Above m O :=
  fun g u hg => ⟨(h g u hg).1, Nat.lt_of_le_of_lt hm (h g u hg).2⟩

/-! ## What every device knows, and the three moves -/

section Moves
variable (T : Dev nD → FVec F S2048x1152 .f32) (Wo : Dev nD → FVec F S1024x1024 .bf16) (K : Dev nD × Fin 13 → ℕ)

/-- The cells' invariants, that every cell has begun, and the heights. -/
def ctx : sProp (MM F) :=
  iprop((bigSep Finset.univ fun ck : Dev nD × Fin 13 => cellInv ER (Rd T Wo) (K ck) (kcell ck))
    ∗ (bigSep Finset.univ fun ck : Dev nD × Fin 13 => reached ER (kcell ck) 0) ∗ levAts Lix lv)

instance ctx_persistent : BI.Persistent (ctx T Wo K) := by unfold ctx; infer_instance

theorem ctx_inv (c : Dev nD) (k : Fin 13) : ctx T Wo K ⊢ cellInv ER (Rd T Wo) (K (c, k)) (kcell (c, k)) := by
  unfold ctx
  have h : (bigSep Finset.univ fun ck : Dev nD × Fin 13 => cellInv ER (Rd T Wo) (K ck) (kcell ck)) ⊢ cellInv ER (Rd T Wo) (K (c, k)) (kcell (c, k)) :=
    bigSep_elim (Φ := fun ck : Dev nD × Fin 13 => cellInv ER (Rd T Wo) (K ck) (kcell ck)) (i := (c, k)) (Finset.mem_univ _)
  iintro ⟨H, -, -⟩
  iapply h $$ H

theorem ctx_reached (c : Dev nD) (k : Fin 13) : ctx T Wo K ⊢ reached ER (kcell (c, k)) 0 := by
  unfold ctx
  have h : (bigSep Finset.univ fun ck : Dev nD × Fin 13 => (reached ER (kcell ck) 0 : sProp (MM F))) ⊢ reached ER (kcell (c, k)) 0 :=
    bigSep_elim (Φ := fun ck : Dev nD × Fin 13 => (reached ER (kcell ck) 0 : sProp (MM F))) (i := (c, k)) (Finset.mem_univ _)
  iintro ⟨-, H, -⟩
  iapply h $$ H

theorem ctx_mayWait (c : Dev nD) (sm : SemLoc sig) (u : Bool) (O : CellTallies nD τ sig Bool) (n : ℕ) (hl : lv ((c : Thread nD τ), sm) u ≤ n) (hO : Above n O) :
    ctx T Wo K ⊢ MayWait (c : Thread nD τ) sm u O := by
  unfold ctx
  iintro ⟨-, -, H⟩
  iapply (mayWait_of c sm u O n hl hO) $$ H

/-- A wait on one of the device's own cells other than the barrier's: what the round hands over. -/
theorem wait_cell (c : Dev nD) (k : Fin 13) (hk : k ≠ 0) (r : ℕ) (hr : r < rounds k) (u : Bool) (O : CellTallies nD τ sig Bool)
    (n : ℕ) (hl : lvk k u ≤ n) (hO : Above n O) {w : TpuEff nD τ sig (Elt F) Λ₀ .tc PUnit}
    (hw : ∀ J : PUnit → sProp (MM F), wpE (defs₀ (F := F)) 𝒱₀ (c : Thread nD τ) none Set.univ w J = waitSpec (c : Thread nD τ) Set.univ (csem k) (amt k) J)
    {p : BProg F} {Q : PUnit → sProp (MM F)} :
    iprop(ctx T Wo K ∗ cred (tallyAt (kcell (c, k)) u (amt k)) ∗ owesE c O ∗ atPos ER (kcell (c, k)) r ∅ 0)
      ⊢ iprop(((owesE c O ∗ atPos ER (kcell (c, k)) (r + 1) ∅ 0 ∗ reached ER (kcell (c, k)) (r + 1) ∗ pay T Wo c k r false) -∗ wpB c p Q)
          -∗ wpB c (.op w fun _ => p) Q) := by
  have hrest : (bigSep ((Rd T Wo).duties ((c : Thread nD τ), csem k) r \ ∅) fun d => (Rd T Wo).payload ((c : Thread nD τ), csem k) r d) = pay T Wo c k r false :=
    rest_kcell T Wo c k r hr hk
  unfold owesE
  iintro ⟨#Hctx, Hc, ⟨%W, HO⟩, Hat⟩ Hk
  iapply (Rounds.wp_wait_rest_token 𝒱₀ ER (Rd T Wo) (c : Thread nD τ) none (κ := K (c, k)) hw (Set.mem_univ _) u (O := O) (W := W) (R := r) (m := 0) (T := ∅)
    (by rw [Nat.zero_add]; exact (expect_kcell T Wo c k r hr hk).symm)) $$ [Hc HO Hat]
  · isplitr
    · iapply (ctx_inv T Wo K c k); iexact Hctx
    isplitl [Hc]; · iexact Hc
    isplitl [HO]; · iexact HO
    isplitr
    · iapply (ctx_mayWait T Wo K c (csem k) u O n ((lv_kcell c k u).le.trans hl) hO); iexact Hctx
    iexact Hat
  iintro ⟨HO, Hat, Hr, Hp⟩
  ihave Hp := (Entails.of_eq hrest) $$ Hp
  iapply Hk
  isplitl [HO]; · iexists _; iexact HO
  isplitl [Hat]; · iexact Hat
  isplitl [Hr]; · iexact Hr
  iexact Hp

/-- A copy of a slot to another device's, with what else it hands over. -/
theorem send_cell (c n n' : Dev nD) (hn : n' = n) {s : Shape} {e : EltTy} {src dst : Memref sig .tc .vmem s e} {sS sR : DmaSem sig} (kS kR : Fin 13)
    (hS : csem kS = .dma sS) (hR : csem kR = .dma sR) (rS rR : ℕ) (hrS : rS < rounds kS) (hrR : rR < rounds kR) (h0S : kS ≠ 0) (h0R : kR ≠ 0)
    (hNS : amt kS = dst.view.amount (.dma sR)) (hNR : amt kR = dst.view.amount (.dma sR)) (uS uR : Bool)
    (fs : Buf (Elt F) (src.view.loc (c : Thread nD τ))) (fd : Buf (Elt F) (dst.view.loc (n : Thread nD τ))) (X : sProp (MM F))
    {O₁ O : CellTallies nD τ sig Bool} (hO : O₁ = O + tallyAt (kcell (n, kR)) uR (amt kR))
    (hp1 : slotPts c src fs ⊢ pay T Wo c kS rS false)
    (hp2 : iprop(slotPts n dst (dst.view.write (Elt F) fd (src.view.read (Elt F) fs) Finset.univ) ∗ X) ⊢ pay T Wo n kR rR false)
    {hsc : (dst : Memref sig (Dev.tc n' : Thread nD τ).2.kind .vmem s e).view.ref.isScScratch = false}
    {hsrc : src.view.WordExact} {hdst : dst.view.WordExact}
    {hsem : DmaTarget.Typed .vmem (.dma sR) (.remote (Dev.tc n' : Thread nD τ) dst (.dma sS) hsc)}
    {p : BProg F} {Q : PUnit → sProp (MM F)} :
    iprop(ctx T Wo K ∗ slotPts c src fs ∗ (slotPts n dst fd ∗ X) ∗ owesE c O₁
        ∗ dutyTok ER (kcell (c, kS)) rS false ∗ reached ER (kcell (c, kS)) rS
        ∗ dutyTok ER (kcell (n, kR)) rR false ∗ reached ER (kcell (n, kR)) rR)
      ⊢ iprop(((cred (tallyAt (kcell (c, kS)) uS (amt kS)) ∗ owesE c O) -∗ wpB c p Q)
          -∗ wpB c (.op (.enqueueDma src (.remote (Dev.tc n' : Thread nD τ) dst (.dma sS) hsc) (.dma sR) hsrc hdst hsem) fun _ => p) Q) := by
  subst hn
  have e1 : kcell (c, kS) = ((c : Thread nD τ), SemLoc.dma sS) := by unfold kcell; rw [hS]
  have e2 : kcell (n', kR) = ((n' : Thread nD τ), SemLoc.dma sR) := by unfold kcell; rw [hR]
  have d1 := duties_kcell T Wo c kS rS hrS h0S
  have d2 := duties_kcell T Wo n' kR rR hrR h0R
  have a1 := amount_kcell T Wo c kS rS false
  have a2 := amount_kcell T Wo n' kR rR false
  have p1 := payload_kcell T Wo c kS rS false
  have p2 := payload_kcell T Wo n' kR rR false
  have i1 := ctx_inv T Wo K c kS
  have i2 := ctx_inv T Wo K n' kR
  rw [e1] at d1 a1 p1 i1 ⊢
  rw [e2] at d2 a2 p2 i2 hO ⊢
  rw [hNS]
  rw [hNR] at hO
  unfold owesE
  iintro ⟨#Hctx, Hs, HX, ⟨%W, HO⟩, Ht1, Hr1, Ht2, Hr2⟩ Hk
  iapply (Rounds.wp_send_pointsTo_with 𝒱₀ ER (Rd T Wo) (c : Thread nD τ) none (κ₁ := K (c, kS)) (κ₂ := K (n', kR)) (r₁ := rS) (r₂ := rR) (d₁ := false) (d₂ := false)
    (fs := fs) (fd := fd) (F := X) (q := fullShare)
    (by rw [d1]; exact Finset.mem_singleton_self _) (by rw [d2]; exact Finset.mem_singleton_self _) uR uS (dst.view.amount (.dma sR)) rfl
    (a1.trans hNS) (a2.trans hNR) O hO (W := W) (by rw [p1]; exact hp1) (by rw [p2]; exact hp2)) $$ [Hs HX HO Ht1 Hr1 Ht2 Hr2]
  · isplitr
    · iapply i1; iexact Hctx
    isplitr
    · iapply i2; iexact Hctx
    isplitl [Hs]; · iexact Hs
    isplitl [HX]; · iexact HX
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists _; iexact HO

end Moves

end Cert.KernelIdeal.Run

end
-- ==== Proof.Run.Exchange.lean ====
module

public import proofs.«01_k».proof.Proof.Run.Protocol

@[expose] public section

/-! The hops: the copies a device starts, the waits that take in the neighbours’ copies, and what is stored between them. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (T : Dev nD → FVec F S2048x1152 .f32) (Wo : Dev nD → FVec F S1024x1024 .bf16) (K : Dev nD × Fin 13 → ℕ)

theorem off66a : ∀ d : Dev nD, k0_off66 d 2#32 256#32 = ![256 * (2 * ((d.val + 2) % 4) + 1), 0] := by decide +kernel
theorem off66b : ∀ d : Dev nD, k0_off66 d 3#32 256#32 = ![256 * (2 * ((d.val + 3) % 4) + 1), 0] := by decide +kernel
theorem off66c : ∀ d : Dev nD, k0_off66 d 1#32 0#32 = ![256 * (2 * ((d.val + 1) % 4)), 0] := by decide +kernel
theorem off66d : ∀ d : Dev nD, k0_off66 d 1#32 256#32 = ![256 * (2 * ((d.val + 1) % 4) + 1), 0] := by decide +kernel
theorem off65a : ∀ d : Dev nD, k0_off65 d = ![256 * (2 * d.val), 0] := by decide +kernel
theorem off91a : ∀ d : Dev nD, k0_off91 d 3#32 = ![256 * (2 * ((d.val + 3) % 4)), 0] := by decide +kernel
theorem off91b : ∀ d : Dev nD, k0_off91 d 2#32 = ![256 * (2 * ((d.val + 2) % 4)), 0] := by decide +kernel
theorem off92a : ∀ d : Dev nD, k0_off92 d = ![256 * (2 * d.val + 1), 0] := by decide +kernel

/-- A wait on one of the exchange's copies. -/
theorem wait_dma (c : Dev nD) (k : Fin 13) (hk : k ≠ 0) (r : ℕ) (hr : r < rounds k) (u : Bool) (O : CellTallies nD τ sig Bool)
    (n : ℕ) (hl : lvk k u ≤ n) (hO : Above n O) {s : Shape} {e : EltTy} (sem : DmaSem sig) (src dst : Memref sig .tc .vmem s e)
    (hS : csem k = .dma sem) (hN : amt k = dst.view.dmaCredit) {hsrc : src.view.WordExact} {hdst : dst.view.WordExact}
    {p : BProg F} {Q : PUnit → sProp (MM F)} :
    iprop(ctx T Wo K ∗ cred (tallyAt (kcell (c, k)) u (amt k)) ∗ owesE c O ∗ atPos ER (kcell (c, k)) r ∅ 0)
      ⊢ iprop(((owesE c O ∗ atPos ER (kcell (c, k)) (r + 1) ∅ 0 ∗ reached ER (kcell (c, k)) (r + 1) ∗ pay T Wo c k r false) -∗ wpB c p Q)
          -∗ wpB c (.op (.waitDma2 sem src dst hsrc hdst) fun _ => p) Q) :=
  wait_cell T Wo K c k hk r hr u O n hl hO fun J => by
    rw [hS, hN]; exact wpE_waitDma2_eq 𝒱₀ (c : Thread nD τ) none Set.univ J

/-! ## What each copy delivers -/

theorem to_slotIs (c : Dev nD) {m : Memref sig .tc .vmem S256x1152 .bf16} {s : ℕ} {e : Buf (Elt F) (m.view.loc (c : Thread nD τ)) → FVec F S2x256x1152 .bf16}
    {v : FVec F S1x256x1152 .bf16} (f : Buf (Elt F) (m.view.loc (c : Thread nD τ))) (h : SlotInv s (e f) v) : slotPts c m f ⊢ slotIs c m s e v := by
  unfold slotIs
  iintro H
  iexists f; isplitl [H]; · iexact H
  ipureintro; exact h

theorem to_slotIsG (c : Dev nD) {m : Memref sig .tc .vmem S256x1024 .bf16} {s : ℕ} {e : Buf (Elt F) (m.view.loc (c : Thread nD τ)) → FVec F S2x256x1024 .bf16}
    {v : FVec F S1x256x1024 .bf16} (f : Buf (Elt F) (m.view.loc (c : Thread nD τ))) (h : SlotG s (e f) v) : slotPts c m f ⊢ slotIsG c m s e v := by
  unfold slotIsG
  iintro H
  iexists f; isplitl [H]; · iexact H
  ipureintro; exact h

theorem to_slotAny (c : Dev nD) {s : Shape} {e : EltTy} {m : Memref sig .tc .vmem s e} (f : Buf (Elt F) (m.view.loc (c : Thread nD τ))) : slotPts c m f ⊢ slotAny c m := by
  unfold slotAny
  iintro H
  iexists f; iexact H

theorem deliv_R0 (c : Dev nD) (fs fd : FVec F S2x256x1152 .bf16) (h : SlotInv 0 fs (SR0 T c)) :
    iprop(slotPts (nxt c) rbr0 (rbr0.view.write (Elt F) fd (sbr0.view.read (Elt F) fs) Finset.univ) ∗ iprop(emp)) ⊢ pay T Wo (nxt c) 7 0 false := by
  have hv : SlotInv 0 (rbr0.view.write (Elt F) fd (sbr0.view.read (Elt F) fs) Finset.univ) (SR0 T (prv (nxt c))) := by
    rw [prv_nxt]; exact copy_sbr0 h
  have hp : pay T Wo (nxt c) 7 0 false = iprop(slotIs (nxt c) rbr0 0 id (SR0 T (prv (nxt c)))) := rfl
  rw [hp]
  iintro ⟨H, HX⟩
  ihave H := (to_slotIs (nxt c) (m := rbr0) (s := 0) (e := id) (rbr0.view.write (Elt F) fd (sbr0.view.read (Elt F) fs) Finset.univ) hv) $$ H
  iexact H

theorem deliv_L0 (c : Dev nD) (fs fd : FVec F S2x256x1152 .bf16) (h : SlotInv 0 fs (SL0 T c)) :
    iprop(slotPts (prv c) rbl0 (rbl0.view.write (Elt F) fd (sbl0.view.read (Elt F) fs) Finset.univ) ∗ iprop(emp)) ⊢ pay T Wo (prv c) 9 0 false := by
  have hv : SlotInv 0 (rbl0.view.write (Elt F) fd (sbl0.view.read (Elt F) fs) Finset.univ) (SL0 T (nxt (prv c))) := by
    rw [nxt_prv]; exact copy_sbl0 h
  have hp : pay T Wo (prv c) 9 0 false = iprop(slotIs (prv c) rbl0 0 id (SL0 T (nxt (prv c)))) := rfl
  rw [hp]
  iintro ⟨H, HX⟩
  ihave H := (to_slotIs (prv c) (m := rbl0) (s := 0) (e := id) (rbl0.view.write (Elt F) fd (sbl0.view.read (Elt F) fs) Finset.univ) hv) $$ H
  iexact H

theorem deliv_R1 (c : Dev nD) (fs fd : FVec F S2x256x1152 .bf16) (h : SlotInv 1 fs (SR1 T c)) :
    iprop(slotPts (nxt c) rbr1 (rbr1.view.write (Elt F) fd (sbr1.view.read (Elt F) fs) Finset.univ) ∗ iprop(slotAny c rbl0 ∗ reached ER (kcell (c, 9)) 1)) ⊢ pay T Wo (nxt c) 8 0 false := by
  have hv : SlotInv 1 (rbr1.view.write (Elt F) fd (sbr1.view.read (Elt F) fs) Finset.univ) (SR1 T (prv (nxt c))) := by
    rw [prv_nxt]; exact copy_sbr1 h
  have hp : pay T Wo (nxt c) 8 0 false = iprop(slotIs (nxt c) rbr1 1 id (SR1 T (prv (nxt c))) ∗ slotAny (prv (nxt c)) rbl0 ∗ reached ER (kcell (prv (nxt c), 9)) 1) := rfl
  rw [hp]
  iintro ⟨H, HX⟩
  ihave H := (to_slotIs (nxt c) (m := rbr1) (s := 1) (e := id) (rbr1.view.write (Elt F) fd (sbr1.view.read (Elt F) fs) Finset.univ) hv) $$ H
  ihave HX := (Entails.of_eq (show iprop(slotAny c rbl0 ∗ reached ER (kcell (c, 9)) 1) = iprop(slotAny (prv (nxt c)) rbl0 ∗ reached ER (kcell (prv (nxt c), 9)) 1) by rw [prv_nxt])) $$ HX
  icases HX with ⟨H1, H2⟩
  isplitl [H]; · iexact H
  isplitl [H1]; · iexact H1
  iexact H2

theorem deliv_L1 (c : Dev nD) (fs fd : FVec F S2x256x1152 .bf16) (h : SlotInv 1 fs (SL1 T c)) :
    iprop(slotPts (prv c) rbl1 (rbl1.view.write (Elt F) fd (sbl1.view.read (Elt F) fs) Finset.univ) ∗ iprop(slotAny c rbr0 ∗ reached ER (kcell (c, 7)) 1)) ⊢ pay T Wo (prv c) 10 0 false := by
  have hv : SlotInv 1 (rbl1.view.write (Elt F) fd (sbl1.view.read (Elt F) fs) Finset.univ) (SL1 T (nxt (prv c))) := by
    rw [nxt_prv]; exact copy_sbl1 h
  have hp : pay T Wo (prv c) 10 0 false = iprop(slotIs (prv c) rbl1 1 id (SL1 T (nxt (prv c))) ∗ slotAny (nxt (prv c)) rbr0 ∗ reached ER (kcell (nxt (prv c), 7)) 1) := rfl
  rw [hp]
  iintro ⟨H, HX⟩
  ihave H := (to_slotIs (prv c) (m := rbl1) (s := 1) (e := id) (rbl1.view.write (Elt F) fd (sbl1.view.read (Elt F) fs) Finset.univ) hv) $$ H
  ihave HX := (Entails.of_eq (show iprop(slotAny c rbr0 ∗ reached ER (kcell (c, 7)) 1) = iprop(slotAny (nxt (prv c)) rbr0 ∗ reached ER (kcell (nxt (prv c), 7)) 1) by rw [nxt_prv])) $$ HX
  icases HX with ⟨H1, H2⟩
  isplitl [H]; · iexact H
  isplitl [H1]; · iexact H1
  iexact H2

theorem deliv_R2 (c : Dev nD) (fs fd : FVec F S2x256x1152 .bf16) (h : SlotInv 0 fs (SR2 T c)) :
    iprop(slotPts (nxt c) rbr0 (rbr0.view.write (Elt F) fd (sbr0.view.read (Elt F) fs) Finset.univ) ∗ iprop(emp)) ⊢ pay T Wo (nxt c) 7 1 false := by
  have hv : SlotInv 0 (rbr0.view.write (Elt F) fd (sbr0.view.read (Elt F) fs) Finset.univ) (SR2 T (prv (nxt c))) := by
    rw [prv_nxt]; exact copy_sbr0 h
  have hp : pay T Wo (nxt c) 7 1 false = iprop(slotIs (nxt c) rbr0 0 id (SR2 T (prv (nxt c)))) := rfl
  rw [hp]
  iintro ⟨H, HX⟩
  ihave H := (to_slotIs (nxt c) (m := rbr0) (s := 0) (e := id) (rbr0.view.write (Elt F) fd (sbr0.view.read (Elt F) fs) Finset.univ) hv) $$ H
  iexact H

theorem deliv_L2 (c : Dev nD) (fs fd : FVec F S2x256x1152 .bf16) (h : SlotInv 0 fs (SL2 T c)) :
    iprop(slotPts (prv c) rbl0 (rbl0.view.write (Elt F) fd (sbl0.view.read (Elt F) fs) Finset.univ) ∗ iprop(emp)) ⊢ pay T Wo (prv c) 9 1 false := by
  have hv : SlotInv 0 (rbl0.view.write (Elt F) fd (sbl0.view.read (Elt F) fs) Finset.univ) (SL2 T (nxt (prv c))) := by
    rw [nxt_prv]; exact copy_sbl0 h
  have hp : pay T Wo (prv c) 9 1 false = iprop(slotIs (prv c) rbl0 0 id (SL2 T (nxt (prv c)))) := rfl
  rw [hp]
  iintro ⟨H, HX⟩
  ihave H := (to_slotIs (prv c) (m := rbl0) (s := 0) (e := id) (rbl0.view.write (Elt F) fd (sbl0.view.read (Elt F) fs) Finset.univ) hv) $$ H
  iexact H

theorem deliv_AR (c : Dev nD) (fs fd : FVec F S2x256x1024 .bf16) (h : SlotG 0 fs (AR T Wo c)) :
    iprop(slotPts (nxt c) agr1 (agr1.view.write (Elt F) fd (agr0.view.read (Elt F) fs) Finset.univ) ∗ iprop(emp)) ⊢ pay T Wo (nxt c) 11 0 false := by
  have hv : SlotG 1 (agr1.view.write (Elt F) fd (agr0.view.read (Elt F) fs) Finset.univ) (AR T Wo (prv (nxt c))) := by
    rw [prv_nxt]; exact copy_agr0 h
  have hp : pay T Wo (nxt c) 11 0 false = iprop(slotIsG (nxt c) agr1 1 id (AR T Wo (prv (nxt c)))) := rfl
  rw [hp]
  iintro ⟨H, HX⟩
  ihave H := (to_slotIsG (nxt c) (m := agr1) (s := 1) (e := id) (agr1.view.write (Elt F) fd (agr0.view.read (Elt F) fs) Finset.univ) hv) $$ H
  iexact H

theorem deliv_AL (c : Dev nD) (fs fd : FVec F S2x256x1024 .bf16) (h : SlotG 0 fs (AL T Wo c)) :
    iprop(slotPts (prv c) agl1 (agl1.view.write (Elt F) fd (agl0.view.read (Elt F) fs) Finset.univ) ∗ iprop(emp)) ⊢ pay T Wo (prv c) 12 0 false := by
  have hv : SlotG 1 (agl1.view.write (Elt F) fd (agl0.view.read (Elt F) fs) Finset.univ) (AL T Wo (nxt (prv c))) := by
    rw [nxt_prv]; exact copy_agl0 h
  have hp : pay T Wo (prv c) 12 0 false = iprop(slotIsG (prv c) agl1 1 id (AL T Wo (nxt (prv c)))) := rfl
  rw [hp]
  iintro ⟨H, HX⟩
  ihave H := (to_slotIsG (prv c) (m := agl1) (s := 1) (e := id) (agl1.view.write (Elt F) fd (agl0.view.read (Elt F) fs) Finset.univ) hv) $$ H
  iexact H

set_option maxHeartbeats 2000000 in
/-- The first hop of both rings starts. -/
theorem send0_spec (c : Dev nD) (S : ℕ → ℕ → Prop) (h1 : ∀ y, y < 8 → S (2 * c.val) y) (h2 : ∀ y, y < 8 → S (2 * ((c.val + 2) % 4) + 1) y) {k : BProg F} {Q : PUnit → sProp (MM F)} :
    iprop(ctx T Wo K ∗ accAt c (T c) S ∗ slotAny c sbr0 ∗ slotAny c sbl0 ∗ slotAny (nxt c) rbr0 ∗ slotAny (prv c) rbl0 ∗ owesE c (O1 c) ∗ dutyTok ER (kcell (c, 1)) 0 false ∗ dutyTok ER (kcell (nxt c, 7)) 0 false ∗ dutyTok ER (kcell (c, 3)) 0 false ∗ dutyTok ER (kcell (prv c, 9)) 0 false)
      ⊢ iprop(((accAt c (T c) S ∗ owesE c (O3 c) ∗ cred (tallyAt (kcell (c, 1)) false (amt 1)) ∗ cred (tallyAt (kcell (c, 3)) false (amt 3))) -∗ wpB c k Q)
          -∗ wpB c (send0 c k) Q) := by
  have hc : c.val < 4 := c.isLt
  unfold send0 slotAny
  iintro ⟨#Hctx, HA, ⟨%f1, Hs1⟩, ⟨%f2, Hs2⟩, ⟨%f3, Hd1⟩, ⟨%f4, Hd2⟩, HO, T1, T7, T3, T9⟩ Hk
  iapply (load_acc c (T c) S (2 * c.val) (by omega) (off65a c) h1) $$ HA; iintro %a1 ⟨HA, %ha1⟩
  iapply (load_sbr0 c f1) $$ Hs1; iintro Hs1
  iapply (store_sbr0 c f1 _) $$ Hs1; iintro ⟨%g1, Hs1, %hg1⟩
  iapply (load_acc c (T c) S (2 * ((c.val + 2) % 4) + 1) (by omega) (off66a c) h2) $$ HA; iintro %a2 ⟨HA, %ha2⟩
  iapply (load_sbl0 c f2) $$ Hs2; iintro Hs2
  iapply (store_sbl0 c f2 _) $$ Hs2; iintro ⟨%g2, Hs2, %hg2⟩
  have hv1 : SlotInv 0 g1 (SR0 T c) := hg1.congr (sendPay_congr ha1)
  have hv2 : SlotInv 0 g2 (SL0 T c) := hg2.congr (sendPay_congr ha2)
  iapply (send_cell T Wo K c (nxt c) _ (dev3_eq c) (src := sbr0) (dst := rbr0) 1 7 rfl rfl 0 0 (by decide) (by decide) (by decide) (by decide) rfl rfl false false g1 f3
    iprop(emp) (O₁ := O1 c) (O := O2 c) rfl (to_slotAny c (m := sbr0) g1) (deliv_R0 T Wo c g1 f3 hv1)) $$ [Hs1 Hd1  HO T1 T7  ]
  · isplitr; · iexact Hctx
    isplitl [Hs1]; · iexact Hs1
    isplitl [Hd1 ]
    · isplitl [Hd1]; · iexact Hd1
      iempintro
    isplitl [HO]; · iexact HO
    isplitl [T1]; · iexact T1
    isplitr; · iapply (ctx_reached T Wo K c 1); iexact Hctx
    isplitl [T7]; · iexact T7
    iapply (ctx_reached T Wo K (nxt c) 7); iexact Hctx
  iintro ⟨C1, HO⟩
  iapply (send_cell T Wo K c (prv c) _ (dev4_eq c) (src := sbl0) (dst := rbl0) 3 9 rfl rfl 0 0 (by decide) (by decide) (by decide) (by decide) rfl rfl false false g2 f4
    iprop(emp) (O₁ := O2 c) (O := O3 c) rfl (to_slotAny c (m := sbl0) g2) (deliv_L0 T Wo c g2 f4 hv2)) $$ [Hs2 Hd2  HO T3 T9  ]
  · isplitr; · iexact Hctx
    isplitl [Hs2]; · iexact Hs2
    isplitl [Hd2 ]
    · isplitl [Hd2]; · iexact Hd2
      iempintro
    isplitl [HO]; · iexact HO
    isplitl [T3]; · iexact T3
    isplitr; · iapply (ctx_reached T Wo K c 3); iexact Hctx
    isplitl [T9]; · iexact T9
    iapply (ctx_reached T Wo K (prv c) 9); iexact Hctx
  iintro ⟨C3, HO⟩
  iapply Hk
  isplitl [HA]; · iexact HA
  isplitl [HO]; · iexact HO
  isplitl [C1]; · iexact C1
  iexact C3

theorem slotRead_eq {s : ℕ} {f : FVec F S2x256x1152 .bf16} {v : FVec F S1x256x1152 .bf16} (h : SlotInv s f v) : EqTo (slotRead s f) v := fun p hp => h p hp

set_option maxHeartbeats 2000000 in
/-- The first hop lands, the sums are added, the second hop starts; the landed slots go back to the neighbours. -/
theorem hop1_spec (c : Dev nD) (S : ℕ → ℕ → Prop) (h1 : ∀ y, y < 8 → S (2 * ((c.val + 3) % 4)) y) (h2 : ∀ y, y < 8 → S (2 * ((c.val + 3) % 4) + 1) y) {k : BProg F} {Q : PUnit → sProp (MM F)} :
    iprop(ctx T Wo K ∗ accAt c (T c) S ∗ owesE c (O3 c) ∗ cred (tallyAt (kcell (c, 1)) false (amt 1)) ∗ cred (tallyAt (kcell (c, 3)) false (amt 3)) ∗ cred (tallyAt (kcell (c, 7)) false (amt 7)) ∗ cred (tallyAt (kcell (c, 9)) false (amt 9)) ∗ atPos ER (kcell (c, 1)) 0 ∅ 0 ∗ atPos ER (kcell (c, 3)) 0 ∅ 0 ∗ atPos ER (kcell (c, 7)) 0 ∅ 0 ∗ atPos ER (kcell (c, 9)) 0 ∅ 0 ∗ slotAny c sbr1 ∗ slotAny c sbl1 ∗ slotAny (nxt c) rbr1 ∗ slotAny (prv c) rbl1 ∗ dutyTok ER (kcell (c, 2)) 0 false ∗ dutyTok ER (kcell (nxt c, 8)) 0 false ∗ dutyTok ER (kcell (c, 4)) 0 false ∗ dutyTok ER (kcell (prv c, 10)) 0 false)
      ⊢ iprop(((accAt c (T c) S ∗ owesE c (O5 c) ∗ cred (tallyAt (kcell (c, 2)) false (amt 2)) ∗ cred (tallyAt (kcell (c, 4)) false (amt 4)) ∗ atPos ER (kcell (c, 1)) 1 ∅ 0 ∗ atPos ER (kcell (c, 3)) 1 ∅ 0 ∗ atPos ER (kcell (c, 7)) 1 ∅ 0 ∗ atPos ER (kcell (c, 9)) 1 ∅ 0 ∗ reached ER (kcell (c, 1)) 1 ∗ reached ER (kcell (c, 3)) 1 ∗ slotAny c sbr0 ∗ slotAny c sbl0) -∗ wpB c k Q)
          -∗ wpB c (hop1 c k) Q) := by
  have hc : c.val < 4 := c.isLt
  unfold hop1
  unfold slotAny
  iintro ⟨#Hctx, HA, HO, C1, C3, C7, C9, A1, A3, A7, A9, ⟨%f1, Hs1⟩, ⟨%f2, Hs2⟩, ⟨%f3, Hd1⟩, ⟨%f4, Hd2⟩, T2, T8, T4, T10⟩ Hk
  iapply (wait_dma T Wo K c 1 (by decide) 0 (by decide) false (O3 c) 0 (by decide) ((above_O3 c).lower (by decide)) ss0 rbr0 sbr0 rfl rfl) $$ [C1 HO A1]
  · isplitr; · iexact Hctx
    isplitl [C1]; · iexact C1
    isplitl [HO]; · iexact HO
    iexact A1
  iintro ⟨HO, A1, R1, P1⟩
  ihave P1 := (Entails.of_eq (show pay T Wo c 1 0 false = slotAny c sbr0 from rfl)) $$ P1
  iapply (wait_dma T Wo K c 7 (by decide) 0 (by decide) false (O3 c) 2 (by decide) (above_O3 c) rs0 sbr0 rbr0 rfl rfl) $$ [C7 HO A7]
  · isplitr; · iexact Hctx
    isplitl [C7]; · iexact C7
    isplitl [HO]; · iexact HO
    iexact A7
  iintro ⟨HO, A7, R7, P7⟩
  iapply (wait_dma T Wo K c 3 (by decide) 0 (by decide) false (O3 c) 0 (by decide) ((above_O3 c).lower (by decide)) ss2 rbl0 sbl0 rfl rfl) $$ [C3 HO A3]
  · isplitr; · iexact Hctx
    isplitl [C3]; · iexact C3
    isplitl [HO]; · iexact HO
    iexact A3
  iintro ⟨HO, A3, R3, P3⟩
  ihave P3 := (Entails.of_eq (show pay T Wo c 3 0 false = slotAny c sbl0 from rfl)) $$ P3
  iapply (wait_dma T Wo K c 9 (by decide) 0 (by decide) false (O3 c) 2 (by decide) (above_O3 c) rs2 sbl0 rbl0 rfl rfl) $$ [C9 HO A9]
  · isplitr; · iexact Hctx
    isplitl [C9]; · iexact C9
    isplitl [HO]; · iexact HO
    iexact A9
  iintro ⟨HO, A9, R9, P9⟩
  ihave P7 := (Entails.of_eq (show pay T Wo c 7 0 false = slotIs c rbr0 0 id (SR0 T (prv c)) from rfl)) $$ P7
  ihave P9 := (Entails.of_eq (show pay T Wo c 9 0 false = slotIs c rbl0 0 id (SL0 T (nxt c)) from rfl)) $$ P9
  unfold slotIs
  icases P7 with ⟨%g7, Hr, %h7⟩
  icases P9 with ⟨%g9, Hl, %h9⟩
  iapply (load_rbr0 c g7) $$ Hr; iintro Hr
  iapply (load_acc c (T c) S (2 * ((c.val + 3) % 4)) (by omega) (off91a c) h1) $$ HA; iintro %a1 ⟨HA, %ha1⟩
  iapply (load_sbr1 c f1) $$ Hs1; iintro Hs1
  iapply (store_sbr1 c f1 _) $$ Hs1; iintro ⟨%g1, Hs1, %hg1⟩
  iapply (load_rbl0 c g9) $$ Hl; iintro Hl
  iapply (load_acc c (T c) S (2 * ((c.val + 3) % 4) + 1) (by omega) (off66b c) h2) $$ HA; iintro %a2 ⟨HA, %ha2⟩
  iapply (load_sbl1 c f2) $$ Hs2; iintro Hs2
  iapply (store_sbl1 c f2 _) $$ Hs2; iintro ⟨%g2, Hs2, %hg2⟩
  have hv1 : SlotInv 1 g1 (SR1 T c) := hg1.congr (rsPay_congr (slotRead_eq h7) ha1)
  have hv2 : SlotInv 1 g2 (SL1 T c) := hg2.congr (rsPay_congr (slotRead_eq h9) ha2)
  ihave Hr := (to_slotAny c (m := rbr0) g7) $$ Hr
  ihave Hl := (to_slotAny c (m := rbl0) g9) $$ Hl
  iapply (send_cell T Wo K c (nxt c) _ (dev5_eq c) (src := sbr1) (dst := rbr1) 2 8 rfl rfl 0 0 (by decide) (by decide) (by decide) (by decide) rfl rfl false false g1 f3
    iprop(slotAny c rbl0 ∗ reached ER (kcell (c, 9)) 1) (O₁ := O3 c) (O := O4 c) rfl (to_slotAny c (m := sbr1) g1) (deliv_R1 T Wo c g1 f3 hv1)) $$ [Hs1 Hd1 Hl R9 HO T2 T8  ]
  · isplitr; · iexact Hctx
    isplitl [Hs1]; · iexact Hs1
    isplitl [Hd1 Hl R9]
    · isplitl [Hd1]; · iexact Hd1
      isplitl [Hl]; · iexact Hl
      iexact R9
    isplitl [HO]; · iexact HO
    isplitl [T2]; · iexact T2
    isplitr; · iapply (ctx_reached T Wo K c 2); iexact Hctx
    isplitl [T8]; · iexact T8
    iapply (ctx_reached T Wo K (nxt c) 8); iexact Hctx
  iintro ⟨C2, HO⟩
  iapply (send_cell T Wo K c (prv c) _ (dev6_eq c) (src := sbl1) (dst := rbl1) 4 10 rfl rfl 0 0 (by decide) (by decide) (by decide) (by decide) rfl rfl false false g2 f4
    iprop(slotAny c rbr0 ∗ reached ER (kcell (c, 7)) 1) (O₁ := O4 c) (O := O5 c) rfl (to_slotAny c (m := sbl1) g2) (deliv_L1 T Wo c g2 f4 hv2)) $$ [Hs2 Hd2 Hr R7 HO T4 T10  ]
  · isplitr; · iexact Hctx
    isplitl [Hs2]; · iexact Hs2
    isplitl [Hd2 Hr R7]
    · isplitl [Hd2]; · iexact Hd2
      isplitl [Hr]; · iexact Hr
      iexact R7
    isplitl [HO]; · iexact HO
    isplitl [T4]; · iexact T4
    isplitr; · iapply (ctx_reached T Wo K c 4); iexact Hctx
    isplitl [T10]; · iexact T10
    iapply (ctx_reached T Wo K (prv c) 10); iexact Hctx
  iintro ⟨C4, HO⟩
  iapply Hk
  (try unfold slotAny)
  isplitl [HA]; · iexact HA
  isplitl [HO]; · iexact HO
  isplitl [C2]; · iexact C2
  isplitl [C4]; · iexact C4
  isplitl [A1]; · iexact A1
  isplitl [A3]; · iexact A3
  isplitl [A7]; · iexact A7
  isplitl [A9]; · iexact A9
  isplitl [R1]; · iexact R1
  isplitl [R3]; · iexact R3
  isplitl [P1]; · iexact P1
  iexact P3

set_option maxHeartbeats 2000000 in
/-- The second hop lands, the sums are added, the third hop runs to its end. -/
theorem hop2_spec (c : Dev nD) (S : ℕ → ℕ → Prop) (h1 : ∀ y, y < 8 → S (2 * ((c.val + 2) % 4)) y) (h2 : ∀ y, y < 8 → S (2 * c.val + 1) y) {k : BProg F} {Q : PUnit → sProp (MM F)} :
    iprop(ctx T Wo K ∗ accAt c (T c) S ∗ owesE c (O5 c) ∗ cred (tallyAt (kcell (c, 2)) false (amt 2)) ∗ cred (tallyAt (kcell (c, 4)) false (amt 4)) ∗ cred (tallyAt (kcell (c, 8)) false (amt 8)) ∗ cred (tallyAt (kcell (c, 10)) false (amt 10)) ∗ atPos ER (kcell (c, 2)) 0 ∅ 0 ∗ atPos ER (kcell (c, 4)) 0 ∅ 0 ∗ atPos ER (kcell (c, 8)) 0 ∅ 0 ∗ atPos ER (kcell (c, 10)) 0 ∅ 0 ∗ atPos ER (kcell (c, 1)) 1 ∅ 0 ∗ atPos ER (kcell (c, 3)) 1 ∅ 0 ∗ atPos ER (kcell (c, 7)) 1 ∅ 0 ∗ atPos ER (kcell (c, 9)) 1 ∅ 0 ∗ reached ER (kcell (c, 1)) 1 ∗ reached ER (kcell (c, 3)) 1 ∗ slotAny c sbr0 ∗ slotAny c sbl0 ∗ dutyTok ER (kcell (c, 1)) 1 false ∗ dutyTok ER (kcell (nxt c, 7)) 1 false ∗ dutyTok ER (kcell (c, 3)) 1 false ∗ dutyTok ER (kcell (prv c, 9)) 1 false ∗ cred (tallyAt (kcell (c, 7)) true (amt 7)) ∗ cred (tallyAt (kcell (c, 9)) true (amt 9)))
      ⊢ iprop(((accAt c (T c) S ∗ owesE c (O7 c) ∗ atPos ER (kcell (c, 1)) 2 ∅ 0 ∗ atPos ER (kcell (c, 2)) 1 ∅ 0 ∗ atPos ER (kcell (c, 3)) 2 ∅ 0 ∗ atPos ER (kcell (c, 4)) 1 ∅ 0 ∗ atPos ER (kcell (c, 7)) 2 ∅ 0 ∗ atPos ER (kcell (c, 8)) 1 ∅ 0 ∗ atPos ER (kcell (c, 9)) 2 ∅ 0 ∗ atPos ER (kcell (c, 10)) 1 ∅ 0 ∗ slotAny c sbr0 ∗ slotAny c sbr1 ∗ slotAny c sbl0 ∗ slotAny c sbl1 ∗ slotAny c rbr1 ∗ slotAny c rbl1 ∗ slotIs c rbr0 0 id (SR2 T (prv c)) ∗ slotIs c rbl0 0 id (SL2 T (nxt c))) -∗ wpB c k Q)
          -∗ wpB c (hop2 c k) Q) := by
  have hc : c.val < 4 := c.isLt
  unfold hop2
  unfold slotAny
  iintro ⟨#Hctx, HA, HO, C2, C4, C8, C10, A2, A4, A8, A10, A1, A3, A7, A9, R1, R3, ⟨%f1, Hs1⟩, ⟨%f2, Hs2⟩, T1, T7, T3, T9, C7, C9⟩ Hk
  iapply (wait_dma T Wo K c 2 (by decide) 0 (by decide) false (O5 c) 0 (by decide) ((above_O5 c).lower (by decide)) ss1 rbr1 sbr1 rfl rfl) $$ [C2 HO A2]
  · isplitr; · iexact Hctx
    isplitl [C2]; · iexact C2
    isplitl [HO]; · iexact HO
    iexact A2
  iintro ⟨HO, A2, -, P2⟩
  ihave P2 := (Entails.of_eq (show pay T Wo c 2 0 false = slotAny c sbr1 from rfl)) $$ P2
  iapply (wait_dma T Wo K c 8 (by decide) 0 (by decide) false (O5 c) 3 (by decide) (above_O5 c) rs1 sbr1 rbr1 rfl rfl) $$ [C8 HO A8]
  · isplitr; · iexact Hctx
    isplitl [C8]; · iexact C8
    isplitl [HO]; · iexact HO
    iexact A8
  iintro ⟨HO, A8, -, P8⟩
  iapply (wait_dma T Wo K c 4 (by decide) 0 (by decide) false (O5 c) 0 (by decide) ((above_O5 c).lower (by decide)) ss3 rbl1 sbl1 rfl rfl) $$ [C4 HO A4]
  · isplitr; · iexact Hctx
    isplitl [C4]; · iexact C4
    isplitl [HO]; · iexact HO
    iexact A4
  iintro ⟨HO, A4, -, P4⟩
  ihave P4 := (Entails.of_eq (show pay T Wo c 4 0 false = slotAny c sbl1 from rfl)) $$ P4
  iapply (wait_dma T Wo K c 10 (by decide) 0 (by decide) false (O5 c) 3 (by decide) (above_O5 c) rs3 sbl1 rbl1 rfl rfl) $$ [C10 HO A10]
  · isplitr; · iexact Hctx
    isplitl [C10]; · iexact C10
    isplitl [HO]; · iexact HO
    iexact A10
  iintro ⟨HO, A10, -, P10⟩
  ihave P8 := (Entails.of_eq (show pay T Wo c 8 0 false = iprop(slotIs c rbr1 1 id (SR1 T (prv c)) ∗ slotAny (prv c) rbl0 ∗ reached ER (kcell (prv c, 9)) 1) from rfl)) $$ P8
  ihave P10 := (Entails.of_eq (show pay T Wo c 10 0 false = iprop(slotIs c rbl1 1 id (SL1 T (nxt c)) ∗ slotAny (nxt c) rbr0 ∗ reached ER (kcell (nxt c, 7)) 1) from rfl)) $$ P10
  unfold slotIs slotAny
  icases P8 with ⟨⟨%g7, Hr, %h7⟩, ⟨%f4, Hd2⟩, R9⟩
  icases P10 with ⟨⟨%g9, Hl, %h9⟩, ⟨%f3, Hd1⟩, R7⟩
  iapply (load_rbr1 c g7) $$ Hr; iintro Hr
  iapply (load_acc c (T c) S (2 * ((c.val + 2) % 4)) (by omega) (off91b c) h1) $$ HA; iintro %a1 ⟨HA, %ha1⟩
  iapply (load_sbr0 c f1) $$ Hs1; iintro Hs1
  iapply (store_sbr0 c f1 _) $$ Hs1; iintro ⟨%g1, Hs1, %hg1⟩
  iapply (load_rbl1 c g9) $$ Hl; iintro Hl
  iapply (load_acc c (T c) S (2 * c.val + 1) (by omega) (off92a c) h2) $$ HA; iintro %a2 ⟨HA, %ha2⟩
  iapply (load_sbl0 c f2) $$ Hs2; iintro Hs2
  iapply (store_sbl0 c f2 _) $$ Hs2; iintro ⟨%g2, Hs2, %hg2⟩
  have hv1 : SlotInv 0 g1 (SR2 T c) := hg1.congr (rsPay_congr (slotRead_eq h7) ha1)
  have hv2 : SlotInv 0 g2 (SL2 T c) := hg2.congr (rsPay_congr (slotRead_eq h9) ha2)
  iapply (send_cell T Wo K c (nxt c) _ (dev7_eq c) (src := sbr0) (dst := rbr0) 1 7 rfl rfl 1 1 (by decide) (by decide) (by decide) (by decide) rfl rfl false true g1 f3
    iprop(emp) (O₁ := O5 c) (O := O6 c) rfl (to_slotAny c (m := sbr0) g1) (deliv_R2 T Wo c g1 f3 hv1)) $$ [Hs1 Hd1  HO T1 T7 R1 R7]
  · isplitr; · iexact Hctx
    isplitl [Hs1]; · iexact Hs1
    isplitl [Hd1 ]
    · isplitl [Hd1]; · iexact Hd1
      iempintro
    isplitl [HO]; · iexact HO
    isplitl [T1]; · iexact T1
    isplitl [R1]; · iexact R1
    isplitl [T7]; · iexact T7
    iexact R7
  iintro ⟨C1, HO⟩
  iapply (send_cell T Wo K c (prv c) _ (dev8_eq c) (src := sbl0) (dst := rbl0) 3 9 rfl rfl 1 1 (by decide) (by decide) (by decide) (by decide) rfl rfl false true g2 f4
    iprop(emp) (O₁ := O6 c) (O := O7 c) rfl (to_slotAny c (m := sbl0) g2) (deliv_L2 T Wo c g2 f4 hv2)) $$ [Hs2 Hd2  HO T3 T9 R3 R9]
  · isplitr; · iexact Hctx
    isplitl [Hs2]; · iexact Hs2
    isplitl [Hd2 ]
    · isplitl [Hd2]; · iexact Hd2
      iempintro
    isplitl [HO]; · iexact HO
    isplitl [T3]; · iexact T3
    isplitl [R3]; · iexact R3
    isplitl [T9]; · iexact T9
    iexact R9
  iintro ⟨C3, HO⟩
  iapply (wait_dma T Wo K c 1 (by decide) 1 (by decide) false (O7 c) 0 (by decide) ((above_O7 c).lower (by decide)) ss0 rbr0 sbr0 rfl rfl) $$ [C1 HO A1]
  · isplitr; · iexact Hctx
    isplitl [C1]; · iexact C1
    isplitl [HO]; · iexact HO
    iexact A1
  iintro ⟨HO, A1, -, P1⟩
  ihave P1 := (Entails.of_eq (show pay T Wo c 1 1 false = slotAny c sbr0 from rfl)) $$ P1
  iapply (wait_dma T Wo K c 7 (by decide) 1 (by decide) true (O7 c) 4 (by decide) (above_O7 c) rs0 sbr0 rbr0 rfl rfl) $$ [C7 HO A7]
  · isplitr; · iexact Hctx
    isplitl [C7]; · iexact C7
    isplitl [HO]; · iexact HO
    iexact A7
  iintro ⟨HO, A7, -, P7⟩
  ihave P7 := (Entails.of_eq (show pay T Wo c 7 1 false = slotIs c rbr0 0 id (SR2 T (prv c)) from rfl)) $$ P7
  iapply (wait_dma T Wo K c 3 (by decide) 1 (by decide) false (O7 c) 0 (by decide) ((above_O7 c).lower (by decide)) ss2 rbl0 sbl0 rfl rfl) $$ [C3 HO A3]
  · isplitr; · iexact Hctx
    isplitl [C3]; · iexact C3
    isplitl [HO]; · iexact HO
    iexact A3
  iintro ⟨HO, A3, -, P3⟩
  ihave P3 := (Entails.of_eq (show pay T Wo c 3 1 false = slotAny c sbl0 from rfl)) $$ P3
  iapply (wait_dma T Wo K c 9 (by decide) 1 (by decide) true (O7 c) 4 (by decide) (above_O7 c) rs2 sbl0 rbl0 rfl rfl) $$ [C9 HO A9]
  · isplitr; · iexact Hctx
    isplitl [C9]; · iexact C9
    isplitl [HO]; · iexact HO
    iexact A9
  iintro ⟨HO, A9, -, P9⟩
  ihave P9 := (Entails.of_eq (show pay T Wo c 9 1 false = slotIs c rbl0 0 id (SL2 T (nxt c)) from rfl)) $$ P9
  iapply Hk
  (try unfold slotAny)
  (try unfold slotIs)
  isplitl [HA]; · iexact HA
  isplitl [HO]; · iexact HO
  isplitl [A1]; · iexact A1
  isplitl [A2]; · iexact A2
  isplitl [A3]; · iexact A3
  isplitl [A4]; · iexact A4
  isplitl [A7]; · iexact A7
  isplitl [A8]; · iexact A8
  isplitl [A9]; · iexact A9
  isplitl [A10]; · iexact A10
  isplitl [P1]; · iexact P1
  isplitl [P2]; · iexact P2
  isplitl [P3]; · iexact P3
  isplitl [P4]; · iexact P4
  isplitl [Hr]; · iexists g7; iexact Hr
  isplitl [Hl]; · iexists g9; iexact Hl
  isplitl [P7]; · iexact P7
  iexact P9

end Cert.KernelIdeal.Run

end
-- ==== Proof.Run.Ends.lean ====
module

public import proofs.«01_k».proof.Proof.Run.Exchange

@[expose] public section

/-! The two ends of the body: the copies and signals it opens with, and the last hop with the output it stores. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (T : Dev nD → FVec F S2048x1152 .f32) (Wo : Dev nD → FVec F S1024x1024 .bf16) (K : Dev nD × Fin 13 → ℕ)

/-! ## The barrier -/

/-- A signal to a neighbour's barrier, handing over what its duty says. -/
theorem signal_cell (c n n' : Dev nD) (hn : n' = n) (d : Bool) {a : ℕ} (ha : amt 0 = a) {O₁ O : CellTallies nD τ sig Bool}
    (hO : O₁ = O + tallyAt (kcell (n, 0)) false (amt 0)) {p : BProg F} {Q : PUnit → sProp (MM F)} :
    iprop(ctx T Wo K ∗ owesE c O₁ ∗ dutyTok ER (kcell (n, 0)) 0 d ∗ pay T Wo n 0 0 d)
      ⊢ iprop((owesE c O -∗ wpB c p Q) -∗ wpB c (.op (.semSignal (n', .tc) bar a) fun _ => p) Q) := by
  subst hn
  have hd : d ∈ (Rd T Wo).duties ((n' : Thread nD τ), .reg bar) 0 := (duties_bar T Wo n').symm ▸ Finset.mem_univ d
  have hk : (Rd T Wo).amount ((n' : Thread nD τ), .reg bar) 0 d = a := (amount_kcell T Wo n' 0 0 d).trans ha
  have hp : (Rd T Wo).payload ((n' : Thread nD τ), .reg bar) 0 d = pay T Wo n' 0 0 d := payload_kcell T Wo n' 0 0 d
  have hi : ctx T Wo K ⊢ cellInv ER (Rd T Wo) (K (n', 0)) ((n' : Thread nD τ), .reg bar) := ctx_inv T Wo K n' 0
  have hr : ctx T Wo K ⊢ reached ER ((n' : Thread nD τ), .reg bar) 0 := ctx_reached T Wo K n' 0
  have hO' : O₁ = O + tallyAt ((n' : Thread nD τ), .reg bar) false a := ha ▸ hO
  unfold owesE
  iintro ⟨#Hctx, ⟨%W, HO⟩, Ht, Hp⟩ Hk
  iapply (Rounds.wp_signal 𝒱₀ ER (Rd T Wo) (c : Thread nD τ) none (dst := (n' : Thread nD τ)) (κ := K (n', 0)) (d := d) hd hk false O hO') $$ [HO Ht Hp]
  · isplitr
    · iapply hi; iexact Hctx
    isplitl [HO]; · iexact HO
    isplitl [Ht]; · iexact Ht
    isplitl [Hp]
    · rw [hp]; iexact Hp
    iapply hr; iexact Hctx
  iintro HO
  iapply Hk
  iexists _; iexact HO

/-- The wait for both neighbours: their slots. -/
theorem wait_bar (c : Dev nD) {a : ℕ} (ha : a = 2) (O : CellTallies nD τ sig Bool) (hO : Above 1 O) {p : BProg F} {Q : PUnit → sProp (MM F)} :
    iprop(ctx T Wo K ∗ cred (tallyAt (kcell (c, 0)) false 2) ∗ owesE c O ∗ atPos ER (kcell (c, 0)) 0 ∅ 0)
      ⊢ iprop(((owesE c O ∗ atPos ER (kcell (c, 0)) 1 ∅ 0 ∗ barL c ∗ barR c) -∗ wpB c p Q)
          -∗ wpB c (.op (.semWait bar a) fun _ => p) Q) := by
  subst ha
  have hrest : (bigSep ((Rd T Wo).duties ((c : Thread nD τ), .reg bar) 0 \ ∅) fun d => (Rd T Wo).payload ((c : Thread nD τ), .reg bar) 0 d) = iprop(barL (F := F) c ∗ barR c) := rest_bar T Wo c
  have hi : ctx T Wo K ⊢ cellInv ER (Rd T Wo) (K (c, 0)) ((c : Thread nD τ), .reg bar) := ctx_inv T Wo K c 0
  have hx : 0 + 2 = (Rd T Wo).expect ((c : Thread nD τ), .reg bar) 0 := (expect_bar T Wo c).symm
  unfold owesE
  iintro ⟨#Hctx, Hc, ⟨%W, HO⟩, Hat⟩ Hk
  iapply (Rounds.wp_wait_rest_token 𝒱₀ ER (Rd T Wo) (c : Thread nD τ) none (κ := K (c, 0)) (wpE_semWait_eq 𝒱₀ (c : Thread nD τ) none Set.univ) (Set.mem_univ _) false (O := O) (W := W) (R := 0) (m := 0) (T := ∅) hx) $$ [Hc HO Hat]
  · isplitr
    · iapply hi; iexact Hctx
    isplitl [Hc]; · iexact Hc
    isplitl [HO]; · iexact HO
    isplitr
    · iapply (ctx_mayWait T Wo K c (csem 0) false O 1 (lv_kcell c 0 false).le hO); iexact Hctx
    iexact Hat
  iintro ⟨HO, Hat, -, Hp⟩
  ihave Hp := (Entails.of_eq hrest) $$ Hp
  icases Hp with ⟨Hl, Hr⟩
  iapply Hk
  isplitl [HO]; · iexists _; iexact HO
  isplitl [Hat]; · iexact Hat
  isplitl [Hl]; · iexact Hl
  iexact Hr

set_option maxHeartbeats 2000000 in
/-- The opening: four copies out of the arguments start, the neighbours are told, and they have told this device. -/
theorem startUp_spec (c : Dev nD) (q₁ q₂ : PosShare TreeShare) (X : FVec F S2048x1024 .f32) (KK : FVec F S2048x8x128 .f32) {k : BProg F} {Q : PUnit → sProp (MM F)} :
    iprop(ctx T Wo K ∗ ptq c main_arg0 q₁ X ∗ ptq c main_arg0 q₂ X ∗ ptq c main_arg2 q₁ KK ∗ ptq c main_arg2 q₂ KK
        ∗ (∃ f, pts c cc0_scratch0 f) ∗ (∃ f, pts c cc0_scratch1 f) ∗ (∃ f, pts c cc0_scratch2 f) ∗ (∃ f, pts c cc0_scratch3 f)
        ∗ locSems c ∗ owesE c (O₀ c) ∗ dutyTok ER (kcell (prv c, 0)) 0 true ∗ dutyTok ER (kcell (nxt c, 0)) 0 false
        ∗ (slotAny c rbr0 ∗ slotAny c rbr1 ∗ slotAny c agr1) ∗ (slotAny c rbl0 ∗ slotAny c rbl1 ∗ slotAny c agl1)
        ∗ cred (tallyAt (kcell (c, 0)) false 2) ∗ atPos ER (kcell (c, 0)) 0 ∅ 0)
      ⊢ iprop((((∃ f, inFlight c xA0 stA ls0 q₁ X f) ∗ (∃ f, inFlight c xA1024 stB ls1 q₂ X f)
          ∗ (∃ f, inFlight c kA0 st3A ls2 q₁ KK f) ∗ (∃ f, inFlight c kA512 st3B ls3 q₂ KK f)
          ∗ owesE c (O1 c) ∗ atPos ER (kcell (c, 0)) 1 ∅ 0 ∗ barL c ∗ barR c) -∗ wpB c k Q)
        -∗ wpB c (startUp c k) Q) := by
  unfold startUp locSems
  iintro ⟨#Hctx, X1, X2, K1, K2, ⟨%f0, S0⟩, ⟨%f1, S1⟩, ⟨%f2, S2⟩, ⟨%f3, S3⟩, ⟨V0, V1, V2, V3⟩, HO, TP, TN, HR, HL, HC, HA⟩ Hk
  iapply (enq_in c (src := xA0) (dst := stA) (sem := ls0) (q := q₁) (A := X) (fd := f0) (by decide)) $$ [X1 S0 V0]
  · isplitl [X1]; · iexact X1
    isplitl [S0]; · iexact S0
    iexact V0
  iintro F0
  iapply (enq_in c (src := xA1024) (dst := stB) (sem := ls1) (q := q₂) (A := X) (fd := f1) (by decide)) $$ [X2 S1 V1]
  · isplitl [X2]; · iexact X2
    isplitl [S1]; · iexact S1
    iexact V1
  iintro F1
  iapply (enq_in c (src := kA0) (dst := st3A) (sem := ls2) (q := q₁) (A := KK) (fd := f2) (by decide)) $$ [K1 S2 V2]
  · isplitl [K1]; · iexact K1
    isplitl [S2]; · iexact S2
    iexact V2
  iintro F2
  iapply (enq_in c (src := kA512) (dst := st3B) (sem := ls3) (q := q₂) (A := KK) (fd := f3) (by decide)) $$ [K2 S3 V3]
  · isplitl [K2]; · iexact K2
    isplitl [S3]; · iexact S3
    iexact V3
  iintro F3
  have e1 : pay T Wo (prv c) 0 0 true = iprop(slotAny (F := F) (nxt (prv c)) rbr0 ∗ slotAny (nxt (prv c)) rbr1 ∗ slotAny (nxt (prv c)) agr1) := rfl
  have e2 : pay T Wo (nxt c) 0 0 false = iprop(slotAny (F := F) (prv (nxt c)) rbl0 ∗ slotAny (prv (nxt c)) rbl1 ∗ slotAny (prv (nxt c)) agl1) := rfl
  rw [nxt_prv] at e1
  rw [prv_nxt] at e2
  ihave HR := (Entails.of_eq e1.symm) $$ HR
  ihave HL := (Entails.of_eq e2.symm) $$ HL
  iapply (signal_cell T Wo K c (prv c) _ (dev1_eq c) true (by decide) (O₁ := O₀ c) (O := OB1 c) rfl) $$ [HO TP HR]
  · isplitr; · iexact Hctx
    isplitl [HO]; · iexact HO
    isplitl [TP]; · iexact TP
    iexact HR
  iintro HO
  iapply (signal_cell T Wo K c (nxt c) _ (dev2_eq c) false (by decide) (O₁ := OB1 c) (O := O1 c) rfl) $$ [HO TN HL]
  · isplitr; · iexact Hctx
    isplitl [HO]; · iexact HO
    isplitl [TN]; · iexact TN
    iexact HL
  iintro HO
  iapply (wait_bar T Wo K c (by decide) (O1 c) (above_O1 c)) $$ [HO HC HA]
  · isplitr; · iexact Hctx
    isplitl [HC]; · iexact HC
    isplitl [HO]; · iexact HO
    iexact HA
  iintro ⟨HO, HA, HL, HR⟩
  iapply Hk
  isplitl [F0]; · iexists f0; iexact F0
  isplitl [F1]; · iexists f1; iexact F1
  isplitl [F2]; · iexists f2; iexact F2
  isplitl [F3]; · iexists f3; iexact F3
  isplitl [HO]; · iexact HO
  isplitl [HA]; · iexact HA
  isplitl [HL]; · iexact HL
  iexact HR

/-! ## The output -/

/-- Rows `r … r+255` replaced. -/
def setRows (r : ℕ) (v : FVec F S256x1024 .f32) (f : FVec F S1024x1024 .f32) : FVec F S1024x1024 .f32 := fun p =>
  if r ≤ (p 0).val ∧ (p 0).val < r + 256 then v (i2 ((p 0).val - r) (p 1).val) else f p

/-- What device `c` stores: its own two halves, then the half its left and the half its right neighbour sent. -/
def outAt (c : Dev nD) : FVec F S1024x1024 .f32 := fun p =>
  if (p 0).val < 256 then outPay (SR2 T (prv c)) (rowsAt (T c) (256 * (2 * ((c.val + 1) % 4)))) (Wo c) (i2 (p 0).val (p 1).val)
  else if (p 0).val < 512 then outPay (SL2 T (nxt c)) (rowsAt (T c) (256 * (2 * ((c.val + 1) % 4) + 1))) (Wo c) (i2 ((p 0).val - 256) (p 1).val)
  else if (p 0).val < 768 then k0_pay1 (AR T Wo (prv c)) (i2 ((p 0).val - 512) (p 1).val)
  else k0_pay2 (AL T Wo (nxt c)) (i2 ((p 0).val - 768) (p 1).val)

theorem setRows_all (c : Dev nD) (f : FVec F S1024x1024 .f32) :
    setRows 768 (k0_pay2 (AL T Wo (nxt c))) (setRows 512 (k0_pay1 (AR T Wo (prv c)))
      (setRows 256 (outPay (SL2 T (nxt c)) (rowsAt (T c) (256 * (2 * ((c.val + 1) % 4) + 1))) (Wo c))
        (setRows 0 (outPay (SR2 T (prv c)) (rowsAt (T c) (256 * (2 * ((c.val + 1) % 4)))) (Wo c)) f))) = outAt T Wo c := funext fun p => by
  have h0 : (p 0).val < 1024 := (p 0).isLt
  unfold setRows outAt
  by_cases a1 : (p 0).val < 256
  · rw [if_neg (by omega), if_neg (by omega), if_neg (by omega), if_pos (by omega), if_pos a1]; rfl
  by_cases a2 : (p 0).val < 512
  · rw [if_neg (by omega), if_neg (by omega), if_pos (by omega), if_neg a1, if_pos a2]
  by_cases a3 : (p 0).val < 768
  · rw [if_neg (by omega), if_pos (by omega), if_neg a1, if_neg a2, if_pos a3]
  · rw [if_pos (by omega), if_neg a1, if_neg a2, if_neg a3]

theorem updateSlice_rows (r : ℕ) (hr : r ≤ 768) (f : FVec F S1024x1024 .f32) (v : FVec F S256x1024 .f32) (h : S1024x1024.Slices ![r, 0] S256x1024) :
    updateSlice f v ![r, 0] h = setRows r v f := funext fun p => by
  have h0 : (p 0).val < 1024 := (p 0).isLt
  have h1 : (p 1).val < 1024 := (p 1).isLt
  unfold updateSlice setRows
  by_cases hp : r ≤ (p 0).val ∧ (p 0).val < r + 256
  · have hin : ∀ a : Fin S1024x1024.rank, ![r, 0] a ≤ (p a).val ∧ (p a).val < ![r, 0] a + S256x1024.size (a.cast h.1.symm) := by
      intro a
      fin_cases a
      · exact hp
      · exact ⟨Nat.zero_le _, by show (p 1).val < 0 + 1024; omega⟩
    rw [dif_pos hin, if_pos hp]
    refine congrArg v ?_
    symm
    refine i2_eq _ ?_ ?_
    · show ((p 0).val - r) % 256 = (p 0).val - r; omega
    · show (p 1).val % 1024 = (p 1).val - 0; omega
  · rw [dif_neg fun hin => hp (hin 0), if_neg hp]

theorem store_out (c : Dev nD) (f : FVec F S1024x1024 .f32) (v : FVec F S256x1024 .f32) (r : ℕ) (hr : r ≤ 768)
    {hi : ∀ a, ![r, 0] a + S256x1024.size a ≤ S1024x1024.size a}
    {hx : (outB.access (Rect.unit (s := S1024x1024) ![r, 0] S256x1024.size hi)).Stores Finset.univ} {hm} {k : BProg F} {Q : PUnit → sProp (MM F)} :
    pts c cc0_stg0_0 f ⊢ iprop((pts c cc0_stg0_0 (setRows r v f) -∗ wpB c k Q)
      -∗ wpB c (.op (.store outB (Rect.unit (s := S1024x1024) ![r, 0] S256x1024.size hi) v Finset.univ hx hm) fun _ => k) Q) := by
  iintro H Hk
  iapply (wp_store 𝒱₀ (c : Thread nD τ) none Set.univ (m := outB) (r := Rect.unit (s := S1024x1024) ![r, 0] S256x1024.size hi) (Mk := Finset.univ) (Finset.subset_univ _)) $$ H; iintro H
  ihave H := (Entails.of_eq (congrArg (pts c cc0_stg0_0) (View.write_whole_slice_unit cc0_stg0_0 _ S256x1024.size hi f _))) $$ H
  ihave H := (Entails.of_eq (congrArg (pts c cc0_stg0_0) (updateSlice_rows r hr f v ⟨rfl, hi⟩))) $$ H
  iapply Hk; iexact H

theorem slotReadG_eq {s : ℕ} {f : FVec F S2x256x1024 .bf16} {v : FVec F S1x256x1024 .bf16} (h : SlotG s f v) : slotReadG s f = v := funext fun p => h p

set_option maxHeartbeats 2000000 in
/-- The last hop and the output. -/
theorem finish_spec (c : Dev nD) (S : ℕ → ℕ → Prop) (h1 : ∀ y, y < 8 → S (2 * ((c.val + 1) % 4)) y) (h2 : ∀ y, y < 8 → S (2 * ((c.val + 1) % 4) + 1) y) {Q : PUnit → sProp (MM F)} :
    iprop(ctx T Wo K ∗ accAt c (T c) S ∗ owesE c (O7 c) ∗ slotIs c rbr0 0 id (SR2 T (prv c)) ∗ slotIs c rbl0 0 id (SL2 T (nxt c)) ∗ pts c cc0_scratch5 (Wo c) ∗ slotAny c agr0 ∗ slotAny c agl0 ∗ slotAny (nxt c) agr1 ∗ slotAny (prv c) agl1 ∗ (∃ f, pts c cc0_stg0_0 f) ∗ dutyTok ER (kcell (c, 5)) 0 false ∗ dutyTok ER (kcell (nxt c, 11)) 0 false ∗ dutyTok ER (kcell (c, 6)) 0 false ∗ dutyTok ER (kcell (prv c, 12)) 0 false ∗ cred (tallyAt (kcell (c, 11)) false (amt 11)) ∗ cred (tallyAt (kcell (c, 12)) false (amt 12)) ∗ atPos ER (kcell (c, 5)) 0 ∅ 0 ∗ atPos ER (kcell (c, 6)) 0 ∅ 0 ∗ atPos ER (kcell (c, 11)) 0 ∅ 0 ∗ atPos ER (kcell (c, 12)) 0 ∅ 0)
      ⊢ iprop(((accAt c (T c) S ∗ owesE c 0 ∗ pts c cc0_scratch5 (Wo c) ∗ pts c cc0_stg0_0 (outAt T Wo c) ∗ atPos ER (kcell (c, 5)) 1 ∅ 0 ∗ atPos ER (kcell (c, 6)) 1 ∅ 0 ∗ atPos ER (kcell (c, 11)) 1 ∅ 0 ∗ atPos ER (kcell (c, 12)) 1 ∅ 0 ∗ slotAny c agr0 ∗ slotAny c agl0 ∗ slotAny c rbr0 ∗ slotAny c rbl0 ∗ slotAny c agr1 ∗ slotAny c agl1) -∗ |={Set.univ}=> Q ⟨⟩)
          -∗ wpB c (finish c) Q) := by
  have hc : c.val < 4 := c.isLt
  unfold finish
  unfold slotIs slotAny
  iintro ⟨#Hctx, HA, HO, ⟨%g7, Hr, %h7⟩, ⟨%g9, Hl, %h9⟩, HW, ⟨%f1, Hs1⟩, ⟨%f2, Hs2⟩, ⟨%f3, Hd1⟩, ⟨%f4, Hd2⟩, ⟨%f5, Ho⟩, T5, T11, T6, T12, C11, C12, A5, A6, A11, A12⟩ Hk
  have hw : woB.view.readAt (Elt F) (Rect.unit (s := S1024x1024) ![0, 0] S1024x1024.size inb_S1024x1024_S1024x1024_0_0).toLoadRect (Wo c) = Wo c :=
    Memref.readAt_unit_zero (Elt F) cc0_scratch5 hz2 _ (Wo c)
  iapply (load_rbr0 c g7) $$ Hr; iintro Hr
  iapply (load_acc c (T c) S (2 * ((c.val + 1) % 4)) (by omega) (off66c c) h1) $$ HA; iintro %a1 ⟨HA, %ha1⟩
  iapply (wp_load 𝒱₀ (c : Thread nD τ) none Set.univ (m := woB) (Finset.subset_univ _)) $$ HW; iintro HW
  rw [hw]
  have ev1 := agPay_congr (slotRead_eq h7) ha1 (Wo c)
  have eo1 : outPay (slotRead 0 g7) a1 (Wo c) = outPay (SR2 T (prv c)) (rowsAt (T c) (256 * (2 * ((c.val + 1) % 4)))) (Wo c) := outPay_congr (slotRead_eq h7) ha1 (Wo c)
  iapply (load_agr0 c f1) $$ Hs1; iintro Hs1
  iapply (store_agr0 c f1 _) $$ Hs1; iintro ⟨%g1, Hs1, %hg1⟩
  have hv1 : SlotG 0 g1 (AR T Wo c) := fun p => (hg1 p).trans (congrFun ev1 p)
  iapply (send_cell T Wo K c (nxt c) _ (dev9_eq c) (src := agr0) (dst := agr1) 5 11 rfl rfl 0 0 (by decide) (by decide) (by decide) (by decide) rfl rfl false false g1 f3
    iprop(emp) (O₁ := O7 c) (O := O8 c) rfl (to_slotAny c (m := agr0) g1) (deliv_AR T Wo c g1 f3 hv1)) $$ [Hs1 Hd1  HO T5 T11  ]
  · isplitr; · iexact Hctx
    isplitl [Hs1]; · iexact Hs1
    isplitl [Hd1 ]
    · isplitl [Hd1]; · iexact Hd1
      iempintro
    isplitl [HO]; · iexact HO
    isplitl [T5]; · iexact T5
    isplitr; · iapply (ctx_reached T Wo K c 5); iexact Hctx
    isplitl [T11]; · iexact T11
    iapply (ctx_reached T Wo K (nxt c) 11); iexact Hctx
  iintro ⟨C5, HO⟩
  iapply (load_rbl0 c g9) $$ Hl; iintro Hl
  iapply (load_acc c (T c) S (2 * ((c.val + 1) % 4) + 1) (by omega) (off66d c) h2) $$ HA; iintro %a2 ⟨HA, %ha2⟩
  iapply (wp_load 𝒱₀ (c : Thread nD τ) none Set.univ (m := woB) (Finset.subset_univ _)) $$ HW; iintro HW
  rw [hw]
  have ev2 := agPay_congr (slotRead_eq h9) ha2 (Wo c)
  have eo2 : outPay (slotRead 0 g9) a2 (Wo c) = outPay (SL2 T (nxt c)) (rowsAt (T c) (256 * (2 * ((c.val + 1) % 4) + 1))) (Wo c) := outPay_congr (slotRead_eq h9) ha2 (Wo c)
  iapply (load_agl0 c f2) $$ Hs2; iintro Hs2
  iapply (store_agl0 c f2 _) $$ Hs2; iintro ⟨%g2, Hs2, %hg2⟩
  have hv2 : SlotG 0 g2 (AL T Wo c) := fun p => (hg2 p).trans (congrFun ev2 p)
  iapply (send_cell T Wo K c (prv c) _ (dev10_eq c) (src := agl0) (dst := agl1) 6 12 rfl rfl 0 0 (by decide) (by decide) (by decide) (by decide) rfl rfl false false g2 f4
    iprop(emp) (O₁ := O8 c) (O := 0) (zero_add _).symm (to_slotAny c (m := agl0) g2) (deliv_AL T Wo c g2 f4 hv2)) $$ [Hs2 Hd2  HO T6 T12  ]
  · isplitr; · iexact Hctx
    isplitl [Hs2]; · iexact Hs2
    isplitl [Hd2 ]
    · isplitl [Hd2]; · iexact Hd2
      iempintro
    isplitl [HO]; · iexact HO
    isplitl [T6]; · iexact T6
    isplitr; · iapply (ctx_reached T Wo K c 6); iexact Hctx
    isplitl [T12]; · iexact T12
    iapply (ctx_reached T Wo K (prv c) 12); iexact Hctx
  iintro ⟨C6, HO⟩
  iapply (wp_load 𝒱₀ (c : Thread nD τ) none Set.univ (m := outB) (Finset.subset_univ _)) $$ Ho; iintro Ho
  iapply (store_out c f5 _ 0 (by decide)) $$ Ho; iintro Ho
  iapply (wp_load 𝒱₀ (c : Thread nD τ) none Set.univ (m := outB) (Finset.subset_univ _)) $$ Ho; iintro Ho
  iapply (store_out c _ _ 256 (by decide)) $$ Ho; iintro Ho
  iapply (wait_dma T Wo K c 5 (by decide) 0 (by decide) false 0 0 (by decide) (above_zero _) ss4 agr1 agr0 rfl rfl) $$ [C5 HO A5]
  · isplitr; · iexact Hctx
    isplitl [C5]; · iexact C5
    isplitl [HO]; · iexact HO
    iexact A5
  iintro ⟨HO, A5, -, P5⟩
  ihave P5 := (Entails.of_eq (show pay T Wo c 5 0 false = slotAny c agr0 from rfl)) $$ P5
  iapply (wait_dma T Wo K c 11 (by decide) 0 (by decide) false 0 5 (by decide) (above_zero _) rs5 agr0 agr1 rfl rfl) $$ [C11 HO A11]
  · isplitr; · iexact Hctx
    isplitl [C11]; · iexact C11
    isplitl [HO]; · iexact HO
    iexact A11
  iintro ⟨HO, A11, -, P11⟩
  iapply (wait_dma T Wo K c 6 (by decide) 0 (by decide) false 0 0 (by decide) (above_zero _) ss6 agl1 agl0 rfl rfl) $$ [C6 HO A6]
  · isplitr; · iexact Hctx
    isplitl [C6]; · iexact C6
    isplitl [HO]; · iexact HO
    iexact A6
  iintro ⟨HO, A6, -, P6⟩
  ihave P6 := (Entails.of_eq (show pay T Wo c 6 0 false = slotAny c agl0 from rfl)) $$ P6
  iapply (wait_dma T Wo K c 12 (by decide) 0 (by decide) false 0 5 (by decide) (above_zero _) rs7 agl0 agl1 rfl rfl) $$ [C12 HO A12]
  · isplitr; · iexact Hctx
    isplitl [C12]; · iexact C12
    isplitl [HO]; · iexact HO
    iexact A12
  iintro ⟨HO, A12, -, P12⟩
  ihave P11 := (Entails.of_eq (show pay T Wo c 11 0 false = slotIsG c agr1 1 id (AR T Wo (prv c)) from rfl)) $$ P11
  ihave P12 := (Entails.of_eq (show pay T Wo c 12 0 false = slotIsG c agl1 1 id (AL T Wo (nxt c)) from rfl)) $$ P12
  unfold slotIsG
  icases P11 with ⟨%g11, Q1, %h11⟩
  icases P12 with ⟨%g12, Q2, %h12⟩
  have er1 : slotReadG 1 g11 = AR T Wo (prv c) := slotReadG_eq h11
  have er2 : slotReadG 1 g12 = AL T Wo (nxt c) := slotReadG_eq h12
  iapply (load_agr1 c g11) $$ Q1; iintro Q1
  iapply (wp_load 𝒱₀ (c : Thread nD τ) none Set.univ (m := outB) (Finset.subset_univ _)) $$ Ho; iintro Ho
  iapply (store_out c _ _ 512 (by decide)) $$ Ho; iintro Ho
  iapply (load_agl1 c g12) $$ Q2; iintro Q2
  iapply (wp_load 𝒱₀ (c : Thread nD τ) none Set.univ (m := outB) (Finset.subset_univ _)) $$ Ho; iintro Ho
  iapply (store_out c _ _ 768 (by decide)) $$ Ho; iintro Ho
  rw [er1, er2, eo1, eo2, setRows_all T Wo c f5]
  unfold wpB; rw [wp_ret]
  iapply Hk
  (try unfold slotAny)
  isplitl [HA]; · iexact HA
  isplitl [HO]; · iexact HO
  isplitl [HW]; · iexact HW
  isplitl [Ho]; · iexact Ho
  isplitl [A5]; · iexact A5
  isplitl [A6]; · iexact A6
  isplitl [A11]; · iexact A11
  isplitl [A12]; · iexact A12
  isplitl [P5]; · iexact P5
  isplitl [P6]; · iexact P6
  isplitl [Hr]; · iexists g7; iexact Hr
  isplitl [Hl]; · iexists g9; iexact Hl
  isplitl [Q1]; · iexists g11; iexact Q1
  iexists g12; iexact Q2

end Cert.KernelIdeal.Run

end
-- ==== Proof.Run.Attn.lean ====
module

public import proofs.«01_k».proof.Proof.Run.Steps

@[expose] public section

/-! The six stretches of attention a device computes, eight heads each. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem off2 {o : Fin 2 → ℕ} {x y x' y' : ℕ} (h : o = ![x, y]) (hx : x = x') (hy : y = y') : o = ![x', y'] := by
  rw [h, hx, hy]

/-- Eight heads of its own chunk, the first half. -/
theorem attn0_spec (c : Dev nD) (Q K V : FVec F S2048x1024 .bf16) (S : ℕ → ℕ → Prop) {k : BProg F} {P : PUnit → sProp (MM F)} :
    iprop(pts c cc0_scratch7 Q ∗ pts c cc0_scratch8 K ∗ pts c cc0_scratch9 V ∗ accAt c (accv c.val Q K V) S)
      ⊢ iprop(((pts c cc0_scratch7 Q ∗ pts c cc0_scratch8 K ∗ pts c cc0_scratch9 V ∗ accAt c (accv c.val Q K V) (fun x y => x = 2 * c.val ∨ S x y)) -∗ wpB c k P)
          -∗ wpB c (attn0 c k) P) := by
  have hc : c.val < 4 := c.isLt
  have hp : ((2 * c.val) / 2 + c.val) % 2 = 0 := by omega
  unfold attn0
  iintro H Hk
  have e00 : k0_off1 c 0#32 = ![256 * (2 * c.val), 128 * 0] :=
    off2 (k0_off1_eq c ⟨0, by decide⟩) (by (try dsimp only) <;> omega) (by omega)
  have e01 : k0_off2 c = ![512 * ((2 * c.val) / 2), 128 * 0] :=
    off2 (k0_off2_eq c) (by (try dsimp only) <;> omega) (by omega)
  have e02 : k0_off3 c 0#32 = ![256 * (2 * c.val), 1024 + 0] :=
    off2 (k0_off3_eq c ⟨0, by decide⟩) (by (try dsimp only) <;> omega) (by omega)
  have e03 : k0_off4 c 0#32 = ![256 * (2 * c.val), 128 * 0] :=
    off2 (k0_off4_eq c ⟨0, by decide⟩) (by (try dsimp only) <;> omega) (by omega)
  iapply (head256_step c Q K V _ (2 * c.val) 0 (by omega) (by omega) hp e00 e01 e02 e03) $$ H
  iintro H
  have e10 : k0_off5 c 0#32 = ![256 * (2 * c.val), 128 * 1] :=
    off2 (k0_off5_eq c ⟨0, by decide⟩) (by (try dsimp only) <;> omega) (by omega)
  have e11 : k0_off6 c = ![512 * ((2 * c.val) / 2), 128 * 1] :=
    off2 (k0_off6_eq c) (by (try dsimp only) <;> omega) (by omega)
  have e12 : k0_off7 c 0#32 = ![256 * (2 * c.val), 1024 + 1] :=
    off2 (k0_off7_eq c ⟨0, by decide⟩) (by (try dsimp only) <;> omega) (by omega)
  have e13 : k0_off8 c 0#32 = ![256 * (2 * c.val), 128 * 1] :=
    off2 (k0_off8_eq c ⟨0, by decide⟩) (by (try dsimp only) <;> omega) (by omega)
  iapply (head256_step c Q K V _ (2 * c.val) 1 (by omega) (by omega) hp e10 e11 e12 e13) $$ H
  iintro H
  have e20 : k0_off9 c 0#32 = ![256 * (2 * c.val), 128 * 2] :=
    off2 (k0_off9_eq c ⟨0, by decide⟩) (by (try dsimp only) <;> omega) (by omega)
  have e21 : k0_off10 c = ![512 * ((2 * c.val) / 2), 128 * 2] :=
    off2 (k0_off10_eq c) (by (try dsimp only) <;> omega) (by omega)
  have e22 : k0_off11 c 0#32 = ![256 * (2 * c.val), 1024 + 2] :=
    off2 (k0_off11_eq c ⟨0, by decide⟩) (by (try dsimp only) <;> omega) (by omega)
  have e23 : k0_off12 c 0#32 = ![256 * (2 * c.val), 128 * 2] :=
    off2 (k0_off12_eq c ⟨0, by decide⟩) (by (try dsimp only) <;> omega) (by omega)
  iapply (head256_step c Q K V _ (2 * c.val) 2 (by omega) (by omega) hp e20 e21 e22 e23) $$ H
  iintro H
  have e30 : k0_off13 c 0#32 = ![256 * (2 * c.val), 128 * 3] :=
    off2 (k0_off13_eq c ⟨0, by decide⟩) (by (try dsimp only) <;> omega) (by omega)
  have e31 : k0_off14 c = ![512 * ((2 * c.val) / 2), 128 * 3] :=
    off2 (k0_off14_eq c) (by (try dsimp only) <;> omega) (by omega)
  have e32 : k0_off15 c 0#32 = ![256 * (2 * c.val), 1024 + 3] :=
    off2 (k0_off15_eq c ⟨0, by decide⟩) (by (try dsimp only) <;> omega) (by omega)
  have e33 : k0_off16 c 0#32 = ![256 * (2 * c.val), 128 * 3] :=
    off2 (k0_off16_eq c ⟨0, by decide⟩) (by (try dsimp only) <;> omega) (by omega)
  iapply (head256_step c Q K V _ (2 * c.val) 3 (by omega) (by omega) hp e30 e31 e32 e33) $$ H
  iintro H
  have e40 : k0_off17 c 0#32 = ![256 * (2 * c.val), 128 * 4] :=
    off2 (k0_off17_eq c ⟨0, by decide⟩) (by (try dsimp only) <;> omega) (by omega)
  have e41 : k0_off18 c = ![512 * ((2 * c.val) / 2), 128 * 4] :=
    off2 (k0_off18_eq c) (by (try dsimp only) <;> omega) (by omega)
  have e42 : k0_off19 c 0#32 = ![256 * (2 * c.val), 1024 + 4] :=
    off2 (k0_off19_eq c ⟨0, by decide⟩) (by (try dsimp only) <;> omega) (by omega)
  have e43 : k0_off20 c 0#32 = ![256 * (2 * c.val), 128 * 4] :=
    off2 (k0_off20_eq c ⟨0, by decide⟩) (by (try dsimp only) <;> omega) (by omega)
  iapply (head256_step c Q K V _ (2 * c.val) 4 (by omega) (by omega) hp e40 e41 e42 e43) $$ H
  iintro H
  have e50 : k0_off21 c 0#32 = ![256 * (2 * c.val), 128 * 5] :=
    off2 (k0_off21_eq c ⟨0, by decide⟩) (by (try dsimp only) <;> omega) (by omega)
  have e51 : k0_off22 c = ![512 * ((2 * c.val) / 2), 128 * 5] :=
    off2 (k0_off22_eq c) (by (try dsimp only) <;> omega) (by omega)
  have e52 : k0_off23 c 0#32 = ![256 * (2 * c.val), 1024 + 5] :=
    off2 (k0_off23_eq c ⟨0, by decide⟩) (by (try dsimp only) <;> omega) (by omega)
  have e53 : k0_off24 c 0#32 = ![256 * (2 * c.val), 128 * 5] :=
    off2 (k0_off24_eq c ⟨0, by decide⟩) (by (try dsimp only) <;> omega) (by omega)
  iapply (head256_step c Q K V _ (2 * c.val) 5 (by omega) (by omega) hp e50 e51 e52 e53) $$ H
  iintro H
  have e60 : k0_off25 c 0#32 = ![256 * (2 * c.val), 128 * 6] :=
    off2 (k0_off25_eq c ⟨0, by decide⟩) (by (try dsimp only) <;> omega) (by omega)
  have e61 : k0_off26 c = ![512 * ((2 * c.val) / 2), 128 * 6] :=
    off2 (k0_off26_eq c) (by (try dsimp only) <;> omega) (by omega)
  have e62 : k0_off27 c 0#32 = ![256 * (2 * c.val), 1024 + 6] :=
    off2 (k0_off27_eq c ⟨0, by decide⟩) (by (try dsimp only) <;> omega) (by omega)
  have e63 : k0_off28 c 0#32 = ![256 * (2 * c.val), 128 * 6] :=
    off2 (k0_off28_eq c ⟨0, by decide⟩) (by (try dsimp only) <;> omega) (by omega)
  iapply (head256_step c Q K V _ (2 * c.val) 6 (by omega) (by omega) hp e60 e61 e62 e63) $$ H
  iintro H
  have e70 : k0_off29 c 0#32 = ![256 * (2 * c.val), 128 * 7] :=
    off2 (k0_off29_eq c ⟨0, by decide⟩) (by (try dsimp only) <;> omega) (by omega)
  have e71 : k0_off30 c = ![512 * ((2 * c.val) / 2), 128 * 7] :=
    off2 (k0_off30_eq c) (by (try dsimp only) <;> omega) (by omega)
  have e72 : k0_off31 c 0#32 = ![256 * (2 * c.val), 1024 + 7] :=
    off2 (k0_off31_eq c ⟨0, by decide⟩) (by (try dsimp only) <;> omega) (by omega)
  have e73 : k0_off32 c 0#32 = ![256 * (2 * c.val), 128 * 7] :=
    off2 (k0_off32_eq c ⟨0, by decide⟩) (by (try dsimp only) <;> omega) (by omega)
  iapply (head256_step c Q K V _ (2 * c.val) 7 (by omega) (by omega) hp e70 e71 e72 e73) $$ H
  iintro H
  icases H with ⟨HQ, HK, HV, HA⟩
  iapply Hk
  isplitl [HQ]; · iexact HQ
  isplitl [HK]; · iexact HK
  isplitl [HV]; · iexact HV
  iapply (accAt_mono ?_) $$ HA
  intro x y hx hy h
  rcases h with h | h
  · interval_cases y <;> simp [h]
  · simp [h]

/-- Eight heads of the chunk two places on, the second half. -/
theorem attn1_spec (c : Dev nD) (Q K V : FVec F S2048x1024 .bf16) (S : ℕ → ℕ → Prop) {k : BProg F} {P : PUnit → sProp (MM F)} :
    iprop(pts c cc0_scratch7 Q ∗ pts c cc0_scratch8 K ∗ pts c cc0_scratch9 V ∗ accAt c (accv c.val Q K V) S)
      ⊢ iprop(((pts c cc0_scratch7 Q ∗ pts c cc0_scratch8 K ∗ pts c cc0_scratch9 V ∗ accAt c (accv c.val Q K V) (fun x y => x = 2 * ((c.val + 2) % 4) + 1 ∨ S x y)) -∗ wpB c k P)
          -∗ wpB c (attn1 c k) P) := by
  have hc : c.val < 4 := c.isLt
  have hp : ((2 * ((c.val + 2) % 4) + 1) / 2 + c.val) % 2 = 0 := by omega
  unfold attn1
  iintro H Hk
  have e00 : k0_off33 c 256#32 = ![256 * (2 * ((c.val + 2) % 4) + 1), 128 * 0] :=
    off2 (k0_off33_eq c ⟨1, by decide⟩) (by (try dsimp only) <;> omega) (by omega)
  have e01 : k0_off34 c 2#32 = ![512 * ((2 * ((c.val + 2) % 4) + 1) / 2), 128 * 0] :=
    off2 (k0_off34_eq c ⟨1, by decide⟩) (by (try dsimp only) <;> omega) (by omega)
  have e02 : k0_off35 c 256#32 = ![256 * (2 * ((c.val + 2) % 4) + 1), 1024 + 0] :=
    off2 (k0_off35_eq c ⟨1, by decide⟩) (by (try dsimp only) <;> omega) (by omega)
  have e03 : k0_off36 c 256#32 = ![256 * (2 * ((c.val + 2) % 4) + 1), 128 * 0] :=
    off2 (k0_off36_eq c ⟨1, by decide⟩) (by (try dsimp only) <;> omega) (by omega)
  iapply (head256_step c Q K V _ (2 * ((c.val + 2) % 4) + 1) 0 (by omega) (by omega) hp e00 e01 e02 e03) $$ H
  iintro H
  have e10 : k0_off37 c 256#32 = ![256 * (2 * ((c.val + 2) % 4) + 1), 128 * 1] :=
    off2 (k0_off37_eq c ⟨1, by decide⟩) (by (try dsimp only) <;> omega) (by omega)
  have e11 : k0_off38 c 2#32 = ![512 * ((2 * ((c.val + 2) % 4) + 1) / 2), 128 * 1] :=
    off2 (k0_off38_eq c ⟨1, by decide⟩) (by (try dsimp only) <;> omega) (by omega)
  have e12 : k0_off39 c 256#32 = ![256 * (2 * ((c.val + 2) % 4) + 1), 1024 + 1] :=
    off2 (k0_off39_eq c ⟨1, by decide⟩) (by (try dsimp only) <;> omega) (by omega)
  have e13 : k0_off40 c 256#32 = ![256 * (2 * ((c.val + 2) % 4) + 1), 128 * 1] :=
    off2 (k0_off40_eq c ⟨1, by decide⟩) (by (try dsimp only) <;> omega) (by omega)
  iapply (head256_step c Q K V _ (2 * ((c.val + 2) % 4) + 1) 1 (by omega) (by omega) hp e10 e11 e12 e13) $$ H
  iintro H
  have e20 : k0_off41 c 256#32 = ![256 * (2 * ((c.val + 2) % 4) + 1), 128 * 2] :=
    off2 (k0_off41_eq c ⟨1, by decide⟩) (by (try dsimp only) <;> omega) (by omega)
  have e21 : k0_off42 c 2#32 = ![512 * ((2 * ((c.val + 2) % 4) + 1) / 2), 128 * 2] :=
    off2 (k0_off42_eq c ⟨1, by decide⟩) (by (try dsimp only) <;> omega) (by omega)
  have e22 : k0_off43 c 256#32 = ![256 * (2 * ((c.val + 2) % 4) + 1), 1024 + 2] :=
    off2 (k0_off43_eq c ⟨1, by decide⟩) (by (try dsimp only) <;> omega) (by omega)
  have e23 : k0_off44 c 256#32 = ![256 * (2 * ((c.val + 2) % 4) + 1), 128 * 2] :=
    off2 (k0_off44_eq c ⟨1, by decide⟩) (by (try dsimp only) <;> omega) (by omega)
  iapply (head256_step c Q K V _ (2 * ((c.val + 2) % 4) + 1) 2 (by omega) (by omega) hp e20 e21 e22 e23) $$ H
  iintro H
  have e30 : k0_off45 c 256#32 = ![256 * (2 * ((c.val + 2) % 4) + 1), 128 * 3] :=
    off2 (k0_off45_eq c ⟨1, by decide⟩) (by (try dsimp only) <;> omega) (by omega)
  have e31 : k0_off46 c 2#32 = ![512 * ((2 * ((c.val + 2) % 4) + 1) / 2), 128 * 3] :=
    off2 (k0_off46_eq c ⟨1, by decide⟩) (by (try dsimp only) <;> omega) (by omega)
  have e32 : k0_off47 c 256#32 = ![256 * (2 * ((c.val + 2) % 4) + 1), 1024 + 3] :=
    off2 (k0_off47_eq c ⟨1, by decide⟩) (by (try dsimp only) <;> omega) (by omega)
  have e33 : k0_off48 c 256#32 = ![256 * (2 * ((c.val + 2) % 4) + 1), 128 * 3] :=
    off2 (k0_off48_eq c ⟨1, by decide⟩) (by (try dsimp only) <;> omega) (by omega)
  iapply (head256_step c Q K V _ (2 * ((c.val + 2) % 4) + 1) 3 (by omega) (by omega) hp e30 e31 e32 e33) $$ H
  iintro H
  have e40 : k0_off49 c 256#32 = ![256 * (2 * ((c.val + 2) % 4) + 1), 128 * 4] :=
    off2 (k0_off49_eq c ⟨1, by decide⟩) (by (try dsimp only) <;> omega) (by omega)
  have e41 : k0_off50 c 2#32 = ![512 * ((2 * ((c.val + 2) % 4) + 1) / 2), 128 * 4] :=
    off2 (k0_off50_eq c ⟨1, by decide⟩) (by (try dsimp only) <;> omega) (by omega)
  have e42 : k0_off51 c 256#32 = ![256 * (2 * ((c.val + 2) % 4) + 1), 1024 + 4] :=
    off2 (k0_off51_eq c ⟨1, by decide⟩) (by (try dsimp only) <;> omega) (by omega)
  have e43 : k0_off52 c 256#32 = ![256 * (2 * ((c.val + 2) % 4) + 1), 128 * 4] :=
    off2 (k0_off52_eq c ⟨1, by decide⟩) (by (try dsimp only) <;> omega) (by omega)
  iapply (head256_step c Q K V _ (2 * ((c.val + 2) % 4) + 1) 4 (by omega) (by omega) hp e40 e41 e42 e43) $$ H
  iintro H
  have e50 : k0_off53 c 256#32 = ![256 * (2 * ((c.val + 2) % 4) + 1), 128 * 5] :=
    off2 (k0_off53_eq c ⟨1, by decide⟩) (by (try dsimp only) <;> omega) (by omega)
  have e51 : k0_off54 c 2#32 = ![512 * ((2 * ((c.val + 2) % 4) + 1) / 2), 128 * 5] :=
    off2 (k0_off54_eq c ⟨1, by decide⟩) (by (try dsimp only) <;> omega) (by omega)
  have e52 : k0_off55 c 256#32 = ![256 * (2 * ((c.val + 2) % 4) + 1), 1024 + 5] :=
    off2 (k0_off55_eq c ⟨1, by decide⟩) (by (try dsimp only) <;> omega) (by omega)
  have e53 : k0_off56 c 256#32 = ![256 * (2 * ((c.val + 2) % 4) + 1), 128 * 5] :=
    off2 (k0_off56_eq c ⟨1, by decide⟩) (by (try dsimp only) <;> omega) (by omega)
  iapply (head256_step c Q K V _ (2 * ((c.val + 2) % 4) + 1) 5 (by omega) (by omega) hp e50 e51 e52 e53) $$ H
  iintro H
  have e60 : k0_off57 c 256#32 = ![256 * (2 * ((c.val + 2) % 4) + 1), 128 * 6] :=
    off2 (k0_off57_eq c ⟨1, by decide⟩) (by (try dsimp only) <;> omega) (by omega)
  have e61 : k0_off58 c 2#32 = ![512 * ((2 * ((c.val + 2) % 4) + 1) / 2), 128 * 6] :=
    off2 (k0_off58_eq c ⟨1, by decide⟩) (by (try dsimp only) <;> omega) (by omega)
  have e62 : k0_off59 c 256#32 = ![256 * (2 * ((c.val + 2) % 4) + 1), 1024 + 6] :=
    off2 (k0_off59_eq c ⟨1, by decide⟩) (by (try dsimp only) <;> omega) (by omega)
  have e63 : k0_off60 c 256#32 = ![256 * (2 * ((c.val + 2) % 4) + 1), 128 * 6] :=
    off2 (k0_off60_eq c ⟨1, by decide⟩) (by (try dsimp only) <;> omega) (by omega)
  iapply (head256_step c Q K V _ (2 * ((c.val + 2) % 4) + 1) 6 (by omega) (by omega) hp e60 e61 e62 e63) $$ H
  iintro H
  have e70 : k0_off61 c 256#32 = ![256 * (2 * ((c.val + 2) % 4) + 1), 128 * 7] :=
    off2 (k0_off61_eq c ⟨1, by decide⟩) (by (try dsimp only) <;> omega) (by omega)
  have e71 : k0_off62 c 2#32 = ![512 * ((2 * ((c.val + 2) % 4) + 1) / 2), 128 * 7] :=
    off2 (k0_off62_eq c ⟨1, by decide⟩) (by (try dsimp only) <;> omega) (by omega)
  have e72 : k0_off63 c 256#32 = ![256 * (2 * ((c.val + 2) % 4) + 1), 1024 + 7] :=
    off2 (k0_off63_eq c ⟨1, by decide⟩) (by (try dsimp only) <;> omega) (by omega)
  have e73 : k0_off64 c 256#32 = ![256 * (2 * ((c.val + 2) % 4) + 1), 128 * 7] :=
    off2 (k0_off64_eq c ⟨1, by decide⟩) (by (try dsimp only) <;> omega) (by omega)
  iapply (head256_step c Q K V _ (2 * ((c.val + 2) % 4) + 1) 7 (by omega) (by omega) hp e70 e71 e72 e73) $$ H
  iintro H
  icases H with ⟨HQ, HK, HV, HA⟩
  iapply Hk
  isplitl [HQ]; · iexact HQ
  isplitl [HK]; · iexact HK
  isplitl [HV]; · iexact HV
  iapply (accAt_mono ?_) $$ HA
  intro x y hx hy h
  rcases h with h | h
  · interval_cases y <;> simp [h]
  · simp [h]

/-- Eight heads of its own chunk, the second half. -/
theorem attn2_spec (c : Dev nD) (Q K V : FVec F S2048x1024 .bf16) (S : ℕ → ℕ → Prop) {k : BProg F} {P : PUnit → sProp (MM F)} :
    iprop(pts c cc0_scratch7 Q ∗ pts c cc0_scratch8 K ∗ pts c cc0_scratch9 V ∗ accAt c (accv c.val Q K V) S)
      ⊢ iprop(((pts c cc0_scratch7 Q ∗ pts c cc0_scratch8 K ∗ pts c cc0_scratch9 V ∗ accAt c (accv c.val Q K V) (fun x y => x = 2 * c.val + 1 ∨ S x y)) -∗ wpB c k P)
          -∗ wpB c (attn2 c k) P) := by
  have hc : c.val < 4 := c.isLt
  have hp : ((2 * c.val + 1) / 2 + c.val) % 2 = 0 := by omega
  unfold attn2
  iintro H Hk
  have e00 : k0_off1 c 256#32 = ![256 * (2 * c.val + 1), 128 * 0] :=
    off2 (k0_off1_eq c ⟨1, by decide⟩) (by (try dsimp only) <;> omega) (by omega)
  have e01 : k0_off2 c = ![512 * ((2 * c.val + 1) / 2), 128 * 0] :=
    off2 (k0_off2_eq c) (by (try dsimp only) <;> omega) (by omega)
  have e02 : k0_off3 c 256#32 = ![256 * (2 * c.val + 1), 1024 + 0] :=
    off2 (k0_off3_eq c ⟨1, by decide⟩) (by (try dsimp only) <;> omega) (by omega)
  have e03 : k0_off4 c 256#32 = ![256 * (2 * c.val + 1), 128 * 0] :=
    off2 (k0_off4_eq c ⟨1, by decide⟩) (by (try dsimp only) <;> omega) (by omega)
  iapply (head256_step c Q K V _ (2 * c.val + 1) 0 (by omega) (by omega) hp e00 e01 e02 e03) $$ H
  iintro H
  have e10 : k0_off5 c 256#32 = ![256 * (2 * c.val + 1), 128 * 1] :=
    off2 (k0_off5_eq c ⟨1, by decide⟩) (by (try dsimp only) <;> omega) (by omega)
  have e11 : k0_off6 c = ![512 * ((2 * c.val + 1) / 2), 128 * 1] :=
    off2 (k0_off6_eq c) (by (try dsimp only) <;> omega) (by omega)
  have e12 : k0_off7 c 256#32 = ![256 * (2 * c.val + 1), 1024 + 1] :=
    off2 (k0_off7_eq c ⟨1, by decide⟩) (by (try dsimp only) <;> omega) (by omega)
  have e13 : k0_off8 c 256#32 = ![256 * (2 * c.val + 1), 128 * 1] :=
    off2 (k0_off8_eq c ⟨1, by decide⟩) (by (try dsimp only) <;> omega) (by omega)
  iapply (head256_step c Q K V _ (2 * c.val + 1) 1 (by omega) (by omega) hp e10 e11 e12 e13) $$ H
  iintro H
  have e20 : k0_off9 c 256#32 = ![256 * (2 * c.val + 1), 128 * 2] :=
    off2 (k0_off9_eq c ⟨1, by decide⟩) (by (try dsimp only) <;> omega) (by omega)
  have e21 : k0_off10 c = ![512 * ((2 * c.val + 1) / 2), 128 * 2] :=
    off2 (k0_off10_eq c) (by (try dsimp only) <;> omega) (by omega)
  have e22 : k0_off11 c 256#32 = ![256 * (2 * c.val + 1), 1024 + 2] :=
    off2 (k0_off11_eq c ⟨1, by decide⟩) (by (try dsimp only) <;> omega) (by omega)
  have e23 : k0_off12 c 256#32 = ![256 * (2 * c.val + 1), 128 * 2] :=
    off2 (k0_off12_eq c ⟨1, by decide⟩) (by (try dsimp only) <;> omega) (by omega)
  iapply (head256_step c Q K V _ (2 * c.val + 1) 2 (by omega) (by omega) hp e20 e21 e22 e23) $$ H
  iintro H
  have e30 : k0_off13 c 256#32 = ![256 * (2 * c.val + 1), 128 * 3] :=
    off2 (k0_off13_eq c ⟨1, by decide⟩) (by (try dsimp only) <;> omega) (by omega)
  have e31 : k0_off14 c = ![512 * ((2 * c.val + 1) / 2), 128 * 3] :=
    off2 (k0_off14_eq c) (by (try dsimp only) <;> omega) (by omega)
  have e32 : k0_off15 c 256#32 = ![256 * (2 * c.val + 1), 1024 + 3] :=
    off2 (k0_off15_eq c ⟨1, by decide⟩) (by (try dsimp only) <;> omega) (by omega)
  have e33 : k0_off16 c 256#32 = ![256 * (2 * c.val + 1), 128 * 3] :=
    off2 (k0_off16_eq c ⟨1, by decide⟩) (by (try dsimp only) <;> omega) (by omega)
  iapply (head256_step c Q K V _ (2 * c.val + 1) 3 (by omega) (by omega) hp e30 e31 e32 e33) $$ H
  iintro H
  have e40 : k0_off17 c 256#32 = ![256 * (2 * c.val + 1), 128 * 4] :=
    off2 (k0_off17_eq c ⟨1, by decide⟩) (by (try dsimp only) <;> omega) (by omega)
  have e41 : k0_off18 c = ![512 * ((2 * c.val + 1) / 2), 128 * 4] :=
    off2 (k0_off18_eq c) (by (try dsimp only) <;> omega) (by omega)
  have e42 : k0_off19 c 256#32 = ![256 * (2 * c.val + 1), 1024 + 4] :=
    off2 (k0_off19_eq c ⟨1, by decide⟩) (by (try dsimp only) <;> omega) (by omega)
  have e43 : k0_off20 c 256#32 = ![256 * (2 * c.val + 1), 128 * 4] :=
    off2 (k0_off20_eq c ⟨1, by decide⟩) (by (try dsimp only) <;> omega) (by omega)
  iapply (head256_step c Q K V _ (2 * c.val + 1) 4 (by omega) (by omega) hp e40 e41 e42 e43) $$ H
  iintro H
  have e50 : k0_off21 c 256#32 = ![256 * (2 * c.val + 1), 128 * 5] :=
    off2 (k0_off21_eq c ⟨1, by decide⟩) (by (try dsimp only) <;> omega) (by omega)
  have e51 : k0_off22 c = ![512 * ((2 * c.val + 1) / 2), 128 * 5] :=
    off2 (k0_off22_eq c) (by (try dsimp only) <;> omega) (by omega)
  have e52 : k0_off23 c 256#32 = ![256 * (2 * c.val + 1), 1024 + 5] :=
    off2 (k0_off23_eq c ⟨1, by decide⟩) (by (try dsimp only) <;> omega) (by omega)
  have e53 : k0_off24 c 256#32 = ![256 * (2 * c.val + 1), 128 * 5] :=
    off2 (k0_off24_eq c ⟨1, by decide⟩) (by (try dsimp only) <;> omega) (by omega)
  iapply (head256_step c Q K V _ (2 * c.val + 1) 5 (by omega) (by omega) hp e50 e51 e52 e53) $$ H
  iintro H
  have e60 : k0_off25 c 256#32 = ![256 * (2 * c.val + 1), 128 * 6] :=
    off2 (k0_off25_eq c ⟨1, by decide⟩) (by (try dsimp only) <;> omega) (by omega)
  have e61 : k0_off26 c = ![512 * ((2 * c.val + 1) / 2), 128 * 6] :=
    off2 (k0_off26_eq c) (by (try dsimp only) <;> omega) (by omega)
  have e62 : k0_off27 c 256#32 = ![256 * (2 * c.val + 1), 1024 + 6] :=
    off2 (k0_off27_eq c ⟨1, by decide⟩) (by (try dsimp only) <;> omega) (by omega)
  have e63 : k0_off28 c 256#32 = ![256 * (2 * c.val + 1), 128 * 6] :=
    off2 (k0_off28_eq c ⟨1, by decide⟩) (by (try dsimp only) <;> omega) (by omega)
  iapply (head256_step c Q K V _ (2 * c.val + 1) 6 (by omega) (by omega) hp e60 e61 e62 e63) $$ H
  iintro H
  have e70 : k0_off29 c 256#32 = ![256 * (2 * c.val + 1), 128 * 7] :=
    off2 (k0_off29_eq c ⟨1, by decide⟩) (by (try dsimp only) <;> omega) (by omega)
  have e71 : k0_off30 c = ![512 * ((2 * c.val + 1) / 2), 128 * 7] :=
    off2 (k0_off30_eq c) (by (try dsimp only) <;> omega) (by omega)
  have e72 : k0_off31 c 256#32 = ![256 * (2 * c.val + 1), 1024 + 7] :=
    off2 (k0_off31_eq c ⟨1, by decide⟩) (by (try dsimp only) <;> omega) (by omega)
  have e73 : k0_off32 c 256#32 = ![256 * (2 * c.val + 1), 128 * 7] :=
    off2 (k0_off32_eq c ⟨1, by decide⟩) (by (try dsimp only) <;> omega) (by omega)
  iapply (head256_step c Q K V _ (2 * c.val + 1) 7 (by omega) (by omega) hp e70 e71 e72 e73) $$ H
  iintro H
  icases H with ⟨HQ, HK, HV, HA⟩
  iapply Hk
  isplitl [HQ]; · iexact HQ
  isplitl [HK]; · iexact HK
  isplitl [HV]; · iexact HV
  iapply (accAt_mono ?_) $$ HA
  intro x y hx hy h
  rcases h with h | h
  · interval_cases y <;> simp [h]
  · simp [h]

/-- Eight heads of the chunk two places on, the first half. -/
theorem attn3_spec (c : Dev nD) (Q K V : FVec F S2048x1024 .bf16) (S : ℕ → ℕ → Prop) {k : BProg F} {P : PUnit → sProp (MM F)} :
    iprop(pts c cc0_scratch7 Q ∗ pts c cc0_scratch8 K ∗ pts c cc0_scratch9 V ∗ accAt c (accv c.val Q K V) S)
      ⊢ iprop(((pts c cc0_scratch7 Q ∗ pts c cc0_scratch8 K ∗ pts c cc0_scratch9 V ∗ accAt c (accv c.val Q K V) (fun x y => x = 2 * ((c.val + 2) % 4) ∨ S x y)) -∗ wpB c k P)
          -∗ wpB c (attn3 c k) P) := by
  have hc : c.val < 4 := c.isLt
  have hp : ((2 * ((c.val + 2) % 4)) / 2 + c.val) % 2 = 0 := by omega
  unfold attn3
  iintro H Hk
  have e00 : k0_off33 c 0#32 = ![256 * (2 * ((c.val + 2) % 4)), 128 * 0] :=
    off2 (k0_off33_eq c ⟨0, by decide⟩) (by (try dsimp only) <;> omega) (by omega)
  have e01 : k0_off34 c 2#32 = ![512 * ((2 * ((c.val + 2) % 4)) / 2), 128 * 0] :=
    off2 (k0_off34_eq c ⟨1, by decide⟩) (by (try dsimp only) <;> omega) (by omega)
  have e02 : k0_off35 c 0#32 = ![256 * (2 * ((c.val + 2) % 4)), 1024 + 0] :=
    off2 (k0_off35_eq c ⟨0, by decide⟩) (by (try dsimp only) <;> omega) (by omega)
  have e03 : k0_off36 c 0#32 = ![256 * (2 * ((c.val + 2) % 4)), 128 * 0] :=
    off2 (k0_off36_eq c ⟨0, by decide⟩) (by (try dsimp only) <;> omega) (by omega)
  iapply (head256_step c Q K V _ (2 * ((c.val + 2) % 4)) 0 (by omega) (by omega) hp e00 e01 e02 e03) $$ H
  iintro H
  have e10 : k0_off37 c 0#32 = ![256 * (2 * ((c.val + 2) % 4)), 128 * 1] :=
    off2 (k0_off37_eq c ⟨0, by decide⟩) (by (try dsimp only) <;> omega) (by omega)
  have e11 : k0_off38 c 2#32 = ![512 * ((2 * ((c.val + 2) % 4)) / 2), 128 * 1] :=
    off2 (k0_off38_eq c ⟨1, by decide⟩) (by (try dsimp only) <;> omega) (by omega)
  have e12 : k0_off39 c 0#32 = ![256 * (2 * ((c.val + 2) % 4)), 1024 + 1] :=
    off2 (k0_off39_eq c ⟨0, by decide⟩) (by (try dsimp only) <;> omega) (by omega)
  have e13 : k0_off40 c 0#32 = ![256 * (2 * ((c.val + 2) % 4)), 128 * 1] :=
    off2 (k0_off40_eq c ⟨0, by decide⟩) (by (try dsimp only) <;> omega) (by omega)
  iapply (head256_step c Q K V _ (2 * ((c.val + 2) % 4)) 1 (by omega) (by omega) hp e10 e11 e12 e13) $$ H
  iintro H
  have e20 : k0_off41 c 0#32 = ![256 * (2 * ((c.val + 2) % 4)), 128 * 2] :=
    off2 (k0_off41_eq c ⟨0, by decide⟩) (by (try dsimp only) <;> omega) (by omega)
  have e21 : k0_off42 c 2#32 = ![512 * ((2 * ((c.val + 2) % 4)) / 2), 128 * 2] :=
    off2 (k0_off42_eq c ⟨1, by decide⟩) (by (try dsimp only) <;> omega) (by omega)
  have e22 : k0_off43 c 0#32 = ![256 * (2 * ((c.val + 2) % 4)), 1024 + 2] :=
    off2 (k0_off43_eq c ⟨0, by decide⟩) (by (try dsimp only) <;> omega) (by omega)
  have e23 : k0_off44 c 0#32 = ![256 * (2 * ((c.val + 2) % 4)), 128 * 2] :=
    off2 (k0_off44_eq c ⟨0, by decide⟩) (by (try dsimp only) <;> omega) (by omega)
  iapply (head256_step c Q K V _ (2 * ((c.val + 2) % 4)) 2 (by omega) (by omega) hp e20 e21 e22 e23) $$ H
  iintro H
  have e30 : k0_off45 c 0#32 = ![256 * (2 * ((c.val + 2) % 4)), 128 * 3] :=
    off2 (k0_off45_eq c ⟨0, by decide⟩) (by (try dsimp only) <;> omega) (by omega)
  have e31 : k0_off46 c 2#32 = ![512 * ((2 * ((c.val + 2) % 4)) / 2), 128 * 3] :=
    off2 (k0_off46_eq c ⟨1, by decide⟩) (by (try dsimp only) <;> omega) (by omega)
  have e32 : k0_off47 c 0#32 = ![256 * (2 * ((c.val + 2) % 4)), 1024 + 3] :=
    off2 (k0_off47_eq c ⟨0, by decide⟩) (by (try dsimp only) <;> omega) (by omega)
  have e33 : k0_off48 c 0#32 = ![256 * (2 * ((c.val + 2) % 4)), 128 * 3] :=
    off2 (k0_off48_eq c ⟨0, by decide⟩) (by (try dsimp only) <;> omega) (by omega)
  iapply (head256_step c Q K V _ (2 * ((c.val + 2) % 4)) 3 (by omega) (by omega) hp e30 e31 e32 e33) $$ H
  iintro H
  have e40 : k0_off49 c 0#32 = ![256 * (2 * ((c.val + 2) % 4)), 128 * 4] :=
    off2 (k0_off49_eq c ⟨0, by decide⟩) (by (try dsimp only) <;> omega) (by omega)
  have e41 : k0_off50 c 2#32 = ![512 * ((2 * ((c.val + 2) % 4)) / 2), 128 * 4] :=
    off2 (k0_off50_eq c ⟨1, by decide⟩) (by (try dsimp only) <;> omega) (by omega)
  have e42 : k0_off51 c 0#32 = ![256 * (2 * ((c.val + 2) % 4)), 1024 + 4] :=
    off2 (k0_off51_eq c ⟨0, by decide⟩) (by (try dsimp only) <;> omega) (by omega)
  have e43 : k0_off52 c 0#32 = ![256 * (2 * ((c.val + 2) % 4)), 128 * 4] :=
    off2 (k0_off52_eq c ⟨0, by decide⟩) (by (try dsimp only) <;> omega) (by omega)
  iapply (head256_step c Q K V _ (2 * ((c.val + 2) % 4)) 4 (by omega) (by omega) hp e40 e41 e42 e43) $$ H
  iintro H
  have e50 : k0_off53 c 0#32 = ![256 * (2 * ((c.val + 2) % 4)), 128 * 5] :=
    off2 (k0_off53_eq c ⟨0, by decide⟩) (by (try dsimp only) <;> omega) (by omega)
  have e51 : k0_off54 c 2#32 = ![512 * ((2 * ((c.val + 2) % 4)) / 2), 128 * 5] :=
    off2 (k0_off54_eq c ⟨1, by decide⟩) (by (try dsimp only) <;> omega) (by omega)
  have e52 : k0_off55 c 0#32 = ![256 * (2 * ((c.val + 2) % 4)), 1024 + 5] :=
    off2 (k0_off55_eq c ⟨0, by decide⟩) (by (try dsimp only) <;> omega) (by omega)
  have e53 : k0_off56 c 0#32 = ![256 * (2 * ((c.val + 2) % 4)), 128 * 5] :=
    off2 (k0_off56_eq c ⟨0, by decide⟩) (by (try dsimp only) <;> omega) (by omega)
  iapply (head256_step c Q K V _ (2 * ((c.val + 2) % 4)) 5 (by omega) (by omega) hp e50 e51 e52 e53) $$ H
  iintro H
  have e60 : k0_off57 c 0#32 = ![256 * (2 * ((c.val + 2) % 4)), 128 * 6] :=
    off2 (k0_off57_eq c ⟨0, by decide⟩) (by (try dsimp only) <;> omega) (by omega)
  have e61 : k0_off58 c 2#32 = ![512 * ((2 * ((c.val + 2) % 4)) / 2), 128 * 6] :=
    off2 (k0_off58_eq c ⟨1, by decide⟩) (by (try dsimp only) <;> omega) (by omega)
  have e62 : k0_off59 c 0#32 = ![256 * (2 * ((c.val + 2) % 4)), 1024 + 6] :=
    off2 (k0_off59_eq c ⟨0, by decide⟩) (by (try dsimp only) <;> omega) (by omega)
  have e63 : k0_off60 c 0#32 = ![256 * (2 * ((c.val + 2) % 4)), 128 * 6] :=
    off2 (k0_off60_eq c ⟨0, by decide⟩) (by (try dsimp only) <;> omega) (by omega)
  iapply (head256_step c Q K V _ (2 * ((c.val + 2) % 4)) 6 (by omega) (by omega) hp e60 e61 e62 e63) $$ H
  iintro H
  have e70 : k0_off61 c 0#32 = ![256 * (2 * ((c.val + 2) % 4)), 128 * 7] :=
    off2 (k0_off61_eq c ⟨0, by decide⟩) (by (try dsimp only) <;> omega) (by omega)
  have e71 : k0_off62 c 2#32 = ![512 * ((2 * ((c.val + 2) % 4)) / 2), 128 * 7] :=
    off2 (k0_off62_eq c ⟨1, by decide⟩) (by (try dsimp only) <;> omega) (by omega)
  have e72 : k0_off63 c 0#32 = ![256 * (2 * ((c.val + 2) % 4)), 1024 + 7] :=
    off2 (k0_off63_eq c ⟨0, by decide⟩) (by (try dsimp only) <;> omega) (by omega)
  have e73 : k0_off64 c 0#32 = ![256 * (2 * ((c.val + 2) % 4)), 128 * 7] :=
    off2 (k0_off64_eq c ⟨0, by decide⟩) (by (try dsimp only) <;> omega) (by omega)
  iapply (head256_step c Q K V _ (2 * ((c.val + 2) % 4)) 7 (by omega) (by omega) hp e70 e71 e72 e73) $$ H
  iintro H
  icases H with ⟨HQ, HK, HV, HA⟩
  iapply Hk
  isplitl [HQ]; · iexact HQ
  isplitl [HK]; · iexact HK
  isplitl [HV]; · iexact HV
  iapply (accAt_mono ?_) $$ HA
  intro x y hx hy h
  rcases h with h | h
  · interval_cases y <;> simp [h]
  · simp [h]

/-- Eight heads of the chunk three places on. -/
theorem attn4_spec (c : Dev nD) (Q K V : FVec F S2048x1024 .bf16) (S : ℕ → ℕ → Prop) {k : BProg F} {P : PUnit → sProp (MM F)} :
    iprop(pts c cc0_scratch7 Q ∗ pts c cc0_scratch8 K ∗ pts c cc0_scratch9 V ∗ accAt c (accv c.val Q K V) S)
      ⊢ iprop(((pts c cc0_scratch7 Q ∗ pts c cc0_scratch8 K ∗ pts c cc0_scratch9 V ∗ accAt c (accv c.val Q K V) (fun x y => x / 2 = (c.val + 3) % 4 ∨ S x y)) -∗ wpB c k P)
          -∗ wpB c (attn4 c k) P) := by
  have hc : c.val < 4 := c.isLt
  have hp : (((c.val + 3) % 4) + c.val) % 2 ≠ 0 := by omega
  unfold attn4
  iintro H Hk
  have e00 : k0_off67 c 3#32 = ![512 * ((c.val + 3) % 4), 128 * 0] :=
    off2 (k0_off67_eq c ⟨1, by decide⟩) (by (try dsimp only) <;> omega) (by omega)
  have e01 : k0_off34 c 3#32 = ![512 * ((c.val + 3) % 4), 128 * 0] :=
    off2 (k0_off34_eq c ⟨2, by decide⟩) (by (try dsimp only) <;> omega) (by omega)
  have e02 : k0_off68 c 3#32 = ![512 * ((c.val + 3) % 4), 1024 + 0] :=
    off2 (k0_off68_eq c ⟨1, by decide⟩) (by (try dsimp only) <;> omega) (by omega)
  have e03 : k0_off69 c 3#32 = ![512 * ((c.val + 3) % 4), 128 * 0] :=
    off2 (k0_off69_eq c ⟨1, by decide⟩) (by (try dsimp only) <;> omega) (by omega)
  iapply (head512_step c Q K V _ ((c.val + 3) % 4) 0 (by omega) (by omega) hp e00 e01 e02 e03) $$ H
  iintro H
  have e10 : k0_off70 c 3#32 = ![512 * ((c.val + 3) % 4), 128 * 1] :=
    off2 (k0_off70_eq c ⟨1, by decide⟩) (by (try dsimp only) <;> omega) (by omega)
  have e11 : k0_off38 c 3#32 = ![512 * ((c.val + 3) % 4), 128 * 1] :=
    off2 (k0_off38_eq c ⟨2, by decide⟩) (by (try dsimp only) <;> omega) (by omega)
  have e12 : k0_off71 c 3#32 = ![512 * ((c.val + 3) % 4), 1024 + 1] :=
    off2 (k0_off71_eq c ⟨1, by decide⟩) (by (try dsimp only) <;> omega) (by omega)
  have e13 : k0_off72 c 3#32 = ![512 * ((c.val + 3) % 4), 128 * 1] :=
    off2 (k0_off72_eq c ⟨1, by decide⟩) (by (try dsimp only) <;> omega) (by omega)
  iapply (head512_step c Q K V _ ((c.val + 3) % 4) 1 (by omega) (by omega) hp e10 e11 e12 e13) $$ H
  iintro H
  have e20 : k0_off73 c 3#32 = ![512 * ((c.val + 3) % 4), 128 * 2] :=
    off2 (k0_off73_eq c ⟨1, by decide⟩) (by (try dsimp only) <;> omega) (by omega)
  have e21 : k0_off42 c 3#32 = ![512 * ((c.val + 3) % 4), 128 * 2] :=
    off2 (k0_off42_eq c ⟨2, by decide⟩) (by (try dsimp only) <;> omega) (by omega)
  have e22 : k0_off74 c 3#32 = ![512 * ((c.val + 3) % 4), 1024 + 2] :=
    off2 (k0_off74_eq c ⟨1, by decide⟩) (by (try dsimp only) <;> omega) (by omega)
  have e23 : k0_off75 c 3#32 = ![512 * ((c.val + 3) % 4), 128 * 2] :=
    off2 (k0_off75_eq c ⟨1, by decide⟩) (by (try dsimp only) <;> omega) (by omega)
  iapply (head512_step c Q K V _ ((c.val + 3) % 4) 2 (by omega) (by omega) hp e20 e21 e22 e23) $$ H
  iintro H
  have e30 : k0_off76 c 3#32 = ![512 * ((c.val + 3) % 4), 128 * 3] :=
    off2 (k0_off76_eq c ⟨1, by decide⟩) (by (try dsimp only) <;> omega) (by omega)
  have e31 : k0_off46 c 3#32 = ![512 * ((c.val + 3) % 4), 128 * 3] :=
    off2 (k0_off46_eq c ⟨2, by decide⟩) (by (try dsimp only) <;> omega) (by omega)
  have e32 : k0_off77 c 3#32 = ![512 * ((c.val + 3) % 4), 1024 + 3] :=
    off2 (k0_off77_eq c ⟨1, by decide⟩) (by (try dsimp only) <;> omega) (by omega)
  have e33 : k0_off78 c 3#32 = ![512 * ((c.val + 3) % 4), 128 * 3] :=
    off2 (k0_off78_eq c ⟨1, by decide⟩) (by (try dsimp only) <;> omega) (by omega)
  iapply (head512_step c Q K V _ ((c.val + 3) % 4) 3 (by omega) (by omega) hp e30 e31 e32 e33) $$ H
  iintro H
  have e40 : k0_off79 c 3#32 = ![512 * ((c.val + 3) % 4), 128 * 4] :=
    off2 (k0_off79_eq c ⟨1, by decide⟩) (by (try dsimp only) <;> omega) (by omega)
  have e41 : k0_off50 c 3#32 = ![512 * ((c.val + 3) % 4), 128 * 4] :=
    off2 (k0_off50_eq c ⟨2, by decide⟩) (by (try dsimp only) <;> omega) (by omega)
  have e42 : k0_off80 c 3#32 = ![512 * ((c.val + 3) % 4), 1024 + 4] :=
    off2 (k0_off80_eq c ⟨1, by decide⟩) (by (try dsimp only) <;> omega) (by omega)
  have e43 : k0_off81 c 3#32 = ![512 * ((c.val + 3) % 4), 128 * 4] :=
    off2 (k0_off81_eq c ⟨1, by decide⟩) (by (try dsimp only) <;> omega) (by omega)
  iapply (head512_step c Q K V _ ((c.val + 3) % 4) 4 (by omega) (by omega) hp e40 e41 e42 e43) $$ H
  iintro H
  have e50 : k0_off82 c 3#32 = ![512 * ((c.val + 3) % 4), 128 * 5] :=
    off2 (k0_off82_eq c ⟨1, by decide⟩) (by (try dsimp only) <;> omega) (by omega)
  have e51 : k0_off54 c 3#32 = ![512 * ((c.val + 3) % 4), 128 * 5] :=
    off2 (k0_off54_eq c ⟨2, by decide⟩) (by (try dsimp only) <;> omega) (by omega)
  have e52 : k0_off83 c 3#32 = ![512 * ((c.val + 3) % 4), 1024 + 5] :=
    off2 (k0_off83_eq c ⟨1, by decide⟩) (by (try dsimp only) <;> omega) (by omega)
  have e53 : k0_off84 c 3#32 = ![512 * ((c.val + 3) % 4), 128 * 5] :=
    off2 (k0_off84_eq c ⟨1, by decide⟩) (by (try dsimp only) <;> omega) (by omega)
  iapply (head512_step c Q K V _ ((c.val + 3) % 4) 5 (by omega) (by omega) hp e50 e51 e52 e53) $$ H
  iintro H
  have e60 : k0_off85 c 3#32 = ![512 * ((c.val + 3) % 4), 128 * 6] :=
    off2 (k0_off85_eq c ⟨1, by decide⟩) (by (try dsimp only) <;> omega) (by omega)
  have e61 : k0_off58 c 3#32 = ![512 * ((c.val + 3) % 4), 128 * 6] :=
    off2 (k0_off58_eq c ⟨2, by decide⟩) (by (try dsimp only) <;> omega) (by omega)
  have e62 : k0_off86 c 3#32 = ![512 * ((c.val + 3) % 4), 1024 + 6] :=
    off2 (k0_off86_eq c ⟨1, by decide⟩) (by (try dsimp only) <;> omega) (by omega)
  have e63 : k0_off87 c 3#32 = ![512 * ((c.val + 3) % 4), 128 * 6] :=
    off2 (k0_off87_eq c ⟨1, by decide⟩) (by (try dsimp only) <;> omega) (by omega)
  iapply (head512_step c Q K V _ ((c.val + 3) % 4) 6 (by omega) (by omega) hp e60 e61 e62 e63) $$ H
  iintro H
  have e70 : k0_off88 c 3#32 = ![512 * ((c.val + 3) % 4), 128 * 7] :=
    off2 (k0_off88_eq c ⟨1, by decide⟩) (by (try dsimp only) <;> omega) (by omega)
  have e71 : k0_off62 c 3#32 = ![512 * ((c.val + 3) % 4), 128 * 7] :=
    off2 (k0_off62_eq c ⟨2, by decide⟩) (by (try dsimp only) <;> omega) (by omega)
  have e72 : k0_off89 c 3#32 = ![512 * ((c.val + 3) % 4), 1024 + 7] :=
    off2 (k0_off89_eq c ⟨1, by decide⟩) (by (try dsimp only) <;> omega) (by omega)
  have e73 : k0_off90 c 3#32 = ![512 * ((c.val + 3) % 4), 128 * 7] :=
    off2 (k0_off90_eq c ⟨1, by decide⟩) (by (try dsimp only) <;> omega) (by omega)
  iapply (head512_step c Q K V _ ((c.val + 3) % 4) 7 (by omega) (by omega) hp e70 e71 e72 e73) $$ H
  iintro H
  icases H with ⟨HQ, HK, HV, HA⟩
  iapply Hk
  isplitl [HQ]; · iexact HQ
  isplitl [HK]; · iexact HK
  isplitl [HV]; · iexact HV
  iapply (accAt_mono ?_) $$ HA
  intro x y hx hy h
  rcases h with h | h
  · interval_cases y <;> simp [h]
  · simp [h]

/-- Eight heads of the next chunk. -/
theorem attn5_spec (c : Dev nD) (Q K V : FVec F S2048x1024 .bf16) (S : ℕ → ℕ → Prop) {k : BProg F} {P : PUnit → sProp (MM F)} :
    iprop(pts c cc0_scratch7 Q ∗ pts c cc0_scratch8 K ∗ pts c cc0_scratch9 V ∗ accAt c (accv c.val Q K V) S)
      ⊢ iprop(((pts c cc0_scratch7 Q ∗ pts c cc0_scratch8 K ∗ pts c cc0_scratch9 V ∗ accAt c (accv c.val Q K V) (fun x y => x / 2 = (c.val + 1) % 4 ∨ S x y)) -∗ wpB c k P)
          -∗ wpB c (attn5 c k) P) := by
  have hc : c.val < 4 := c.isLt
  have hp : (((c.val + 1) % 4) + c.val) % 2 ≠ 0 := by omega
  unfold attn5
  iintro H Hk
  have e00 : k0_off67 c 1#32 = ![512 * ((c.val + 1) % 4), 128 * 0] :=
    off2 (k0_off67_eq c ⟨0, by decide⟩) (by (try dsimp only) <;> omega) (by omega)
  have e01 : k0_off34 c 1#32 = ![512 * ((c.val + 1) % 4), 128 * 0] :=
    off2 (k0_off34_eq c ⟨0, by decide⟩) (by (try dsimp only) <;> omega) (by omega)
  have e02 : k0_off68 c 1#32 = ![512 * ((c.val + 1) % 4), 1024 + 0] :=
    off2 (k0_off68_eq c ⟨0, by decide⟩) (by (try dsimp only) <;> omega) (by omega)
  have e03 : k0_off69 c 1#32 = ![512 * ((c.val + 1) % 4), 128 * 0] :=
    off2 (k0_off69_eq c ⟨0, by decide⟩) (by (try dsimp only) <;> omega) (by omega)
  iapply (head512_step c Q K V _ ((c.val + 1) % 4) 0 (by omega) (by omega) hp e00 e01 e02 e03) $$ H
  iintro H
  have e10 : k0_off70 c 1#32 = ![512 * ((c.val + 1) % 4), 128 * 1] :=
    off2 (k0_off70_eq c ⟨0, by decide⟩) (by (try dsimp only) <;> omega) (by omega)
  have e11 : k0_off38 c 1#32 = ![512 * ((c.val + 1) % 4), 128 * 1] :=
    off2 (k0_off38_eq c ⟨0, by decide⟩) (by (try dsimp only) <;> omega) (by omega)
  have e12 : k0_off71 c 1#32 = ![512 * ((c.val + 1) % 4), 1024 + 1] :=
    off2 (k0_off71_eq c ⟨0, by decide⟩) (by (try dsimp only) <;> omega) (by omega)
  have e13 : k0_off72 c 1#32 = ![512 * ((c.val + 1) % 4), 128 * 1] :=
    off2 (k0_off72_eq c ⟨0, by decide⟩) (by (try dsimp only) <;> omega) (by omega)
  iapply (head512_step c Q K V _ ((c.val + 1) % 4) 1 (by omega) (by omega) hp e10 e11 e12 e13) $$ H
  iintro H
  have e20 : k0_off73 c 1#32 = ![512 * ((c.val + 1) % 4), 128 * 2] :=
    off2 (k0_off73_eq c ⟨0, by decide⟩) (by (try dsimp only) <;> omega) (by omega)
  have e21 : k0_off42 c 1#32 = ![512 * ((c.val + 1) % 4), 128 * 2] :=
    off2 (k0_off42_eq c ⟨0, by decide⟩) (by (try dsimp only) <;> omega) (by omega)
  have e22 : k0_off74 c 1#32 = ![512 * ((c.val + 1) % 4), 1024 + 2] :=
    off2 (k0_off74_eq c ⟨0, by decide⟩) (by (try dsimp only) <;> omega) (by omega)
  have e23 : k0_off75 c 1#32 = ![512 * ((c.val + 1) % 4), 128 * 2] :=
    off2 (k0_off75_eq c ⟨0, by decide⟩) (by (try dsimp only) <;> omega) (by omega)
  iapply (head512_step c Q K V _ ((c.val + 1) % 4) 2 (by omega) (by omega) hp e20 e21 e22 e23) $$ H
  iintro H
  have e30 : k0_off76 c 1#32 = ![512 * ((c.val + 1) % 4), 128 * 3] :=
    off2 (k0_off76_eq c ⟨0, by decide⟩) (by (try dsimp only) <;> omega) (by omega)
  have e31 : k0_off46 c 1#32 = ![512 * ((c.val + 1) % 4), 128 * 3] :=
    off2 (k0_off46_eq c ⟨0, by decide⟩) (by (try dsimp only) <;> omega) (by omega)
  have e32 : k0_off77 c 1#32 = ![512 * ((c.val + 1) % 4), 1024 + 3] :=
    off2 (k0_off77_eq c ⟨0, by decide⟩) (by (try dsimp only) <;> omega) (by omega)
  have e33 : k0_off78 c 1#32 = ![512 * ((c.val + 1) % 4), 128 * 3] :=
    off2 (k0_off78_eq c ⟨0, by decide⟩) (by (try dsimp only) <;> omega) (by omega)
  iapply (head512_step c Q K V _ ((c.val + 1) % 4) 3 (by omega) (by omega) hp e30 e31 e32 e33) $$ H
  iintro H
  have e40 : k0_off79 c 1#32 = ![512 * ((c.val + 1) % 4), 128 * 4] :=
    off2 (k0_off79_eq c ⟨0, by decide⟩) (by (try dsimp only) <;> omega) (by omega)
  have e41 : k0_off50 c 1#32 = ![512 * ((c.val + 1) % 4), 128 * 4] :=
    off2 (k0_off50_eq c ⟨0, by decide⟩) (by (try dsimp only) <;> omega) (by omega)
  have e42 : k0_off80 c 1#32 = ![512 * ((c.val + 1) % 4), 1024 + 4] :=
    off2 (k0_off80_eq c ⟨0, by decide⟩) (by (try dsimp only) <;> omega) (by omega)
  have e43 : k0_off81 c 1#32 = ![512 * ((c.val + 1) % 4), 128 * 4] :=
    off2 (k0_off81_eq c ⟨0, by decide⟩) (by (try dsimp only) <;> omega) (by omega)
  iapply (head512_step c Q K V _ ((c.val + 1) % 4) 4 (by omega) (by omega) hp e40 e41 e42 e43) $$ H
  iintro H
  have e50 : k0_off82 c 1#32 = ![512 * ((c.val + 1) % 4), 128 * 5] :=
    off2 (k0_off82_eq c ⟨0, by decide⟩) (by (try dsimp only) <;> omega) (by omega)
  have e51 : k0_off54 c 1#32 = ![512 * ((c.val + 1) % 4), 128 * 5] :=
    off2 (k0_off54_eq c ⟨0, by decide⟩) (by (try dsimp only) <;> omega) (by omega)
  have e52 : k0_off83 c 1#32 = ![512 * ((c.val + 1) % 4), 1024 + 5] :=
    off2 (k0_off83_eq c ⟨0, by decide⟩) (by (try dsimp only) <;> omega) (by omega)
  have e53 : k0_off84 c 1#32 = ![512 * ((c.val + 1) % 4), 128 * 5] :=
    off2 (k0_off84_eq c ⟨0, by decide⟩) (by (try dsimp only) <;> omega) (by omega)
  iapply (head512_step c Q K V _ ((c.val + 1) % 4) 5 (by omega) (by omega) hp e50 e51 e52 e53) $$ H
  iintro H
  have e60 : k0_off85 c 1#32 = ![512 * ((c.val + 1) % 4), 128 * 6] :=
    off2 (k0_off85_eq c ⟨0, by decide⟩) (by (try dsimp only) <;> omega) (by omega)
  have e61 : k0_off58 c 1#32 = ![512 * ((c.val + 1) % 4), 128 * 6] :=
    off2 (k0_off58_eq c ⟨0, by decide⟩) (by (try dsimp only) <;> omega) (by omega)
  have e62 : k0_off86 c 1#32 = ![512 * ((c.val + 1) % 4), 1024 + 6] :=
    off2 (k0_off86_eq c ⟨0, by decide⟩) (by (try dsimp only) <;> omega) (by omega)
  have e63 : k0_off87 c 1#32 = ![512 * ((c.val + 1) % 4), 128 * 6] :=
    off2 (k0_off87_eq c ⟨0, by decide⟩) (by (try dsimp only) <;> omega) (by omega)
  iapply (head512_step c Q K V _ ((c.val + 1) % 4) 6 (by omega) (by omega) hp e60 e61 e62 e63) $$ H
  iintro H
  have e70 : k0_off88 c 1#32 = ![512 * ((c.val + 1) % 4), 128 * 7] :=
    off2 (k0_off88_eq c ⟨0, by decide⟩) (by (try dsimp only) <;> omega) (by omega)
  have e71 : k0_off62 c 1#32 = ![512 * ((c.val + 1) % 4), 128 * 7] :=
    off2 (k0_off62_eq c ⟨0, by decide⟩) (by (try dsimp only) <;> omega) (by omega)
  have e72 : k0_off89 c 1#32 = ![512 * ((c.val + 1) % 4), 1024 + 7] :=
    off2 (k0_off89_eq c ⟨0, by decide⟩) (by (try dsimp only) <;> omega) (by omega)
  have e73 : k0_off90 c 1#32 = ![512 * ((c.val + 1) % 4), 128 * 7] :=
    off2 (k0_off90_eq c ⟨0, by decide⟩) (by (try dsimp only) <;> omega) (by omega)
  iapply (head512_step c Q K V _ ((c.val + 1) % 4) 7 (by omega) (by omega) hp e70 e71 e72 e73) $$ H
  iintro H
  icases H with ⟨HQ, HK, HV, HA⟩
  iapply Hk
  isplitl [HQ]; · iexact HQ
  isplitl [HK]; · iexact HK
  isplitl [HV]; · iexact HV
  iapply (accAt_mono ?_) $$ HA
  intro x y hx hy h
  rcases h with h | h
  · interval_cases y <;> simp [h]
  · simp [h]

end Cert.KernelIdeal.Run

end
-- ==== Proof.Run.Core.lean ====
module

public import proofs.«01_k».proof.Proof.Run.Ends
public import proofs.«01_k».proof.Proof.Run.StageIn
public import proofs.«01_k».proof.Proof.Run.Attn

@[expose] public section

/-! The whole body of one device, phase by phase. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Every scratch buffer, whole, at some contents. -/
def scratchAny (c : Dev nD) : sProp (MM F) :=
  iprop((∃ f, pts c cc0_scratch0 f) ∗ (∃ f, pts c cc0_scratch1 f) ∗ (∃ f, pts c cc0_scratch2 f) ∗ (∃ f, pts c cc0_scratch3 f) ∗ (∃ f, pts c cc0_scratch4 f) ∗ (∃ f, pts c cc0_scratch5 f) ∗ (∃ f, pts c cc0_scratch6 f) ∗ (∃ f, pts c cc0_scratch7 f) ∗ (∃ f, pts c cc0_scratch8 f) ∗ (∃ f, pts c cc0_scratch9 f) ∗ (∃ f, pts c cc0_scratch10 f) ∗ (∃ f, pts c cc0_scratch11 f) ∗ (∃ f, pts c cc0_scratch12 f) ∗ (∃ f, pts c cc0_scratch13 f) ∗ (∃ f, pts c cc0_scratch14 f) ∗ (∃ f, pts c cc0_scratch15 f) ∗ (∃ f, pts c cc0_scratch16 f))

/-- The device's place in each of its thirteen cells, at the start. -/
def atStart (c : Dev nD) : sProp (MM F) := iprop(atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0 ∗ atPos ER (kcell (c, 5)) 0 ∅ 0 ∗ atPos ER (kcell (c, 6)) 0 ∅ 0 ∗ atPos ER (kcell (c, 7)) 0 ∅ 0 ∗ atPos ER (kcell (c, 8)) 0 ∅ 0 ∗ atPos ER (kcell (c, 9)) 0 ∅ 0 ∗ atPos ER (kcell (c, 10)) 0 ∅ 0 ∗ atPos ER (kcell (c, 11)) 0 ∅ 0 ∗ atPos ER (kcell (c, 12)) 0 ∅ 0)

/-- The tokens of the duties the device pays. -/
def payToks (c : Dev nD) : sProp (MM F) := iprop(dutyTok ER (kcell (prv c, 0)) 0 true ∗ dutyTok ER (kcell (nxt c, 0)) 0 false ∗ dutyTok ER (kcell (c, 1)) 0 false ∗ dutyTok ER (kcell (c, 1)) 1 false ∗ dutyTok ER (kcell (c, 2)) 0 false ∗ dutyTok ER (kcell (c, 3)) 0 false ∗ dutyTok ER (kcell (c, 3)) 1 false ∗ dutyTok ER (kcell (c, 4)) 0 false ∗ dutyTok ER (kcell (c, 5)) 0 false ∗ dutyTok ER (kcell (c, 6)) 0 false ∗ dutyTok ER (kcell (nxt c, 7)) 0 false ∗ dutyTok ER (kcell (nxt c, 7)) 1 false ∗ dutyTok ER (kcell (nxt c, 8)) 0 false ∗ dutyTok ER (kcell (nxt c, 11)) 0 false ∗ dutyTok ER (kcell (prv c, 9)) 0 false ∗ dutyTok ER (kcell (prv c, 9)) 1 false ∗ dutyTok ER (kcell (prv c, 10)) 0 false ∗ dutyTok ER (kcell (prv c, 12)) 0 false)

/-- The credits of the signals and arrivals it waits for. -/
def credsIn (c : Dev nD) : sProp (MM F) := iprop(cred (tallyAt (kcell (c, 0)) false 2) ∗ cred (tallyAt (kcell (c, 7)) false (amt 7)) ∗ cred (tallyAt (kcell (c, 7)) true (amt 7)) ∗ cred (tallyAt (kcell (c, 8)) false (amt 8)) ∗ cred (tallyAt (kcell (c, 9)) false (amt 9)) ∗ cred (tallyAt (kcell (c, 9)) true (amt 9)) ∗ cred (tallyAt (kcell (c, 10)) false (amt 10)) ∗ cred (tallyAt (kcell (c, 11)) false (amt 11)) ∗ cred (tallyAt (kcell (c, 12)) false (amt 12)))

/-- Its thirteen cells' counters at zero. -/
def cellsZero (c : Dev nD) : sProp (MM F) := iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0)

theorem slotAny_intro (c : Dev nD) {s : Shape} {e : EltTy} (m : Memref sig .tc .vmem s e) (f : Buf (Elt F) (m.view.loc (c : Thread nD τ))) :
    slotPts c m f ⊢ slotAny c m := by
  unfold slotAny
  iintro H; iexists f; iexact H

theorem lv_ls0 (c : Dev nD) : lv ((c : Thread nD τ), .dma ls0) false ≤ 0 := by
  have h : cellIx (.dma ls0) = none := by decide
  dsimp only [lv]; rw [h]
theorem lv_ls1 (c : Dev nD) : lv ((c : Thread nD τ), .dma ls1) false ≤ 0 := by
  have h : cellIx (.dma ls1) = none := by decide
  dsimp only [lv]; rw [h]
theorem lv_ls2 (c : Dev nD) : lv ((c : Thread nD τ), .dma ls2) false ≤ 0 := by
  have h : cellIx (.dma ls2) = none := by decide
  dsimp only [lv]; rw [h]
theorem lv_ls3 (c : Dev nD) : lv ((c : Thread nD τ), .dma ls3) false ≤ 0 := by
  have h : cellIx (.dma ls3) = none := by decide
  dsimp only [lv]; rw [h]

section Core
variable (X : Dev nD → FVec F S2048x1024 .f32) (Wq : Dev nD → FVec F S1024x1024 .f32)
  (KK VV : Dev nD → FVec F S2048x8x128 .f32) (WO : Dev nD → FVec F S1024x1024 .f32) (K : Dev nD × Fin 13 → ℕ)

/-- The sums of device `c`: numerators in the first 1024 columns, denominators in the next eight. -/
def TT (c : Dev nD) : FVec F S2048x1152 .f32 := accv c.val (qgv (X c) (Wq c)) (kgv (KK c)) (kgv (VV c))
/-- The output projection as device `c` holds it. -/
def WW (c : Dev nD) : FVec F S1024x1024 .bf16 := k0_pay89 (WO c)

/-- A cell closed. -/
theorem close_cell (c : Dev nD) (k : Fin 13) (n : ℕ) (hn : rounds k ≤ n) :
    iprop(ctx (TT X Wq KK VV) (WW WO) K ∗ atPos ER (kcell (c, k)) n ∅ 0) ⊢ |={Set.univ}=> semVal (kcell (c, k)) 0 := by
  have h := Rounds.cell_close ER (Rd (TT X Wq KK VV) (WW WO)) (Set.mem_univ (K (c, k))) (fun h => h) (R := n) (duties_later (TT X Wq KK VV) (WW WO) c k n hn)
  have hi : ctx (TT X Wq KK VV) (WW WO) K ⊢ cellInv ER (Rd (TT X Wq KK VV) (WW WO)) (K (c, k)) (kcell (c, k)) := ctx_inv _ _ K c k
  iintro ⟨#Hctx, Hat⟩
  iapply h
  isplitr
  · iapply hi; iexact Hctx
  iexact Hat

theorem loc_waits (c : Dev nD) : ctx (TT X Wq KK VV) (WW WO) K ⊢ locWaits (F := F) c (O1 c) := by
  have hz := (above_O1 c).lower (Nat.zero_le _)
  unfold locWaits
  iintro #Hctx
  isplitr
  · iapply (ctx_mayWait _ _ K c (.dma ls0) false (O1 c) 0 (lv_ls0 c) hz); iexact Hctx
  isplitr
  · iapply (ctx_mayWait _ _ K c (.dma ls1) false (O1 c) 0 (lv_ls1 c) hz); iexact Hctx
  isplitr
  · iapply (ctx_mayWait _ _ K c (.dma ls2) false (O1 c) 0 (lv_ls2 c) hz); iexact Hctx
  iapply (ctx_mayWait _ _ K c (.dma ls3) false (O1 c) 0 (lv_ls3 c) hz); iexact Hctx

set_option maxHeartbeats 4000000 in
/-- The body on device `c`. -/
theorem body_core (c : Dev nD) (q₁ q₂ : PosShare TreeShare) {Q : PUnit → sProp (MM F)} :
    iprop(ctx (TT X Wq KK VV) (WW WO) K ∗ argsHeld c q₁ q₂ (X c) (Wq c) (KK c) (VV c) (WO c) ∗ scratchAny c ∗ (∃ f, pts c cc0_stg0_0 f) ∗ locSems c
        ∗ owesE c (O₀ c) ∗ atStart c ∗ payToks c ∗ credsIn c)
      ⊢ iprop(((argsHeld c q₁ q₂ (X c) (Wq c) (KK c) (VV c) (WO c) ∗ scratchAny c ∗ pts c cc0_stg0_0 (outAt (TT X Wq KK VV) (WW WO) c) ∗ locSems c
          ∗ owesE c 0 ∗ cellsZero c) -∗ |={Set.univ}=> Q ⟨⟩)
        -∗ wpB c (bodyOf c) Q) := by
  have hc : c.val < 4 := c.isLt
  unfold argsHeld scratchAny atStart payToks credsIn bodyOf
  iintro ⟨#Hctx, ⟨X1, X2, HWq, K1, K2, V1, V2, HWo⟩, ⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩, ⟨%f16, S16⟩⟩, Hstg, Hloc, HO, ⟨A0, A1, A2, A3, A4, A5, A6, A7, A8, A9, A10, A11, A12⟩, ⟨Tp0, Tn0, T1a, T1b, T2, T3a, T3b, T4, T5, T6, T7a, T7b, T8, T11, T9a, T9b, T10, T12⟩, ⟨C0, C7a, C7b, C8, C9a, C9b, C10, C11, C12⟩⟩ Hk
  ihave S11 := (split_sbr c f11) $$ S11
  icases S11 with ⟨sbr0, sbr1⟩
  ihave sbr0 := (slotAny_intro c sbr0 f11) $$ sbr0
  ihave sbr1 := (slotAny_intro c sbr1 f11) $$ sbr1
  ihave S12 := (split_rbr c f12) $$ S12
  icases S12 with ⟨rbr0, rbr1⟩
  ihave rbr0 := (slotAny_intro c rbr0 f12) $$ rbr0
  ihave rbr1 := (slotAny_intro c rbr1 f12) $$ rbr1
  ihave S13 := (split_sbl c f13) $$ S13
  icases S13 with ⟨sbl0, sbl1⟩
  ihave sbl0 := (slotAny_intro c sbl0 f13) $$ sbl0
  ihave sbl1 := (slotAny_intro c sbl1 f13) $$ sbl1
  ihave S14 := (split_rbl c f14) $$ S14
  icases S14 with ⟨rbl0, rbl1⟩
  ihave rbl0 := (slotAny_intro c rbl0 f14) $$ rbl0
  ihave rbl1 := (slotAny_intro c rbl1 f14) $$ rbl1
  ihave S15 := (split_agr c f15) $$ S15
  icases S15 with ⟨agr0, agr1⟩
  ihave agr0 := (slotAny_intro c agr0 f15) $$ agr0
  ihave agr1 := (slotAny_intro c agr1 f15) $$ agr1
  ihave S16 := (split_agl c f16) $$ S16
  icases S16 with ⟨agl0, agl1⟩
  ihave agl0 := (slotAny_intro c agl0 f16) $$ agl0
  ihave agl1 := (slotAny_intro c agl1 f16) $$ agl1
  iapply (startUp_spec (TT X Wq KK VV) (WW WO) K c q₁ q₂ (X c) (KK c)) $$ [X1 X2 K1 K2 S0 S1 S2 S3 Hloc HO Tp0 Tn0 rbr0 rbr1 agr1 rbl0 rbl1 agl1 C0 A0]
  · isplitr; · iexact Hctx
    isplitl [X1]; · iexact X1
    isplitl [X2]; · iexact X2
    isplitl [K1]; · iexact K1
    isplitl [K2]; · iexact K2
    isplitl [S0]; · iexists f0; iexact S0
    isplitl [S1]; · iexists f1; iexact S1
    isplitl [S2]; · iexists f2; iexact S2
    isplitl [S3]; · iexists f3; iexact S3
    isplitl [Hloc]; · iexact Hloc
    isplitl [HO]; · iexact HO
    isplitl [Tp0]; · iexact Tp0
    isplitl [Tn0]; · iexact Tn0
    isplitl [rbr0 rbr1 agr1]
    · isplitl [rbr0]; · iexact rbr0
      isplitl [rbr1]; · iexact rbr1
      iexact agr1
    isplitl [rbl0 rbl1 agl1]
    · isplitl [rbl0]; · iexact rbl0
      isplitl [rbl1]; · iexact rbl1
      iexact agl1
    isplitl [C0]; · iexact C0
    iexact A0
  iintro ⟨F0, F1, F2, F3, HO, A0, HL, HR⟩
  unfold barL barR
  icases HL with ⟨Nl0, Nl1, Nlg⟩
  icases HR with ⟨Nr0, Nr1, Nrg⟩
  have hlw : ctx (TT X Wq KK VV) (WW WO) K ⊢ locWaits (F := F) c (O1 c) := loc_waits X Wq KK VV WO K c
  iapply (stageIn_spec c q₁ q₂ (X c) (Wq c) (KK c) (VV c) (WO c) (O1 c)) $$ [F0 F1 F2 F3 HWq V1 V2 HWo S4 S5 S6 S7 S8 S9 HO]
  · isplitl [F0 F1 F2 F3 HWq V1 V2 HWo S4 S5 S6 S7 S8 S9]
    · unfold stagePre
      isplitl [F0]; · iexact F0
      isplitl [F1]; · iexact F1
      isplitl [F2]; · iexact F2
      isplitl [F3]; · iexact F3
      isplitl [HWq]; · iexact HWq
      isplitl [V1]; · iexact V1
      isplitl [V2]; · iexact V2
      isplitl [HWo]; · iexact HWo
      isplitl [S4]; · iexists f4; iexact S4
      isplitl [S5]; · iexists f5; iexact S5
      isplitl [S6]; · iexists f6; iexact S6
      isplitl [S7]; · iexists f7; iexact S7
      isplitl [S8]; · iexists f8; iexact S8
      iexists f9; iexact S9
    isplitl [HO]; · iexact HO
    iapply hlw; iexact Hctx
  unfold stagePost argsHeld
  iintro ⟨⟨⟨Hargs, Hloc⟩, ⟨S0, S1, S2, S3, S4, S6⟩, S5, S7, S8, S9⟩, HO⟩
  have hacc : pts c cc0_scratch10 f10 ⊢ accAt c (TT X Wq KK VV c) (fun _ _ => False) := by
    unfold accAt
    iintro H; iexists f10; isplitl [H]; · iexact H
    ipureintro; exact fun _ _ h => h.elim
  ihave HA := hacc $$ S10
  iapply (attn0_spec c (qgv (X c) (Wq c)) (kgv (KK c)) (kgv (VV c)) _) $$ [S7 S8 S9 HA]
  · isplitl [S7]; · iexact S7
    isplitl [S8]; · iexact S8
    isplitl [S9]; · iexact S9
    iexact HA
  iintro ⟨S7, S8, S9, HA⟩
  iapply (attn1_spec c (qgv (X c) (Wq c)) (kgv (KK c)) (kgv (VV c)) _) $$ [S7 S8 S9 HA]
  · isplitl [S7]; · iexact S7
    isplitl [S8]; · iexact S8
    isplitl [S9]; · iexact S9
    iexact HA
  iintro ⟨S7, S8, S9, HA⟩
  iapply (send0_spec (TT X Wq KK VV) (WW WO) K c (fun x _ => x = 2 * ((c.val + 2) % 4) + 1 ∨ x = 2 * c.val ∨ False) (fun y hy => by omega) (fun y hy => by omega)) $$ [HA sbr0 sbl0 Nr0 Nl0 HO T1a T7a T3a T9a]
  · isplitr; · iexact Hctx
    isplitl [HA]; · iexact HA
    isplitl [sbr0]; · iexact sbr0
    isplitl [sbl0]; · iexact sbl0
    isplitl [Nr0]; · iexact Nr0
    isplitl [Nl0]; · iexact Nl0
    isplitl [HO]; · iexact HO
    isplitl [T1a]; · iexact T1a
    isplitl [T7a]; · iexact T7a
    isplitl [T3a]; · iexact T3a
    iexact T9a
  iintro ⟨HA, HO, C1, C3⟩
  iapply (attn2_spec c (qgv (X c) (Wq c)) (kgv (KK c)) (kgv (VV c)) _) $$ [S7 S8 S9 HA]
  · isplitl [S7]; · iexact S7
    isplitl [S8]; · iexact S8
    isplitl [S9]; · iexact S9
    iexact HA
  iintro ⟨S7, S8, S9, HA⟩
  iapply (attn3_spec c (qgv (X c) (Wq c)) (kgv (KK c)) (kgv (VV c)) _) $$ [S7 S8 S9 HA]
  · isplitl [S7]; · iexact S7
    isplitl [S8]; · iexact S8
    isplitl [S9]; · iexact S9
    iexact HA
  iintro ⟨S7, S8, S9, HA⟩
  iapply (attn4_spec c (qgv (X c) (Wq c)) (kgv (KK c)) (kgv (VV c)) _) $$ [S7 S8 S9 HA]
  · isplitl [S7]; · iexact S7
    isplitl [S8]; · iexact S8
    isplitl [S9]; · iexact S9
    iexact HA
  iintro ⟨S7, S8, S9, HA⟩
  iapply (hop1_spec (TT X Wq KK VV) (WW WO) K c (fun x _ => x / 2 = (c.val + 3) % 4 ∨ x = 2 * ((c.val + 2) % 4) ∨ x = 2 * c.val + 1 ∨ x = 2 * ((c.val + 2) % 4) + 1 ∨ x = 2 * c.val ∨ False) (fun y hy => by omega) (fun y hy => by omega)) $$ [HA HO C1 C3 C7a C9a A1 A3 A7 A9 sbr1 sbl1 Nr1 Nl1 T2 T8 T4 T10]
  · isplitr; · iexact Hctx
    isplitl [HA]; · iexact HA
    isplitl [HO]; · iexact HO
    isplitl [C1]; · iexact C1
    isplitl [C3]; · iexact C3
    isplitl [C7a]; · iexact C7a
    isplitl [C9a]; · iexact C9a
    isplitl [A1]; · iexact A1
    isplitl [A3]; · iexact A3
    isplitl [A7]; · iexact A7
    isplitl [A9]; · iexact A9
    isplitl [sbr1]; · iexact sbr1
    isplitl [sbl1]; · iexact sbl1
    isplitl [Nr1]; · iexact Nr1
    isplitl [Nl1]; · iexact Nl1
    isplitl [T2]; · iexact T2
    isplitl [T8]; · iexact T8
    isplitl [T4]; · iexact T4
    iexact T10
  iintro ⟨HA, HO, C2, C4, A1, A3, A7, A9, R1, R3, sbr0, sbl0⟩
  iapply (attn5_spec c (qgv (X c) (Wq c)) (kgv (KK c)) (kgv (VV c)) _) $$ [S7 S8 S9 HA]
  · isplitl [S7]; · iexact S7
    isplitl [S8]; · iexact S8
    isplitl [S9]; · iexact S9
    iexact HA
  iintro ⟨S7, S8, S9, HA⟩
  iapply (hop2_spec (TT X Wq KK VV) (WW WO) K c (fun x _ => x / 2 = (c.val + 1) % 4 ∨ x / 2 = (c.val + 3) % 4 ∨ x = 2 * ((c.val + 2) % 4) ∨ x = 2 * c.val + 1 ∨ x = 2 * ((c.val + 2) % 4) + 1 ∨ x = 2 * c.val ∨ False) (fun y hy => by omega) (fun y hy => by omega)) $$ [HA HO C2 C4 C8 C10 A2 A4 A8 A10 A1 A3 A7 A9 R1 R3 sbr0 sbl0 T1b T7b T3b T9b C7b C9b]
  · isplitr; · iexact Hctx
    isplitl [HA]; · iexact HA
    isplitl [HO]; · iexact HO
    isplitl [C2]; · iexact C2
    isplitl [C4]; · iexact C4
    isplitl [C8]; · iexact C8
    isplitl [C10]; · iexact C10
    isplitl [A2]; · iexact A2
    isplitl [A4]; · iexact A4
    isplitl [A8]; · iexact A8
    isplitl [A10]; · iexact A10
    isplitl [A1]; · iexact A1
    isplitl [A3]; · iexact A3
    isplitl [A7]; · iexact A7
    isplitl [A9]; · iexact A9
    isplitl [R1]; · iexact R1
    isplitl [R3]; · iexact R3
    isplitl [sbr0]; · iexact sbr0
    isplitl [sbl0]; · iexact sbl0
    isplitl [T1b]; · iexact T1b
    isplitl [T7b]; · iexact T7b
    isplitl [T3b]; · iexact T3b
    isplitl [T9b]; · iexact T9b
    isplitl [C7b]; · iexact C7b
    iexact C9b
  iintro ⟨HA, HO, A1, A2, A3, A4, A7, A8, A9, A10, sbr0, sbr1, sbl0, sbl1, rbr1, rbl1, rbr0, rbl0⟩
  iapply (finish_spec (TT X Wq KK VV) (WW WO) K c (fun x _ => x / 2 = (c.val + 1) % 4 ∨ x / 2 = (c.val + 3) % 4 ∨ x = 2 * ((c.val + 2) % 4) ∨ x = 2 * c.val + 1 ∨ x = 2 * ((c.val + 2) % 4) + 1 ∨ x = 2 * c.val ∨ False) (fun y hy => by omega) (fun y hy => by omega)) $$ [HA HO rbr0 rbl0 S5 agr0 agl0 Nrg Nlg Hstg T5 T11 T6 T12 C11 C12 A5 A6 A11 A12]
  · isplitr; · iexact Hctx
    isplitl [HA]; · iexact HA
    isplitl [HO]; · iexact HO
    isplitl [rbr0]; · iexact rbr0
    isplitl [rbl0]; · iexact rbl0
    isplitl [S5]; · iexact S5
    isplitl [agr0]; · iexact agr0
    isplitl [agl0]; · iexact agl0
    isplitl [Nrg]; · iexact Nrg
    isplitl [Nlg]; · iexact Nlg
    isplitl [Hstg]; · iexact Hstg
    isplitl [T5]; · iexact T5
    isplitl [T11]; · iexact T11
    isplitl [T6]; · iexact T6
    isplitl [T12]; · iexact T12
    isplitl [C11]; · iexact C11
    isplitl [C12]; · iexact C12
    isplitl [A5]; · iexact A5
    isplitl [A6]; · iexact A6
    isplitl [A11]; · iexact A11
    iexact A12
  iintro ⟨HA, HO, S5, Hstg, A5, A6, A11, A12, agr0, agl0, rbr0, rbl0, agr1, agl1⟩
  imod (close_cell X Wq KK VV WO K c 0 1 (by decide)) $$ [A0] with Z0
  · isplitr; · iexact Hctx
    iexact A0
  imod (close_cell X Wq KK VV WO K c 1 2 (by decide)) $$ [A1] with Z1
  · isplitr; · iexact Hctx
    iexact A1
  imod (close_cell X Wq KK VV WO K c 2 1 (by decide)) $$ [A2] with Z2
  · isplitr; · iexact Hctx
    iexact A2
  imod (close_cell X Wq KK VV WO K c 3 2 (by decide)) $$ [A3] with Z3
  · isplitr; · iexact Hctx
    iexact A3
  imod (close_cell X Wq KK VV WO K c 4 1 (by decide)) $$ [A4] with Z4
  · isplitr; · iexact Hctx
    iexact A4
  imod (close_cell X Wq KK VV WO K c 5 1 (by decide)) $$ [A5] with Z5
  · isplitr; · iexact Hctx
    iexact A5
  imod (close_cell X Wq KK VV WO K c 6 1 (by decide)) $$ [A6] with Z6
  · isplitr; · iexact Hctx
    iexact A6
  imod (close_cell X Wq KK VV WO K c 7 2 (by decide)) $$ [A7] with Z7
  · isplitr; · iexact Hctx
    iexact A7
  imod (close_cell X Wq KK VV WO K c 8 1 (by decide)) $$ [A8] with Z8
  · isplitr; · iexact Hctx
    iexact A8
  imod (close_cell X Wq KK VV WO K c 9 2 (by decide)) $$ [A9] with Z9
  · isplitr; · iexact Hctx
    iexact A9
  imod (close_cell X Wq KK VV WO K c 10 1 (by decide)) $$ [A10] with Z10
  · isplitr; · iexact Hctx
    iexact A10
  imod (close_cell X Wq KK VV WO K c 11 1 (by decide)) $$ [A11] with Z11
  · isplitr; · iexact Hctx
    iexact A11
  imod (close_cell X Wq KK VV WO K c 12 1 (by decide)) $$ [A12] with Z12
  · isplitr; · iexact Hctx
    iexact A12
  unfold slotAny
  icases sbr0 with ⟨%h11, sbr0⟩
  icases sbr1 with ⟨%j11, sbr1⟩
  ihave S11 := (join_sbr c h11 j11) $$ [sbr0 sbr1]
  · isplitl [sbr0] <;> iassumption
  icases rbr0 with ⟨%h12, rbr0⟩
  icases rbr1 with ⟨%j12, rbr1⟩
  ihave S12 := (join_rbr c h12 j12) $$ [rbr0 rbr1]
  · isplitl [rbr0] <;> iassumption
  icases sbl0 with ⟨%h13, sbl0⟩
  icases sbl1 with ⟨%j13, sbl1⟩
  ihave S13 := (join_sbl c h13 j13) $$ [sbl0 sbl1]
  · isplitl [sbl0] <;> iassumption
  icases rbl0 with ⟨%h14, rbl0⟩
  icases rbl1 with ⟨%j14, rbl1⟩
  ihave S14 := (join_rbl c h14 j14) $$ [rbl0 rbl1]
  · isplitl [rbl0] <;> iassumption
  icases agr0 with ⟨%h15, agr0⟩
  icases agr1 with ⟨%j15, agr1⟩
  ihave S15 := (join_agr c h15 j15) $$ [agr0 agr1]
  · isplitl [agr0] <;> iassumption
  icases agl0 with ⟨%h16, agl0⟩
  icases agl1 with ⟨%j16, agl1⟩
  ihave S16 := (join_agl c h16 j16) $$ [agl0 agl1]
  · isplitl [agl0] <;> iassumption
  unfold accAt
  icases HA with ⟨%g10, S10, -⟩
  iapply Hk
  isplitl [Hargs]; · iexact Hargs
  isplitl [S0 S1 S2 S3 S4 S5 S6 S7 S8 S9 S10 S11 S12 S13 S14 S15 S16]
  · isplitl [S0]; · iexact S0
    isplitl [S1]; · iexact S1
    isplitl [S2]; · iexact S2
    isplitl [S3]; · iexact S3
    isplitl [S4]; · iexact S4
    isplitl [S5]; · iexists _; iexact S5
    isplitl [S6]; · iexact S6
    isplitl [S7]; · iexists _; iexact S7
    isplitl [S8]; · iexists _; iexact S8
    isplitl [S9]; · iexists _; iexact S9
    isplitl [S10]; · iexists g10; iexact S10
    isplitl [S11]; · iexact S11
    isplitl [S12]; · iexact S12
    isplitl [S13]; · iexact S13
    isplitl [S14]; · iexact S14
    isplitl [S15]; · iexact S15
    iexact S16
  isplitl [Hstg]; · iexact Hstg
  isplitl [Hloc]; · iexact Hloc
  isplitl [HO]; · iexact HO
  unfold cellsZero
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  iexact Z12

end Core
end Cert.KernelIdeal.Run

end
-- ==== Proof.Run.Launch.lean ====
module

public import proofs.«01_k».proof.Proof.Run.Core
public import Idealize.ShloMosaic.Lib.Pipeline.Launch
public import Idealize.ShloMosaic.Lib.Pipeline.Kit
public import Idealize.ShloMosaic.Lib.Pipeline.CollectiveSegs

@[expose] public section

/-! What the launch hands every device: its cells opened, the tokens dealt around the ring, the credits of what is owed to it. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ss5 : DmaSem sig := ((cc0_scratch18.slice (Rect.unit (s := S8) ![5] S1.size inb_S8_S1_5)).squeeze S_ squeezes_S1_S_).sem
abbrev ss7 : DmaSem sig := ((cc0_scratch18.slice (Rect.unit (s := S8) ![7] S1.size inb_S8_S1_7)).squeeze S_ squeezes_S1_S_).sem
abbrev rs4 : DmaSem sig := ((cc0_scratch19.slice (Rect.unit (s := S8) ![4] S1.size inb_S8_S1_4)).squeeze S_ squeezes_S1_S_).sem
abbrev rs6 : DmaSem sig := ((cc0_scratch19.slice (Rect.unit (s := S8) ![6] S1.size inb_S8_S1_6)).squeeze S_ squeezes_S1_S_).sem

/-- The kernel's own semaphores. -/
def osem : Fin 20 → SemLoc sig :=
  ![.dma ls0, .dma ls1, .dma ls2, .dma ls3, .dma ss0, .dma ss1, .dma ss2, .dma ss3, .dma ss4, .dma ss5, .dma ss6, .dma ss7, .dma rs0, .dma rs1, .dma rs2, .dma rs3, .dma rs4, .dma rs5, .dma rs6, .dma rs7]

theorem ownSemFacts : Pipeline.OwnSemFacts cfg0.spec osem := by decide

/-- The own semaphores no step uses. -/
def spareSems (c : Dev nD) : sProp (MM F) := iprop(semVal ((c : Thread nD τ), .dma ss5) 0 ∗ semVal ((c : Thread nD τ), .dma ss7) 0 ∗ semVal ((c : Thread nD τ), .dma rs4) 0 ∗ semVal ((c : Thread nD τ), .dma rs6) 0)

def ringCells : Finset (GSem nD τ sig) := Finset.univ.map ⟨kcell, kcell_injective⟩

/-- The duties of a device's own cells: cell, round, and whose of the two. -/
def duty : Fin 18 → Fin 13 × ℕ × Bool :=
  ![(0, 0, true), (0, 0, false), (1, 0, false), (1, 1, false), (2, 0, false), (3, 0, false), (3, 1, false), (4, 0, false), (5, 0, false), (6, 0, false), (7, 0, false), (7, 1, false), (8, 0, false), (11, 0, false), (9, 0, false), (9, 1, false), (10, 0, false), (12, 0, false)]

theorem duty_injective : ∀ i j, duty i = duty j → i = j := by decide

def tokOf (cj : Dev nD × Fin 18) : GSem nD τ sig × ℕ × Bool := (kcell (cj.1, (duty cj.2).1), (duty cj.2).2)

theorem tokOf_injective : Function.Injective tokOf := by
  rintro ⟨c, i⟩ ⟨d, j⟩ h
  have h : (kcell (c, (duty i).1), (duty i).2) = (kcell (d, (duty j).1), (duty j).2) := h
  have h1 : (c, (duty i).1) = (d, (duty j).1) := kcell_injective (congrArg Prod.fst h)
  have h2 : (duty i).2 = (duty j).2 := (Prod.ext_iff.mp h).2
  have h3 : c = d := congrArg Prod.fst h1
  subst h3
  have : i = j := duty_injective i j (Prod.ext (congrArg Prod.snd h1) h2)
  subst this; rfl

def ringToks : Finset (GSem nD τ sig × ℕ × Bool) := Finset.univ.map ⟨tokOf, tokOf_injective⟩

/-- The launch element: the pipeline's rounds, the exchange's, and no counter. -/
def u₀ : UU :=
  (initOf (Pipeline.cells cfgs cellOf_inj) (Pipeline.launchToks cfgs cellOf_inj), (initOf ringCells ringToks, 1))

theorem ownU_three (a : UR sig nD τ) (b : UB) : (ownU ((a, (b, 1)) : UU) : sProp (MM F)) ⊢ iprop(BI.own (EP a) ∗ BI.own (ER b)) :=
  BI.own_op_elim ((uEmb (nD := nD) (sig := sig) (Ix := Bool) (Val := Elt F) (Name := ℕ) (U := UU) (Lvl := ℕ)).toEmb.op_of_mem
    (Prod.mk_mem_op (URA.mem_op_one a) (URA.mem_one_op (b, (1 : Counters)))))

/-- The tokens of a device's own cells. -/
def toks (c : Dev nD) : sProp (MM F) := iprop(dutyTok ER (kcell (c, 0)) 0 true ∗ dutyTok ER (kcell (c, 0)) 0 false ∗ dutyTok ER (kcell (c, 1)) 0 false ∗ dutyTok ER (kcell (c, 1)) 1 false ∗ dutyTok ER (kcell (c, 2)) 0 false ∗ dutyTok ER (kcell (c, 3)) 0 false ∗ dutyTok ER (kcell (c, 3)) 1 false ∗ dutyTok ER (kcell (c, 4)) 0 false ∗ dutyTok ER (kcell (c, 5)) 0 false ∗ dutyTok ER (kcell (c, 6)) 0 false ∗ dutyTok ER (kcell (c, 7)) 0 false ∗ dutyTok ER (kcell (c, 7)) 1 false ∗ dutyTok ER (kcell (c, 8)) 0 false ∗ dutyTok ER (kcell (c, 11)) 0 false ∗ dutyTok ER (kcell (c, 9)) 0 false ∗ dutyTok ER (kcell (c, 9)) 1 false ∗ dutyTok ER (kcell (c, 10)) 0 false ∗ dutyTok ER (kcell (c, 12)) 0 false)

section Launch
variable (T : Dev nD → FVec F S2048x1152 .f32) (Wo : Dev nD → FVec F S1024x1024 .bf16)

/-- What the launch element deals device `c`. -/
def G (c : Dev nD) : sProp (MM F) :=
  iprop((bigSep Finset.univ fun k : Fin 13 => roundState ER (Rd T Wo) (kcell (c, k)) 0)
    ∗ (bigSep Finset.univ fun k : Fin 13 => iprop(atPos ER (kcell (c, k)) 0 ∅ 0 ∗ reached ER (kcell (c, k)) 0)) ∗ toks c)

/-- What all devices know of the cells. -/
def recs (K : Dev nD × Fin 13 → ℕ) : sProp (MM F) :=
  iprop((bigSep Finset.univ fun ck : Dev nD × Fin 13 => cellInv ER (Rd T Wo) (K ck) (kcell ck))
    ∗ bigSep Finset.univ fun ck : Dev nD × Fin 13 => reached ER (kcell ck) 0)

instance recs_persistent (K : Dev nD × Fin 13 → ℕ) : BI.Persistent (recs T Wo K) := by unfold recs; infer_instance

/-- What the global step makes of it. -/
def G' (c : Dev nD) : sProp (MM F) := iprop(∃ K, recs T Wo K ∗ atStart c ∗ payToks c ∗ locSems c ∗ spareSems c)

theorem bigSep_fin13 (Φ : Fin 13 → sProp (MM F)) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem bigSep_fin18 (Φ : Fin 18 → sProp (MM F)) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

theorem fund_ring : BI.own (ER (initOf ringCells ringToks)) ⊢ (|==> bigSep Finset.univ (G T Wo) : sProp (MM F)) := by
  have hX (Φ : GSem nD τ sig → sProp (MM F)) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp (MM F))) = bigSep Finset.univ fun c : Dev nD => toks c := by
    unfold ringToks; rw [bigSep_map, bigSep_univ_prod]
    exact bigSep_congr fun c _ => by unfold toks; rw [bigSep_fin18]; rfl
  iintro HX
  imod (Rounds.fund ER (Rd T Wo) ringCells ringToks) $$ HX with ⟨Hst, Hr, Hat, Htok⟩
  imodintro
  ihave Hst := (Entails.of_eq (hX fun g => roundState ER (Rd T Wo) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems0_eq (c : Dev nD) : (Pipeline.ownSems0 (Ix := Bool) (Name := ℕ) (U := UU) (Lvl := ℕ) (Val := Elt F) (τ := τ) osem c : sProp (MM F))
    = iprop(semVal ((c : Thread nD τ), .dma ls0) 0 ∗ semVal ((c : Thread nD τ), .dma ls1) 0 ∗ semVal ((c : Thread nD τ), .dma ls2) 0 ∗ semVal ((c : Thread nD τ), .dma ls3) 0 ∗ semVal ((c : Thread nD τ), .dma ss0) 0 ∗ semVal ((c : Thread nD τ), .dma ss1) 0 ∗ semVal ((c : Thread nD τ), .dma ss2) 0 ∗ semVal ((c : Thread nD τ), .dma ss3) 0 ∗ semVal ((c : Thread nD τ), .dma ss4) 0 ∗ semVal ((c : Thread nD τ), .dma ss5) 0 ∗ semVal ((c : Thread nD τ), .dma ss6) 0 ∗ semVal ((c : Thread nD τ), .dma ss7) 0 ∗ semVal ((c : Thread nD τ), .dma rs0) 0 ∗ semVal ((c : Thread nD τ), .dma rs1) 0 ∗ semVal ((c : Thread nD τ), .dma rs2) 0 ∗ semVal ((c : Thread nD τ), .dma rs3) 0 ∗ semVal ((c : Thread nD τ), .dma rs4) 0 ∗ semVal ((c : Thread nD τ), .dma rs5) 0 ∗ semVal ((c : Thread nD τ), .dma rs6) 0 ∗ semVal ((c : Thread nD τ), .dma rs7) 0) := by
  rw [Pipeline.ownSems0_eq_of_list c osem [0, 1, 2, 3, 4, 5, 6, 7, 8, 9, 10, 11, 12, 13, 14, 15, 16, 17, 18, 19] (by decide) (by decide)]; rfl

theorem unscopedSems0_eq (c : Dev nD) : (unscopedSems0 c : sProp (MM F)) = semVal ((c : Thread nD τ), .reg bar) 0 := by
  unfold unscopedSems0; rw [bigSep_eq_bigSepL_of_eq [SemLoc.reg bar] (by decide) (by decide)]; rfl

theorem sems0_split (c : Dev nD) :
    iprop(Pipeline.ownSems0 (Ix := Bool) (Name := ℕ) (U := UU) (Lvl := ℕ) (Val := Elt F) (τ := τ) osem c ∗ unscopedSems0 c)
      ⊢ iprop((bigSep Finset.univ fun k : Fin 13 => semVal (kcell (c, k)) 0) ∗ locSems c ∗ spareSems c : sProp (MM F)) := by
  rw [ownSems0_eq, unscopedSems0_eq, bigSep_fin13]
  unfold locSems spareSems
  iintro ⟨⟨ls0, ls1, ls2, ls3, ss0, ss1, ss2, ss3, ss4, ss5, ss6, ss7, rs0, rs1, rs2, rs3, rs4, rs5, rs6, rs7⟩, bar⟩
  isplitl [bar ss0 ss1 ss2 ss3 ss4 ss6 rs0 rs1 rs2 rs3 rs5 rs7]
  · isplitl [bar]; · iexact bar
    isplitl [ss0]; · iexact ss0
    isplitl [ss1]; · iexact ss1
    isplitl [ss2]; · iexact ss2
    isplitl [ss3]; · iexact ss3
    isplitl [ss4]; · iexact ss4
    isplitl [ss6]; · iexact ss6
    isplitl [rs0]; · iexact rs0
    isplitl [rs1]; · iexact rs1
    isplitl [rs2]; · iexact rs2
    isplitl [rs3]; · iexact rs3
    isplitl [rs5]; · iexact rs5
    iexact rs7
  isplitl [ls0 ls1 ls2 ls3]
  · isplitl [ls0]; · iexact ls0
    isplitl [ls1]; · iexact ls1
    isplitl [ls2]; · iexact ls2
    iexact ls3
  isplitl [ss5]; · iexact ss5
  isplitl [ss7]; · iexact ss7
  isplitl [rs4]; · iexact rs4
  iexact rs6

theorem sems0_join (c : Dev nD) :
    iprop(cellsZero c ∗ locSems c ∗ spareSems c)
      ⊢ iprop(unscopedSems0 c ∗ Pipeline.ownSems0 (Ix := Bool) (Name := ℕ) (U := UU) (Lvl := ℕ) (Val := Elt F) (τ := τ) osem c : sProp (MM F)) := by
  rw [ownSems0_eq, unscopedSems0_eq]
  unfold locSems spareSems cellsZero
  iintro ⟨⟨bar, ss0, ss1, ss2, ss3, ss4, ss6, rs0, rs1, rs2, rs3, rs5, rs7⟩, ⟨ls0, ls1, ls2, ls3⟩, ss5, ss7, rs4, rs6⟩
  isplitl [bar]; · iexact bar
  isplitl [ls0]; · iexact ls0
  isplitl [ls1]; · iexact ls1
  isplitl [ls2]; · iexact ls2
  isplitl [ls3]; · iexact ls3
  isplitl [ss0]; · iexact ss0
  isplitl [ss1]; · iexact ss1
  isplitl [ss2]; · iexact ss2
  isplitl [ss3]; · iexact ss3
  isplitl [ss4]; · iexact ss4
  isplitl [ss5]; · iexact ss5
  isplitl [ss6]; · iexact ss6
  isplitl [ss7]; · iexact ss7
  isplitl [rs0]; · iexact rs0
  isplitl [rs1]; · iexact rs1
  isplitl [rs2]; · iexact rs2
  isplitl [rs3]; · iexact rs3
  isplitl [rs4]; · iexact rs4
  isplitl [rs5]; · iexact rs5
  isplitl [rs6]; · iexact rs6
  iexact rs7

theorem core_alloc (c : Dev nD) :
    iprop(Pipeline.ownSems0 (Ix := Bool) (Name := ℕ) (U := UU) (Lvl := ℕ) (Val := Elt F) (τ := τ) osem c ∗ unscopedSems0 c ∗ G T Wo c)
      ⊢ |={Set.univ}=> iprop((bigSep Finset.univ fun k => iprop(∃ κ : ℕ, cellInv ER (Rd T Wo) κ (kcell (c, k))))
          ∗ (bigSep Finset.univ fun k => iprop(atPos ER (kcell (c, k)) 0 ∅ 0 ∗ reached ER (kcell (c, k)) 0)) ∗ toks c ∗ locSems c ∗ spareSems c) := by
  unfold G
  iintro ⟨Hos, Hus, Hst, Hat, Htok⟩
  ihave Hv := (sems0_split (F := F) c) $$ [Hos Hus]
  · isplitl [Hos] <;> iassumption
  icases Hv with ⟨Hv, Hloc, Hsp⟩
  imod (show iprop((bigSep Finset.univ fun k : Fin 13 => semVal (kcell (c, k)) 0) ∗ bigSep Finset.univ fun k : Fin 13 => roundState ER (Rd T Wo) (kcell (c, k)) 0)
      ⊢ (|={Set.univ}=> bigSep Finset.univ fun k => iprop(∃ κ : ℕ, cellInv ER (Rd T Wo) κ (kcell (c, k))) : sProp (MM F)) from by
        rw [← bigSep_sep']
        exact (bigSep_mono fun k _ => (Rounds.body_intro ER (Rd T Wo) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hloc]; · iexact Hloc
  iexact Hsp

/-- The tokens dealt around the ring: each to the device that pays the duty. -/
theorem toks_around : (bigSep Finset.univ fun c : Dev nD => (toks c : sProp (MM F))) ⊢ bigSep Finset.univ fun c : Dev nD => payToks c := by
  unfold toks payToks
  simp only [bigSep_sep']
  iintro ⟨H0, H1, H2, H3, H4, H5, H6, H7, H8, H9, H10, H11, H12, H13, H14, H15, H16, H17⟩
  ihave H0 := (Entails.of_eq (bigSep_univ_equiv ring.symm (fun c : Dev nD => (dutyTok ER (kcell (c, 0)) 0 true : sProp (MM F))))) $$ H0
  ihave H1 := (Entails.of_eq (bigSep_univ_equiv ring (fun c : Dev nD => (dutyTok ER (kcell (c, 0)) 0 false : sProp (MM F))))) $$ H1
  ihave H10 := (Entails.of_eq (bigSep_univ_equiv ring (fun c : Dev nD => (dutyTok ER (kcell (c, 7)) 0 false : sProp (MM F))))) $$ H10
  ihave H11 := (Entails.of_eq (bigSep_univ_equiv ring (fun c : Dev nD => (dutyTok ER (kcell (c, 7)) 1 false : sProp (MM F))))) $$ H11
  ihave H12 := (Entails.of_eq (bigSep_univ_equiv ring (fun c : Dev nD => (dutyTok ER (kcell (c, 8)) 0 false : sProp (MM F))))) $$ H12
  ihave H13 := (Entails.of_eq (bigSep_univ_equiv ring (fun c : Dev nD => (dutyTok ER (kcell (c, 11)) 0 false : sProp (MM F))))) $$ H13
  ihave H14 := (Entails.of_eq (bigSep_univ_equiv ring.symm (fun c : Dev nD => (dutyTok ER (kcell (c, 9)) 0 false : sProp (MM F))))) $$ H14
  ihave H15 := (Entails.of_eq (bigSep_univ_equiv ring.symm (fun c : Dev nD => (dutyTok ER (kcell (c, 9)) 1 false : sProp (MM F))))) $$ H15
  ihave H16 := (Entails.of_eq (bigSep_univ_equiv ring.symm (fun c : Dev nD => (dutyTok ER (kcell (c, 10)) 0 false : sProp (MM F))))) $$ H16
  ihave H17 := (Entails.of_eq (bigSep_univ_equiv ring.symm (fun c : Dev nD => (dutyTok ER (kcell (c, 12)) 0 false : sProp (MM F))))) $$ H17
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem with_persistent {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with device `c` alone. -/
def own1 (c : Dev nD) : sProp (MM F) :=
  iprop((bigSep Finset.univ fun k : Fin 13 => atPos ER (kcell (c, k)) 0 ∅ 0) ∗ payToks c ∗ locSems c ∗ spareSems c)

theorem ghost_intro (K : Dev nD × Fin 13 → ℕ) (c : Dev nD) : iprop(recs T Wo K ∗ own1 c) ⊢ G' T Wo c := by
  unfold own1 G' atStart
  rw [bigSep_fin13]
  iintro ⟨#HI, Ha, Ht, Hl, Hs⟩
  iexists K
  isplitr; · iexact HI
  isplitl [Ha]; · iexact Ha
  isplitl [Ht]; · iexact Ht
  isplitl [Hl]; · iexact Hl
  iexact Hs

theorem regroup :
    (bigSep Finset.univ fun c : Dev nD => iprop((bigSep Finset.univ fun k => iprop(∃ κ : ℕ, cellInv ER (Rd T Wo) κ (kcell (c, k))))
          ∗ (bigSep Finset.univ fun k => iprop(atPos ER (kcell (c, k)) 0 ∅ 0 ∗ reached ER (kcell (c, k)) 0)) ∗ toks c ∗ locSems c ∗ spareSems c) : sProp (MM F))
      ⊢ bigSep Finset.univ (G' T Wo) := by
  rw [bigSep_sep', bigSep_sep', bigSep_sep', bigSep_sep', ← bigSep_univ_prod (fun ck : Dev nD × Fin 13 => iprop(∃ κ : ℕ, cellInv ER (Rd T Wo) κ (kcell ck))),
    bigSep_congr (s := Finset.univ) (fun (c : Dev nD) _ => bigSep_sep' Finset.univ (fun k : Fin 13 => (atPos ER (kcell (c, k)) 0 ∅ 0 : sProp (MM F))) (fun k => reached ER (kcell (c, k)) 0)),
    bigSep_sep', ← bigSep_univ_prod (fun ck : Dev nD × Fin 13 => (reached ER (kcell ck) 0 : sProp (MM F)))]
  iintro ⟨HI, ⟨Hat, #HR⟩, Htok, Hloc, Hsp⟩
  ihave HK := (BI.bigSep_exists_pi Finset.univ (fun (ck : Dev nD × Fin 13) (κ : ℕ) => (cellInv ER (Rd T Wo) κ (kcell ck) : sProp (MM F)))) $$ HI
  icases HK with ⟨%K, #HI⟩
  ihave Htk := (toks_around (F := F)) $$ Htok
  iapply (with_persistent (R := recs T Wo K) fun c _ => ghost_intro T Wo K c)
  isplitr
  · unfold recs; isplitl; · iexact HI
    iexact HR
  · unfold own1
    simp only [bigSep_sep']
    isplitl [Hat]; · iexact Hat
    isplitl [Htk]; · iexact Htk
    isplitl [Hloc]; · iexact Hloc
    iexact Hsp

theorem glob : (bigSep Finset.univ fun c => iprop(Pipeline.ownSems0 (Ix := Bool) (Name := ℕ) (U := UU) (Lvl := ℕ) (Val := Elt F) (τ := τ) osem c ∗ unscopedSems0 c ∗ G T Wo c) : sProp (MM F))
    ⊢ |={Set.univ}=> bigSep Finset.univ (G' T Wo) :=
  ((bigSep_mono fun c _ => core_alloc T Wo c).trans (bigSep_fupd _ _)).trans (BI.fupd_mono (regroup T Wo))

end Launch

/-! ## The credits of what is owed -/

/-- Of one thing every device owes a neighbour's cell, the credit at one's own. -/
theorem cred_around (f : Equiv.Perm (Dev nD)) (k : Fin 13) (u : Bool) (a : ℕ) (c : Dev nD) :
    (Pipeline.launchCred (fun d => tallyAt (kcell (f d, k)) u a) c : sProp (MM F)) ⊢ cred (tallyAt (kcell (c, k)) u a) := by
  have h := Pipeline.launchCred_elim (Val := Elt F) (Name := ℕ) (U := UU) (Lvl := ℕ) (fun d => tallyAt (kcell (f d, k)) u a) c (csem k)
  rw [Pipeline.tallyOn_launchCredit_owing] at h
  have e : (∑ d, tallyAt (kcell (f d, k)) u a) ((c : Thread nD τ), csem k) = (Finsupp.single u a : Tally Bool) := by
    rw [Finset.sum_apply]
    rw [Finset.sum_eq_single (f.symm c)]
    · rw [Equiv.apply_symm_apply]; exact tallyOn_self _ _
    · intro d _ hd
      refine tallyAt_ne_cell (fun h' => hd ?_) _ _
      have h2 : (c, k) = (f d, k) := kcell_injective h'
      have h3 : c = f d := congrArg Prod.fst h2
      rw [h3, Equiv.symm_apply_apply]
    · exact fun hn => absurd (Finset.mem_univ _) hn
  rw [e] at h
  exact h

theorem creds (c : Dev nD) : (Pipeline.launchCred O₀ c : sProp (MM F)) ⊢ credsIn c := by
  have hs : (Pipeline.launchCred O₀ c : sProp (MM F)) = iprop((((((((((Pipeline.launchCred (fun d => tallyAt (kcell (ring.symm d, 12)) false (amt 12)) c
      ∗ Pipeline.launchCred (fun d => tallyAt (kcell (ring d, 11)) false (amt 11)) c)
      ∗ Pipeline.launchCred (fun d => tallyAt (kcell (ring.symm d, 9)) true (amt 9)) c)
      ∗ Pipeline.launchCred (fun d => tallyAt (kcell (ring d, 7)) true (amt 7)) c)
      ∗ Pipeline.launchCred (fun d => tallyAt (kcell (ring.symm d, 10)) false (amt 10)) c)
      ∗ Pipeline.launchCred (fun d => tallyAt (kcell (ring d, 8)) false (amt 8)) c)
      ∗ Pipeline.launchCred (fun d => tallyAt (kcell (ring.symm d, 9)) false (amt 9)) c)
      ∗ Pipeline.launchCred (fun d => tallyAt (kcell (ring d, 7)) false (amt 7)) c)
      ∗ Pipeline.launchCred (fun d => tallyAt (kcell (ring d, 0)) false (amt 0)) c)
      ∗ Pipeline.launchCred (fun d => tallyAt (kcell (ring.symm d, 0)) false (amt 0)) c)) := by
    simp only [← Pipeline.launchCred_add]
    rfl
  rw [hs]
  iintro ⟨⟨⟨⟨⟨⟨⟨⟨⟨H12, H11⟩, H9b⟩, H7b⟩, H10⟩, H8⟩, H9a⟩, H7a⟩, H0a⟩, H0b⟩
  ihave H12 := (cred_around ring.symm 12 false (amt 12) c) $$ H12
  ihave H11 := (cred_around ring 11 false (amt 11) c) $$ H11
  ihave H9b := (cred_around ring.symm 9 true (amt 9) c) $$ H9b
  ihave H7b := (cred_around ring 7 true (amt 7) c) $$ H7b
  ihave H10 := (cred_around ring.symm 10 false (amt 10) c) $$ H10
  ihave H8 := (cred_around ring 8 false (amt 8) c) $$ H8
  ihave H9a := (cred_around ring.symm 9 false (amt 9) c) $$ H9a
  ihave H7a := (cred_around ring 7 false (amt 7) c) $$ H7a
  ihave H0a := (cred_around ring 0 false (amt 0) c) $$ H0a
  ihave H0b := (cred_around ring.symm 0 false (amt 0) c) $$ H0b
  have h0 : iprop(cred (tallyAt (kcell (c, 0)) false (amt 0)) ∗ cred (tallyAt (kcell (c, 0)) false (amt 0))) ⊢ (cred (tallyAt (kcell (c, 0)) false 2) : sProp (MM F)) := by
    have h := (cred_add (Val := Elt F) (Name := ℕ) (U := UU) (Lvl := ℕ) (tallyAt (kcell (c, 0)) false (amt 0)) (tallyAt (kcell (c, 0)) false (amt 0))).2
    rw [tallyAt_add] at h
    exact h
  ihave H0 := h0 $$ [H0a H0b]
  · isplitl [H0a] <;> iassumption
  unfold credsIn
  isplitl [H0]; · iexact H0
  isplitl [H7a]; · iexact H7a
  isplitl [H7b]; · iexact H7b
  isplitl [H8]; · iexact H8
  isplitl [H9a]; · iexact H9a
  isplitl [H9b]; · iexact H9b
  isplitl [H10]; · iexact H10
  isplitl [H11]; · iexact H11
  iexact H12

end Cert.KernelIdeal.Run

end
-- ==== Proof.Run.Whole.lean ====
module

public import proofs.«01_k».proof.Proof.Run.Text
public import Idealize.ShloMosaic.Lib.Pipeline.Regions

@[expose] public section

/-! The printed body is `bodyProg`, by unfolding both. -/

namespace Cert.KernelIdeal.Run

open Idealize.ShloMosaic Idealize.SL.Sem
open Cert.KernelIdeal Cert.KernelIdeal.Gen

variable {F : FTy → Type} [FloatOps F]

set_option maxRecDepth 65536 in
/-- The body the pipeline runs at its one point is `bodyProg`. -/
theorem bodyAt_eq : bodyAt0 (F := F) ⟨0, by decide⟩ = bodyProg := by
  chain_rfl

end Cert.KernelIdeal.Run

end
-- ==== Proof.Run.Main.lean ====
module

public import proofs.«01_k».proof.Proof.Run.Launch
public import proofs.«01_k».proof.Proof.Run.Whole
public import Idealize.ShloMosaic.Lib.Pipeline.Value
public import Idealize.ShloMosaic.Lib.Pipeline.ValueKit.Geometry
public import Idealize.ShloMosaic.Lib.Tactic

@[expose] public section

/-! The run of the whole program on the four devices, at any float values. -/

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Main
variable (m : (ℓ : Loc nD τ sig) → Buf (Elt F) ℓ) (ρ : Dev nD → PrngReg)

/-- The arguments as device `c` holds them at the launch. -/
def aX (c : Dev nD) : FVec F S2048x1024 .f32 := m ((c : Thread nD τ).loc main_arg0)
def aWq (c : Dev nD) : FVec F S1024x1024 .f32 := m ((c : Thread nD τ).loc main_arg1)
def aK (c : Dev nD) : FVec F S2048x8x128 .f32 := m ((c : Thread nD τ).loc main_arg2)
def aV (c : Dev nD) : FVec F S2048x8x128 .f32 := m ((c : Thread nD τ).loc main_arg3)
def aWo (c : Dev nD) : FVec F S1024x1024 .f32 := m ((c : Thread nD τ).loc main_arg4)

/-- The sums and the output projection of every device, and the block each device stores. -/
abbrev mT : Dev nD → FVec F S2048x1152 .f32 := TT (aX m) (aWq m) (aK m) (aV m)
abbrev mW : Dev nD → FVec F S1024x1024 .bf16 := WW (aWo m)
def mOut (c : Dev nD) : FVec F S1024x1024 .f32 := outAt (mT m) (mW m) c

/-- The five arguments whole. -/
def argsWhole (c : Dev nD) : sProp (MM F) :=
  iprop(pts c main_arg0 (aX m c) ∗ pts c main_arg1 (aWq m c) ∗ pts c main_arg2 (aK m c) ∗ pts c main_arg3 (aV m c) ∗ pts c main_arg4 (aWo m c))

theorem args_split (c : Dev nD) : argsWhole m c ⊢ argsHeld c fullShare.left fullShare.right (aX m c) (aWq m c) (aK m c) (aV m c) (aWo m c) := by
  unfold argsWhole argsHeld
  have h (b : Ref sig .tc) (f : Buf (Elt F) ((c : Thread nD τ).loc b)) : pts c b f ⊢ iprop(ptq c b fullShare.left f ∗ ptq c b fullShare.right f) :=
    (pointsTo_share (PosShare.mem_left_op_right fullShare)).1
  iintro ⟨H0, H1, H2, H3, H4⟩
  ihave H0 := (h main_arg0 _) $$ H0
  ihave H2 := (h main_arg2 _) $$ H2
  ihave H3 := (h main_arg3 _) $$ H3
  icases H0 with ⟨X1, X2⟩
  icases H2 with ⟨K1, K2⟩
  icases H3 with ⟨V1, V2⟩
  isplitl [X1]; · iexact X1
  isplitl [X2]; · iexact X2
  isplitl [H1]; · iexact H1
  isplitl [K1]; · iexact K1
  isplitl [K2]; · iexact K2
  isplitl [V1]; · iexact V1
  isplitl [V2]; · iexact V2
  iexact H4

theorem args_join (c : Dev nD) : argsHeld c fullShare.left fullShare.right (aX m c) (aWq m c) (aK m c) (aV m c) (aWo m c) ⊢ argsWhole m c := by
  unfold argsWhole argsHeld
  have h (b : Ref sig .tc) (f : Buf (Elt F) ((c : Thread nD τ).loc b)) : iprop(ptq c b fullShare.left f ∗ ptq c b fullShare.right f) ⊢ pts c b f :=
    (pointsTo_share (PosShare.mem_left_op_right fullShare)).2
  iintro ⟨X1, X2, H1, K1, K2, V1, V2, H4⟩
  ihave H0 := (h main_arg0 _) $$ [X1 X2]
  · isplitl [X1] <;> iassumption
  ihave H2 := (h main_arg2 _) $$ [K1 K2]
  · isplitl [K1] <;> iassumption
  ihave H3 := (h main_arg3 _) $$ [V1 V2]
  · isplitl [V1] <;> iassumption
  isplitl [H0]; · iexact H0
  isplitl [H1]; · iexact H1
  isplitl [H2]; · iexact H2
  isplitl [H3]; · iexact H3
  iexact H4

/-- What device `c` enters the call with. -/
def start (c : Dev nD) : sProp (MM F) :=
  iprop((∃ K, ctx (mT m) (mW m) K ∗ atStart c ∗ payToks c ∗ locSems c ∗ spareSems c) ∗ credsIn c ∗ argsWhole m c)

def Φ₀ (c : Dev nD) : sProp (MM F) := iprop(start m c ∗ scratchAny c)
def Φ₁ (c : Dev nD) : sProp (MM F) := iprop(argsWhole m c ∗ scratchAny c ∗ locSems c ∗ spareSems c ∗ cellsZero c)

def dats (_ : Fin 1) (c : Dev nD) : Pipeline.Dat τ (Elt F) Bool ℕ UU ℕ cfg0 c where
  A w := m ((cfg0.win w).arr.view.loc (c : Thread nD τ))
  after w _ := match w with
    | ⟨0, _⟩ => mOut m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Bool) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp (MM F) :=
  iprop(∃ f : Buf (Elt F) (((c : Dev nD) : Thread nD τ).loc b), ⌜f = X⌝ ∗ (((c : Thread nD τ).loc b) ↦{fullShare} f))

def bodyPre (c : Dev nD) : sProp (MM F) :=
  iprop(Φ₀ m c ∗ (dats m 0 c).owesAt false t0_0.castSucc ∗ (∃ d, stg c cc0_stg0_0 ((dats m 0 c).before (0 : Fin 1) t0_0 d)))
def bodyPost (c : Dev nD) : sProp (MM F) :=
  iprop(Φ₁ m c ∗ (dats m 0 c).owesAt false t0_0.succ ∗ stg c cc0_stg0_0 (mOut m c))

theorem sound_body (c : Dev nD) : bodyPre m c ⊢ wpB c (bodyOf c) (fun _ => bodyPost m c) := by
  unfold bodyPre Φ₀ start
  iintro ⟨⟨⟨⟨%K, #Hctx, Hat, Htok, Hloc, Hsp⟩, Hcr, Hargs⟩, Hscr⟩, Ho, ⟨%d0, %g0, %hg0, Hstg⟩⟩
  unfold Pipeline.Dat.owesAt Pipeline.owesWithin
  icases Ho with ⟨%W, %hW, HO⟩
  rw [show (dats m 0 c).owed t0_0.castSucc = O₀ c from rfl]
  ihave Hargs := (args_split m c) $$ Hargs
  iapply (body_core (aX m) (aWq m) (aK m) (aV m) (aWo m) K c fullShare.left fullShare.right) $$ [Hargs Hscr Hstg Hloc HO Hat Htok Hcr]
  · isplitr; · iexact Hctx
    isplitl [Hargs]; · iexact Hargs
    isplitl [Hscr]; · iexact Hscr
    isplitl [Hstg]; · iexists g0; iexact Hstg
    isplitl [Hloc]; · iexact Hloc
    isplitl [HO]
    · unfold owesE; iexists W; iexact HO
    isplitl [Hat]; · iexact Hat
    isplitl [Htok]; · iexact Htok
    iexact Hcr
  iintro ⟨Hargs, Hscr, Hstg, Hloc, HO, Hz⟩
  imodintro
  ihave Hargs := (args_join m c) $$ Hargs
  unfold bodyPost Φ₁ Pipeline.Dat.owesAt Pipeline.owesWithin owesE
  icases HO with ⟨%W', HO⟩
  rw [show (dats m 0 c).owed t0_0.succ = 0 from rfl]
  isplitl [Hargs Hscr Hloc Hsp Hz]
  · isplitl [Hargs]; · iexact Hargs
    isplitl [Hscr]; · iexact Hscr
    isplitl [Hloc]; · iexact Hloc
    isplitl [Hsp]; · iexact Hsp
    iexact Hz
  isplitl [HO]
  · iexists W'
    isplitr; · ipureintro; exact fun _ _ => Or.inl trivial
    iexact HO
  iexists _; isplitr; · (ipureintro; rfl)
  iexact Hstg

set_option maxRecDepth 65536 in
/-- The body obligation of the one point. -/
theorem body_obligation (c : Dev nD) : Pipeline.BodyObligation (dats m 0 c) (defs₀ (F := F)) 𝒱₀ false Set.univ := fun t => by
  rw [fin_N0 t]
  rw [bigSep_W0, bigSep_W0]
  simp only [owns_whole_eq]
  show bodyPre m c ⊢ wpB c (bodyAt0 (F := F) ⟨0, by decide⟩) (fun _ => bodyPost m c)
  rw [bodyAt_eq]
  unfold bodyProg wpB
  rw [wp_deviceId]
  exact sound_body m c

theorem share_eq (c : Dev nD) (w : Fin cfg0.W) : (dats m 0 c).share w = fullShare := by unfold Pipeline.Dat.share; split <;> rfl

theorem Lix_of_ne (g : GSem nD τ sig) (h : g.1.2 ≠ .tc) : Lix g = ∅ := if_neg h

theorem start_intro (c : Dev nD) :
    iprop(Pipeline.unscopedRestP Pipeline.Prefetch.none cfg0.spec c (fun b => m ((c : Thread nD τ).loc b)) ∗ levAts Lix lv
        ∗ Pipeline.launchCred O₀ c ∗ prngReg c (ρ c) ∗ G' (mT m) (mW m) c)
      ⊢ |={Set.univ}=> iprop(start m c ∗ emp) := by
  have hr : (Pipeline.unscopedRestP Pipeline.Prefetch.none cfg0.spec c (fun b => m ((c : Thread nD τ).loc b)) : sProp (MM F)) ⊢ argsWhole m c :=
    (show _ ⊢ Pipeline.unscopedRest spec0 c (fun b => m ((c : Thread nD τ).loc b)) from Entails.of_eq (Pipeline.unscopedRestP_none _ _ _)).trans (Entails.of_eq (unscopedRest0_eq c _))
  iintro ⟨Ha, Hlev, Hcr, -, HG⟩
  ihave Ha := hr $$ Ha
  ihave Hc := (creds (F := F) c) $$ Hcr
  imodintro
  unfold start G'
  icases HG with ⟨%K, #Hr, H1, H2, H3, H4⟩
  isplitl
  · isplitl [Hlev H1 H2 H3 H4]
    · iexists K
      isplitl [Hlev]
      · unfold ctx recs
        icases Hr with ⟨#Hi, #Hr⟩
        isplitr; · iexact Hi
        isplitr; · iexact Hr
        iexact Hlev
      isplitl [H1]; · iexact H1
      isplitl [H2]; · iexact H2
      isplitl [H3]; · iexact H3
      iexact H4
    isplitl [Hc]; · iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchAny
  iintro ⟨Hs, -, Hr⟩
  isplitl [Hs]; · iexact Hs
  iexact Hr

/-- What is read of the machine once the device is through: its arguments and the barrier's counter. -/
def endY (c : Dev nD) : sProp (MM F) := iprop(argsWhole m c ∗ unscopedSems0 c)

theorem phi1_exit (c : Dev nD) :
    (dats m 0 c).Φ (Fin.last cfg0.N) ⊢ iprop(endY m c ∗ Pipeline.ownSems0 osem c ∗ Pipeline.scopedRest cfg0.spec c) := by
  rw [show (dats m 0 c).Φ (Fin.last cfg0.N) = Φ₁ m c from rfl, scopedRest0_eq]
  unfold Φ₁ endY
  iintro ⟨Ha, Hr, Hl, Hs, Hz⟩
  ihave Hz := (sems0_join (F := F) c) $$ [Hl Hs Hz]
  · isplitl [Hz]; · iexact Hz
    isplitl [Hl]; · iexact Hl
    iexact Hs
  icases Hz with ⟨Hu, Ho⟩
  isplitl [Ha Hu]
  · isplitl [Ha]; · iexact Ha
    iexact Hu
  isplitl [Ho]; · iexact Ho
  unfold scratchAny
  iexact Hr

theorem waits (c : Dev nD) : (levAts Lix lv : sProp (MM F)) ⊢ Pipeline.cellsWaits cfgs (dats m) false 0 c :=
  Pipeline.cellsWaits_intro cfgs (dats m) false 0 c fun w s t => by
    refine mayWait_of c _ false _ 0 ?_ ?_
    · have h : ∀ (w : Fin 1) (s : Fin (spec0 w).nbuf), cellIx (.dma ((spec0 w).sem s)) = none := by decide
      dsimp only [lv]
      exact Nat.le_of_eq (by rw [h w s])
    · rcases t with ⟨_ | _, ht⟩
      · exact above_O₀ c
      · exact above_zero 0

/-- What holds of the memory once every device is through. -/
def argsKept (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

theorem read_one (c : Dev nD) (b : Ref sig .tc) (f : Buf (Elt F) ((c : Thread nD τ).loc b)) (s' : Phys nD τ sig (Elt F)) :
    iprop(SI s' ∗ pts c b f) ⊢ (⌜s'.mem.mem ((c : Thread nD τ).loc b) = f⌝ : sProp (MM F)) :=
  SI_pointsTo_agree.trans (Laws.pure_mono fun h => funext fun i => h i (Finset.mem_univ i))

theorem args_read (c : Dev nD) (s' : Phys nD τ sig (Elt F)) :
    iprop(argsWhole m c ∗ SI s') ⊢ (iprop(⌜argsKept m c s'.mem⌝ ∗ SI s') : sProp (MM F)) := by
  unfold argsWhole
  iintro ⟨⟨H0, H1, H2, H3, H4⟩, HSI⟩
  ihave %h0 := (read_one c main_arg0 _ s') $$ [HSI H0]
  · isplitl [HSI] <;> iassumption
  ihave %h1 := (read_one c main_arg1 _ s') $$ [HSI H1]
  · isplitl [HSI] <;> iassumption
  ihave %h2 := (read_one c main_arg2 _ s') $$ [HSI H2]
  · isplitl [HSI] <;> iassumption
  ihave %h3 := (read_one c main_arg3 _ s') $$ [HSI H3]
  · isplitl [HSI] <;> iassumption
  ihave %h4 := (read_one c main_arg4 _ s') $$ [HSI H4]
  · isplitl [HSI] <;> iassumption
  isplitr
  · ipureintro; exact ⟨h0, h1, h2, h3, h4⟩
  iexact HSI

def QC : PUnit × MemSt nD τ sig (Elt F) → Prop := fun r =>
  ∀ c : Dev nD, argsKept m c r.2 ∧ r.2.mem ((c : Thread nD τ).loc main_v1) = mOut m c

theorem final_out (c : Dev nD) : (dats m 0 c).arrAt (0 : Fin 1) cfg0.N = mOut m c := by
  refine (dats m 0 c).arrAt_eq_of_after_last (0 : Fin 1) t0_0 (by decide +kernel) _ fun j => ?_
  rfl

set_option maxRecDepth 65536 in
/-- From any memory with zero counters, every weakly fair execution on the four devices terminates; at the end each
    device's result is its block, its arguments are unchanged and every semaphore counter is zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := Lix) (lv := lv) (hL := Lix_of_ne) (hwaits := waits m)
    (G := G (mT m) (mW m)) (G' := G' (mT m) (mW m)) (u₀ := u₀)
    (hu₀ := by
      unfold u₀
      iintro Hu
      ihave H := (ownU_three _ _) $$ Hu
      icases H with ⟨HP, HX⟩
      imod (fund_ring (mT m) (mW m)) $$ HX with HG
      imodintro
      isplitl [HP] <;> iassumption)
    (hglob := glob (mT m) (mW m))
    (hA := fun _ _ => rfl) (hpf := fun _ k => k.elim0)
    (X := start m) (Y := endY m) (Z := fun _ => iprop(emp))
    (hX := start_intro m ρ) (hin := phi0_intro m) (hout := phi1_exit m)
    (QY := fun c s => argsKept m c s ∧ ∀ sm : SemLoc sig, sm.isScoped .tc = false → s.sem ((c.tc : Thread nD τ), sm) = 0)
    (hY := fun c s' => by
      unfold endY
      iintro ⟨⟨Ha, Hu⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr; · ipureintro; exact ⟨ha, hs⟩
      iexact HSI)
    (hQ := fun _ h hs => ⟨fun c => ⟨(h c).2.2.1, ((h c).1 (0 : Fin 1)).trans (final_out m c)⟩, sem_eq_zero hs fun c => (h c).2.2.2⟩)

/-- The same run, read at the arguments and the counters alone. -/
theorem run_frame : θ_run defs (onTc (τ := τ) (main (F := F))) ⟨m, fun _ => 0, ρ⟩ (fun r => (∀ c : Dev nD, argsKept m c r.2) ∧ r.2.sem = fun _ => 0) :=
  (θ_run defs _ _).mono (fun _ h => ⟨fun c => (h.1 c).1, h.2⟩) (run_main m ρ)

end Main

end Cert.KernelIdeal.Run

end
-- ==== Proof.Run.Match.lean ====
module

public import proofs.«01_k».proof.Proof.Run.Main
public import proofs.«01_k».proof.Proof.Gen.Kernel
public import Idealize.ShloMosaic.PureOps.BitExact

@[expose] public section

/-! The kernel as printed and the kernel as read at the extended reals are one text: part by part the two programs are the
same, so the run of the one is a run of the other. -/

namespace Cert.Match

open Idealize.ShloMosaic Idealize.SL.Sem

attribute [local instance] Cert.Kernel.Gen.facts Cert.KernelIdeal.Gen.facts

set_option maxRecDepth 65536 in
/-- The two kernel bodies. -/
theorem body_eq : Cert.Kernel.cc0_body (F := Bits) = Cert.KernelIdeal.cc0_body (F := Bits) := rfl

set_option maxRecDepth 65536 in
/-- The two body tables. -/
theorem defs₀_eq : Cert.Kernel.defs₀ (F := Bits) = Cert.KernelIdeal.defs₀ (F := Bits) :=
  congrArg Defs.onTc (funext fun l => funext fun a => by
    match l, a with
    | ⟨0, _⟩, (t, s) => rfl
    | ⟨_ + 1, h⟩, _ => exact absurd h (Nat.not_lt.2 (Nat.le_add_left _ _)))

set_option maxRecDepth 65536 in
/-- The two tables with the call's pipeline added. -/
theorem defs_eq : Cert.Kernel.defs (F := Bits) = Cert.KernelIdeal.defs (F := Bits) :=
  congrArg (Pipeline.defs (Cert.KernelIdeal.pcfgs (F := Bits))) defs₀_eq

set_option maxRecDepth 65536 in
/-- The two programs. -/
theorem main_eq : Cert.Kernel.main (F := Bits) = Cert.KernelIdeal.main (F := Bits) := rfl

/-- The run of the printed kernel at the machine's floats: the arguments are kept and the counters end at zero. -/
theorem run_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => (∀ c : Dev Cert.KernelIdeal.nD, Cert.KernelIdeal.Run.argsKept m c r.2) ∧ r.2.sem = fun _ => 0) := by
  rw [defs_eq, main_eq]
  exact Cert.KernelIdeal.Run.run_frame (F := Bits) m g

end Cert.Match

end
-- ==== Proof.Run.RefMask.lean ====
module

public import proofs.«01_k».proof.Proof.Gen.ReferenceIdeal.Run
public import Idealize.ShloMosaic.Lib.Pointwise
public import Idealize.ShloMosaic.Lib.Tactic.CleanTypes
public import Idealize.ShloMosaic.Lib.Routing.OpsOrder

@[expose] public section

/-! The reference's mask read at a query row and a key row: whether their blocks of 64 rows agree modulo four. -/

noncomputable section

namespace Cert.ReferenceIdeal.Read

open Cert.ReferenceIdeal Cert.ReferenceIdeal.Gen Cert.ReferenceIdeal.Value
open Idealize.ShloMosaic

variable (V0 : Valuation τ sig (Elt Ideal))

/-- The sign of a word, as the host takes it. -/
abbrev sgn (w : BitVec 32) : BitVec 32 := if w = 0 then 0 else if w.msb = true then -1 else 1

/-- The host's floor division of a word by 64, as it is spelt with a truncating division and a correction. -/
abbrev floor64 (w : BitVec 32) : BitVec 32 :=
  Scalar.select (IntOp.andi (IntOp.cmpi .ne (sgn w) (sgn 64#32)) (IntOp.cmpi .ne (IntOp.remsi .host w 64#32) 0#32))
    (IntOp.subi (IntOp.divsi .host w 64#32) 1#32) (IntOp.divsi .host w 64#32)

/-- The divisor four of the host's remainder, guarded against zero. -/
abbrev four : BitVec 32 := Scalar.select (IntOp.cmpi .eq 4#32 0#32) 1#32 4#32

/-- The host's remainder modulo four, as it is spelt with a truncating remainder and a correction. -/
abbrev mod4 (w : BitVec 32) : BitVec 32 :=
  Scalar.select (IntOp.andi (IntOp.cmpi .ne (IntOp.cmpi .slt (IntOp.remsi .host w four) 0#32) (IntOp.cmpi .slt four 0#32)) (IntOp.cmpi .ne (IntOp.remsi .host w four) 0#32))
    (IntOp.addi (IntOp.remsi .host w four) four) (IntOp.remsi .host w four)

set_option maxRecDepth 65536 in
theorem floor64_table : ∀ (a : Fin 128) (b : Fin 64), floor64 (BitVec.ofNat 32 (64 * a.val + b.val)) = BitVec.ofNat 32 a.val := by
  decide +kernel

theorem floor64_ofNat (i : ℕ) (h : i < 8192) : floor64 (BitVec.ofNat 32 i) = BitVec.ofNat 32 (i / 64) := by
  have := floor64_table ⟨i / 64, by omega⟩ ⟨i % 64, by omega⟩
  rwa [show 64 * (⟨i / 64, by omega⟩ : Fin 128).val + (⟨i % 64, by omega⟩ : Fin 64).val = i from by simp only []; omega] at this

theorem mod4_table : ∀ a : Fin 128, mod4 (BitVec.ofNat 32 a.val) = BitVec.ofNat 32 (a.val % 4) := by
  decide +kernel

theorem mod4_ofNat (b : ℕ) (h : b < 128) : mod4 (BitVec.ofNat 32 b) = BitVec.ofNat 32 (b % 4) := mod4_table ⟨b, h⟩

/-- The blocks of 64 query rows are numbered by the host's floor division. -/
theorem qb_apply (i : Fin 2048) : res_main_v4 V0 (ix2 i (0 : Fin 1)) = BitVec.ofNat 32 (i.val / 64) := by
  refine Eq.trans ?_ (floor64_ofNat i.val (by omega))
  unfold res_main_v4 res_main_call0_v2 res_main_call0_v0 res_main_v2
  clean_types
  pointwise
  rfl

/-- The blocks of 64 key rows likewise. -/
theorem kb_apply (j : Fin 8192) : res_main_v7 V0 (ix2 (0 : Fin 1) j) = BitVec.ofNat 32 (j.val / 64) := by
  refine Eq.trans ?_ (floor64_ofNat j.val (by omega))
  unfold res_main_v7 res_main_call1_v2 res_main_call1_v0 res_main_v5
  clean_types
  pointwise
  rfl

/-- The mask as a function of the two block numbers. -/
abbrev maskBit (q k : BitVec 32) : BitVec 1 := IntOp.ori (IntOp.cmpi .eq q k) (IntOp.cmpi .eq (mod4 k) (mod4 q))

theorem maskBit_ofNat (q k : ℕ) (hq : q < 128) (hk : k < 128) :
    maskBit (BitVec.ofNat 32 q) (BitVec.ofNat 32 k) = BitVec.ofBool (decide (k % 4 = q % 4)) := by
  unfold maskBit
  rw [mod4_ofNat q hq, mod4_ofNat k hk]
  have e (a b : ℕ) (ha : a < 128) (hb : b < 128) : IntOp.cmpi .eq (BitVec.ofNat 32 a) (BitVec.ofNat 32 b) = BitVec.ofBool (decide (a = b)) := by
    show BitVec.ofBool (decide (BitVec.ofNat 32 a = BitVec.ofNat 32 b)) = _
    congr 1
    rw [decide_eq_decide, ← BitVec.toNat_inj, BitVec.toNat_ofNat, BitVec.toNat_ofNat, Nat.mod_eq_of_lt (by omega), Nat.mod_eq_of_lt (by omega)]
  rw [e q k hq hk, e _ _ (by omega) (by omega)]
  by_cases h : q = k
  · subst h; simp [IntOp.ori]
  · by_cases h' : k % 4 = q % 4 <;> simp [h, h', IntOp.ori]

/-- The mask is one exactly where the blocks agree modulo four. -/
theorem mask_apply (i : Fin 2048) (j : Fin 8192) :
    res_main_v16 V0 (ix2 i j) = BitVec.ofBool (decide (j.val / 64 % 4 = i.val / 64 % 4)) := by
  refine Eq.trans ?_ (maskBit_ofNat (i.val / 64) (j.val / 64) (by omega) (by omega))
  unfold res_main_v16 res_main_call2_v4 res_main_call2_v2 res_main_call2_v0 res_main_call3_v4 res_main_call3_v2 res_main_call3_v0
  clean_types
  pointwise
  rw [qb_apply, kb_apply]
  rfl

/-- Every query row keeps some key row. -/
theorem keep_apply (i : Fin 2048) : res_main_v27 V0 (ix1 i) = 1#1 := by
  unfold res_main_v27
  clean_types
  pointwise
  rw [Routing.fold_ori]
  refine ⟨⟨i.val, by omega⟩, ?_⟩
  rw [mask_apply]
  simp

end Cert.ReferenceIdeal.Read

end
-- ==== Proof.Run.RefCtx.lean ====
module

public import proofs.«01_k».proof.Proof.Run.RefMask
public import Idealize.ShloMosaic.Lib.IdealHost

@[expose] public section

/-! The reference's scores, weights, context and result, each read at its coordinates. -/

noncomputable section

namespace Cert.ReferenceIdeal.Read

open Cert.ReferenceIdeal Cert.ReferenceIdeal.Gen Cert.ReferenceIdeal.Value
open Idealize.ShloMosaic

variable (V0 : Valuation τ sig (Elt Ideal))

/-- The five arguments as arrays of extended reals. -/
abbrev rX : FVec Ideal S2048x1024 .f32 := V0 (Proc.devRef .tc main_arg0)
abbrev rWq : FVec Ideal S1024x1024 .f32 := V0 (Proc.devRef .tc main_arg1)
abbrev rK : FVec Ideal S8192x8x128 .f32 := V0 (Proc.devRef .tc main_arg2)
abbrev rV : FVec Ideal S8192x8x128 .f32 := V0 (Proc.devRef .tc main_arg3)
abbrev rWo : FVec Ideal S1024x1024 .f32 := V0 (Proc.devRef .tc main_arg4)

/-- The score of a query row against a key row under one head, unmasked. -/
def rawScore (h : Fin 8) (i : Fin 2048) (j : Fin 8192) : EReal :=
  (∑ d : Fin 128, (∑ k : Fin 1024, rX V0 (ix2 i k) * rWq V0 (ix2 k ⟨h.val * 128 + d.val, by omega⟩)) * rK V0 (ix3 j h d))
    * Ideal.ofBits .f32 0x3DB504F3#32

set_option maxRecDepth 16384 in
theorem score_apply (h : Fin 8) (i : Fin 2048) (j : Fin 8192) :
    res_main_v21 V0 (ix3 h i j) = if j.val / 64 % 4 = i.val / 64 % 4 then rawScore V0 h i j else Ideal.ofBits .f32 0xFF800000#32 := by
  unfold res_main_v21
  clean_types
  pointwise
  rw [mask_apply]
  by_cases hm : j.val / 64 % 4 = i.val / 64 % 4
  · rw [if_pos hm, decide_eq_true hm]; rfl
  · rw [if_neg hm, decide_eq_false hm]; rfl

/-- The masked score and the weight as plain arrays. -/
def msc : FVec Ideal S8x2048x8192 .f32 := res_main_v21 V0
def wgt : FVec Ideal S8x2048x8192 .f32 := res_main_v26 V0

/-- The weight of a key row, less its row's greatest score. -/
theorem weight_apply (h : Fin 8) (i : Fin 2048) (j : Fin 8192) :
    wgt V0 (ix3 h i j) = Ideal.exp (msc V0 (ix3 h i j)
      - Finset.univ.fold max (Ideal.ofBits .f32 0xFF800000#32) (fun j' : Fin 8192 => msc V0 (ix3 h i j'))) := by
  unfold wgt msc res_main_v26
  clean_types
  pointwise

/-- The context: the values weighted by the normalised weights. -/
def rctx (i : Fin 2048) (h : Fin 8) (d : Fin 128) : EReal :=
  ∑ j : Fin 8192, rV V0 (ix3 j h d) * Ideal.div (wgt V0 (ix3 h i j)) (∑ j' : Fin 8192, wgt V0 (ix3 h i j'))

/-- The rows of the result regrouped by residue. -/
theorem regroup_apply (Y : FVec Ideal S2048x1024 .f32) (hf : Fin 2) (q : Fin 4) (r : Fin 256) (n : Fin 1024) :
    (shapeCast S2x4x256x1024 (transpose S2x4x4x64x1024 [0, 2, 1, 3, 4] (shapeCast S2x4x4x64x1024 Y shapeCasts_S2048x1024_S2x4x4x64x1024) transposes_S2x4x4x64x1024_S2x4x4x64x1024_0_2_1_3_4) shapeCasts_S2x4x4x64x1024_S2x4x256x1024 : FVec Ideal S2x4x256x1024 .f32) (ix4 hf q r n)
      = Y (ix2 ⟨hf.val * 1024 + r.val / 64 * 256 + q.val * 64 + r.val % 64, by omega⟩ n) := by
  pointwise

set_option maxRecDepth 16384 in
/-- The output projection of a context laid out by rows, heads and lanes. -/
theorem project_apply (C : FVec Ideal S8x128x2048 .f32) (W : FVec Ideal S1024x1024 .f32) (i : Fin 2048) (n : Fin 1024) :
    (Host.dotGeneral dot_S2048x1024_S1024x1024_S2048x1024_1_0_0_1_n_n none (shapeCast S2048x1024 (transpose S2048x8x128 [2, 0, 1] C transposes_S8x128x2048_S2048x8x128_2_0_1) shapeCasts_S2048x8x128_S2048x1024) W : FVec Ideal S2048x1024 .f32) (ix2 i n)
      = ∑ k : Fin 1024, C (ix3 ⟨k.val / 128, by omega⟩ ⟨k.val % 128, by omega⟩ i) * W (ix2 k n) := by
  pointwise

/-- The normalised weights, where every row keeps a key. -/
def nrm (w : FVec Ideal S8x2048x8192 .f32) (b : IVec S2048 1) : FVec Ideal S8x2048x8192 .f32 :=
  select (broadcastInDim S8x2048x8192 ![0, 1, 2] bcast_S1x2048x1_S8x2048x8192_0_1_2 (broadcastInDim S1x2048x1 ![1] bcast_S2048_S1x2048x1_1 b)) (Host.divf w (broadcastInDim S8x2048x8192 ![0, 1, 2] bcast_S8x2048x1_S8x2048x8192_0_1_2 (select (broadcastInDim S8x2048x1 ![0, 1, 2] bcast_S1x2048x1_S8x2048x1_0_1_2 (broadcastInDim S1x2048x1 ![1] bcast_S2048_S1x2048x1_1 b)) (broadcastInDim S8x2048x1 ![0, 1] bcast_S8x2048_S8x2048x1_0_1 (Host.reduceAdd w (constant S_ .f32 0x00000000#32) reducesTo_S8x2048x8192_S8x2048_d2 h_S_)) (broadcastInDim S8x2048x1 ![] bcast_S_S8x2048x1 (id (constant S_ .f32 0x3F800000#32)))))) (broadcastInDim S8x2048x8192 ![] bcast_S_S8x2048x8192 (id (constant S_ .f32 0x00000000#32)))

set_option maxRecDepth 16384 in
theorem nrm_apply (w : FVec Ideal S8x2048x8192 .f32) (b : IVec S2048 1) (h : Fin 8) (i : Fin 2048) (j : Fin 8192) (hb : b (ix1 i) = 1#1) :
    nrm w b (ix3 h i j) = Ideal.div (w (ix3 h i j)) (∑ j' : Fin 8192, w (ix3 h i j')) := by
  unfold nrm
  pointwise
  simp only [hb, Scalar.select]
  have one : (1#1 : BitVec 1) = 1 := rfl
  rw [if_pos one, if_pos one]

set_option maxRecDepth 16384 in
/-- The values weighted. -/
theorem mix_apply (p : FVec Ideal S8x2048x8192 .f32) (v : FVec Ideal S8192x8x128 .f32) (h : Fin 8) (d : Fin 128) (i : Fin 2048) :
    (Host.dotGeneral dot_S8192x8x128_S8x2048x8192_S8x128x2048_0_2_2_1_1_0 none v p : FVec Ideal S8x128x2048 .f32) (ix3 h d i)
      = ∑ j : Fin 8192, v (ix3 j h d) * p (ix3 h i j) := by
  pointwise

/-- The grouped result: half `hf`, residue `q`, row `r` of it. -/
theorem grouped_apply (hf : Fin 2) (q : Fin 4) (r : Fin 256) (n : Fin 1024) :
    (res_main_v42 V0 : FVec Ideal S2x4x256x1024 .f32) (ix4 hf q r n)
      = ∑ k : Fin 1024, rctx V0 ⟨hf.val * 1024 + r.val / 64 * 256 + q.val * 64 + r.val % 64, by omega⟩ ⟨k.val / 128, by omega⟩ ⟨k.val % 128, by omega⟩
          * rWo V0 (ix2 k n) := by
  refine (regroup_apply _ hf q r n).trans ((project_apply (Host.dotGeneral dot_S8192x8x128_S8x2048x8192_S8x128x2048_0_2_2_1_1_0 none (rV V0) (nrm (wgt V0) (res_main_v27 V0))) (rWo V0) _ n).trans ?_)
  refine Finset.sum_congr rfl fun k _ => ?_
  refine congrArg (fun e : EReal => e * rWo V0 (ix2 k n)) ?_
  rw [mix_apply]
  refine Finset.sum_congr rfl fun j _ => ?_
  rw [nrm_apply _ _ _ _ _ (keep_apply V0 _)]

/-- What the reference computes. -/
def refOut : FVec Ideal S4096x1024 .f32 :=
  shapeCast _ ((concatenate S4x4x256x1024 1 [⟨S4x1x256x1024, ((broadcastInDim S4x1x256x1024 ![0, 2, 3] bcast_S4x256x1024_S4x1x256x1024_0_2_3 (concatenate S4x256x1024 0 [⟨S3x256x1024, (extractStridedSlice S3x256x1024 ![1, 0, 0] (res_main_v44 V0) slices_S4x256x1024_S3x256x1024_1_0_0)⟩, ⟨S1x256x1024, (extractStridedSlice S1x256x1024 ![0, 0, 0] (res_main_v44 V0) slices_S4x256x1024_S1x256x1024_0_0_0)⟩] concatenates_S3x256x1024_S1x256x1024_S4x256x1024_d0)) : (⟨S4x1x256x1024, .f32⟩ : BufTy).Contents (Elt Ideal))⟩, ⟨S4x1x256x1024, ((broadcastInDim S4x1x256x1024 ![0, 2, 3] bcast_S4x256x1024_S4x1x256x1024_0_2_3 (concatenate S4x256x1024 0 [⟨S3x256x1024, (extractStridedSlice S3x256x1024 ![1, 0, 0] (res_main_v46 V0) slices_S4x256x1024_S3x256x1024_1_0_0)⟩, ⟨S1x256x1024, (extractStridedSlice S1x256x1024 ![0, 0, 0] (res_main_v46 V0) slices_S4x256x1024_S1x256x1024_0_0_0)⟩] concatenates_S3x256x1024_S1x256x1024_S4x256x1024_d0)) : (⟨S4x1x256x1024, .f32⟩ : BufTy).Contents (Elt Ideal))⟩, ⟨S4x1x256x1024, ((broadcastInDim S4x1x256x1024 ![0, 2, 3] bcast_S4x256x1024_S4x1x256x1024_0_2_3 (res_main_v44 V0)) : (⟨S4x1x256x1024, .f32⟩ : BufTy).Contents (Elt Ideal))⟩, ⟨S4x1x256x1024, ((broadcastInDim S4x1x256x1024 ![0, 2, 3] bcast_S4x256x1024_S4x1x256x1024_0_2_3 (concatenate S4x256x1024 0 [⟨S2x256x1024, (extractStridedSlice S2x256x1024 ![2, 0, 0] (res_main_v46 V0) slices_S4x256x1024_S2x256x1024_2_0_0)⟩, ⟨S2x256x1024, (extractStridedSlice S2x256x1024 ![0, 0, 0] (res_main_v46 V0) slices_S4x256x1024_S2x256x1024_0_0_0)⟩] concatenates_S2x256x1024_S2x256x1024_S4x256x1024_d0)) : (⟨S4x1x256x1024, .f32⟩ : BufTy).Contents (Elt Ideal))⟩] concatenates_S4x1x256x1024_S4x1x256x1024_S4x1x256x1024_S4x1x256x1024_S4x4x256x1024_d1 : (⟨S4x4x256x1024, .f32⟩ : BufTy).Contents (Elt Ideal))) shapeCasts_S4x4x256x1024_S4096x1024

/-- The two halves of the grouped result. -/
theorem top_apply (q : Fin 4) (r : Fin 256) (n : Fin 1024) :
    (res_main_v44 V0 : FVec Ideal S4x256x1024 .f32) (ix3 q r n) = (res_main_v42 V0 : FVec Ideal S2x4x256x1024 .f32) (ix4 0 q r n) := by
  unfold res_main_v44
  clean_types
  pointwise
theorem bot_apply (q : Fin 4) (r : Fin 256) (n : Fin 1024) :
    (res_main_v46 V0 : FVec Ideal S4x256x1024 .f32) (ix3 q r n) = (res_main_v42 V0 : FVec Ideal S2x4x256x1024 .f32) (ix4 1 q r n) := by
  unfold res_main_v46
  clean_types
  pointwise

/-- The result's row, named by its device, the quarter of its block and the row within it. -/
theorem refOut_apply (c : Fin 4) (b : Fin 4) (r : Fin 256) (n : Fin 1024) :
    refOut V0 (ix2 ⟨c.val * 1024 + b.val * 256 + r.val, by omega⟩ n)
      = (if b.val = 0 then (res_main_v42 V0 : FVec Ideal S2x4x256x1024 .f32) (ix4 0 ⟨(c.val + 1) % 4, by omega⟩ r n)
         else if b.val = 1 then (res_main_v42 V0 : FVec Ideal S2x4x256x1024 .f32) (ix4 1 ⟨(c.val + 1) % 4, by omega⟩ r n)
         else if b.val = 2 then (res_main_v42 V0 : FVec Ideal S2x4x256x1024 .f32) (ix4 0 c r n)
         else (res_main_v42 V0 : FVec Ideal S2x4x256x1024 .f32) (ix4 1 ⟨(c.val + 2) % 4, by omega⟩ r n)) := by
  rw [← top_apply, ← top_apply, ← bot_apply, ← bot_apply]
  unfold refOut
  clean_types
  pointwise
  generalize (res_main_v44 V0 : FVec Ideal S4x256x1024 .f32) = A
  generalize (res_main_v46 V0 : FVec Ideal S4x256x1024 .f32) = B
  obtain ⟨c, hc⟩ := c
  obtain ⟨b, hb⟩ := b
  interval_cases b <;> interval_cases c <;> first | rfl | (simp; done) | (simp; rfl)

end Cert.ReferenceIdeal.Read

end
-- ==== Proof.Run.KRead.lean ====
module

public import proofs.«01_k».proof.Proof.Run.Ends
public import Idealize.ShloMosaic.Lib.Pointwise
public import Idealize.ShloMosaic.Lib.IdealHost

@[expose] public section

/-! The kernel's expressions read at their coordinates, over the extended reals. -/

noncomputable section

namespace Cert.KernelIdeal.Run

open Cert.KernelIdeal Cert.KernelIdeal.Gen
open Idealize.ShloMosaic

set_option maxRecDepth 16384

/-- A head's weighted values and the sum of its weights, 256 query rows at a time … -/
theorem num256_apply (q : FVec Ideal S256x128 .bf16) (k v : FVec Ideal S512x128 .bf16) (x : Fin 256) (y : Fin 128) :
    k0_pay110 (F := Ideal) q k v (ix2 x y) = ∑ n : Fin 512, Ideal.exp (∑ d : Fin 128, q (ix2 x d) * k (ix2 n d)) * v (ix2 n y) := by
  pointwise [k0_pay110, k0_pay108]
theorem sum256_apply (q : FVec Ideal S256x128 .bf16) (k : FVec Ideal S512x128 .bf16) (x : Fin 256) :
    k0_pay109 (F := Ideal) q k (ix2 x (0 : Fin 1)) = ∑ n : Fin 512, Ideal.exp (∑ d : Fin 128, q (ix2 x d) * k (ix2 n d)) := by
  pointwise [k0_pay109, k0_pay108]
/-- … and 512 at a time. -/
theorem num512_apply (q : FVec Ideal S512x128 .bf16) (k v : FVec Ideal S512x128 .bf16) (x : Fin 512) (y : Fin 128) :
    k0_pay218 (F := Ideal) q k v (ix2 x y) = ∑ n : Fin 512, Ideal.exp (∑ d : Fin 128, q (ix2 x d) * k (ix2 n d)) * v (ix2 n y) := by
  pointwise [k0_pay218, k0_pay216]
theorem sum512_apply (q : FVec Ideal S512x128 .bf16) (k : FVec Ideal S512x128 .bf16) (x : Fin 512) :
    k0_pay213 (F := Ideal) q k (ix2 x (0 : Fin 1)) = ∑ n : Fin 512, Ideal.exp (∑ d : Fin 128, q (ix2 x d) * k (ix2 n d)) := by
  pointwise [k0_pay213, k0_pay212]

/-- What a hop sends, a hop's sum, and the last sum. -/
theorem send_apply (a : FVec Ideal S256x1152 .f32) (i : Fin 256) (j : Fin 1152) : k0_pay162 (F := Ideal) a (ix3 (0 : Fin 1) i j) = a (ix2 i j) := by
  pointwise [k0_pay162]
theorem rs_apply (r : FVec Ideal S1x256x1152 .bf16) (a : FVec Ideal S256x1152 .f32) (i : Fin 256) (j : Fin 1152) :
    k0_pay237 (F := Ideal) r a (ix3 (0 : Fin 1) i j) = r (ix3 (0 : Fin 1) i j) + a (ix2 i j) := by
  pointwise [k0_pay237]
theorem last_apply (r : FVec Ideal S1x256x1152 .bf16) (a : FVec Ideal S256x1152 .f32) (i : Fin 256) (j : Fin 1152) :
    k0_pay269 (F := Ideal) r a (ix2 i j) = r (ix3 (0 : Fin 1) i j) + a (ix2 i j) := by
  pointwise [k0_pay269]

/-- What is received of the gathering hop, widened. -/
theorem recv1_apply (r : FVec Ideal S1x256x1024 .bf16) (i : Fin 256) (n : Fin 1024) : k0_pay1 (F := Ideal) r (ix2 i n) = r (ix3 (0 : Fin 1) i n) := by
  pointwise [k0_pay1]
theorem recv2_apply (r : FVec Ideal S1x256x1024 .bf16) (i : Fin 256) (n : Fin 1024) : k0_pay2 (F := Ideal) r (ix2 i n) = r (ix3 (0 : Fin 1) i n) := by
  pointwise [k0_pay2]

/-- The projection and the query rows. -/
theorem wo_apply (w : FVec Ideal S1024x1024 .f32) (k n : Fin 1024) : k0_pay89 (F := Ideal) w (ix2 k n) = w (ix2 k n) := by
  pointwise [k0_pay89]
theorem q_apply (x : FVec Ideal S2048x1024 .bf16) (w : FVec Ideal S1024x1024 .f32) (i : Fin 2048) (n : Fin 1024) :
    k0_pay54 (F := Ideal) x (k0_pay53 (F := Ideal) w) (ix2 i n) = ∑ k : Fin 1024, x (ix2 i k) * (w (ix2 k n) * Ideal.ofBits .f32 0x3DB504F3#32) := by
  pointwise [k0_pay54, k0_pay53]

/-- One head of a half chunk: its weighted values times the reciprocal of its sum of weights. -/
def headPart (s : FVec Ideal S256x1152 .f32) (o c : ℕ) (ho : S256x1152.Slices ![0, o] S256x128) (hc : S256x1152.Slices ![0, c] S256x1) : FVec Ideal S256x128 .bf16 :=
  truncf .bf16 (mulf (extractStridedSlice S256x128 ![0, o] s ho)
    (broadcastTo S256x128 (shapeCast S256x1 (divf (broadcast S256 (Scalar.ofBits .f32 0x3F800000#32))
      (shapeCast S256 (extractStridedSlice S256x1 ![0, c] s hc) shapeCasts_S256x1_S256)) shapeCasts_S256_S256x1) broadcasts_S256x1_S256x128)) bitsLt_bf16_f32

theorem headPart_apply (s : FVec Ideal S256x1152 .f32) (o c : ℕ) (ho : S256x1152.Slices ![0, o] S256x128) (hc : S256x1152.Slices ![0, c] S256x1)
    (i : Fin 256) (d : Fin 128) (h1 : o + d.val < 1152) (h2 : c < 1152) :
    headPart s o c ho hc (ix2 i d) = s (ix2 i ⟨o + d.val, h1⟩) * Ideal.div 1 (s (ix2 i ⟨c, h2⟩)) := by
  pointwise [headPart]

theorem headPart_at (s : FVec Ideal S256x1152 .f32) (o c : ℕ) (ho : S256x1152.Slices ![0, o] S256x128) (hc : S256x1152.Slices ![0, c] S256x1)
    (i : Fin 256) (d : ℕ) (hd : d < 128) (k : Fin 1024) (h1 : k.val = o + d) (h2 : c = 1024 + k.val / 128) :
    headPart s o c ho hc (ix2 i ⟨d, hd⟩) = s (ix2 i ⟨k.val, by omega⟩) * Ideal.div 1 (s (ix2 i ⟨1024 + k.val / 128, by omega⟩)) := by
  rw [headPart_apply s o c ho hc i ⟨d, hd⟩ (show o + d < 1152 by omega) (by omega)]
  have e1 : (⟨o + d, by omega⟩ : Fin 1152) = ⟨k.val, by omega⟩ := Fin.ext h1.symm
  have e2 : (⟨c, by omega⟩ : Fin 1152) = ⟨1024 + k.val / 128, by omega⟩ := Fin.ext h2
  rw [← e1, ← e2]

/-- The eight heads side by side. -/
def catOf (s : FVec Ideal S256x1152 .f32) : FVec Ideal S256x1024 .bf16 :=
  concatenate S256x1024 1 [⟨S256x128, headPart s 0 1024 slices_S256x1152_o0_0_S256x128 slices_S256x1152_o0_1024_S256x1⟩, ⟨S256x128, headPart s 128 1025 slices_S256x1152_o0_128_S256x128 slices_S256x1152_o0_1025_S256x1⟩, ⟨S256x128, headPart s 256 1026 slices_S256x1152_o0_256_S256x128 slices_S256x1152_o0_1026_S256x1⟩, ⟨S256x128, headPart s 384 1027 slices_S256x1152_o0_384_S256x128 slices_S256x1152_o0_1027_S256x1⟩, ⟨S256x128, headPart s 512 1028 slices_S256x1152_o0_512_S256x128 slices_S256x1152_o0_1028_S256x1⟩, ⟨S256x128, headPart s 640 1029 slices_S256x1152_o0_640_S256x128 slices_S256x1152_o0_1029_S256x1⟩, ⟨S256x128, headPart s 768 1030 slices_S256x1152_o0_768_S256x128 slices_S256x1152_o0_1030_S256x1⟩, ⟨S256x128, headPart s 896 1031 slices_S256x1152_o0_896_S256x128 slices_S256x1152_o0_1031_S256x1⟩] concatenates_S256x128_S256x128_S256x128_S256x128_S256x128_S256x128_S256x128_S256x128_S256x1024_d1

/-- What is stored of a half chunk is the projection of its heads. -/
theorem outPay_eq (r : FVec Ideal S1x256x1152 .bf16) (a : FVec Ideal S256x1152 .f32) (w : FVec Ideal S1024x1024 .bf16) :
    outPay r a w = matmul dot_S256x1024_S1024x1024_S256x1024_1_0_0_1_n_n none (catOf (k0_pay269 r a)) w (constant S256x1024 .f32 0x00000000#32) := rfl

theorem agPay_apply (r : FVec Ideal S1x256x1152 .bf16) (a : FVec Ideal S256x1152 .f32) (w : FVec Ideal S1024x1024 .bf16) (i : Fin 256) (n : Fin 1024) :
    agPay (F := Ideal) r a w (ix3 (0 : Fin 1) i n) = outPay (F := Ideal) r a w (ix2 i n) := by
  unfold agPay k0_pay277 outPay
  pointwise

theorem mm_apply (c : FVec Ideal S256x1024 .bf16) (w : FVec Ideal S1024x1024 .bf16) (i : Fin 256) (n : Fin 1024) :
    (matmul dot_S256x1024_S1024x1024_S256x1024_1_0_0_1_n_n none c w (constant S256x1024 .f32 0x00000000#32) : FVec Ideal S256x1024 .f32) (ix2 i n)
      = ∑ k : Fin 1024, c (ix2 i k) * w (ix2 k n) := by
  pointwise

theorem cat_apply (s : FVec Ideal S256x1152 .f32) (i : Fin 256) (k : Fin 1024) :
    catOf s (ix2 i k) = s (ix2 i ⟨k.val, by omega⟩) * Ideal.div 1 (s (ix2 i ⟨1024 + k.val / 128, by omega⟩)) := by
  unfold catOf
  pointwise
  split_ifs <;> exact headPart_at s _ _ _ _ i _ _ k (by omega) (by omega)

end Cert.KernelIdeal.Run

end
-- ==== Proof.Run.KSum.lean ====
module

public import proofs.«01_k».proof.Proof.Run.KRead
public import proofs.«01_k».proof.Proof.Run.Core

@[expose] public section

/-! Each device's sums, the ring's total and the stored block, read at their coordinates over the extended reals. -/

noncomputable section

namespace Cert.KernelIdeal.Run

open Cert.KernelIdeal Cert.KernelIdeal.Gen
open Idealize.ShloMosaic

set_option maxRecDepth 16384

theorem i2_lt {n m : ℕ} [NeZero n] [NeZero m] {a b : ℕ} (ha : a < n) (hb : b < m) : (i2 a b : (⟨2, ![n, m]⟩ : Shape).Idx) = ix2 ⟨a, ha⟩ ⟨b, hb⟩ :=
  congrArg₂ ix2 (Fin.ext (Nat.mod_eq_of_lt ha)) (Fin.ext (Nat.mod_eq_of_lt hb))

theorem i2_mod {n m : ℕ} [NeZero n] [NeZero m] {a b : ℕ} (hb : b < m) :
    (i2 a b : (⟨2, ![n, m]⟩ : Shape).Idx) = ix2 ⟨a % n, Nat.mod_lt _ (Nat.pos_of_neZero n)⟩ ⟨b, hb⟩ :=
  congrArg₂ ix2 rfl (Fin.ext (Nat.mod_eq_of_lt hb))

/-- The weight of key row `n` of the chunk against query row `r` under head `h`. -/
def kw (Q K : FVec Ideal S2048x1024 .bf16) (r h n : ℕ) : EReal :=
  Ideal.exp (∑ d : Fin 128, Q (i2 r (128 * h + d.val)) * K (i2 (512 * (r / 512) + n) (128 * h + d.val)))

/-- A window's rows and columns. -/
theorem win256_apply (G : FVec Ideal S2048x1024 .bf16) (r0 c0 : ℕ) (x : Fin 256) (d : Fin 128) : win256 G r0 c0 (ix2 x d) = G (i2 (r0 + x.val) (c0 + d.val)) := rfl
theorem win512_apply (G : FVec Ideal S2048x1024 .bf16) (r0 c0 : ℕ) (x : Fin 512) (d : Fin 128) : win512 G r0 c0 (ix2 x d) = G (i2 (r0 + x.val) (c0 + d.val)) := rfl

/-- A device's weighted values. -/
theorem accv_num (c : ℕ) (Q K V : FVec Ideal S2048x1024 .bf16) (r j : ℕ) (hr : r < 2048) (hj : j < 1024) :
    accv c Q K V (i2 r j) = ∑ n : Fin 512, kw Q K r (j / 128) n.val * V (i2 (512 * (r / 512) + n.val) (128 * (j / 128) + j % 128)) := by
  have hh : headOf j = j / 128 := if_pos hj
  have hd : j % 128 < 128 := by omega
  rw [i2_lt hr (show j < 1152 by omega)]
  show (if (r / 512 + c) % 2 = 0 then if j < 1024 then
      numPay256 (win256 Q (256 * (r / 256)) (128 * headOf j)) (win512 K (512 * (r / 512)) (128 * headOf j)) (win512 V (512 * (r / 512)) (128 * headOf j)) (i2 r j) else _
    else if j < 1024 then
      numPay512 (win512 Q (512 * (r / 512)) (128 * headOf j)) (win512 K (512 * (r / 512)) (128 * headOf j)) (win512 V (512 * (r / 512)) (128 * headOf j)) (i2 r j) else _) = _
  rw [if_pos hj, if_pos hj, hh]
  split
  · refine (num256_apply _ _ _ ⟨r % 256, by omega⟩ ⟨j % 128, hd⟩).trans (Finset.sum_congr rfl fun n _ => ?_)
    simp only [win256_apply, win512_apply, show 256 * (r / 256) + r % 256 = r from by omega]
    rfl
  · refine (num512_apply _ _ _ ⟨r % 512, by omega⟩ ⟨j % 128, hd⟩).trans (Finset.sum_congr rfl fun n _ => ?_)
    simp only [win512_apply, show 512 * (r / 512) + r % 512 = r from by omega]
    rfl

/-- A device's sums of weights. -/
theorem accv_den (c : ℕ) (Q K V : FVec Ideal S2048x1024 .bf16) (r h : ℕ) (hr : r < 2048) (hj : h < 8) :
    accv c Q K V (i2 r (1024 + h)) = ∑ n : Fin 512, kw Q K r h n.val := by
  have hj' : ¬ (1024 + h < 1024) := by omega
  have hh : headOf (1024 + h) = h := (if_neg hj').trans (by omega)
  rw [i2_lt hr (show 1024 + h < 1152 by omega)]
  show (if (r / 512 + c) % 2 = 0 then if 1024 + h < 1024 then _ else
      sumPay256 (win256 Q (256 * (r / 256)) (128 * headOf (1024 + h))) (win512 K (512 * (r / 512)) (128 * headOf (1024 + h))) (i2 r 0)
    else if 1024 + h < 1024 then _ else
      sumPay512 (win512 Q (512 * (r / 512)) (128 * headOf (1024 + h))) (win512 K (512 * (r / 512)) (128 * headOf (1024 + h))) (i2 r 0)) = _
  rw [if_neg hj', if_neg hj', hh]
  split
  · refine (sum256_apply _ _ ⟨r % 256, by omega⟩).trans (Finset.sum_congr rfl fun n _ => ?_)
    simp only [win256_apply, win512_apply, show 256 * (r / 256) + r % 256 = r from by omega]
    rfl
  · refine (sum512_apply _ _ ⟨r % 512, by omega⟩).trans (Finset.sum_congr rfl fun n _ => ?_)
    simp only [win512_apply, show 512 * (r / 512) + r % 512 = r from by omega]
    rfl

/-- Going round the ring adds every device's term once. -/
theorem ring_prv (c : Dev nD) (f : Dev nD → EReal) : f (prv (prv (prv c))) + f (prv (prv c)) + f (prv c) + f c = ∑ c' : Dev nD, f c' := by
  have p0 : prv 0 = 3 := by decide
  have p1 : prv 1 = 0 := by decide
  have p2 : prv 2 = 1 := by decide
  have p3 : prv 3 = 2 := by decide
  have h : c = 0 ∨ c = 1 ∨ c = 2 ∨ c = 3 := by revert c; decide
  rw [show (∑ c' : Dev nD, f c') = f 0 + f 1 + f 2 + f 3 from Fin.sum_univ_four f]
  rcases h with rfl | rfl | rfl | rfl <;> simp only [p0, p1, p2, p3] <;> ac_rfl
theorem ring_nxt (c : Dev nD) (f : Dev nD → EReal) : f (nxt (nxt (nxt c))) + f (nxt (nxt c)) + f (nxt c) + f c = ∑ c' : Dev nD, f c' := by
  have p0 : nxt 0 = 1 := by decide
  have p1 : nxt 1 = 2 := by decide
  have p2 : nxt 2 = 3 := by decide
  have p3 : nxt 3 = 0 := by decide
  have h : c = 0 ∨ c = 1 ∨ c = 2 ∨ c = 3 := by revert c; decide
  rw [show (∑ c' : Dev nD, f c') = f 0 + f 1 + f 2 + f 3 from Fin.sum_univ_four f]
  rcases h with rfl | rfl | rfl | rfl <;> simp only [p0, p1, p2, p3] <;> ac_rfl

section Ring
variable (T : Dev nD → FVec Ideal S2048x1152 .f32) (W : Dev nD → FVec Ideal S1024x1024 .bf16)

/-- The four devices' sums added. -/
def tot (r j : ℕ) : EReal := ∑ c : Dev nD, T c (i2 r j)

/-- The normalised context at a grouped row. -/
def kctx (r k : ℕ) : EReal := tot T r k * Ideal.div 1 (tot T r (1024 + k / 128))

theorem rowsAt_apply (G : FVec Ideal S2048x1152 .f32) (r : ℕ) (i : Fin 256) (j : Fin 1152) : rowsAt G r (ix2 i j) = G (i2 (r + i.val) j.val) := rfl

/-- What comes in from the left after three hops, with the device's own sums, is the total. -/
theorem right_total (c : Dev nD) (i : Fin 256) (j : Fin 1152) :
    k0_pay269 (SR2 T (prv c)) (rowsAt (T c) (256 * (2 * ((c.val + 1) % 4)))) (ix2 i j) = tot T (512 * ((c.val + 1) % 4) + i.val) j.val := by
  rw [last_apply, show SR2 T (prv c) (ix3 (0 : Fin 1) i j) = _ from rs_apply _ _ i j,
    show SR1 T (prv (prv c)) (ix3 (0 : Fin 1) i j) = _ from rs_apply _ _ i j,
    show SR0 T (prv (prv (prv c))) (ix3 (0 : Fin 1) i j) = _ from send_apply _ i j]
  simp only [rowsAt_apply]
  have hc : c.val < 4 := c.isLt
  have v1 : (prv c).val = (c.val + 3) % 4 := rfl
  have v2 : (prv (prv c)).val = (c.val + 2) % 4 := (show _ = ((c.val + 3) % 4 + 3) % 4 from rfl).trans (by omega)
  have v3 : (prv (prv (prv c))).val = (c.val + 1) % 4 := (show _ = ((prv (prv c)).val + 3) % 4 from rfl).trans (by rw [v2]; omega)
  rw [v3, show ((prv (prv c)).val + 3) % 4 = (c.val + 1) % 4 from by rw [v2]; omega,
    show ((prv c).val + 2) % 4 = (c.val + 1) % 4 from by rw [v1]; omega, show 256 * (2 * ((c.val + 1) % 4)) = 512 * ((c.val + 1) % 4) from by omega]
  exact ring_prv c fun c' => T c' (i2 (512 * ((c.val + 1) % 4) + i.val) j.val)

/-- Likewise from the right. -/
theorem left_total (c : Dev nD) (i : Fin 256) (j : Fin 1152) :
    k0_pay269 (SL2 T (nxt c)) (rowsAt (T c) (256 * (2 * ((c.val + 1) % 4) + 1))) (ix2 i j) = tot T (512 * ((c.val + 1) % 4) + 256 + i.val) j.val := by
  rw [last_apply, show SL2 T (nxt c) (ix3 (0 : Fin 1) i j) = _ from rs_apply _ _ i j,
    show SL1 T (nxt (nxt c)) (ix3 (0 : Fin 1) i j) = _ from rs_apply _ _ i j,
    show SL0 T (nxt (nxt (nxt c))) (ix3 (0 : Fin 1) i j) = _ from send_apply _ i j]
  simp only [rowsAt_apply]
  have hc : c.val < 4 := c.isLt
  have v1 : (nxt c).val = (c.val + 1) % 4 := rfl
  have v2 : (nxt (nxt c)).val = (c.val + 2) % 4 := (show _ = ((c.val + 1) % 4 + 1) % 4 from rfl).trans (by omega)
  have v3 : (nxt (nxt (nxt c))).val = (c.val + 3) % 4 := (show _ = ((nxt (nxt c)).val + 1) % 4 from rfl).trans (by rw [v2]; omega)
  rw [show ((nxt (nxt (nxt c))).val + 2) % 4 = (c.val + 1) % 4 from by rw [v3]; omega,
    show ((nxt (nxt c)).val + 3) % 4 = (c.val + 1) % 4 from by rw [v2]; omega,
    v1, show 256 * (2 * ((c.val + 1) % 4) + 1) = 512 * ((c.val + 1) % 4) + 256 from by omega]
  exact ring_nxt c fun c' => T c' (i2 (512 * ((c.val + 1) % 4) + 256 + i.val) j.val)

/-- A device's two finished halves. -/
theorem right_out (c : Dev nD) (i : Fin 256) (n : Fin 1024) :
    outPay (F := Ideal) (SR2 T (prv c)) (rowsAt (T c) (256 * (2 * ((c.val + 1) % 4)))) (W c) (ix2 i n)
      = ∑ k : Fin 1024, kctx T (512 * ((c.val + 1) % 4) + i.val) k.val * W c (ix2 k n) := by
  rw [outPay_eq]
  refine (mm_apply _ _ i n).trans (Finset.sum_congr rfl fun k _ => ?_)
  rw [cat_apply, right_total, right_total]
  rfl
theorem left_out (c : Dev nD) (i : Fin 256) (n : Fin 1024) :
    outPay (F := Ideal) (SL2 T (nxt c)) (rowsAt (T c) (256 * (2 * ((c.val + 1) % 4) + 1))) (W c) (ix2 i n)
      = ∑ k : Fin 1024, kctx T (512 * ((c.val + 1) % 4) + 256 + i.val) k.val * W c (ix2 k n) := by
  rw [outPay_eq]
  refine (mm_apply _ _ i n).trans (Finset.sum_congr rfl fun k _ => ?_)
  rw [cat_apply, left_total, left_total]
  rfl

/-- The stored block's row, by the quarter of the block and the row within it. -/
theorem outAt_apply (c : Dev nD) (b : Fin 4) (i : Fin 256) (n : Fin 1024) :
    outAt T W c (ix2 ⟨b.val * 256 + i.val, by omega⟩ n)
      = (if b.val = 0 then ∑ k : Fin 1024, kctx T (512 * ((c.val + 1) % 4) + i.val) k.val * W c (ix2 k n)
         else if b.val = 1 then ∑ k : Fin 1024, kctx T (512 * ((c.val + 1) % 4) + 256 + i.val) k.val * W c (ix2 k n)
         else if b.val = 2 then ∑ k : Fin 1024, kctx T (512 * c.val + i.val) k.val * W (prv c) (ix2 k n)
         else ∑ k : Fin 1024, kctx T (512 * ((c.val + 2) % 4) + 256 + i.val) k.val * W (nxt c) (ix2 k n)) := by
  obtain ⟨b, hb⟩ := b
  have hi := i.isLt
  have hc : c.val < 4 := c.isLt
  unfold outAt
  show (if b * 256 + i.val < 256 then outPay (SR2 T (prv c)) (rowsAt (T c) (256 * (2 * ((c.val + 1) % 4)))) (W c) (i2 (b * 256 + i.val) n.val)
    else if b * 256 + i.val < 512 then outPay (SL2 T (nxt c)) (rowsAt (T c) (256 * (2 * ((c.val + 1) % 4) + 1))) (W c) (i2 (b * 256 + i.val - 256) n.val)
    else if b * 256 + i.val < 768 then k0_pay1 (AR T W (prv c)) (i2 (b * 256 + i.val - 512) n.val)
    else k0_pay2 (AL T W (nxt c)) (i2 (b * 256 + i.val - 768) n.val)) = _
  have ix (a : ℕ) (h : a = i.val) : (i2 a n.val : S256x1024.Idx) = ix2 i n := by subst h; exact i2_lt i.isLt n.isLt
  have hb' : b = 0 ∨ b = 1 ∨ b = 2 ∨ b = 3 := by omega
  rcases hb' with rfl | rfl | rfl | rfl
  · rw [if_pos (by omega), if_pos rfl, ix _ (by omega), right_out]
  · rw [if_neg (by omega), if_pos (by omega), if_neg (show ¬ (1 = 0) by omega), if_pos rfl, ix _ (by omega), left_out]
  · rw [if_neg (by omega), if_neg (by omega), if_pos (by omega), if_neg (show ¬ (2 = 0) by omega), if_neg (show ¬ (2 = 1) by omega), if_pos rfl, ix _ (by omega), recv1_apply]
    unfold AR
    rw [agPay_apply, right_out]
    rw [show ((prv c).val + 1) % 4 = c.val from by show ((c.val + 3) % 4 + 1) % 4 = c.val; omega]
  · rw [if_neg (by omega), if_neg (by omega), if_neg (by omega), if_neg (show ¬ (3 = 0) by omega), if_neg (show ¬ (3 = 1) by omega), if_neg (show ¬ (3 = 2) by omega), ix _ (by omega), recv2_apply]
    unfold AL
    rw [agPay_apply, left_out]
    rw [show ((nxt c).val + 1) % 4 = (c.val + 2) % 4 from by show ((c.val + 1) % 4 + 1) % 4 = (c.val + 2) % 4; omega]
end Ring

end Cert.KernelIdeal.Run

end
-- ==== Proof.Run.Soft.lean ====
module

public import Idealize.ShloMosaic.PureOps.Ideal.Laws
public import Mathlib.Data.EReal.Operations
public import Mathlib.Data.EReal.Inv

@[expose] public section

/-! A masked softmax average over the extended reals: taking the greatest score off every score changes nothing, and the
division may be done once, after the sums. The values averaged may be anything; the scores are real. -/

noncomputable section

namespace Cert.Soft

open Idealize.ShloMosaic

theorem exp_coe (r : ℝ) : Ideal.exp (r : EReal) = ((Real.exp r : ℝ) : EReal) := rfl
theorem exp_bot : Ideal.exp (⊥ : EReal) = 0 := rfl

/-- Division of reals by a real that is not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem coe_sum {J : Type} (t : Finset J) (f : J → ℝ) : ∑ j ∈ t, ((f j : ℝ) : EReal) = ((∑ j ∈ t, f j : ℝ) : EReal) := by
  classical
  induction t using Finset.induction_on with
  | empty => simp
  | insert a t ha ih => rw [Finset.sum_insert ha, Finset.sum_insert ha, ih, EReal.coe_add]

/-- A real number that is not negative multiplies a sum term by term, whatever the terms are. -/
theorem sum_mul_coe {J : Type} (t : Finset J) (f : J → EReal) (c : ℝ) (hc : 0 ≤ c) : (∑ j ∈ t, f j) * (c : EReal) = ∑ j ∈ t, f j * (c : EReal) := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

variable {J : Type} [Fintype J] (P : J → Prop) [DecidablePred P] (s : J → ℝ) (v : J → EReal)

/-- The masked scores. -/
def sc (j : J) : EReal := if P j then ((s j : ℝ) : EReal) else ⊥

/-- The greatest masked score is a real number where some score is kept. -/
theorem max_real (j0 : J) (h0 : P j0) : ∃ M : ℝ, Finset.univ.fold max (⊥ : EReal) (sc P s) = (M : EReal) := by
  have ht : Finset.univ.fold max (⊥ : EReal) (sc P s) ≠ ⊤ := by
    refine ne_of_lt ((Finset.fold_max_lt _).mpr ⟨bot_lt_top, fun j _ => ?_⟩)
    unfold sc; split
    · exact EReal.coe_lt_top _
    · exact bot_lt_top
  have hb : Finset.univ.fold max (⊥ : EReal) (sc P s) ≠ ⊥ := by
    refine ne_of_gt (lt_of_lt_of_le (EReal.bot_lt_coe (s j0)) ((Finset.le_fold_max _).mpr (.inr ⟨j0, Finset.mem_univ _, ?_⟩)))
    unfold sc; rw [if_pos h0]
  exact ⟨_, (EReal.coe_toReal ht hb).symm⟩

theorem softmax_eq (j0 : J) (h0 : P j0) (w : J → EReal)
    (hw : ∀ j, w j = Ideal.exp (sc P s j - Finset.univ.fold max (⊥ : EReal) (sc P s))) :
    ∑ j, v j * Ideal.div (w j) (∑ j', w j')
      = (∑ j ∈ Finset.univ.filter P, Ideal.exp (s j : EReal) * v j) * Ideal.div 1 (∑ j ∈ Finset.univ.filter P, Ideal.exp (s j : EReal)) := by
  obtain ⟨M, hM⟩ := max_real P s j0 h0
  have hw' : ∀ j, w j = (((if P j then Real.exp (s j - M) else 0 : ℝ)) : EReal) := fun j => by
    rw [hw, hM]; unfold sc; split
    · rw [← EReal.coe_sub, exp_coe]
    · rw [EReal.bot_sub, exp_bot]; rfl
  have hE : 0 < ∑ j ∈ Finset.univ.filter P, Real.exp (s j) :=
    Finset.sum_pos (fun j _ => Real.exp_pos _) ⟨j0, Finset.mem_filter.mpr ⟨Finset.mem_univ _, h0⟩⟩
  have hZ : (∑ j, if P j then Real.exp (s j - M) else 0) = (∑ j ∈ Finset.univ.filter P, Real.exp (s j)) * Real.exp (-M) := by
    rw [← Finset.sum_filter, Finset.sum_mul]
    exact Finset.sum_congr rfl fun j _ => by rw [← Real.exp_add, sub_eq_add_neg]
  have hZ0 : (∑ j, if P j then Real.exp (s j - M) else 0) ≠ 0 := by rw [hZ]; exact (mul_pos hE (Real.exp_pos _)).ne'
  simp only [hw', exp_coe]
  rw [coe_sum, coe_sum, show (1 : EReal) = ((1 : ℝ) : EReal) from rfl, div_coe _ _ hE.ne', sum_mul_coe _ _ _ (by positivity), Finset.sum_filter]
  refine Finset.sum_congr rfl fun j _ => ?_
  rw [div_coe _ _ hZ0]
  split
  · rw [mul_comm _ (v j), mul_assoc, ← EReal.coe_mul, hZ]
    congr 2
    rw [sub_eq_add_neg, Real.exp_add, mul_div_mul_right _ _ (Real.exp_pos _).ne', mul_one_div]
  · rw [zero_div]; simp

end Cert.Soft

end
-- ==== Proof.Run.Scores.lean ====
module

public import proofs.«01_k».proof.Proof.Run.KSum
public import proofs.«01_k».proof.Proof.Run.Soft

@[expose] public section

/-! The kernel's weights and totals in terms of the whole arrays: with real `x`, `Wq` and `K`, the weight of a grouped row
against a key row is the exponential of one real score, and the total over the four devices of a row's weights, or of its
weighted values, is a sum over all the key rows of the row's residue. -/

noncomputable section

namespace Cert.KernelIdeal.Run

open Cert.KernelIdeal Cert.KernelIdeal.Gen
open Idealize.ShloMosaic

set_option maxRecDepth 16384

theorem srcRow_lt {r : ℕ} (hr : r < 2048) : srcRow r < 2048 := by unfold srcRow blkOf; omega

/-- The source of row `n` of chunk `q`. -/
theorem srcRow_chunk {q n : ℕ} (hn : n < 512) : srcRow (512 * q + n) = 256 * (n / 64) + 64 * q + n % 64 := by
  have e1 : (512 * q + n) % 512 = n := by omega
  have e2 : (512 * q + n) / 512 = q := by omega
  have e3 : (512 * q + n) % 64 = n % 64 := by omega
  unfold srcRow blkOf
  rw [e1, e2, e3]; omega

/-- Row `a` of device `c`'s shard, as a row of the whole. -/
def wholeRow (c : Dev nD) (a : Fin 2048) : Fin 8192 := ⟨2048 * c.val + a.val, by have : c.val < 4 := c.isLt; omega⟩

/-- The key rows of one residue, counted by the device that holds them and their place in its chunk. -/
theorem sum_residue {M : Type} [AddCommMonoid M] (q : ℕ) (hq : q < 4) (f : Fin 8192 → M) :
    ∑ j ∈ (Finset.univ : Finset (Fin 8192)).filter (fun j => j.val / 64 % 4 = q), f j
      = ∑ c : Dev nD, ∑ n : Fin 512, f (wholeRow c ⟨srcRow (512 * q + n.val), srcRow_lt (by omega)⟩) := by
  rw [← Fintype.sum_prod_type' (f := fun (c : Dev nD) (n : Fin 512) => f (wholeRow c ⟨srcRow (512 * q + n.val), srcRow_lt (by omega)⟩))]
  refine Finset.sum_bij' (fun j _ => ((⟨j.val / 2048, by show j.val / 2048 < 4; omega⟩ : Dev nD), (⟨j.val % 2048 / 256 * 64 + j.val % 64, by omega⟩ : Fin 512)))
    (fun p _ => wholeRow p.1 ⟨srcRow (512 * q + p.2.val), srcRow_lt (by omega)⟩)
    (fun _ _ => Finset.mem_univ _) ?_ ?_ ?_ ?_
  · intro p _
    have h := srcRow_chunk (q := q) p.2.isLt
    rw [Finset.mem_filter]
    refine ⟨Finset.mem_univ _, ?_⟩
    show (2048 * p.1.val + srcRow (512 * q + p.2.val)) / 64 % 4 = q
    omega
  · intro j hj
    have hj' := (Finset.mem_filter.mp hj).2
    have h := srcRow_chunk (q := q) (n := j.val % 2048 / 256 * 64 + j.val % 64) (by omega)
    apply Fin.ext
    show 2048 * (j.val / 2048) + srcRow (512 * q + (j.val % 2048 / 256 * 64 + j.val % 64)) = j.val
    omega
  · intro p _
    have h := srcRow_chunk (q := q) p.2.isLt
    have h1 : p.1.val < 4 := p.1.isLt
    have h2 := p.2.isLt
    refine Prod.ext (Fin.ext ?_) (Fin.ext ?_)
    · show (2048 * p.1.val + srcRow (512 * q + p.2.val)) / 2048 = p.1.val
      omega
    · show (2048 * p.1.val + srcRow (512 * q + p.2.val)) % 2048 / 256 * 64 + (2048 * p.1.val + srcRow (512 * q + p.2.val)) % 64 = p.2.val
      omega
  · intro j hj
    have hj' := (Finset.mem_filter.mp hj).2
    have h := srcRow_chunk (q := q) (n := j.val % 2048 / 256 * 64 + j.val % 64) (by omega)
    refine congrArg f (Fin.ext ?_)
    show j.val = 2048 * (j.val / 2048) + srcRow (512 * q + (j.val % 2048 / 256 * 64 + j.val % 64))
    omega

theorem i3_lt {n m l : ℕ} [NeZero n] [NeZero m] [NeZero l] {a b c d : ℕ} (ha : a < n) (hb : b < m) (hd : d < l) (e : c % l = d) :
    (i3 a b c : (⟨3, ![n, m, l]⟩ : Shape).Idx) = ix3 ⟨a, ha⟩ ⟨b, hb⟩ ⟨d, hd⟩ := by
  unfold i3
  congr 1
  · exact Fin.ext (Nat.mod_eq_of_lt ha)
  · exact Fin.ext (Nat.mod_eq_of_lt hb)
  · exact Fin.ext e

section Real

variable (xr : S2048x1024.Idx → ℝ) (wr : S1024x1024.Idx → ℝ) (kr : (⟨3, ![8192, 8, 128]⟩ : Shape).Idx → ℝ) (κ : ℝ)

/-- The score of query row `i` against key row `j` under head `h`, over the reals. -/
def score (h : Fin 8) (i : Fin 2048) (j : Fin 8192) : ℝ :=
  (∑ d : Fin 128, (∑ k : Fin 1024, xr (ix2 i k) * wr (ix2 k ⟨h.val * 128 + d.val, by omega⟩)) * kr (ix3 j h d)) * κ

variable (X : FVec Ideal S2048x1024 .f32) (W : FVec Ideal S1024x1024 .f32) (KW VW : FVec Ideal (⟨3, ![8192, 8, 128]⟩ : Shape) .f32)
  (KD VD : Dev nD → FVec Ideal S2048x8x128 .f32)
  (hX : ∀ p, X p = ((xr p : ℝ) : EReal)) (hW : ∀ p, W p = ((wr p : ℝ) : EReal)) (hKW : ∀ p, KW p = ((kr p : ℝ) : EReal))
  (hκ : Ideal.ofBits .f32 0x3DB504F3#32 = ((κ : ℝ) : EReal))
  (hK : ∀ (c : Dev nD) (a : Fin 2048) (h : Fin 8) (d : Fin 128), KD c (ix3 a h d) = KW (ix3 (wholeRow c a) h d))
  (hV : ∀ (c : Dev nD) (a : Fin 2048) (h : Fin 8) (d : Fin 128), VD c (ix3 a h d) = VW (ix3 (wholeRow c a) h d))

/-- A grouped element of a device's shard is an element of the whole. -/
theorem kgv_at (B : FVec Ideal S2048x8x128 .f32) (r : ℕ) (hr : r < 2048) (h : Fin 8) (d : Fin 128) :
    kgv B (i2 r (128 * h.val + d.val)) = B (ix3 ⟨srcRow r, srcRow_lt hr⟩ h d) := by
  rw [i2_lt hr (show 128 * h.val + d.val < 1024 by omega)]
  show B (i3 (srcRow r) ((128 * h.val + d.val) / 128) (128 * h.val + d.val)) = _
  rw [i3_lt (srcRow_lt hr) (show (128 * h.val + d.val) / 128 < 8 by omega) d.isLt (show (128 * h.val + d.val) % 128 = d.val by omega)]
  congr 1
  exact congrArg₂ (ix3 _) (Fin.ext (by show (128 * h.val + d.val) / 128 = h.val; omega)) rfl

include hX hW hκ in
theorem qgv_at (r : ℕ) (hr : r < 2048) (n : Fin 1024) :
    qgv X W (i2 r n.val) = (((∑ k : Fin 1024, xr (ix2 ⟨srcRow r, srcRow_lt hr⟩ k) * wr (ix2 k n)) * κ : ℝ) : EReal) := by
  rw [i2_lt hr n.isLt]
  unfold qgv
  rw [q_apply, Finset.sum_mul, ← Soft.coe_sum]
  refine Finset.sum_congr rfl fun k _ => ?_
  show X (i2 (srcRow r) k.val) * (W (ix2 k n) * _) = _
  rw [i2_lt (srcRow_lt hr) k.isLt, hX, hW, hκ, ← EReal.coe_mul, ← EReal.coe_mul, mul_assoc]

include hX hW hKW hκ hK in
/-- A weight is the exponential of a real score. -/
theorem kw_at (c : Dev nD) (r : ℕ) (hr : r < 2048) (h : Fin 8) (n : Fin 512) :
    kw (qgv X W) (kgv (KD c)) r h.val n.val
      = Ideal.exp ((score xr wr kr κ h ⟨srcRow r, srcRow_lt hr⟩ (wholeRow c ⟨srcRow (512 * (r / 512) + n.val), srcRow_lt (by omega)⟩) : ℝ) : EReal) := by
  unfold kw score
  refine congrArg Ideal.exp ?_
  rw [Finset.sum_mul, ← Soft.coe_sum]
  refine Finset.sum_congr rfl fun d _ => ?_
  rw [kgv_at _ _ (show 512 * (r / 512) + n.val < 2048 by omega), hK, hKW,
    qgv_at xr wr κ X W hX hW hκ r hr ⟨128 * h.val + d.val, by omega⟩, ← EReal.coe_mul]
  congr 1
  rw [show (⟨128 * h.val + d.val, by omega⟩ : Fin 1024) = ⟨h.val * 128 + d.val, by omega⟩ from Fin.ext (by show 128 * h.val + d.val = h.val * 128 + d.val; omega)]
  ring

/-- The four devices' sums. -/
abbrev TD : Dev nD → FVec Ideal S2048x1152 .f32 := fun c => accv c.val (qgv X W) (kgv (KD c)) (kgv (VD c))

include hX hW hKW hκ hK hV in
theorem tot_num (r : ℕ) (hr : r < 2048) (h : Fin 8) (d : Fin 128) :
    tot (TD X W KD VD) r (128 * h.val + d.val)
      = ∑ j ∈ (Finset.univ : Finset (Fin 8192)).filter (fun j => j.val / 64 % 4 = r / 512),
          Ideal.exp ((score xr wr kr κ h ⟨srcRow r, srcRow_lt hr⟩ j : ℝ) : EReal) * VW (ix3 j h d) := by
  rw [sum_residue (r / 512) (by omega)]
  unfold tot
  refine Finset.sum_congr rfl fun c _ => ?_
  show accv c.val (qgv X W) (kgv (KD c)) (kgv (VD c)) (i2 r (128 * h.val + d.val)) = _
  rw [accv_num _ _ _ _ _ _ hr (by omega)]
  refine Finset.sum_congr rfl fun n _ => ?_
  rw [show (128 * h.val + d.val) / 128 = h.val by omega, show (128 * h.val + d.val) % 128 = d.val by omega,
    kw_at xr wr kr κ X W KW KD hX hW hKW hκ hK c r hr h n, kgv_at _ _ (show 512 * (r / 512) + n.val < 2048 by omega), hV]

include hX hW hKW hκ hK in
theorem tot_den (r : ℕ) (hr : r < 2048) (h : Fin 8) :
    tot (TD X W KD VD) r (1024 + h.val)
      = ∑ j ∈ (Finset.univ : Finset (Fin 8192)).filter (fun j => j.val / 64 % 4 = r / 512),
          Ideal.exp ((score xr wr kr κ h ⟨srcRow r, srcRow_lt hr⟩ j : ℝ) : EReal) := by
  rw [sum_residue (r / 512) (by omega)]
  unfold tot
  refine Finset.sum_congr rfl fun c _ => ?_
  show accv c.val (qgv X W) (kgv (KD c)) (kgv (VD c)) (i2 r (1024 + h.val)) = _
  rw [accv_den _ _ _ _ _ _ hr h.isLt]
  refine Finset.sum_congr rfl fun n _ => ?_
  rw [kw_at xr wr kr κ X W KW KD hX hW hKW hκ hK c r hr h n]

include hX hW hKW hκ hK hV in
/-- The kernel's normalised context. -/
theorem kctx_at (r : ℕ) (hr : r < 2048) (k : Fin 1024) :
    kctx (TD X W KD VD) r k.val
      = (∑ j ∈ (Finset.univ : Finset (Fin 8192)).filter (fun j => j.val / 64 % 4 = r / 512),
          Ideal.exp ((score xr wr kr κ ⟨k.val / 128, by omega⟩ ⟨srcRow r, srcRow_lt hr⟩ j : ℝ) : EReal) * VW (ix3 j ⟨k.val / 128, by omega⟩ ⟨k.val % 128, by omega⟩))
        * Ideal.div 1 (∑ j ∈ (Finset.univ : Finset (Fin 8192)).filter (fun j => j.val / 64 % 4 = r / 512),
          Ideal.exp ((score xr wr kr κ ⟨k.val / 128, by omega⟩ ⟨srcRow r, srcRow_lt hr⟩ j : ℝ) : EReal)) := by
  unfold kctx
  rw [← tot_num xr wr kr κ X W KW VW KD VD hX hW hKW hκ hK hV r hr, ← tot_den xr wr kr κ X W KW KD VD hX hW hKW hκ hK r hr]
  rw [show 128 * (⟨k.val / 128, by omega⟩ : Fin 8).val + (⟨k.val % 128, by omega⟩ : Fin 128).val = k.val from by
    show 128 * (k.val / 128) + k.val % 128 = k.val
    omega]

end Real

end Cert.KernelIdeal.Run

end
-- ==== Proof.Run.Finite.lean ====
module

public import proofs.«01_k».proof.Proof.Gen.Pre_finite_scores_KernelIdeal
public import Idealize.ShloMosaic.Lib.ReduceAll
public import Idealize.ShloMosaic.PureOps.Ideal.Laws
public import Mathlib.Data.EReal.Operations

@[expose] public section

/-! What the precondition says over the extended reals: every element of `x`, `Wq` and `K` is a real number. Also the
constants of the two programs. -/

noncomputable section

namespace Cert.Finite

open Idealize.ShloMosaic

theorem ofBits_top : Ideal.ofBits .f32 0x7F800000#32 = (⊤ : EReal) := by simp [Ideal.ofBits, Ideal.ieee]
theorem ofBits_bot : Ideal.ofBits .f32 0xFF800000#32 = (⊥ : EReal) := by simp [Ideal.ofBits, Ideal.ieee]

/-- The scale of the scores is a real number. -/
theorem scale_real : ∃ κ : ℝ, Ideal.ofBits .f32 0x3DB504F3#32 = ((κ : ℝ) : EReal) := by
  simp [Ideal.ofBits, Ideal.ieee, -EReal.coe_mul]

/-- An extended real whose absolute value is less than `⊤` is a real number. -/
theorem real_of_abs {x : EReal} (h : Ideal.cmp .olt (max x (-x)) ⊤ = 1#1) : ((x.toReal : ℝ) : EReal) = x := by
  have h' : max x (-x) < ⊤ := by
    by_contra hn
    simp [Ideal.cmp, hn] at h
  rw [max_lt_iff] at h'
  refine EReal.coe_toReal (ne_of_lt h'.1) fun e => ?_
  rw [e] at h'
  exact absurd h'.2 (by simp)

open Cert.Pre_finite_scores_KernelIdeal in
theorem real_of_all {s : Shape} {axes : List (Fin s.rank)} (a : FVec Ideal s .f32) (hb : S_.BroadcastsInDim s ![]) (hr : s.ReducesTo axes S_) (hu : 0 < S_.numel)
    (e : Host.reduce IntOp.andi (cmpf .olt (Host.absf a) (broadcastInDim s ![] hb (constant (F := Ideal) S_ .f32 0x7F800000#32))) (constantI S_ 1 1#1) hr hu (Shape.Idx.first hu) = 1#1)
    (i : s.Idx) : (((a i : EReal).toReal : ℝ) : EReal) = a i := by
  haveI : Subsingleton S_.Idx := ⟨fun a b => funext fun x => x.elim0⟩
  have h := Host.reduce_andi_all _ _ hr hu _ e i
  refine real_of_abs ?_
  rw [← ofBits_top]
  exact h

open Cert.Pre_finite_scores_KernelIdeal in
theorem real_args (x : FVec Ideal S2048x1024 .f32) (w : FVec Ideal S1024x1024 .f32) (k v : FVec Ideal S2048x8x128 .f32) (o : FVec Ideal S1024x1024 .f32)
    (h : ∀ i, fn (F := Ideal) x w k v o i = 1#1) :
    (∀ i, (((x i : EReal).toReal : ℝ) : EReal) = x i) ∧ (∀ i, (((w i : EReal).toReal : ℝ) : EReal) = w i) ∧ (∀ i, (((k i : EReal).toReal : ℝ) : EReal) = k i) := by
  have h0 := h (Shape.Idx.first Facts.h_S_)
  have and1 : ∀ a b : BitVec 1, IntOp.andi a b = 1#1 → a = 1#1 ∧ b = 1#1 := by decide
  obtain ⟨h1, hk⟩ := and1 _ _ h0
  obtain ⟨hx, hw⟩ := and1 _ _ h1
  exact ⟨real_of_all x _ _ _ hx, real_of_all w _ _ _ hw, real_of_all k _ _ _ hk⟩

end Cert.Finite

end
-- ==== Proof.Run.RefReal.lean ====
module

public import proofs.«01_k».proof.Proof.Run.RefCtx
public import proofs.«01_k».proof.Proof.Run.Scores
public import proofs.«01_k».proof.Proof.Run.Finite

@[expose] public section

/-! The reference's context with real `x`, `Wq` and `K`: the values of the row's residue weighted by the exponentials of the
real scores, over the sum of those exponentials. -/

noncomputable section

namespace Cert.ReferenceIdeal.Read

open Cert.ReferenceIdeal Cert.ReferenceIdeal.Gen Cert.ReferenceIdeal.Value
open Idealize.ShloMosaic
open Cert.KernelIdeal.Run (score)

variable (V0 : Valuation τ sig (Elt Ideal))
  (xr : S2048x1024.Idx → ℝ) (wr : S1024x1024.Idx → ℝ) (kr : S8192x8x128.Idx → ℝ) (κ : ℝ)
  (hX : ∀ p, rX V0 p = ((xr p : ℝ) : EReal)) (hW : ∀ p, rWq V0 p = ((wr p : ℝ) : EReal)) (hK : ∀ p, rK V0 p = ((kr p : ℝ) : EReal))
  (hκ : Ideal.ofBits .f32 0x3DB504F3#32 = ((κ : ℝ) : EReal))

include hX hW hK hκ

theorem rawScore_at (h : Fin 8) (i : Fin 2048) (j : Fin 8192) : rawScore V0 h i j = ((score xr wr kr κ h i j : ℝ) : EReal) := by
  unfold rawScore score
  rw [hκ, EReal.coe_mul, ← Soft.coe_sum]
  refine congrArg (fun e : EReal => e * ((κ : ℝ) : EReal)) (Finset.sum_congr rfl fun d _ => ?_)
  rw [EReal.coe_mul, ← Soft.coe_sum, hK]
  refine congrArg (fun e : EReal => e * ((kr (ix3 j h d) : ℝ) : EReal)) (Finset.sum_congr rfl fun k _ => ?_)
  rw [hX, hW, EReal.coe_mul]

theorem rctx_at (i : Fin 2048) (h : Fin 8) (d : Fin 128) :
    rctx V0 i h d
      = (∑ j ∈ (Finset.univ : Finset (Fin 8192)).filter (fun j => j.val / 64 % 4 = i.val / 64 % 4),
          Ideal.exp ((score xr wr kr κ h i j : ℝ) : EReal) * rV V0 (ix3 j h d))
        * Ideal.div 1 (∑ j ∈ (Finset.univ : Finset (Fin 8192)).filter (fun j => j.val / 64 % 4 = i.val / 64 % 4),
          Ideal.exp ((score xr wr kr κ h i j : ℝ) : EReal)) := by
  have hm : ∀ j : Fin 8192, msc V0 (ix3 h i j) = Soft.sc (fun j : Fin 8192 => j.val / 64 % 4 = i.val / 64 % 4) (score xr wr kr κ h i) j := fun j => by
    refine (score_apply V0 h i j).trans ?_
    rw [rawScore_at V0 xr wr kr κ hX hW hK hκ, Finite.ofBits_bot]
    rfl
  refine Soft.softmax_eq (fun j : Fin 8192 => j.val / 64 % 4 = i.val / 64 % 4) (score xr wr kr κ h i) (fun j => rV V0 (ix3 j h d))
    ⟨i.val, by omega⟩ rfl (fun j => wgt V0 (ix3 h i j)) fun j => ?_
  rw [weight_apply, hm j, Finite.ofBits_bot, show (fun j' : Fin 8192 => msc V0 (ix3 h i j')) = _ from funext hm]

end Cert.ReferenceIdeal.Read

end
-- ==== Proof.Run.Equal.lean ====
module

public import proofs.«01_k».proof.Defs
public import proofs.«01_k».proof.Proof.Run.RefReal
public import proofs.«01_k».proof.Proof.Run.Main
public import Idealize.ShloMosaic.Lib.LayoutAt

@[expose] public section

/-! Each device's result is its block of the reference's result. -/

noncomputable section

namespace Cert.Equal

open Idealize.ShloMosaic
open Cert.KernelIdeal (nD)
open Cert.KernelIdeal.Run (mOut mT mW aX aWq aK aV aWo TD kctx kctx_at outAt_apply wo_apply srcRow srcRow_lt srcRow_chunk wholeRow prv nxt)
open Cert.ReferenceIdeal.Read (rX rWq rK rV rWo rctx rctx_at refOut refOut_apply grouped_apply)

set_option maxRecDepth 16384

theorem tiles3 : Layout.Tiles ⟨3, ![2048, 8, 128]⟩ ⟨3, ![8192, 8, 128]⟩ 0 4 := by decide
theorem tiles2 : Layout.Tiles ⟨2, ![1024, 1024]⟩ ⟨2, ![4096, 1024]⟩ 0 4 := by decide

variable (m : (ℓ : Loc nD Cert.KernelIdeal.τ Cert.KernelIdeal.sig) → Buf (Elt Ideal) ℓ)
  (V0 : Valuation Cert.ReferenceIdeal.τ Cert.ReferenceIdeal.sig (Elt Ideal))
  (hx : ∀ c, aX m c = rX V0) (hw : ∀ c, aWq m c = rWq V0)
  (hk : ∀ c, aK m c = Layout.block ⟨3, ![2048, 8, 128]⟩ ⟨3, ![8192, 8, 128]⟩ 0 4 c (rK V0) tiles3)
  (hv : ∀ c, aV m c = Layout.block ⟨3, ![2048, 8, 128]⟩ ⟨3, ![8192, 8, 128]⟩ 0 4 c (rV V0) tiles3)
  (ho : ∀ c, aWo m c = rWo V0)
  (fx : ∀ c i, (((aX m c i : EReal).toReal : ℝ) : EReal) = aX m c i)
  (fw : ∀ c i, (((aWq m c i : EReal).toReal : ℝ) : EReal) = aWq m c i)
  (fk : ∀ c i, (((aK m c i : EReal).toReal : ℝ) : EReal) = aK m c i)

/-- An element of a device's shard of `K` or `V` is an element of the whole. -/
theorem block3_apply (A : (⟨3, ![8192, 8, 128]⟩ : Shape).Idx → EReal) (c : Fin 4) (a : Fin 2048) (h : Fin 8) (d : Fin 128) :
    Layout.block ⟨3, ![2048, 8, 128]⟩ ⟨3, ![8192, 8, 128]⟩ 0 4 c A tiles3 (ix3 a h d) = A (ix3 ⟨2048 * c.val + a.val, by omega⟩ h d) := by
  rw [Layout.block_apply]
  shard_ext

/-- An element of a device's block of the result. -/
theorem block2_apply (A : (⟨2, ![4096, 1024]⟩ : Shape).Idx → EReal) (c b : Fin 4) (i : Fin 256) (n : Fin 1024) :
    Layout.block ⟨2, ![1024, 1024]⟩ ⟨2, ![4096, 1024]⟩ 0 4 c A tiles2 (ix2 ⟨b.val * 256 + i.val, by omega⟩ n)
      = A (ix2 ⟨c.val * 1024 + b.val * 256 + i.val, by omega⟩ n) := by
  rw [Layout.block_apply]
  shard_ext

include hx hw hk hv fx fw fk in
/-- The kernel's normalised context at a grouped row is the reference's at the row it comes from. -/
theorem context_eq (r : ℕ) (hr : r < 2048) (k : Fin 1024) :
    kctx (mT m) r k.val = rctx V0 ⟨srcRow r, srcRow_lt hr⟩ ⟨k.val / 128, by omega⟩ ⟨k.val % 128, by omega⟩ := by
  obtain ⟨κ, hκ⟩ := Finite.scale_real
  have gx : ∀ p, rX V0 p = (((rX V0 p : EReal).toReal : ℝ) : EReal) := fun p => by
    have := fx 0 p; rw [hx] at this; exact this.symm
  have gw : ∀ p, rWq V0 p = (((rWq V0 p : EReal).toReal : ℝ) : EReal) := fun p => by
    have := fw 0 p; rw [hw] at this; exact this.symm
  have bk : ∀ (c : Dev nD) (a : Fin 2048) (h : Fin 8) (d : Fin 128), aK m c (ix3 a h d) = rK V0 (ix3 (wholeRow c a) h d) := fun c a h d => by
    rw [hk]; exact block3_apply _ c a h d
  have bv : ∀ (c : Dev nD) (a : Fin 2048) (h : Fin 8) (d : Fin 128), aV m c (ix3 a h d) = rV V0 (ix3 (wholeRow c a) h d) := fun c a h d => by
    rw [hv]; exact block3_apply _ c a h d
  have gk : ∀ p, rK V0 p = (((rK V0 p : EReal).toReal : ℝ) : EReal) := fun p => by
    obtain ⟨j, h, d, rfl⟩ : ∃ (j : Fin 8192) (h : Fin 8) (d : Fin 128), p = ix3 j h d := ⟨p 0, p 1, p 2, eq_ix3 p⟩
    have e := bk (⟨j.val / 2048, by show j.val / 2048 < 4; omega⟩ : Dev nD) ⟨j.val % 2048, by omega⟩ h d
    rw [show wholeRow (⟨j.val / 2048, by show j.val / 2048 < 4; omega⟩ : Dev nD) ⟨j.val % 2048, by omega⟩ = j from Fin.ext (by
        show 2048 * (j.val / 2048) + j.val % 2048 = j.val; omega)] at e
    rw [← e]; exact (fk _ _).symm
  have eT : mT m = TD (rX V0) (rWq V0) (aK m) (aV m) := funext fun c => by
    show Cert.KernelIdeal.Run.TT (aX m) (aWq m) (aK m) (aV m) c = _
    unfold Cert.KernelIdeal.Run.TT
    rw [hx, hw]
  rw [eT, kctx_at (fun p => (rX V0 p : EReal).toReal) (fun p => (rWq V0 p : EReal).toReal) (fun p => (rK V0 p : EReal).toReal) κ
    (rX V0) (rWq V0) (rK V0) (rV V0) (aK m) (aV m) gx gw gk hκ bk bv r hr k,
    rctx_at V0 (fun p => (rX V0 p : EReal).toReal) (fun p => (rWq V0 p : EReal).toReal) (fun p => (rK V0 p : EReal).toReal) κ gx gw gk hκ]
  have hres : srcRow r / 64 % 4 = r / 512 := by unfold srcRow Cert.KernelIdeal.Run.blkOf; omega
  simp only [hres]

include hx hw hk hv ho fx fw fk in
/-- A row of the kernel's projection is a row of the reference's. -/
theorem row_eq (hf : Fin 2) (q : Fin 4) (i : Fin 256) (n : Fin 1024) (e : Dev nD) (r : ℕ) (hr : r = 512 * q.val + 256 * hf.val + i.val) :
    ∑ k : Fin 1024, kctx (mT m) r k.val * mW m e (ix2 k n)
      = (Cert.ReferenceIdeal.Value.res_main_v42 V0 : FVec Ideal Cert.ReferenceIdeal.S2x4x256x1024 .f32) (ix4 hf q i n) := by
  have hr' : r < 2048 := by omega
  rw [grouped_apply]
  refine Finset.sum_congr rfl fun k _ => ?_
  have e2 : mW m e (ix2 k n) = rWo V0 (ix2 k n) := by
    rw [← ho e]; exact wo_apply _ k n
  rw [context_eq m V0 hx hw hk hv fx fw fk r hr' k, e2]
  have hs : srcRow r = hf.val * 1024 + i.val / 64 * 256 + q.val * 64 + i.val % 64 := by
    have := srcRow_chunk (q := q.val) (n := 256 * hf.val + i.val) (by omega)
    rw [hr, show 512 * q.val + 256 * hf.val + i.val = 512 * q.val + (256 * hf.val + i.val) by omega, this]
    omega
  simp only [hs]

include hx hw hk hv ho fx fw fk in
theorem result_eq (c : Dev nD) :
    mOut m c = Layout.block ⟨2, ![1024, 1024]⟩ ⟨2, ![4096, 1024]⟩ 0 4 c (refOut V0) tiles2 := by
  funext p
  have h0 : (p 0).val < 1024 := (p 0).isLt
  have hc : c.val < 4 := c.isLt
  obtain ⟨b, i, n, hp⟩ : ∃ (b : Fin 4) (i : Fin 256) (n : Fin 1024), p = ix2 ⟨b.val * 256 + i.val, by omega⟩ n :=
    ⟨⟨(p 0).val / 256, by omega⟩, ⟨(p 0).val % 256, by omega⟩, p 1, (eq_ix2 p).trans (congrArg₂ ix2 (Fin.ext (by
      show (p 0).val = (p 0).val / 256 * 256 + (p 0).val % 256; omega)) rfl)⟩
  rw [hp]
  refine (outAt_apply (mT m) (mW m) c b i n).trans (Eq.trans ?_ (block2_apply (refOut V0) c b i n).symm)
  rw [refOut_apply]
  split_ifs
  · exact row_eq m V0 hx hw hk hv ho fx fw fk 0 ⟨(c.val + 1) % 4, by omega⟩ i n c _ rfl
  · exact row_eq m V0 hx hw hk hv ho fx fw fk 1 ⟨(c.val + 1) % 4, by omega⟩ i n c _ rfl
  · exact row_eq m V0 hx hw hk hv ho fx fw fk 0 c i n (prv c) _ rfl
  · exact row_eq m V0 hx hw hk hv ho fx fw fk 1 ⟨(c.val + 2) % 4, by omega⟩ i n (nxt c) _ rfl

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Run.Match
public import proofs.«01_k».proof.Proof.Run.Equal
public import Idealize.ShloMosaic.Adequacy
public import Idealize.ShloMosaic.Init

@[expose] public section

noncomputable section

namespace Cert.Proof

open Idealize.ShloMosaic Idealize.SL.Sem Cert.Kernel

/-- The kernel as printed: its run at the machine's own floats, read at the arguments and the counters. -/
theorem frame_kernel : Cert.quiescent_Kernel := fun m ρ _ =>
  Cert.Match.run_frame m ρ

/-- The same at the extended reals. -/
theorem frame_kernelIdeal : Cert.quiescent_KernelIdeal := fun m ρ _ =>
  Cert.KernelIdeal.Run.run_frame (F := Ideal) m ρ

/-- The reference, a straight line of host operations on one device, leaves its arguments and has no semaphores. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

/-- The value claim: with finite `x`, `Wq` and `K` each device's result is its block of the reference's. -/
theorem value : Cert.algebraic_KernelIdeal_ReferenceIdeal_pre_finite_scores_KernelIdeal := fun m g m' g' hpre hrel => by
  have hf := fun c => Cert.Finite.real_args _ _ _ _ _ (fun i => congrFun (hpre c) i)
  have heq := Cert.Equal.result_eq m (Idealize.ShloMosaic.StableHlo.launchContents m' 0)
    (fun c => (hrel c).1) (fun c => (hrel c).2.1) (fun c => (hrel c).2.2.1) (fun c => (hrel c).2.2.2.1) (fun c => (hrel c).2.2.2.2)
    (fun c => (hf c).1) (fun c => (hf c).2.1) (fun c => (hf c).2.2)
  refine ⟨Cert.ReferenceIdeal.Read.refOut (Idealize.ShloMosaic.StableHlo.launchContents m' 0), ?_, ?_⟩
  · exact (θ_run Cert.KernelIdeal.defs _ _).mono (fun r h c => ⟨((h.1 c).2).trans (heq c), (h.1 c).1⟩) (Cert.KernelIdeal.Run.run_main (F := Ideal) m g)
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts, frame_kernel, frame_kernelIdeal,
  fun m ρ _ => frame_kernelIdeal m ρ trivial, frame_reference, fun m ρ _ => frame_reference m ρ trivial, trivial, value⟩

end Cert.Proof

end
